-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x32 : Shape := ⟨2, ![16384, 32]⟩
abbrev S1000000x64 : Shape := ⟨2, ![1000000, 64]⟩
abbrev S2048x128 : Shape := ⟨2, ![2048, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : IVec S16384x32 32) (main_arg1 : FVec F S1000000x64 .f32) (main_arg2 : FVec F S2048x128 .f32) (main_arg3 : FVec F S128 .f32) (main_arg4 : FVec F S128x2 .f32) (main_arg5 : FVec F S2 .f32) : IVec S_ 1 :=
  let main_c : IVec S_ 32 := constantI S_ 32 0#32
  let main_v0 : IVec S16384x32 32 := broadcastInDim S16384x32 ![] bcast_S_S16384x32 main_c
  let main_v1 : IVec S16384x32 1 := cmpi .sge main_arg0 main_v0
  let main_c_0 : IVec S_ 32 := constantI S_ 32 1000000#32
  let main_v2 : IVec S16384x32 32 := broadcastInDim S16384x32 ![] bcast_S_S16384x32 main_c_0
  let main_v3 : IVec S16384x32 1 := cmpi .slt main_arg0 main_v2
  let main_v4 : IVec S16384x32 1 := andi main_v1 main_v3
  let main_c_1 : IVec S_ 1 := constantI S_ 1 1#1
  let main_v5 : IVec S_ 1 := (fun x v => Host.reduce IntOp.andi x v reducesTo_S16384x32_S_d0_1 h_S_) main_v4 main_c_1
  main_v5
-- ==== Kernel.lean ====
abbrev S16384x32 : Shape := ⟨2, ![16384, 32]⟩
abbrev S1000000x64 : Shape := ⟨2, ![1000000, 64]⟩
abbrev S2048x128 : Shape := ⟨2, ![2048, 128]⟩
abbrev S128 : Shape := ⟨1, ![128]⟩
abbrev S128x2 : Shape := ⟨2, ![128, 2]⟩
abbrev S2 : Shape := ⟨1, ![2]⟩
abbrev S32x16384 : Shape := ⟨2, ![32, 16384]⟩
abbrev S524288 : Shape := ⟨1, ![524288]⟩
abbrev S500000x128 : Shape := ⟨2, ![500000, 128]⟩
abbrev S262144x128 : Shape := ⟨2, ![262144, 128]⟩
abbrev S32x512 : Shape := ⟨2, ![32, 512]⟩
abbrev S16384 : Shape := ⟨1, ![16384]⟩
abbrev S4x128x128 : Shape := ⟨3, ![4, 128, 128]⟩
abbrev S_ : Shape := ⟨0, ![]⟩
abbrev S4 : Shape := ⟨1, ![4]⟩
abbrev S1x512 : Shape := ⟨2, ![1, 512]⟩
abbrev S512 : Shape := ⟨1, ![512]⟩
abbrev S16 : Shape := ⟨1, ![16]⟩
abbrev S1x128x128 : Shape := ⟨3, ![1, 128, 128]⟩
abbrev S128x128 : Shape := ⟨2, ![128, 128]⟩
abbrev S1 : Shape := ⟨1, ![1]⟩
abbrev S64x128 : Shape := ⟨2, ![64, 128]⟩
abbrev S1x128 : Shape := ⟨2, ![1, 128]⟩
abbrev S1x2 : Shape := ⟨2, ![1, 2]⟩
abbrev S16384x2 : Shape := ⟨2, ![16384, 2]⟩
abbrev S8192x128 : Shape := ⟨2, ![8192, 128]⟩
abbrev S512x2 : Shape := ⟨2, ![512, 2]⟩
abbrev S512x2048 : Shape := ⟨2, ![512, 2048]⟩
abbrev S512x128 : Shape := ⟨2, ![512, 128]⟩

abbrev nBuf : Table → Nat
  | .hbm => 13
  | .local .tc .vmem => 8
  | .local .scVector .vmem => 4
  | _ => 0

abbrev bufTy : (tb : Table) → Fin (nBuf tb) → BufTy
  | .hbm, ⟨0, _⟩ => ⟨S16384x32, .i32⟩
  | .hbm, ⟨1, _⟩ => ⟨S1000000x64, .f32⟩
  | .hbm, ⟨2, _⟩ => ⟨S2048x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S32x16384, .i32⟩
  | .hbm, ⟨7, _⟩ => ⟨S524288, .i32⟩
  | .hbm, ⟨8, _⟩ => ⟨S500000x128, .f32⟩
  | .hbm, ⟨9, _⟩ => ⟨S262144x128, .f32⟩
  | .hbm, ⟨10, _⟩ => ⟨S1x128, .f32⟩
  | .hbm, ⟨11, _⟩ => ⟨S1x2, .f32⟩
  | .hbm, ⟨12, _⟩ => ⟨S16384x2, .f32⟩
  | .local .tc .vmem, ⟨0, _⟩ => ⟨S8192x128, .f32⟩
  | .local .tc .vmem, ⟨1, _⟩ => ⟨S8192x128, .f32⟩
  | .local .tc .vmem, ⟨2, _⟩ => ⟨S2048x128, .f32⟩
  | .local .tc .vmem, ⟨3, _⟩ => ⟨S1x128, .f32⟩
  | .local .tc .vmem, ⟨4, _⟩ => ⟨S128x2, .f32⟩
  | .local .tc .vmem, ⟨5, _⟩ => ⟨S1x2, .f32⟩
  | .local .tc .vmem, ⟨6, _⟩ => ⟨S512x2, .f32⟩
  | .local .tc .vmem, ⟨7, _⟩ => ⟨S512x2, .f32⟩
  | .local .scVector .vmem, ⟨0, _⟩ => ⟨S32x512, .i32⟩
  | .local .scVector .vmem, ⟨1, _⟩ => ⟨S16384, .i32⟩
  | .local .scVector .vmem, ⟨2, _⟩ => ⟨S16384, .i32⟩
  | .local .scVector .vmem, ⟨3, _⟩ => ⟨S4x128x128, .f32⟩
  | _, _ => ⟨S16384x32, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi c0_i32 v2
  ![v4.toNat]
@[reducible] def k0_t1_loop : Scf.Loop 32 :=
  let c0_i32_164 : BitVec 32 := 0#32
  let c1024_i32 : BitVec 32 := 1024#32
  let v420 : BitVec 32 := Scalar.addi c0_i32_164 c1024_i32
  let c1_i32_165 : BitVec 32 := 1#32
  ⟨c0_i32_164, v420, c1_i32_165⟩

def k0_chk1 (v434 : IVec S16 32) (v436 : IVec S16 32) : Prop :=
  (∀ a x, ((![v434, v436] : Fin 2 → IVec S16 32) a x).toNat < S32x512.size a)
theorem k0_idx1_inb : ∀ (v434 : IVec S16 32) (v436 : IVec S16 32) (k0_hw1 : k0_chk1 v434 v436), ∀ a x, ((![v434, v436] : Fin 2 → IVec S16 32) a x).toNat < S32x512.size a := fun v434 v436 k0_hw1 => k0_hw1
def k0_off2 (k0_t1 : Fin k0_t1_loop.trips) : Fin 1 → Nat :=
  let c0_i32_164 : BitVec 32 := 0#32
  let c1_i32_165 : BitVec 32 := 1#32
  let arg12 : BitVec 32 := Scf.iv c0_i32_164 c1_i32_165 k0_t1
  let c16_i32_173 : BitVec 32 := 16#32
  let v429 : BitVec 32 := Scalar.muli arg12 c16_i32_173
  let v440 : Index := Scalar.indexCast v429
  ![v440.toNat]
@[reducible] def k0_t2_loop : Scf.Loop 32 :=
  let c0_i32_170 : BitVec 32 := 0#32
  let c32_i32 : BitVec 32 := 32#32
  let v428 : BitVec 32 := Scalar.addi c0_i32_170 c32_i32
  let c1_i32_171 : BitVec 32 := 1#32
  ⟨c0_i32_170, v428, c1_i32_171⟩
def k0_mult1 (k0_t2 : Fin k0_t2_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c0_i32_174 : BitVec 32 := 0#32
  let v430 : BitVec 32 := Scalar.addi v429 c0_i32_174
  let c128_i32 : BitVec 32 := 128#32
  let v431 : BitVec 32 := Scalar.muli v430 c128_i32
  v431
def k0_off3 (k0_t2 : Fin k0_t2_loop.trips) (c0_i32_174 : BitVec 32) : Fin 1 → Nat :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let v430 : BitVec 32 := Scalar.addi v429 c0_i32_174
  let c128_i32 : BitVec 32 := 128#32
  let v431 : BitVec 32 := Scalar.muli v430 c128_i32
  let v432 : BitVec 32 := v431
  ![v432.toNat]
def k0_mult2 (k0_t2 : Fin k0_t2_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c1_i32_181 : BitVec 32 := 1#32
  let v439 : BitVec 32 := Scalar.addi v429 c1_i32_181
  let c128_i32_182 : BitVec 32 := 128#32
  let v440 : BitVec 32 := Scalar.muli v439 c128_i32_182
  v440
def k0_mult3 (k0_t2 : Fin k0_t2_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c2_i32_189 : BitVec 32 := 2#32
  let v448 : BitVec 32 := Scalar.addi v429 c2_i32_189
  let c128_i32_190 : BitVec 32 := 128#32
  let v449 : BitVec 32 := Scalar.muli v448 c128_i32_190
  v449
def k0_mult4 (k0_t2 : Fin k0_t2_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c3_i32_197 : BitVec 32 := 3#32
  let v457 : BitVec 32 := Scalar.addi v429 c3_i32_197
  let c128_i32_198 : BitVec 32 := 128#32
  let v458 : BitVec 32 := Scalar.muli v457 c128_i32_198
  v458
@[reducible] def k0_t3_loop : Scf.Loop 32 :=
  let c0_i32_214 : BitVec 32 := 0#32
  let c8_i32_215 : BitVec 32 := 8#32
  let v473 : BitVec 32 := Scalar.addi c0_i32_214 c8_i32_215
  let c1_i32_216 : BitVec 32 := 1#32
  ⟨c0_i32_214, v473, c1_i32_216⟩
def k0_mult5 (k0_t2 : Fin k0_t2_loop.trips) (k0_t3 : Fin k0_t3_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c0_i32_211 : BitVec 32 := 0#32
  let v472 : BitVec 32 := Scalar.addi v429 c0_i32_211
  let c128_i32_382 : BitVec 32 := 128#32
  let v649 : BitVec 32 := Scalar.muli v472 c128_i32_382
  let c0_i32_214 : BitVec 32 := 0#32
  let c1_i32_216 : BitVec 32 := 1#32
  let arg13 : BitVec 32 := Scf.iv c0_i32_214 c1_i32_216 k0_t3
  let c16_i32_383 : BitVec 32 := 16#32
  let v650 : BitVec 32 := Scalar.muli arg13 c16_i32_383
  let v651 : BitVec 32 := Scalar.addi v649 v650
  v651
def k0_off4 (k0_t2 : Fin k0_t2_loop.trips) (k0_t3 : Fin k0_t3_loop.trips) : Fin 1 → Nat :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c0_i32_211 : BitVec 32 := 0#32
  let v472 : BitVec 32 := Scalar.addi v429 c0_i32_211
  let c128_i32_382 : BitVec 32 := 128#32
  let v649 : BitVec 32 := Scalar.muli v472 c128_i32_382
  let c0_i32_214 : BitVec 32 := 0#32
  let c1_i32_216 : BitVec 32 := 1#32
  let arg13 : BitVec 32 := Scf.iv c0_i32_214 c1_i32_216 k0_t3
  let c16_i32_383 : BitVec 32 := 16#32
  let v650 : BitVec 32 := Scalar.muli arg13 c16_i32_383
  let v651 : BitVec 32 := Scalar.addi v649 v650
  let v652 : BitVec 32 := v651
  let v653 : Index := Scalar.indexCast v652
  ![v653.toNat]

def k0_chk2 (v648 : IVec S16 32) (v661 : IVec S16 32) : Prop :=
  (∀ a x, ((![v648, v661] : Fin 2 → IVec S16 32) a x).toNat < S128x128.size a)
theorem k0_idx2_inb : ∀ (v648 : IVec S16 32) (v661 : IVec S16 32) (k0_hw2 : k0_chk2 v648 v661), ∀ a x, ((![v648, v661] : Fin 2 → IVec S16 32) a x).toNat < S128x128.size a := fun v648 v661 k0_hw2 => k0_hw2

def k0_chk3 (v659 : IVec S16 32) (v666 : IVec S16 32) : Prop :=
  (∀ a x, ((![v659, v666] : Fin 2 → IVec S16 32) a x).toNat < S128x128.size a)
theorem k0_idx3_inb : ∀ (v659 : IVec S16 32) (v666 : IVec S16 32) (k0_hw3 : k0_chk3 v659 v666), ∀ a x, ((![v659, v666] : Fin 2 → IVec S16 32) a x).toNat < S128x128.size a := fun v659 v666 k0_hw3 => k0_hw3

def k0_chk4 (v648 : IVec S16 32) (v670 : IVec S16 32) : Prop :=
  (∀ a x, ((![v648, v670] : Fin 2 → IVec S16 32) a x).toNat < S128x128.size a)
theorem k0_idx4_inb : ∀ (v648 : IVec S16 32) (v670 : IVec S16 32) (k0_hw4 : k0_chk4 v648 v670), ∀ a x, ((![v648, v670] : Fin 2 → IVec S16 32) a x).toNat < S128x128.size a := fun v648 v670 k0_hw4 => k0_hw4

def k0_chk5 (v659 : IVec S16 32) (v675 : IVec S16 32) : Prop :=
  (∀ a x, ((![v659, v675] : Fin 2 → IVec S16 32) a x).toNat < S128x128.size a)
theorem k0_idx5_inb : ∀ (v659 : IVec S16 32) (v675 : IVec S16 32) (k0_hw5 : k0_chk5 v659 v675), ∀ a x, ((![v659, v675] : Fin 2 → IVec S16 32) a x).toNat < S128x128.size a := fun v659 v675 k0_hw5 => k0_hw5

def k0_chk6 (v648 : IVec S16 32) (v679 : IVec S16 32) : Prop :=
  (∀ a x, ((![v648, v679] : Fin 2 → IVec S16 32) a x).toNat < S128x128.size a)
theorem k0_idx6_inb : ∀ (v648 : IVec S16 32) (v679 : IVec S16 32) (k0_hw6 : k0_chk6 v648 v679), ∀ a x, ((![v648, v679] : Fin 2 → IVec S16 32) a x).toNat < S128x128.size a := fun v648 v679 k0_hw6 => k0_hw6

def k0_chk7 (v659 : IVec S16 32) (v684 : IVec S16 32) : Prop :=
  (∀ a x, ((![v659, v684] : Fin 2 → IVec S16 32) a x).toNat < S128x128.size a)
theorem k0_idx7_inb : ∀ (v659 : IVec S16 32) (v684 : IVec S16 32) (k0_hw7 : k0_chk7 v659 v684), ∀ a x, ((![v659, v684] : Fin 2 → IVec S16 32) a x).toNat < S128x128.size a := fun v659 v684 k0_hw7 => k0_hw7

def k0_chk8 (v648 : IVec S16 32) (v688 : IVec S16 32) : Prop :=
  (∀ a x, ((![v648, v688] : Fin 2 → IVec S16 32) a x).toNat < S128x128.size a)
theorem k0_idx8_inb : ∀ (v648 : IVec S16 32) (v688 : IVec S16 32) (k0_hw8 : k0_chk8 v648 v688), ∀ a x, ((![v648, v688] : Fin 2 → IVec S16 32) a x).toNat < S128x128.size a := fun v648 v688 k0_hw8 => k0_hw8

def k0_chk9 (v659 : IVec S16 32) (v693 : IVec S16 32) : Prop :=
  (∀ a x, ((![v659, v693] : Fin 2 → IVec S16 32) a x).toNat < S128x128.size a)
theorem k0_idx9_inb : ∀ (v659 : IVec S16 32) (v693 : IVec S16 32) (k0_hw9 : k0_chk9 v659 v693), ∀ a x, ((![v659, v693] : Fin 2 → IVec S16 32) a x).toNat < S128x128.size a := fun v659 v693 k0_hw9 => k0_hw9

def k0_chk10 (v648 : IVec S16 32) (v697 : IVec S16 32) : Prop :=
  (∀ a x, ((![v648, v697] : Fin 2 → IVec S16 32) a x).toNat < S128x128.size a)
theorem k0_idx10_inb : ∀ (v648 : IVec S16 32) (v697 : IVec S16 32) (k0_hw10 : k0_chk10 v648 v697), ∀ a x, ((![v648, v697] : Fin 2 → IVec S16 32) a x).toNat < S128x128.size a := fun v648 v697 k0_hw10 => k0_hw10

def k0_chk11 (v659 : IVec S16 32) (v702 : IVec S16 32) : Prop :=
  (∀ a x, ((![v659, v702] : Fin 2 → IVec S16 32) a x).toNat < S128x128.size a)
theorem k0_idx11_inb : ∀ (v659 : IVec S16 32) (v702 : IVec S16 32) (k0_hw11 : k0_chk11 v659 v702), ∀ a x, ((![v659, v702] : Fin 2 → IVec S16 32) a x).toNat < S128x128.size a := fun v659 v702 k0_hw11 => k0_hw11

def k0_chk12 (v648 : IVec S16 32) (v706 : IVec S16 32) : Prop :=
  (∀ a x, ((![v648, v706] : Fin 2 → IVec S16 32) a x).toNat < S128x128.size a)
theorem k0_idx12_inb : ∀ (v648 : IVec S16 32) (v706 : IVec S16 32) (k0_hw12 : k0_chk12 v648 v706), ∀ a x, ((![v648, v706] : Fin 2 → IVec S16 32) a x).toNat < S128x128.size a := fun v648 v706 k0_hw12 => k0_hw12

def k0_chk13 (v659 : IVec S16 32) (v711 : IVec S16 32) : Prop :=
  (∀ a x, ((![v659, v711] : Fin 2 → IVec S16 32) a x).toNat < S128x128.size a)
theorem k0_idx13_inb : ∀ (v659 : IVec S16 32) (v711 : IVec S16 32) (k0_hw13 : k0_chk13 v659 v711), ∀ a x, ((![v659, v711] : Fin 2 → IVec S16 32) a x).toNat < S128x128.size a := fun v659 v711 k0_hw13 => k0_hw13

def k0_chk14 (v648 : IVec S16 32) (v715 : IVec S16 32) : Prop :=
  (∀ a x, ((![v648, v715] : Fin 2 → IVec S16 32) a x).toNat < S128x128.size a)
theorem k0_idx14_inb : ∀ (v648 : IVec S16 32) (v715 : IVec S16 32) (k0_hw14 : k0_chk14 v648 v715), ∀ a x, ((![v648, v715] : Fin 2 → IVec S16 32) a x).toNat < S128x128.size a := fun v648 v715 k0_hw14 => k0_hw14

def k0_chk15 (v659 : IVec S16 32) (v720 : IVec S16 32) : Prop :=
  (∀ a x, ((![v659, v720] : Fin 2 → IVec S16 32) a x).toNat < S128x128.size a)
theorem k0_idx15_inb : ∀ (v659 : IVec S16 32) (v720 : IVec S16 32) (k0_hw15 : k0_chk15 v659 v720), ∀ a x, ((![v659, v720] : Fin 2 → IVec S16 32) a x).toNat < S128x128.size a := fun v659 v720 k0_hw15 => k0_hw15

def k0_chk16 (v648 : IVec S16 32) (v724 : IVec S16 32) : Prop :=
  (∀ a x, ((![v648, v724] : Fin 2 → IVec S16 32) a x).toNat < S128x128.size a)
theorem k0_idx16_inb : ∀ (v648 : IVec S16 32) (v724 : IVec S16 32) (k0_hw16 : k0_chk16 v648 v724), ∀ a x, ((![v648, v724] : Fin 2 → IVec S16 32) a x).toNat < S128x128.size a := fun v648 v724 k0_hw16 => k0_hw16

def k0_chk17 (v659 : IVec S16 32) (v729 : IVec S16 32) : Prop :=
  (∀ a x, ((![v659, v729] : Fin 2 → IVec S16 32) a x).toNat < S128x128.size a)
theorem k0_idx17_inb : ∀ (v659 : IVec S16 32) (v729 : IVec S16 32) (k0_hw17 : k0_chk17 v659 v729), ∀ a x, ((![v659, v729] : Fin 2 → IVec S16 32) a x).toNat < S128x128.size a := fun v659 v729 k0_hw17 => k0_hw17

def k0_chk18 (v648 : IVec S16 32) (v733 : IVec S16 32) : Prop :=
  (∀ a x, ((![v648, v733] : Fin 2 → IVec S16 32) a x).toNat < S128x128.size a)
theorem k0_idx18_inb : ∀ (v648 : IVec S16 32) (v733 : IVec S16 32) (k0_hw18 : k0_chk18 v648 v733), ∀ a x, ((![v648, v733] : Fin 2 → IVec S16 32) a x).toNat < S128x128.size a := fun v648 v733 k0_hw18 => k0_hw18

def k0_chk19 (v659 : IVec S16 32) (v738 : IVec S16 32) : Prop :=
  (∀ a x, ((![v659, v738] : Fin 2 → IVec S16 32) a x).toNat < S128x128.size a)
theorem k0_idx19_inb : ∀ (v659 : IVec S16 32) (v738 : IVec S16 32) (k0_hw19 : k0_chk19 v659 v738), ∀ a x, ((![v659, v738] : Fin 2 → IVec S16 32) a x).toNat < S128x128.size a := fun v659 v738 k0_hw19 => k0_hw19

def k0_chk20 (v648 : IVec S16 32) (v742 : IVec S16 32) : Prop :=
  (∀ a x, ((![v648, v742] : Fin 2 → IVec S16 32) a x).toNat < S128x128.size a)
theorem k0_idx20_inb : ∀ (v648 : IVec S16 32) (v742 : IVec S16 32) (k0_hw20 : k0_chk20 v648 v742), ∀ a x, ((![v648, v742] : Fin 2 → IVec S16 32) a x).toNat < S128x128.size a := fun v648 v742 k0_hw20 => k0_hw20

def k0_chk21 (v659 : IVec S16 32) (v747 : IVec S16 32) : Prop :=
  (∀ a x, ((![v659, v747] : Fin 2 → IVec S16 32) a x).toNat < S128x128.size a)
theorem k0_idx21_inb : ∀ (v659 : IVec S16 32) (v747 : IVec S16 32) (k0_hw21 : k0_chk21 v659 v747), ∀ a x, ((![v659, v747] : Fin 2 → IVec S16 32) a x).toNat < S128x128.size a := fun v659 v747 k0_hw21 => k0_hw21

def k0_chk22 (v648 : IVec S16 32) (v751 : IVec S16 32) : Prop :=
  (∀ a x, ((![v648, v751] : Fin 2 → IVec S16 32) a x).toNat < S128x128.size a)
theorem k0_idx22_inb : ∀ (v648 : IVec S16 32) (v751 : IVec S16 32) (k0_hw22 : k0_chk22 v648 v751), ∀ a x, ((![v648, v751] : Fin 2 → IVec S16 32) a x).toNat < S128x128.size a := fun v648 v751 k0_hw22 => k0_hw22

def k0_chk23 (v659 : IVec S16 32) (v756 : IVec S16 32) : Prop :=
  (∀ a x, ((![v659, v756] : Fin 2 → IVec S16 32) a x).toNat < S128x128.size a)
theorem k0_idx23_inb : ∀ (v659 : IVec S16 32) (v756 : IVec S16 32) (k0_hw23 : k0_chk23 v659 v756), ∀ a x, ((![v659, v756] : Fin 2 → IVec S16 32) a x).toNat < S128x128.size a := fun v659 v756 k0_hw23 => k0_hw23

def k0_chk24 (v648 : IVec S16 32) (v760 : IVec S16 32) : Prop :=
  (∀ a x, ((![v648, v760] : Fin 2 → IVec S16 32) a x).toNat < S128x128.size a)
theorem k0_idx24_inb : ∀ (v648 : IVec S16 32) (v760 : IVec S16 32) (k0_hw24 : k0_chk24 v648 v760), ∀ a x, ((![v648, v760] : Fin 2 → IVec S16 32) a x).toNat < S128x128.size a := fun v648 v760 k0_hw24 => k0_hw24

def k0_chk25 (v659 : IVec S16 32) (v765 : IVec S16 32) : Prop :=
  (∀ a x, ((![v659, v765] : Fin 2 → IVec S16 32) a x).toNat < S128x128.size a)
theorem k0_idx25_inb : ∀ (v659 : IVec S16 32) (v765 : IVec S16 32) (k0_hw25 : k0_chk25 v659 v765), ∀ a x, ((![v659, v765] : Fin 2 → IVec S16 32) a x).toNat < S128x128.size a := fun v659 v765 k0_hw25 => k0_hw25

def k0_chk26 (v648 : IVec S16 32) (v769 : IVec S16 32) : Prop :=
  (∀ a x, ((![v648, v769] : Fin 2 → IVec S16 32) a x).toNat < S128x128.size a)
theorem k0_idx26_inb : ∀ (v648 : IVec S16 32) (v769 : IVec S16 32) (k0_hw26 : k0_chk26 v648 v769), ∀ a x, ((![v648, v769] : Fin 2 → IVec S16 32) a x).toNat < S128x128.size a := fun v648 v769 k0_hw26 => k0_hw26

def k0_chk27 (v659 : IVec S16 32) (v774 : IVec S16 32) : Prop :=
  (∀ a x, ((![v659, v774] : Fin 2 → IVec S16 32) a x).toNat < S128x128.size a)
theorem k0_idx27_inb : ∀ (v659 : IVec S16 32) (v774 : IVec S16 32) (k0_hw27 : k0_chk27 v659 v774), ∀ a x, ((![v659, v774] : Fin 2 → IVec S16 32) a x).toNat < S128x128.size a := fun v659 v774 k0_hw27 => k0_hw27

def k0_chk28 (v648 : IVec S16 32) (v778 : IVec S16 32) : Prop :=
  (∀ a x, ((![v648, v778] : Fin 2 → IVec S16 32) a x).toNat < S128x128.size a)
theorem k0_idx28_inb : ∀ (v648 : IVec S16 32) (v778 : IVec S16 32) (k0_hw28 : k0_chk28 v648 v778), ∀ a x, ((![v648, v778] : Fin 2 → IVec S16 32) a x).toNat < S128x128.size a := fun v648 v778 k0_hw28 => k0_hw28

def k0_chk29 (v659 : IVec S16 32) (v783 : IVec S16 32) : Prop :=
  (∀ a x, ((![v659, v783] : Fin 2 → IVec S16 32) a x).toNat < S128x128.size a)
theorem k0_idx29_inb : ∀ (v659 : IVec S16 32) (v783 : IVec S16 32) (k0_hw29 : k0_chk29 v659 v783), ∀ a x, ((![v659, v783] : Fin 2 → IVec S16 32) a x).toNat < S128x128.size a := fun v659 v783 k0_hw29 => k0_hw29

def k0_chk30 (v648 : IVec S16 32) (v787 : IVec S16 32) : Prop :=
  (∀ a x, ((![v648, v787] : Fin 2 → IVec S16 32) a x).toNat < S128x128.size a)
theorem k0_idx30_inb : ∀ (v648 : IVec S16 32) (v787 : IVec S16 32) (k0_hw30 : k0_chk30 v648 v787), ∀ a x, ((![v648, v787] : Fin 2 → IVec S16 32) a x).toNat < S128x128.size a := fun v648 v787 k0_hw30 => k0_hw30

def k0_chk31 (v659 : IVec S16 32) (v792 : IVec S16 32) : Prop :=
  (∀ a x, ((![v659, v792] : Fin 2 → IVec S16 32) a x).toNat < S128x128.size a)
theorem k0_idx31_inb : ∀ (v659 : IVec S16 32) (v792 : IVec S16 32) (k0_hw31 : k0_chk31 v659 v792), ∀ a x, ((![v659, v792] : Fin 2 → IVec S16 32) a x).toNat < S128x128.size a := fun v659 v792 k0_hw31 => k0_hw31

def k0_chk32 (v648 : IVec S16 32) (v796 : IVec S16 32) : Prop :=
  (∀ a x, ((![v648, v796] : Fin 2 → IVec S16 32) a x).toNat < S128x128.size a)
theorem k0_idx32_inb : ∀ (v648 : IVec S16 32) (v796 : IVec S16 32) (k0_hw32 : k0_chk32 v648 v796), ∀ a x, ((![v648, v796] : Fin 2 → IVec S16 32) a x).toNat < S128x128.size a := fun v648 v796 k0_hw32 => k0_hw32

def k0_chk33 (v659 : IVec S16 32) (v801 : IVec S16 32) : Prop :=
  (∀ a x, ((![v659, v801] : Fin 2 → IVec S16 32) a x).toNat < S128x128.size a)
theorem k0_idx33_inb : ∀ (v659 : IVec S16 32) (v801 : IVec S16 32) (k0_hw33 : k0_chk33 v659 v801), ∀ a x, ((![v659, v801] : Fin 2 → IVec S16 32) a x).toNat < S128x128.size a := fun v659 v801 k0_hw33 => k0_hw33

def k0_chk34 (v648 : IVec S16 32) (v805 : IVec S16 32) : Prop :=
  (∀ a x, ((![v648, v805] : Fin 2 → IVec S16 32) a x).toNat < S128x128.size a)
theorem k0_idx34_inb : ∀ (v648 : IVec S16 32) (v805 : IVec S16 32) (k0_hw34 : k0_chk34 v648 v805), ∀ a x, ((![v648, v805] : Fin 2 → IVec S16 32) a x).toNat < S128x128.size a := fun v648 v805 k0_hw34 => k0_hw34

def k0_chk35 (v659 : IVec S16 32) (v810 : IVec S16 32) : Prop :=
  (∀ a x, ((![v659, v810] : Fin 2 → IVec S16 32) a x).toNat < S128x128.size a)
theorem k0_idx35_inb : ∀ (v659 : IVec S16 32) (v810 : IVec S16 32) (k0_hw35 : k0_chk35 v659 v810), ∀ a x, ((![v659, v810] : Fin 2 → IVec S16 32) a x).toNat < S128x128.size a := fun v659 v810 k0_hw35 => k0_hw35

def k0_chk36 (v648 : IVec S16 32) (v814 : IVec S16 32) : Prop :=
  (∀ a x, ((![v648, v814] : Fin 2 → IVec S16 32) a x).toNat < S128x128.size a)
theorem k0_idx36_inb : ∀ (v648 : IVec S16 32) (v814 : IVec S16 32) (k0_hw36 : k0_chk36 v648 v814), ∀ a x, ((![v648, v814] : Fin 2 → IVec S16 32) a x).toNat < S128x128.size a := fun v648 v814 k0_hw36 => k0_hw36

def k0_chk37 (v659 : IVec S16 32) (v819 : IVec S16 32) : Prop :=
  (∀ a x, ((![v659, v819] : Fin 2 → IVec S16 32) a x).toNat < S128x128.size a)
theorem k0_idx37_inb : ∀ (v659 : IVec S16 32) (v819 : IVec S16 32) (k0_hw37 : k0_chk37 v659 v819), ∀ a x, ((![v659, v819] : Fin 2 → IVec S16 32) a x).toNat < S128x128.size a := fun v659 v819 k0_hw37 => k0_hw37

def k0_chk38 (v648 : IVec S16 32) (v823 : IVec S16 32) : Prop :=
  (∀ a x, ((![v648, v823] : Fin 2 → IVec S16 32) a x).toNat < S128x128.size a)
theorem k0_idx38_inb : ∀ (v648 : IVec S16 32) (v823 : IVec S16 32) (k0_hw38 : k0_chk38 v648 v823), ∀ a x, ((![v648, v823] : Fin 2 → IVec S16 32) a x).toNat < S128x128.size a := fun v648 v823 k0_hw38 => k0_hw38

def k0_chk39 (v659 : IVec S16 32) (v828 : IVec S16 32) : Prop :=
  (∀ a x, ((![v659, v828] : Fin 2 → IVec S16 32) a x).toNat < S128x128.size a)
theorem k0_idx39_inb : ∀ (v659 : IVec S16 32) (v828 : IVec S16 32) (k0_hw39 : k0_chk39 v659 v828), ∀ a x, ((![v659, v828] : Fin 2 → IVec S16 32) a x).toNat < S128x128.size a := fun v659 v828 k0_hw39 => k0_hw39

def k0_chk40 (v648 : IVec S16 32) (v832 : IVec S16 32) : Prop :=
  (∀ a x, ((![v648, v832] : Fin 2 → IVec S16 32) a x).toNat < S128x128.size a)
theorem k0_idx40_inb : ∀ (v648 : IVec S16 32) (v832 : IVec S16 32) (k0_hw40 : k0_chk40 v648 v832), ∀ a x, ((![v648, v832] : Fin 2 → IVec S16 32) a x).toNat < S128x128.size a := fun v648 v832 k0_hw40 => k0_hw40

def k0_chk41 (v659 : IVec S16 32) (v837 : IVec S16 32) : Prop :=
  (∀ a x, ((![v659, v837] : Fin 2 → IVec S16 32) a x).toNat < S128x128.size a)
theorem k0_idx41_inb : ∀ (v659 : IVec S16 32) (v837 : IVec S16 32) (k0_hw41 : k0_chk41 v659 v837), ∀ a x, ((![v659, v837] : Fin 2 → IVec S16 32) a x).toNat < S128x128.size a := fun v659 v837 k0_hw41 => k0_hw41

def k0_chk42 (v648 : IVec S16 32) (v841 : IVec S16 32) : Prop :=
  (∀ a x, ((![v648, v841] : Fin 2 → IVec S16 32) a x).toNat < S128x128.size a)
theorem k0_idx42_inb : ∀ (v648 : IVec S16 32) (v841 : IVec S16 32) (k0_hw42 : k0_chk42 v648 v841), ∀ a x, ((![v648, v841] : Fin 2 → IVec S16 32) a x).toNat < S128x128.size a := fun v648 v841 k0_hw42 => k0_hw42

def k0_chk43 (v659 : IVec S16 32) (v846 : IVec S16 32) : Prop :=
  (∀ a x, ((![v659, v846] : Fin 2 → IVec S16 32) a x).toNat < S128x128.size a)
theorem k0_idx43_inb : ∀ (v659 : IVec S16 32) (v846 : IVec S16 32) (k0_hw43 : k0_chk43 v659 v846), ∀ a x, ((![v659, v846] : Fin 2 → IVec S16 32) a x).toNat < S128x128.size a := fun v659 v846 k0_hw43 => k0_hw43

def k0_chk44 (v648 : IVec S16 32) (v850 : IVec S16 32) : Prop :=
  (∀ a x, ((![v648, v850] : Fin 2 → IVec S16 32) a x).toNat < S128x128.size a)
theorem k0_idx44_inb : ∀ (v648 : IVec S16 32) (v850 : IVec S16 32) (k0_hw44 : k0_chk44 v648 v850), ∀ a x, ((![v648, v850] : Fin 2 → IVec S16 32) a x).toNat < S128x128.size a := fun v648 v850 k0_hw44 => k0_hw44

def k0_chk45 (v659 : IVec S16 32) (v855 : IVec S16 32) : Prop :=
  (∀ a x, ((![v659, v855] : Fin 2 → IVec S16 32) a x).toNat < S128x128.size a)
theorem k0_idx45_inb : ∀ (v659 : IVec S16 32) (v855 : IVec S16 32) (k0_hw45 : k0_chk45 v659 v855), ∀ a x, ((![v659, v855] : Fin 2 → IVec S16 32) a x).toNat < S128x128.size a := fun v659 v855 k0_hw45 => k0_hw45

def k0_chk46 (v648 : IVec S16 32) (v859 : IVec S16 32) : Prop :=
  (∀ a x, ((![v648, v859] : Fin 2 → IVec S16 32) a x).toNat < S128x128.size a)
theorem k0_idx46_inb : ∀ (v648 : IVec S16 32) (v859 : IVec S16 32) (k0_hw46 : k0_chk46 v648 v859), ∀ a x, ((![v648, v859] : Fin 2 → IVec S16 32) a x).toNat < S128x128.size a := fun v648 v859 k0_hw46 => k0_hw46

def k0_chk47 (v659 : IVec S16 32) (v864 : IVec S16 32) : Prop :=
  (∀ a x, ((![v659, v864] : Fin 2 → IVec S16 32) a x).toNat < S128x128.size a)
theorem k0_idx47_inb : ∀ (v659 : IVec S16 32) (v864 : IVec S16 32) (k0_hw47 : k0_chk47 v659 v864), ∀ a x, ((![v659, v864] : Fin 2 → IVec S16 32) a x).toNat < S128x128.size a := fun v659 v864 k0_hw47 => k0_hw47

def k0_chk48 (v648 : IVec S16 32) (v868 : IVec S16 32) : Prop :=
  (∀ a x, ((![v648, v868] : Fin 2 → IVec S16 32) a x).toNat < S128x128.size a)
theorem k0_idx48_inb : ∀ (v648 : IVec S16 32) (v868 : IVec S16 32) (k0_hw48 : k0_chk48 v648 v868), ∀ a x, ((![v648, v868] : Fin 2 → IVec S16 32) a x).toNat < S128x128.size a := fun v648 v868 k0_hw48 => k0_hw48

def k0_chk49 (v659 : IVec S16 32) (v873 : IVec S16 32) : Prop :=
  (∀ a x, ((![v659, v873] : Fin 2 → IVec S16 32) a x).toNat < S128x128.size a)
theorem k0_idx49_inb : ∀ (v659 : IVec S16 32) (v873 : IVec S16 32) (k0_hw49 : k0_chk49 v659 v873), ∀ a x, ((![v659, v873] : Fin 2 → IVec S16 32) a x).toNat < S128x128.size a := fun v659 v873 k0_hw49 => k0_hw49

def k0_chk50 (v648 : IVec S16 32) (v877 : IVec S16 32) : Prop :=
  (∀ a x, ((![v648, v877] : Fin 2 → IVec S16 32) a x).toNat < S128x128.size a)
theorem k0_idx50_inb : ∀ (v648 : IVec S16 32) (v877 : IVec S16 32) (k0_hw50 : k0_chk50 v648 v877), ∀ a x, ((![v648, v877] : Fin 2 → IVec S16 32) a x).toNat < S128x128.size a := fun v648 v877 k0_hw50 => k0_hw50

def k0_chk51 (v659 : IVec S16 32) (v882 : IVec S16 32) : Prop :=
  (∀ a x, ((![v659, v882] : Fin 2 → IVec S16 32) a x).toNat < S128x128.size a)
theorem k0_idx51_inb : ∀ (v659 : IVec S16 32) (v882 : IVec S16 32) (k0_hw51 : k0_chk51 v659 v882), ∀ a x, ((![v659, v882] : Fin 2 → IVec S16 32) a x).toNat < S128x128.size a := fun v659 v882 k0_hw51 => k0_hw51

def k0_chk52 (v648 : IVec S16 32) (v886 : IVec S16 32) : Prop :=
  (∀ a x, ((![v648, v886] : Fin 2 → IVec S16 32) a x).toNat < S128x128.size a)
theorem k0_idx52_inb : ∀ (v648 : IVec S16 32) (v886 : IVec S16 32) (k0_hw52 : k0_chk52 v648 v886), ∀ a x, ((![v648, v886] : Fin 2 → IVec S16 32) a x).toNat < S128x128.size a := fun v648 v886 k0_hw52 => k0_hw52

def k0_chk53 (v659 : IVec S16 32) (v891 : IVec S16 32) : Prop :=
  (∀ a x, ((![v659, v891] : Fin 2 → IVec S16 32) a x).toNat < S128x128.size a)
theorem k0_idx53_inb : ∀ (v659 : IVec S16 32) (v891 : IVec S16 32) (k0_hw53 : k0_chk53 v659 v891), ∀ a x, ((![v659, v891] : Fin 2 → IVec S16 32) a x).toNat < S128x128.size a := fun v659 v891 k0_hw53 => k0_hw53

def k0_chk54 (v648 : IVec S16 32) (v895 : IVec S16 32) : Prop :=
  (∀ a x, ((![v648, v895] : Fin 2 → IVec S16 32) a x).toNat < S128x128.size a)
theorem k0_idx54_inb : ∀ (v648 : IVec S16 32) (v895 : IVec S16 32) (k0_hw54 : k0_chk54 v648 v895), ∀ a x, ((![v648, v895] : Fin 2 → IVec S16 32) a x).toNat < S128x128.size a := fun v648 v895 k0_hw54 => k0_hw54

def k0_chk55 (v659 : IVec S16 32) (v900 : IVec S16 32) : Prop :=
  (∀ a x, ((![v659, v900] : Fin 2 → IVec S16 32) a x).toNat < S128x128.size a)
theorem k0_idx55_inb : ∀ (v659 : IVec S16 32) (v900 : IVec S16 32) (k0_hw55 : k0_chk55 v659 v900), ∀ a x, ((![v659, v900] : Fin 2 → IVec S16 32) a x).toNat < S128x128.size a := fun v659 v900 k0_hw55 => k0_hw55

def k0_chk56 (v648 : IVec S16 32) (v904 : IVec S16 32) : Prop :=
  (∀ a x, ((![v648, v904] : Fin 2 → IVec S16 32) a x).toNat < S128x128.size a)
theorem k0_idx56_inb : ∀ (v648 : IVec S16 32) (v904 : IVec S16 32) (k0_hw56 : k0_chk56 v648 v904), ∀ a x, ((![v648, v904] : Fin 2 → IVec S16 32) a x).toNat < S128x128.size a := fun v648 v904 k0_hw56 => k0_hw56

def k0_chk57 (v659 : IVec S16 32) (v909 : IVec S16 32) : Prop :=
  (∀ a x, ((![v659, v909] : Fin 2 → IVec S16 32) a x).toNat < S128x128.size a)
theorem k0_idx57_inb : ∀ (v659 : IVec S16 32) (v909 : IVec S16 32) (k0_hw57 : k0_chk57 v659 v909), ∀ a x, ((![v659, v909] : Fin 2 → IVec S16 32) a x).toNat < S128x128.size a := fun v659 v909 k0_hw57 => k0_hw57

def k0_chk58 (v648 : IVec S16 32) (v913 : IVec S16 32) : Prop :=
  (∀ a x, ((![v648, v913] : Fin 2 → IVec S16 32) a x).toNat < S128x128.size a)
theorem k0_idx58_inb : ∀ (v648 : IVec S16 32) (v913 : IVec S16 32) (k0_hw58 : k0_chk58 v648 v913), ∀ a x, ((![v648, v913] : Fin 2 → IVec S16 32) a x).toNat < S128x128.size a := fun v648 v913 k0_hw58 => k0_hw58

def k0_chk59 (v659 : IVec S16 32) (v918 : IVec S16 32) : Prop :=
  (∀ a x, ((![v659, v918] : Fin 2 → IVec S16 32) a x).toNat < S128x128.size a)
theorem k0_idx59_inb : ∀ (v659 : IVec S16 32) (v918 : IVec S16 32) (k0_hw59 : k0_chk59 v659 v918), ∀ a x, ((![v659, v918] : Fin 2 → IVec S16 32) a x).toNat < S128x128.size a := fun v659 v918 k0_hw59 => k0_hw59

def k0_chk60 (v648 : IVec S16 32) (v922 : IVec S16 32) : Prop :=
  (∀ a x, ((![v648, v922] : Fin 2 → IVec S16 32) a x).toNat < S128x128.size a)
theorem k0_idx60_inb : ∀ (v648 : IVec S16 32) (v922 : IVec S16 32) (k0_hw60 : k0_chk60 v648 v922), ∀ a x, ((![v648, v922] : Fin 2 → IVec S16 32) a x).toNat < S128x128.size a := fun v648 v922 k0_hw60 => k0_hw60

def k0_chk61 (v659 : IVec S16 32) (v927 : IVec S16 32) : Prop :=
  (∀ a x, ((![v659, v927] : Fin 2 → IVec S16 32) a x).toNat < S128x128.size a)
theorem k0_idx61_inb : ∀ (v659 : IVec S16 32) (v927 : IVec S16 32) (k0_hw61 : k0_chk61 v659 v927), ∀ a x, ((![v659, v927] : Fin 2 → IVec S16 32) a x).toNat < S128x128.size a := fun v659 v927 k0_hw61 => k0_hw61

def k0_chk62 (v648 : IVec S16 32) (v931 : IVec S16 32) : Prop :=
  (∀ a x, ((![v648, v931] : Fin 2 → IVec S16 32) a x).toNat < S128x128.size a)
theorem k0_idx62_inb : ∀ (v648 : IVec S16 32) (v931 : IVec S16 32) (k0_hw62 : k0_chk62 v648 v931), ∀ a x, ((![v648, v931] : Fin 2 → IVec S16 32) a x).toNat < S128x128.size a := fun v648 v931 k0_hw62 => k0_hw62

def k0_chk63 (v659 : IVec S16 32) (v936 : IVec S16 32) : Prop :=
  (∀ a x, ((![v659, v936] : Fin 2 → IVec S16 32) a x).toNat < S128x128.size a)
theorem k0_idx63_inb : ∀ (v659 : IVec S16 32) (v936 : IVec S16 32) (k0_hw63 : k0_chk63 v659 v936), ∀ a x, ((![v659, v936] : Fin 2 → IVec S16 32) a x).toNat < S128x128.size a := fun v659 v936 k0_hw63 => k0_hw63

def k0_chk64 (v648 : IVec S16 32) (v940 : IVec S16 32) : Prop :=
  (∀ a x, ((![v648, v940] : Fin 2 → IVec S16 32) a x).toNat < S128x128.size a)
theorem k0_idx64_inb : ∀ (v648 : IVec S16 32) (v940 : IVec S16 32) (k0_hw64 : k0_chk64 v648 v940), ∀ a x, ((![v648, v940] : Fin 2 → IVec S16 32) a x).toNat < S128x128.size a := fun v648 v940 k0_hw64 => k0_hw64

def k0_chk65 (v659 : IVec S16 32) (v945 : IVec S16 32) : Prop :=
  (∀ a x, ((![v659, v945] : Fin 2 → IVec S16 32) a x).toNat < S128x128.size a)
theorem k0_idx65_inb : ∀ (v659 : IVec S16 32) (v945 : IVec S16 32) (k0_hw65 : k0_chk65 v659 v945), ∀ a x, ((![v659, v945] : Fin 2 → IVec S16 32) a x).toNat < S128x128.size a := fun v659 v945 k0_hw65 => k0_hw65

def k0_chk66 (v648 : IVec S16 32) (v949 : IVec S16 32) : Prop :=
  (∀ a x, ((![v648, v949] : Fin 2 → IVec S16 32) a x).toNat < S128x128.size a)
theorem k0_idx66_inb : ∀ (v648 : IVec S16 32) (v949 : IVec S16 32) (k0_hw66 : k0_chk66 v648 v949), ∀ a x, ((![v648, v949] : Fin 2 → IVec S16 32) a x).toNat < S128x128.size a := fun v648 v949 k0_hw66 => k0_hw66

def k0_chk67 (v659 : IVec S16 32) (v954 : IVec S16 32) : Prop :=
  (∀ a x, ((![v659, v954] : Fin 2 → IVec S16 32) a x).toNat < S128x128.size a)
theorem k0_idx67_inb : ∀ (v659 : IVec S16 32) (v954 : IVec S16 32) (k0_hw67 : k0_chk67 v659 v954), ∀ a x, ((![v659, v954] : Fin 2 → IVec S16 32) a x).toNat < S128x128.size a := fun v659 v954 k0_hw67 => k0_hw67

def k0_chk68 (v648 : IVec S16 32) (v958 : IVec S16 32) : Prop :=
  (∀ a x, ((![v648, v958] : Fin 2 → IVec S16 32) a x).toNat < S128x128.size a)
theorem k0_idx68_inb : ∀ (v648 : IVec S16 32) (v958 : IVec S16 32) (k0_hw68 : k0_chk68 v648 v958), ∀ a x, ((![v648, v958] : Fin 2 → IVec S16 32) a x).toNat < S128x128.size a := fun v648 v958 k0_hw68 => k0_hw68

def k0_chk69 (v659 : IVec S16 32) (v963 : IVec S16 32) : Prop :=
  (∀ a x, ((![v659, v963] : Fin 2 → IVec S16 32) a x).toNat < S128x128.size a)
theorem k0_idx69_inb : ∀ (v659 : IVec S16 32) (v963 : IVec S16 32) (k0_hw69 : k0_chk69 v659 v963), ∀ a x, ((![v659, v963] : Fin 2 → IVec S16 32) a x).toNat < S128x128.size a := fun v659 v963 k0_hw69 => k0_hw69

def k0_chk70 (v648 : IVec S16 32) (v967 : IVec S16 32) : Prop :=
  (∀ a x, ((![v648, v967] : Fin 2 → IVec S16 32) a x).toNat < S128x128.size a)
theorem k0_idx70_inb : ∀ (v648 : IVec S16 32) (v967 : IVec S16 32) (k0_hw70 : k0_chk70 v648 v967), ∀ a x, ((![v648, v967] : Fin 2 → IVec S16 32) a x).toNat < S128x128.size a := fun v648 v967 k0_hw70 => k0_hw70

def k0_chk71 (v659 : IVec S16 32) (v972 : IVec S16 32) : Prop :=
  (∀ a x, ((![v659, v972] : Fin 2 → IVec S16 32) a x).toNat < S128x128.size a)
theorem k0_idx71_inb : ∀ (v659 : IVec S16 32) (v972 : IVec S16 32) (k0_hw71 : k0_chk71 v659 v972), ∀ a x, ((![v659, v972] : Fin 2 → IVec S16 32) a x).toNat < S128x128.size a := fun v659 v972 k0_hw71 => k0_hw71

def k0_chk72 (v648 : IVec S16 32) (v976 : IVec S16 32) : Prop :=
  (∀ a x, ((![v648, v976] : Fin 2 → IVec S16 32) a x).toNat < S128x128.size a)
theorem k0_idx72_inb : ∀ (v648 : IVec S16 32) (v976 : IVec S16 32) (k0_hw72 : k0_chk72 v648 v976), ∀ a x, ((![v648, v976] : Fin 2 → IVec S16 32) a x).toNat < S128x128.size a := fun v648 v976 k0_hw72 => k0_hw72

def k0_chk73 (v659 : IVec S16 32) (v981 : IVec S16 32) : Prop :=
  (∀ a x, ((![v659, v981] : Fin 2 → IVec S16 32) a x).toNat < S128x128.size a)
theorem k0_idx73_inb : ∀ (v659 : IVec S16 32) (v981 : IVec S16 32) (k0_hw73 : k0_chk73 v659 v981), ∀ a x, ((![v659, v981] : Fin 2 → IVec S16 32) a x).toNat < S128x128.size a := fun v659 v981 k0_hw73 => k0_hw73

def k0_chk74 (v648 : IVec S16 32) (v985 : IVec S16 32) : Prop :=
  (∀ a x, ((![v648, v985] : Fin 2 → IVec S16 32) a x).toNat < S128x128.size a)
theorem k0_idx74_inb : ∀ (v648 : IVec S16 32) (v985 : IVec S16 32) (k0_hw74 : k0_chk74 v648 v985), ∀ a x, ((![v648, v985] : Fin 2 → IVec S16 32) a x).toNat < S128x128.size a := fun v648 v985 k0_hw74 => k0_hw74

def k0_chk75 (v659 : IVec S16 32) (v990 : IVec S16 32) : Prop :=
  (∀ a x, ((![v659, v990] : Fin 2 → IVec S16 32) a x).toNat < S128x128.size a)
theorem k0_idx75_inb : ∀ (v659 : IVec S16 32) (v990 : IVec S16 32) (k0_hw75 : k0_chk75 v659 v990), ∀ a x, ((![v659, v990] : Fin 2 → IVec S16 32) a x).toNat < S128x128.size a := fun v659 v990 k0_hw75 => k0_hw75

def k0_chk76 (v648 : IVec S16 32) (v994 : IVec S16 32) : Prop :=
  (∀ a x, ((![v648, v994] : Fin 2 → IVec S16 32) a x).toNat < S128x128.size a)
theorem k0_idx76_inb : ∀ (v648 : IVec S16 32) (v994 : IVec S16 32) (k0_hw76 : k0_chk76 v648 v994), ∀ a x, ((![v648, v994] : Fin 2 → IVec S16 32) a x).toNat < S128x128.size a := fun v648 v994 k0_hw76 => k0_hw76

def k0_chk77 (v659 : IVec S16 32) (v999 : IVec S16 32) : Prop :=
  (∀ a x, ((![v659, v999] : Fin 2 → IVec S16 32) a x).toNat < S128x128.size a)
theorem k0_idx77_inb : ∀ (v659 : IVec S16 32) (v999 : IVec S16 32) (k0_hw77 : k0_chk77 v659 v999), ∀ a x, ((![v659, v999] : Fin 2 → IVec S16 32) a x).toNat < S128x128.size a := fun v659 v999 k0_hw77 => k0_hw77

def k0_chk78 (v648 : IVec S16 32) (v1003 : IVec S16 32) : Prop :=
  (∀ a x, ((![v648, v1003] : Fin 2 → IVec S16 32) a x).toNat < S128x128.size a)
theorem k0_idx78_inb : ∀ (v648 : IVec S16 32) (v1003 : IVec S16 32) (k0_hw78 : k0_chk78 v648 v1003), ∀ a x, ((![v648, v1003] : Fin 2 → IVec S16 32) a x).toNat < S128x128.size a := fun v648 v1003 k0_hw78 => k0_hw78

def k0_chk79 (v659 : IVec S16 32) (v1008 : IVec S16 32) : Prop :=
  (∀ a x, ((![v659, v1008] : Fin 2 → IVec S16 32) a x).toNat < S128x128.size a)
theorem k0_idx79_inb : ∀ (v659 : IVec S16 32) (v1008 : IVec S16 32) (k0_hw79 : k0_chk79 v659 v1008), ∀ a x, ((![v659, v1008] : Fin 2 → IVec S16 32) a x).toNat < S128x128.size a := fun v659 v1008 k0_hw79 => k0_hw79

def k0_chk80 (v648 : IVec S16 32) (v1012 : IVec S16 32) : Prop :=
  (∀ a x, ((![v648, v1012] : Fin 2 → IVec S16 32) a x).toNat < S128x128.size a)
theorem k0_idx80_inb : ∀ (v648 : IVec S16 32) (v1012 : IVec S16 32) (k0_hw80 : k0_chk80 v648 v1012), ∀ a x, ((![v648, v1012] : Fin 2 → IVec S16 32) a x).toNat < S128x128.size a := fun v648 v1012 k0_hw80 => k0_hw80

def k0_chk81 (v659 : IVec S16 32) (v1017 : IVec S16 32) : Prop :=
  (∀ a x, ((![v659, v1017] : Fin 2 → IVec S16 32) a x).toNat < S128x128.size a)
theorem k0_idx81_inb : ∀ (v659 : IVec S16 32) (v1017 : IVec S16 32) (k0_hw81 : k0_chk81 v659 v1017), ∀ a x, ((![v659, v1017] : Fin 2 → IVec S16 32) a x).toNat < S128x128.size a := fun v659 v1017 k0_hw81 => k0_hw81

def k0_chk82 (v648 : IVec S16 32) (v1021 : IVec S16 32) : Prop :=
  (∀ a x, ((![v648, v1021] : Fin 2 → IVec S16 32) a x).toNat < S128x128.size a)
theorem k0_idx82_inb : ∀ (v648 : IVec S16 32) (v1021 : IVec S16 32) (k0_hw82 : k0_chk82 v648 v1021), ∀ a x, ((![v648, v1021] : Fin 2 → IVec S16 32) a x).toNat < S128x128.size a := fun v648 v1021 k0_hw82 => k0_hw82

def k0_chk83 (v659 : IVec S16 32) (v1026 : IVec S16 32) : Prop :=
  (∀ a x, ((![v659, v1026] : Fin 2 → IVec S16 32) a x).toNat < S128x128.size a)
theorem k0_idx83_inb : ∀ (v659 : IVec S16 32) (v1026 : IVec S16 32) (k0_hw83 : k0_chk83 v659 v1026), ∀ a x, ((![v659, v1026] : Fin 2 → IVec S16 32) a x).toNat < S128x128.size a := fun v659 v1026 k0_hw83 => k0_hw83

def k0_chk84 (v648 : IVec S16 32) (v1030 : IVec S16 32) : Prop :=
  (∀ a x, ((![v648, v1030] : Fin 2 → IVec S16 32) a x).toNat < S128x128.size a)
theorem k0_idx84_inb : ∀ (v648 : IVec S16 32) (v1030 : IVec S16 32) (k0_hw84 : k0_chk84 v648 v1030), ∀ a x, ((![v648, v1030] : Fin 2 → IVec S16 32) a x).toNat < S128x128.size a := fun v648 v1030 k0_hw84 => k0_hw84

def k0_chk85 (v659 : IVec S16 32) (v1035 : IVec S16 32) : Prop :=
  (∀ a x, ((![v659, v1035] : Fin 2 → IVec S16 32) a x).toNat < S128x128.size a)
theorem k0_idx85_inb : ∀ (v659 : IVec S16 32) (v1035 : IVec S16 32) (k0_hw85 : k0_chk85 v659 v1035), ∀ a x, ((![v659, v1035] : Fin 2 → IVec S16 32) a x).toNat < S128x128.size a := fun v659 v1035 k0_hw85 => k0_hw85

def k0_chk86 (v648 : IVec S16 32) (v1039 : IVec S16 32) : Prop :=
  (∀ a x, ((![v648, v1039] : Fin 2 → IVec S16 32) a x).toNat < S128x128.size a)
theorem k0_idx86_inb : ∀ (v648 : IVec S16 32) (v1039 : IVec S16 32) (k0_hw86 : k0_chk86 v648 v1039), ∀ a x, ((![v648, v1039] : Fin 2 → IVec S16 32) a x).toNat < S128x128.size a := fun v648 v1039 k0_hw86 => k0_hw86

def k0_chk87 (v659 : IVec S16 32) (v1044 : IVec S16 32) : Prop :=
  (∀ a x, ((![v659, v1044] : Fin 2 → IVec S16 32) a x).toNat < S128x128.size a)
theorem k0_idx87_inb : ∀ (v659 : IVec S16 32) (v1044 : IVec S16 32) (k0_hw87 : k0_chk87 v659 v1044), ∀ a x, ((![v659, v1044] : Fin 2 → IVec S16 32) a x).toNat < S128x128.size a := fun v659 v1044 k0_hw87 => k0_hw87

def k0_chk88 (v648 : IVec S16 32) (v1048 : IVec S16 32) : Prop :=
  (∀ a x, ((![v648, v1048] : Fin 2 → IVec S16 32) a x).toNat < S128x128.size a)
theorem k0_idx88_inb : ∀ (v648 : IVec S16 32) (v1048 : IVec S16 32) (k0_hw88 : k0_chk88 v648 v1048), ∀ a x, ((![v648, v1048] : Fin 2 → IVec S16 32) a x).toNat < S128x128.size a := fun v648 v1048 k0_hw88 => k0_hw88

def k0_chk89 (v659 : IVec S16 32) (v1053 : IVec S16 32) : Prop :=
  (∀ a x, ((![v659, v1053] : Fin 2 → IVec S16 32) a x).toNat < S128x128.size a)
theorem k0_idx89_inb : ∀ (v659 : IVec S16 32) (v1053 : IVec S16 32) (k0_hw89 : k0_chk89 v659 v1053), ∀ a x, ((![v659, v1053] : Fin 2 → IVec S16 32) a x).toNat < S128x128.size a := fun v659 v1053 k0_hw89 => k0_hw89

def k0_chk90 (v648 : IVec S16 32) (v1057 : IVec S16 32) : Prop :=
  (∀ a x, ((![v648, v1057] : Fin 2 → IVec S16 32) a x).toNat < S128x128.size a)
theorem k0_idx90_inb : ∀ (v648 : IVec S16 32) (v1057 : IVec S16 32) (k0_hw90 : k0_chk90 v648 v1057), ∀ a x, ((![v648, v1057] : Fin 2 → IVec S16 32) a x).toNat < S128x128.size a := fun v648 v1057 k0_hw90 => k0_hw90

def k0_chk91 (v659 : IVec S16 32) (v1062 : IVec S16 32) : Prop :=
  (∀ a x, ((![v659, v1062] : Fin 2 → IVec S16 32) a x).toNat < S128x128.size a)
theorem k0_idx91_inb : ∀ (v659 : IVec S16 32) (v1062 : IVec S16 32) (k0_hw91 : k0_chk91 v659 v1062), ∀ a x, ((![v659, v1062] : Fin 2 → IVec S16 32) a x).toNat < S128x128.size a := fun v659 v1062 k0_hw91 => k0_hw91

def k0_chk92 (v648 : IVec S16 32) (v1066 : IVec S16 32) : Prop :=
  (∀ a x, ((![v648, v1066] : Fin 2 → IVec S16 32) a x).toNat < S128x128.size a)
theorem k0_idx92_inb : ∀ (v648 : IVec S16 32) (v1066 : IVec S16 32) (k0_hw92 : k0_chk92 v648 v1066), ∀ a x, ((![v648, v1066] : Fin 2 → IVec S16 32) a x).toNat < S128x128.size a := fun v648 v1066 k0_hw92 => k0_hw92

def k0_chk93 (v659 : IVec S16 32) (v1071 : IVec S16 32) : Prop :=
  (∀ a x, ((![v659, v1071] : Fin 2 → IVec S16 32) a x).toNat < S128x128.size a)
theorem k0_idx93_inb : ∀ (v659 : IVec S16 32) (v1071 : IVec S16 32) (k0_hw93 : k0_chk93 v659 v1071), ∀ a x, ((![v659, v1071] : Fin 2 → IVec S16 32) a x).toNat < S128x128.size a := fun v659 v1071 k0_hw93 => k0_hw93

def k0_chk94 (v648 : IVec S16 32) (v1075 : IVec S16 32) : Prop :=
  (∀ a x, ((![v648, v1075] : Fin 2 → IVec S16 32) a x).toNat < S128x128.size a)
theorem k0_idx94_inb : ∀ (v648 : IVec S16 32) (v1075 : IVec S16 32) (k0_hw94 : k0_chk94 v648 v1075), ∀ a x, ((![v648, v1075] : Fin 2 → IVec S16 32) a x).toNat < S128x128.size a := fun v648 v1075 k0_hw94 => k0_hw94

def k0_chk95 (v659 : IVec S16 32) (v1080 : IVec S16 32) : Prop :=
  (∀ a x, ((![v659, v1080] : Fin 2 → IVec S16 32) a x).toNat < S128x128.size a)
theorem k0_idx95_inb : ∀ (v659 : IVec S16 32) (v1080 : IVec S16 32) (k0_hw95 : k0_chk95 v659 v1080), ∀ a x, ((![v659, v1080] : Fin 2 → IVec S16 32) a x).toNat < S128x128.size a := fun v659 v1080 k0_hw95 => k0_hw95

def k0_chk96 (v648 : IVec S16 32) (v1084 : IVec S16 32) : Prop :=
  (∀ a x, ((![v648, v1084] : Fin 2 → IVec S16 32) a x).toNat < S128x128.size a)
theorem k0_idx96_inb : ∀ (v648 : IVec S16 32) (v1084 : IVec S16 32) (k0_hw96 : k0_chk96 v648 v1084), ∀ a x, ((![v648, v1084] : Fin 2 → IVec S16 32) a x).toNat < S128x128.size a := fun v648 v1084 k0_hw96 => k0_hw96

def k0_chk97 (v659 : IVec S16 32) (v1089 : IVec S16 32) : Prop :=
  (∀ a x, ((![v659, v1089] : Fin 2 → IVec S16 32) a x).toNat < S128x128.size a)
theorem k0_idx97_inb : ∀ (v659 : IVec S16 32) (v1089 : IVec S16 32) (k0_hw97 : k0_chk97 v659 v1089), ∀ a x, ((![v659, v1089] : Fin 2 → IVec S16 32) a x).toNat < S128x128.size a := fun v659 v1089 k0_hw97 => k0_hw97

def k0_chk98 (v648 : IVec S16 32) (v1093 : IVec S16 32) : Prop :=
  (∀ a x, ((![v648, v1093] : Fin 2 → IVec S16 32) a x).toNat < S128x128.size a)
theorem k0_idx98_inb : ∀ (v648 : IVec S16 32) (v1093 : IVec S16 32) (k0_hw98 : k0_chk98 v648 v1093), ∀ a x, ((![v648, v1093] : Fin 2 → IVec S16 32) a x).toNat < S128x128.size a := fun v648 v1093 k0_hw98 => k0_hw98

def k0_chk99 (v659 : IVec S16 32) (v1098 : IVec S16 32) : Prop :=
  (∀ a x, ((![v659, v1098] : Fin 2 → IVec S16 32) a x).toNat < S128x128.size a)
theorem k0_idx99_inb : ∀ (v659 : IVec S16 32) (v1098 : IVec S16 32) (k0_hw99 : k0_chk99 v659 v1098), ∀ a x, ((![v659, v1098] : Fin 2 → IVec S16 32) a x).toNat < S128x128.size a := fun v659 v1098 k0_hw99 => k0_hw99

def k0_chk100 (v648 : IVec S16 32) (v1102 : IVec S16 32) : Prop :=
  (∀ a x, ((![v648, v1102] : Fin 2 → IVec S16 32) a x).toNat < S128x128.size a)
theorem k0_idx100_inb : ∀ (v648 : IVec S16 32) (v1102 : IVec S16 32) (k0_hw100 : k0_chk100 v648 v1102), ∀ a x, ((![v648, v1102] : Fin 2 → IVec S16 32) a x).toNat < S128x128.size a := fun v648 v1102 k0_hw100 => k0_hw100

def k0_chk101 (v659 : IVec S16 32) (v1107 : IVec S16 32) : Prop :=
  (∀ a x, ((![v659, v1107] : Fin 2 → IVec S16 32) a x).toNat < S128x128.size a)
theorem k0_idx101_inb : ∀ (v659 : IVec S16 32) (v1107 : IVec S16 32) (k0_hw101 : k0_chk101 v659 v1107), ∀ a x, ((![v659, v1107] : Fin 2 → IVec S16 32) a x).toNat < S128x128.size a := fun v659 v1107 k0_hw101 => k0_hw101

def k0_chk102 (v648 : IVec S16 32) (v1111 : IVec S16 32) : Prop :=
  (∀ a x, ((![v648, v1111] : Fin 2 → IVec S16 32) a x).toNat < S128x128.size a)
theorem k0_idx102_inb : ∀ (v648 : IVec S16 32) (v1111 : IVec S16 32) (k0_hw102 : k0_chk102 v648 v1111), ∀ a x, ((![v648, v1111] : Fin 2 → IVec S16 32) a x).toNat < S128x128.size a := fun v648 v1111 k0_hw102 => k0_hw102

def k0_chk103 (v659 : IVec S16 32) (v1116 : IVec S16 32) : Prop :=
  (∀ a x, ((![v659, v1116] : Fin 2 → IVec S16 32) a x).toNat < S128x128.size a)
theorem k0_idx103_inb : ∀ (v659 : IVec S16 32) (v1116 : IVec S16 32) (k0_hw103 : k0_chk103 v659 v1116), ∀ a x, ((![v659, v1116] : Fin 2 → IVec S16 32) a x).toNat < S128x128.size a := fun v659 v1116 k0_hw103 => k0_hw103

def k0_chk104 (v648 : IVec S16 32) (v1120 : IVec S16 32) : Prop :=
  (∀ a x, ((![v648, v1120] : Fin 2 → IVec S16 32) a x).toNat < S128x128.size a)
theorem k0_idx104_inb : ∀ (v648 : IVec S16 32) (v1120 : IVec S16 32) (k0_hw104 : k0_chk104 v648 v1120), ∀ a x, ((![v648, v1120] : Fin 2 → IVec S16 32) a x).toNat < S128x128.size a := fun v648 v1120 k0_hw104 => k0_hw104

def k0_chk105 (v659 : IVec S16 32) (v1125 : IVec S16 32) : Prop :=
  (∀ a x, ((![v659, v1125] : Fin 2 → IVec S16 32) a x).toNat < S128x128.size a)
theorem k0_idx105_inb : ∀ (v659 : IVec S16 32) (v1125 : IVec S16 32) (k0_hw105 : k0_chk105 v659 v1125), ∀ a x, ((![v659, v1125] : Fin 2 → IVec S16 32) a x).toNat < S128x128.size a := fun v659 v1125 k0_hw105 => k0_hw105

def k0_chk106 (v648 : IVec S16 32) (v1129 : IVec S16 32) : Prop :=
  (∀ a x, ((![v648, v1129] : Fin 2 → IVec S16 32) a x).toNat < S128x128.size a)
theorem k0_idx106_inb : ∀ (v648 : IVec S16 32) (v1129 : IVec S16 32) (k0_hw106 : k0_chk106 v648 v1129), ∀ a x, ((![v648, v1129] : Fin 2 → IVec S16 32) a x).toNat < S128x128.size a := fun v648 v1129 k0_hw106 => k0_hw106

def k0_chk107 (v659 : IVec S16 32) (v1134 : IVec S16 32) : Prop :=
  (∀ a x, ((![v659, v1134] : Fin 2 → IVec S16 32) a x).toNat < S128x128.size a)
theorem k0_idx107_inb : ∀ (v659 : IVec S16 32) (v1134 : IVec S16 32) (k0_hw107 : k0_chk107 v659 v1134), ∀ a x, ((![v659, v1134] : Fin 2 → IVec S16 32) a x).toNat < S128x128.size a := fun v659 v1134 k0_hw107 => k0_hw107

def k0_chk108 (v648 : IVec S16 32) (v1138 : IVec S16 32) : Prop :=
  (∀ a x, ((![v648, v1138] : Fin 2 → IVec S16 32) a x).toNat < S128x128.size a)
theorem k0_idx108_inb : ∀ (v648 : IVec S16 32) (v1138 : IVec S16 32) (k0_hw108 : k0_chk108 v648 v1138), ∀ a x, ((![v648, v1138] : Fin 2 → IVec S16 32) a x).toNat < S128x128.size a := fun v648 v1138 k0_hw108 => k0_hw108

def k0_chk109 (v659 : IVec S16 32) (v1143 : IVec S16 32) : Prop :=
  (∀ a x, ((![v659, v1143] : Fin 2 → IVec S16 32) a x).toNat < S128x128.size a)
theorem k0_idx109_inb : ∀ (v659 : IVec S16 32) (v1143 : IVec S16 32) (k0_hw109 : k0_chk109 v659 v1143), ∀ a x, ((![v659, v1143] : Fin 2 → IVec S16 32) a x).toNat < S128x128.size a := fun v659 v1143 k0_hw109 => k0_hw109

def k0_chk110 (v648 : IVec S16 32) (v1147 : IVec S16 32) : Prop :=
  (∀ a x, ((![v648, v1147] : Fin 2 → IVec S16 32) a x).toNat < S128x128.size a)
theorem k0_idx110_inb : ∀ (v648 : IVec S16 32) (v1147 : IVec S16 32) (k0_hw110 : k0_chk110 v648 v1147), ∀ a x, ((![v648, v1147] : Fin 2 → IVec S16 32) a x).toNat < S128x128.size a := fun v648 v1147 k0_hw110 => k0_hw110

def k0_chk111 (v659 : IVec S16 32) (v1152 : IVec S16 32) : Prop :=
  (∀ a x, ((![v659, v1152] : Fin 2 → IVec S16 32) a x).toNat < S128x128.size a)
theorem k0_idx111_inb : ∀ (v659 : IVec S16 32) (v1152 : IVec S16 32) (k0_hw111 : k0_chk111 v659 v1152), ∀ a x, ((![v659, v1152] : Fin 2 → IVec S16 32) a x).toNat < S128x128.size a := fun v659 v1152 k0_hw111 => k0_hw111

def k0_chk112 (v648 : IVec S16 32) (v1156 : IVec S16 32) : Prop :=
  (∀ a x, ((![v648, v1156] : Fin 2 → IVec S16 32) a x).toNat < S128x128.size a)
theorem k0_idx112_inb : ∀ (v648 : IVec S16 32) (v1156 : IVec S16 32) (k0_hw112 : k0_chk112 v648 v1156), ∀ a x, ((![v648, v1156] : Fin 2 → IVec S16 32) a x).toNat < S128x128.size a := fun v648 v1156 k0_hw112 => k0_hw112

def k0_chk113 (v659 : IVec S16 32) (v1161 : IVec S16 32) : Prop :=
  (∀ a x, ((![v659, v1161] : Fin 2 → IVec S16 32) a x).toNat < S128x128.size a)
theorem k0_idx113_inb : ∀ (v659 : IVec S16 32) (v1161 : IVec S16 32) (k0_hw113 : k0_chk113 v659 v1161), ∀ a x, ((![v659, v1161] : Fin 2 → IVec S16 32) a x).toNat < S128x128.size a := fun v659 v1161 k0_hw113 => k0_hw113

def k0_chk114 (v648 : IVec S16 32) (v1165 : IVec S16 32) : Prop :=
  (∀ a x, ((![v648, v1165] : Fin 2 → IVec S16 32) a x).toNat < S128x128.size a)
theorem k0_idx114_inb : ∀ (v648 : IVec S16 32) (v1165 : IVec S16 32) (k0_hw114 : k0_chk114 v648 v1165), ∀ a x, ((![v648, v1165] : Fin 2 → IVec S16 32) a x).toNat < S128x128.size a := fun v648 v1165 k0_hw114 => k0_hw114

def k0_chk115 (v659 : IVec S16 32) (v1170 : IVec S16 32) : Prop :=
  (∀ a x, ((![v659, v1170] : Fin 2 → IVec S16 32) a x).toNat < S128x128.size a)
theorem k0_idx115_inb : ∀ (v659 : IVec S16 32) (v1170 : IVec S16 32) (k0_hw115 : k0_chk115 v659 v1170), ∀ a x, ((![v659, v1170] : Fin 2 → IVec S16 32) a x).toNat < S128x128.size a := fun v659 v1170 k0_hw115 => k0_hw115

def k0_chk116 (v648 : IVec S16 32) (v1174 : IVec S16 32) : Prop :=
  (∀ a x, ((![v648, v1174] : Fin 2 → IVec S16 32) a x).toNat < S128x128.size a)
theorem k0_idx116_inb : ∀ (v648 : IVec S16 32) (v1174 : IVec S16 32) (k0_hw116 : k0_chk116 v648 v1174), ∀ a x, ((![v648, v1174] : Fin 2 → IVec S16 32) a x).toNat < S128x128.size a := fun v648 v1174 k0_hw116 => k0_hw116

def k0_chk117 (v659 : IVec S16 32) (v1179 : IVec S16 32) : Prop :=
  (∀ a x, ((![v659, v1179] : Fin 2 → IVec S16 32) a x).toNat < S128x128.size a)
theorem k0_idx117_inb : ∀ (v659 : IVec S16 32) (v1179 : IVec S16 32) (k0_hw117 : k0_chk117 v659 v1179), ∀ a x, ((![v659, v1179] : Fin 2 → IVec S16 32) a x).toNat < S128x128.size a := fun v659 v1179 k0_hw117 => k0_hw117

def k0_chk118 (v648 : IVec S16 32) (v1183 : IVec S16 32) : Prop :=
  (∀ a x, ((![v648, v1183] : Fin 2 → IVec S16 32) a x).toNat < S128x128.size a)
theorem k0_idx118_inb : ∀ (v648 : IVec S16 32) (v1183 : IVec S16 32) (k0_hw118 : k0_chk118 v648 v1183), ∀ a x, ((![v648, v1183] : Fin 2 → IVec S16 32) a x).toNat < S128x128.size a := fun v648 v1183 k0_hw118 => k0_hw118

def k0_chk119 (v659 : IVec S16 32) (v1188 : IVec S16 32) : Prop :=
  (∀ a x, ((![v659, v1188] : Fin 2 → IVec S16 32) a x).toNat < S128x128.size a)
theorem k0_idx119_inb : ∀ (v659 : IVec S16 32) (v1188 : IVec S16 32) (k0_hw119 : k0_chk119 v659 v1188), ∀ a x, ((![v659, v1188] : Fin 2 → IVec S16 32) a x).toNat < S128x128.size a := fun v659 v1188 k0_hw119 => k0_hw119

def k0_chk120 (v648 : IVec S16 32) (v1192 : IVec S16 32) : Prop :=
  (∀ a x, ((![v648, v1192] : Fin 2 → IVec S16 32) a x).toNat < S128x128.size a)
theorem k0_idx120_inb : ∀ (v648 : IVec S16 32) (v1192 : IVec S16 32) (k0_hw120 : k0_chk120 v648 v1192), ∀ a x, ((![v648, v1192] : Fin 2 → IVec S16 32) a x).toNat < S128x128.size a := fun v648 v1192 k0_hw120 => k0_hw120

def k0_chk121 (v659 : IVec S16 32) (v1197 : IVec S16 32) : Prop :=
  (∀ a x, ((![v659, v1197] : Fin 2 → IVec S16 32) a x).toNat < S128x128.size a)
theorem k0_idx121_inb : ∀ (v659 : IVec S16 32) (v1197 : IVec S16 32) (k0_hw121 : k0_chk121 v659 v1197), ∀ a x, ((![v659, v1197] : Fin 2 → IVec S16 32) a x).toNat < S128x128.size a := fun v659 v1197 k0_hw121 => k0_hw121

def k0_chk122 (v648 : IVec S16 32) (v1201 : IVec S16 32) : Prop :=
  (∀ a x, ((![v648, v1201] : Fin 2 → IVec S16 32) a x).toNat < S128x128.size a)
theorem k0_idx122_inb : ∀ (v648 : IVec S16 32) (v1201 : IVec S16 32) (k0_hw122 : k0_chk122 v648 v1201), ∀ a x, ((![v648, v1201] : Fin 2 → IVec S16 32) a x).toNat < S128x128.size a := fun v648 v1201 k0_hw122 => k0_hw122

def k0_chk123 (v659 : IVec S16 32) (v1206 : IVec S16 32) : Prop :=
  (∀ a x, ((![v659, v1206] : Fin 2 → IVec S16 32) a x).toNat < S128x128.size a)
theorem k0_idx123_inb : ∀ (v659 : IVec S16 32) (v1206 : IVec S16 32) (k0_hw123 : k0_chk123 v659 v1206), ∀ a x, ((![v659, v1206] : Fin 2 → IVec S16 32) a x).toNat < S128x128.size a := fun v659 v1206 k0_hw123 => k0_hw123

def k0_chk124 (v648 : IVec S16 32) (v1210 : IVec S16 32) : Prop :=
  (∀ a x, ((![v648, v1210] : Fin 2 → IVec S16 32) a x).toNat < S128x128.size a)
theorem k0_idx124_inb : ∀ (v648 : IVec S16 32) (v1210 : IVec S16 32) (k0_hw124 : k0_chk124 v648 v1210), ∀ a x, ((![v648, v1210] : Fin 2 → IVec S16 32) a x).toNat < S128x128.size a := fun v648 v1210 k0_hw124 => k0_hw124

def k0_chk125 (v659 : IVec S16 32) (v1215 : IVec S16 32) : Prop :=
  (∀ a x, ((![v659, v1215] : Fin 2 → IVec S16 32) a x).toNat < S128x128.size a)
theorem k0_idx125_inb : ∀ (v659 : IVec S16 32) (v1215 : IVec S16 32) (k0_hw125 : k0_chk125 v659 v1215), ∀ a x, ((![v659, v1215] : Fin 2 → IVec S16 32) a x).toNat < S128x128.size a := fun v659 v1215 k0_hw125 => k0_hw125

def k0_chk126 (v648 : IVec S16 32) (v1219 : IVec S16 32) : Prop :=
  (∀ a x, ((![v648, v1219] : Fin 2 → IVec S16 32) a x).toNat < S128x128.size a)
theorem k0_idx126_inb : ∀ (v648 : IVec S16 32) (v1219 : IVec S16 32) (k0_hw126 : k0_chk126 v648 v1219), ∀ a x, ((![v648, v1219] : Fin 2 → IVec S16 32) a x).toNat < S128x128.size a := fun v648 v1219 k0_hw126 => k0_hw126

def k0_chk127 (v659 : IVec S16 32) (v1224 : IVec S16 32) : Prop :=
  (∀ a x, ((![v659, v1224] : Fin 2 → IVec S16 32) a x).toNat < S128x128.size a)
theorem k0_idx127_inb : ∀ (v659 : IVec S16 32) (v1224 : IVec S16 32) (k0_hw127 : k0_chk127 v659 v1224), ∀ a x, ((![v659, v1224] : Fin 2 → IVec S16 32) a x).toNat < S128x128.size a := fun v659 v1224 k0_hw127 => k0_hw127

def k0_chk128 (v648 : IVec S16 32) (v1228 : IVec S16 32) : Prop :=
  (∀ a x, ((![v648, v1228] : Fin 2 → IVec S16 32) a x).toNat < S128x128.size a)
theorem k0_idx128_inb : ∀ (v648 : IVec S16 32) (v1228 : IVec S16 32) (k0_hw128 : k0_chk128 v648 v1228), ∀ a x, ((![v648, v1228] : Fin 2 → IVec S16 32) a x).toNat < S128x128.size a := fun v648 v1228 k0_hw128 => k0_hw128

def k0_chk129 (v659 : IVec S16 32) (v1233 : IVec S16 32) : Prop :=
  (∀ a x, ((![v659, v1233] : Fin 2 → IVec S16 32) a x).toNat < S128x128.size a)
theorem k0_idx129_inb : ∀ (v659 : IVec S16 32) (v1233 : IVec S16 32) (k0_hw129 : k0_chk129 v659 v1233), ∀ a x, ((![v659, v1233] : Fin 2 → IVec S16 32) a x).toNat < S128x128.size a := fun v659 v1233 k0_hw129 => k0_hw129
def k0_mult6 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v3 : BitVec 32 := Scalar.muli v1 c16384_i32
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c0_i32_218 : BitVec 32 := 0#32
  let v474 : BitVec 32 := Scalar.addi v429 c0_i32_218
  let c128_i32_219 : BitVec 32 := 128#32
  let v475 : BitVec 32 := Scalar.muli v474 c128_i32_219
  let v476 : BitVec 32 := Scalar.addi v3 v475
  let c0_i32_221 : BitVec 32 := 0#32
  let v478 : BitVec 1 := Scalar.cmpi .sgt v476 c0_i32_221
  let v479 : BitVec 32 := Scalar.extui v478
  let c0_i32_222 : BitVec 32 := 0#32
  let v480 : BitVec 1 := Scalar.cmpi .slt v476 c0_i32_222
  let v481 : BitVec 32 := Scalar.extui v480
  let v482 : BitVec 32 := Scalar.subi v479 v481
  let c2_i32_220 : BitVec 32 := 2#32
  let c0_i32_223 : BitVec 32 := 0#32
  let v483 : BitVec 1 := Scalar.cmpi .sgt c2_i32_220 c0_i32_223
  let v484 : BitVec 32 := Scalar.extui v483
  let c0_i32_224 : BitVec 32 := 0#32
  let v485 : BitVec 1 := Scalar.cmpi .slt c2_i32_220 c0_i32_224
  let v486 : BitVec 32 := Scalar.extui v485
  let v487 : BitVec 32 := Scalar.subi v484 v486
  let v488 : BitVec 1 := Scalar.cmpi .ne v482 v487
  let v489 : BitVec 32 := Scalar.remsi v476 c2_i32_220
  let c0_i32_225 : BitVec 32 := 0#32
  let v490 : BitVec 1 := Scalar.cmpi .ne v489 c0_i32_225
  let v491 : BitVec 1 := Scalar.andi v488 v490
  let v477 : BitVec 32 := Scalar.divsi v476 c2_i32_220
  let c1_i32_226 : BitVec 32 := 1#32
  let v492 : BitVec 32 := Scalar.subi v477 c1_i32_226
  let v493 : BitVec 32 := Scalar.select v491 v492 v477
  v493
def k0_off5 (i : grid0.Coords) (k0_t2 : Fin k0_t2_loop.trips) (c0_i32_218 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v3 : BitVec 32 := Scalar.muli v1 c16384_i32
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let v474 : BitVec 32 := Scalar.addi v429 c0_i32_218
  let c128_i32_219 : BitVec 32 := 128#32
  let v475 : BitVec 32 := Scalar.muli v474 c128_i32_219
  let v476 : BitVec 32 := Scalar.addi v3 v475
  let c0_i32_221 : BitVec 32 := 0#32
  let v478 : BitVec 1 := Scalar.cmpi .sgt v476 c0_i32_221
  let v479 : BitVec 32 := Scalar.extui v478
  let c0_i32_222 : BitVec 32 := 0#32
  let v480 : BitVec 1 := Scalar.cmpi .slt v476 c0_i32_222
  let v481 : BitVec 32 := Scalar.extui v480
  let v482 : BitVec 32 := Scalar.subi v479 v481
  let c2_i32_220 : BitVec 32 := 2#32
  let c0_i32_223 : BitVec 32 := 0#32
  let v483 : BitVec 1 := Scalar.cmpi .sgt c2_i32_220 c0_i32_223
  let v484 : BitVec 32 := Scalar.extui v483
  let c0_i32_224 : BitVec 32 := 0#32
  let v485 : BitVec 1 := Scalar.cmpi .slt c2_i32_220 c0_i32_224
  let v486 : BitVec 32 := Scalar.extui v485
  let v487 : BitVec 32 := Scalar.subi v484 v486
  let v488 : BitVec 1 := Scalar.cmpi .ne v482 v487
  let v489 : BitVec 32 := Scalar.remsi v476 c2_i32_220
  let c0_i32_225 : BitVec 32 := 0#32
  let v490 : BitVec 1 := Scalar.cmpi .ne v489 c0_i32_225
  let v491 : BitVec 1 := Scalar.andi v488 v490
  let v477 : BitVec 32 := Scalar.divsi v476 c2_i32_220
  let c1_i32_226 : BitVec 32 := 1#32
  let v492 : BitVec 32 := Scalar.subi v477 c1_i32_226
  let v493 : BitVec 32 := Scalar.select v491 v492 v477
  let v494 : BitVec 32 := v493
  let c0_i32_232 : BitVec 32 := 0#32
  ![v494.toNat, 0]
@[reducible] def k0_t4_loop : Scf.Loop 32 :=
  let c0_i32_247 : BitVec 32 := 0#32
  let c8_i32_248 : BitVec 32 := 8#32
  let v510 : BitVec 32 := Scalar.addi c0_i32_247 c8_i32_248
  let c1_i32_249 : BitVec 32 := 1#32
  ⟨c0_i32_247, v510, c1_i32_249⟩
def k0_mult7 (k0_t2 : Fin k0_t2_loop.trips) (k0_t4 : Fin k0_t4_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c1_i32_244 : BitVec 32 := 1#32
  let v509 : BitVec 32 := Scalar.addi v429 c1_i32_244
  let c128_i32_382 : BitVec 32 := 128#32
  let v649 : BitVec 32 := Scalar.muli v509 c128_i32_382
  let c0_i32_247 : BitVec 32 := 0#32
  let c1_i32_249 : BitVec 32 := 1#32
  let arg13 : BitVec 32 := Scf.iv c0_i32_247 c1_i32_249 k0_t4
  let c16_i32_383 : BitVec 32 := 16#32
  let v650 : BitVec 32 := Scalar.muli arg13 c16_i32_383
  let v651 : BitVec 32 := Scalar.addi v649 v650
  v651
def k0_off6 (k0_t2 : Fin k0_t2_loop.trips) (k0_t4 : Fin k0_t4_loop.trips) : Fin 1 → Nat :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c1_i32_244 : BitVec 32 := 1#32
  let v509 : BitVec 32 := Scalar.addi v429 c1_i32_244
  let c128_i32_382 : BitVec 32 := 128#32
  let v649 : BitVec 32 := Scalar.muli v509 c128_i32_382
  let c0_i32_247 : BitVec 32 := 0#32
  let c1_i32_249 : BitVec 32 := 1#32
  let arg13 : BitVec 32 := Scf.iv c0_i32_247 c1_i32_249 k0_t4
  let c16_i32_383 : BitVec 32 := 16#32
  let v650 : BitVec 32 := Scalar.muli arg13 c16_i32_383
  let v651 : BitVec 32 := Scalar.addi v649 v650
  let v652 : BitVec 32 := v651
  let v653 : Index := Scalar.indexCast v652
  ![v653.toNat]

def k0_chk130 (v648 : IVec S16 32) (v661 : IVec S16 32) : Prop :=
  (∀ a x, ((![v648, v661] : Fin 2 → IVec S16 32) a x).toNat < S128x128.size a)
theorem k0_idx130_inb : ∀ (v648 : IVec S16 32) (v661 : IVec S16 32) (k0_hw130 : k0_chk130 v648 v661), ∀ a x, ((![v648, v661] : Fin 2 → IVec S16 32) a x).toNat < S128x128.size a := fun v648 v661 k0_hw130 => k0_hw130

def k0_chk131 (v659 : IVec S16 32) (v666 : IVec S16 32) : Prop :=
  (∀ a x, ((![v659, v666] : Fin 2 → IVec S16 32) a x).toNat < S128x128.size a)
theorem k0_idx131_inb : ∀ (v659 : IVec S16 32) (v666 : IVec S16 32) (k0_hw131 : k0_chk131 v659 v666), ∀ a x, ((![v659, v666] : Fin 2 → IVec S16 32) a x).toNat < S128x128.size a := fun v659 v666 k0_hw131 => k0_hw131

def k0_chk132 (v648 : IVec S16 32) (v670 : IVec S16 32) : Prop :=
  (∀ a x, ((![v648, v670] : Fin 2 → IVec S16 32) a x).toNat < S128x128.size a)
theorem k0_idx132_inb : ∀ (v648 : IVec S16 32) (v670 : IVec S16 32) (k0_hw132 : k0_chk132 v648 v670), ∀ a x, ((![v648, v670] : Fin 2 → IVec S16 32) a x).toNat < S128x128.size a := fun v648 v670 k0_hw132 => k0_hw132

def k0_chk133 (v659 : IVec S16 32) (v675 : IVec S16 32) : Prop :=
  (∀ a x, ((![v659, v675] : Fin 2 → IVec S16 32) a x).toNat < S128x128.size a)
theorem k0_idx133_inb : ∀ (v659 : IVec S16 32) (v675 : IVec S16 32) (k0_hw133 : k0_chk133 v659 v675), ∀ a x, ((![v659, v675] : Fin 2 → IVec S16 32) a x).toNat < S128x128.size a := fun v659 v675 k0_hw133 => k0_hw133

def k0_chk134 (v648 : IVec S16 32) (v679 : IVec S16 32) : Prop :=
  (∀ a x, ((![v648, v679] : Fin 2 → IVec S16 32) a x).toNat < S128x128.size a)
theorem k0_idx134_inb : ∀ (v648 : IVec S16 32) (v679 : IVec S16 32) (k0_hw134 : k0_chk134 v648 v679), ∀ a x, ((![v648, v679] : Fin 2 → IVec S16 32) a x).toNat < S128x128.size a := fun v648 v679 k0_hw134 => k0_hw134

def k0_chk135 (v659 : IVec S16 32) (v684 : IVec S16 32) : Prop :=
  (∀ a x, ((![v659, v684] : Fin 2 → IVec S16 32) a x).toNat < S128x128.size a)
theorem k0_idx135_inb : ∀ (v659 : IVec S16 32) (v684 : IVec S16 32) (k0_hw135 : k0_chk135 v659 v684), ∀ a x, ((![v659, v684] : Fin 2 → IVec S16 32) a x).toNat < S128x128.size a := fun v659 v684 k0_hw135 => k0_hw135

def k0_chk136 (v648 : IVec S16 32) (v688 : IVec S16 32) : Prop :=
  (∀ a x, ((![v648, v688] : Fin 2 → IVec S16 32) a x).toNat < S128x128.size a)
theorem k0_idx136_inb : ∀ (v648 : IVec S16 32) (v688 : IVec S16 32) (k0_hw136 : k0_chk136 v648 v688), ∀ a x, ((![v648, v688] : Fin 2 → IVec S16 32) a x).toNat < S128x128.size a := fun v648 v688 k0_hw136 => k0_hw136

def k0_chk137 (v659 : IVec S16 32) (v693 : IVec S16 32) : Prop :=
  (∀ a x, ((![v659, v693] : Fin 2 → IVec S16 32) a x).toNat < S128x128.size a)
theorem k0_idx137_inb : ∀ (v659 : IVec S16 32) (v693 : IVec S16 32) (k0_hw137 : k0_chk137 v659 v693), ∀ a x, ((![v659, v693] : Fin 2 → IVec S16 32) a x).toNat < S128x128.size a := fun v659 v693 k0_hw137 => k0_hw137

def k0_chk138 (v648 : IVec S16 32) (v697 : IVec S16 32) : Prop :=
  (∀ a x, ((![v648, v697] : Fin 2 → IVec S16 32) a x).toNat < S128x128.size a)
theorem k0_idx138_inb : ∀ (v648 : IVec S16 32) (v697 : IVec S16 32) (k0_hw138 : k0_chk138 v648 v697), ∀ a x, ((![v648, v697] : Fin 2 → IVec S16 32) a x).toNat < S128x128.size a := fun v648 v697 k0_hw138 => k0_hw138

def k0_chk139 (v659 : IVec S16 32) (v702 : IVec S16 32) : Prop :=
  (∀ a x, ((![v659, v702] : Fin 2 → IVec S16 32) a x).toNat < S128x128.size a)
theorem k0_idx139_inb : ∀ (v659 : IVec S16 32) (v702 : IVec S16 32) (k0_hw139 : k0_chk139 v659 v702), ∀ a x, ((![v659, v702] : Fin 2 → IVec S16 32) a x).toNat < S128x128.size a := fun v659 v702 k0_hw139 => k0_hw139

def k0_chk140 (v648 : IVec S16 32) (v706 : IVec S16 32) : Prop :=
  (∀ a x, ((![v648, v706] : Fin 2 → IVec S16 32) a x).toNat < S128x128.size a)
theorem k0_idx140_inb : ∀ (v648 : IVec S16 32) (v706 : IVec S16 32) (k0_hw140 : k0_chk140 v648 v706), ∀ a x, ((![v648, v706] : Fin 2 → IVec S16 32) a x).toNat < S128x128.size a := fun v648 v706 k0_hw140 => k0_hw140

def k0_chk141 (v659 : IVec S16 32) (v711 : IVec S16 32) : Prop :=
  (∀ a x, ((![v659, v711] : Fin 2 → IVec S16 32) a x).toNat < S128x128.size a)
theorem k0_idx141_inb : ∀ (v659 : IVec S16 32) (v711 : IVec S16 32) (k0_hw141 : k0_chk141 v659 v711), ∀ a x, ((![v659, v711] : Fin 2 → IVec S16 32) a x).toNat < S128x128.size a := fun v659 v711 k0_hw141 => k0_hw141

def k0_chk142 (v648 : IVec S16 32) (v715 : IVec S16 32) : Prop :=
  (∀ a x, ((![v648, v715] : Fin 2 → IVec S16 32) a x).toNat < S128x128.size a)
theorem k0_idx142_inb : ∀ (v648 : IVec S16 32) (v715 : IVec S16 32) (k0_hw142 : k0_chk142 v648 v715), ∀ a x, ((![v648, v715] : Fin 2 → IVec S16 32) a x).toNat < S128x128.size a := fun v648 v715 k0_hw142 => k0_hw142

def k0_chk143 (v659 : IVec S16 32) (v720 : IVec S16 32) : Prop :=
  (∀ a x, ((![v659, v720] : Fin 2 → IVec S16 32) a x).toNat < S128x128.size a)
theorem k0_idx143_inb : ∀ (v659 : IVec S16 32) (v720 : IVec S16 32) (k0_hw143 : k0_chk143 v659 v720), ∀ a x, ((![v659, v720] : Fin 2 → IVec S16 32) a x).toNat < S128x128.size a := fun v659 v720 k0_hw143 => k0_hw143

def k0_chk144 (v648 : IVec S16 32) (v724 : IVec S16 32) : Prop :=
  (∀ a x, ((![v648, v724] : Fin 2 → IVec S16 32) a x).toNat < S128x128.size a)
theorem k0_idx144_inb : ∀ (v648 : IVec S16 32) (v724 : IVec S16 32) (k0_hw144 : k0_chk144 v648 v724), ∀ a x, ((![v648, v724] : Fin 2 → IVec S16 32) a x).toNat < S128x128.size a := fun v648 v724 k0_hw144 => k0_hw144

def k0_chk145 (v659 : IVec S16 32) (v729 : IVec S16 32) : Prop :=
  (∀ a x, ((![v659, v729] : Fin 2 → IVec S16 32) a x).toNat < S128x128.size a)
theorem k0_idx145_inb : ∀ (v659 : IVec S16 32) (v729 : IVec S16 32) (k0_hw145 : k0_chk145 v659 v729), ∀ a x, ((![v659, v729] : Fin 2 → IVec S16 32) a x).toNat < S128x128.size a := fun v659 v729 k0_hw145 => k0_hw145

def k0_chk146 (v648 : IVec S16 32) (v733 : IVec S16 32) : Prop :=
  (∀ a x, ((![v648, v733] : Fin 2 → IVec S16 32) a x).toNat < S128x128.size a)
theorem k0_idx146_inb : ∀ (v648 : IVec S16 32) (v733 : IVec S16 32) (k0_hw146 : k0_chk146 v648 v733), ∀ a x, ((![v648, v733] : Fin 2 → IVec S16 32) a x).toNat < S128x128.size a := fun v648 v733 k0_hw146 => k0_hw146

def k0_chk147 (v659 : IVec S16 32) (v738 : IVec S16 32) : Prop :=
  (∀ a x, ((![v659, v738] : Fin 2 → IVec S16 32) a x).toNat < S128x128.size a)
theorem k0_idx147_inb : ∀ (v659 : IVec S16 32) (v738 : IVec S16 32) (k0_hw147 : k0_chk147 v659 v738), ∀ a x, ((![v659, v738] : Fin 2 → IVec S16 32) a x).toNat < S128x128.size a := fun v659 v738 k0_hw147 => k0_hw147

def k0_chk148 (v648 : IVec S16 32) (v742 : IVec S16 32) : Prop :=
  (∀ a x, ((![v648, v742] : Fin 2 → IVec S16 32) a x).toNat < S128x128.size a)
theorem k0_idx148_inb : ∀ (v648 : IVec S16 32) (v742 : IVec S16 32) (k0_hw148 : k0_chk148 v648 v742), ∀ a x, ((![v648, v742] : Fin 2 → IVec S16 32) a x).toNat < S128x128.size a := fun v648 v742 k0_hw148 => k0_hw148

def k0_chk149 (v659 : IVec S16 32) (v747 : IVec S16 32) : Prop :=
  (∀ a x, ((![v659, v747] : Fin 2 → IVec S16 32) a x).toNat < S128x128.size a)
theorem k0_idx149_inb : ∀ (v659 : IVec S16 32) (v747 : IVec S16 32) (k0_hw149 : k0_chk149 v659 v747), ∀ a x, ((![v659, v747] : Fin 2 → IVec S16 32) a x).toNat < S128x128.size a := fun v659 v747 k0_hw149 => k0_hw149

def k0_chk150 (v648 : IVec S16 32) (v751 : IVec S16 32) : Prop :=
  (∀ a x, ((![v648, v751] : Fin 2 → IVec S16 32) a x).toNat < S128x128.size a)
theorem k0_idx150_inb : ∀ (v648 : IVec S16 32) (v751 : IVec S16 32) (k0_hw150 : k0_chk150 v648 v751), ∀ a x, ((![v648, v751] : Fin 2 → IVec S16 32) a x).toNat < S128x128.size a := fun v648 v751 k0_hw150 => k0_hw150

def k0_chk151 (v659 : IVec S16 32) (v756 : IVec S16 32) : Prop :=
  (∀ a x, ((![v659, v756] : Fin 2 → IVec S16 32) a x).toNat < S128x128.size a)
theorem k0_idx151_inb : ∀ (v659 : IVec S16 32) (v756 : IVec S16 32) (k0_hw151 : k0_chk151 v659 v756), ∀ a x, ((![v659, v756] : Fin 2 → IVec S16 32) a x).toNat < S128x128.size a := fun v659 v756 k0_hw151 => k0_hw151

def k0_chk152 (v648 : IVec S16 32) (v760 : IVec S16 32) : Prop :=
  (∀ a x, ((![v648, v760] : Fin 2 → IVec S16 32) a x).toNat < S128x128.size a)
theorem k0_idx152_inb : ∀ (v648 : IVec S16 32) (v760 : IVec S16 32) (k0_hw152 : k0_chk152 v648 v760), ∀ a x, ((![v648, v760] : Fin 2 → IVec S16 32) a x).toNat < S128x128.size a := fun v648 v760 k0_hw152 => k0_hw152

def k0_chk153 (v659 : IVec S16 32) (v765 : IVec S16 32) : Prop :=
  (∀ a x, ((![v659, v765] : Fin 2 → IVec S16 32) a x).toNat < S128x128.size a)
theorem k0_idx153_inb : ∀ (v659 : IVec S16 32) (v765 : IVec S16 32) (k0_hw153 : k0_chk153 v659 v765), ∀ a x, ((![v659, v765] : Fin 2 → IVec S16 32) a x).toNat < S128x128.size a := fun v659 v765 k0_hw153 => k0_hw153

def k0_chk154 (v648 : IVec S16 32) (v769 : IVec S16 32) : Prop :=
  (∀ a x, ((![v648, v769] : Fin 2 → IVec S16 32) a x).toNat < S128x128.size a)
theorem k0_idx154_inb : ∀ (v648 : IVec S16 32) (v769 : IVec S16 32) (k0_hw154 : k0_chk154 v648 v769), ∀ a x, ((![v648, v769] : Fin 2 → IVec S16 32) a x).toNat < S128x128.size a := fun v648 v769 k0_hw154 => k0_hw154

def k0_chk155 (v659 : IVec S16 32) (v774 : IVec S16 32) : Prop :=
  (∀ a x, ((![v659, v774] : Fin 2 → IVec S16 32) a x).toNat < S128x128.size a)
theorem k0_idx155_inb : ∀ (v659 : IVec S16 32) (v774 : IVec S16 32) (k0_hw155 : k0_chk155 v659 v774), ∀ a x, ((![v659, v774] : Fin 2 → IVec S16 32) a x).toNat < S128x128.size a := fun v659 v774 k0_hw155 => k0_hw155

def k0_chk156 (v648 : IVec S16 32) (v778 : IVec S16 32) : Prop :=
  (∀ a x, ((![v648, v778] : Fin 2 → IVec S16 32) a x).toNat < S128x128.size a)
theorem k0_idx156_inb : ∀ (v648 : IVec S16 32) (v778 : IVec S16 32) (k0_hw156 : k0_chk156 v648 v778), ∀ a x, ((![v648, v778] : Fin 2 → IVec S16 32) a x).toNat < S128x128.size a := fun v648 v778 k0_hw156 => k0_hw156

def k0_chk157 (v659 : IVec S16 32) (v783 : IVec S16 32) : Prop :=
  (∀ a x, ((![v659, v783] : Fin 2 → IVec S16 32) a x).toNat < S128x128.size a)
theorem k0_idx157_inb : ∀ (v659 : IVec S16 32) (v783 : IVec S16 32) (k0_hw157 : k0_chk157 v659 v783), ∀ a x, ((![v659, v783] : Fin 2 → IVec S16 32) a x).toNat < S128x128.size a := fun v659 v783 k0_hw157 => k0_hw157

def k0_chk158 (v648 : IVec S16 32) (v787 : IVec S16 32) : Prop :=
  (∀ a x, ((![v648, v787] : Fin 2 → IVec S16 32) a x).toNat < S128x128.size a)
theorem k0_idx158_inb : ∀ (v648 : IVec S16 32) (v787 : IVec S16 32) (k0_hw158 : k0_chk158 v648 v787), ∀ a x, ((![v648, v787] : Fin 2 → IVec S16 32) a x).toNat < S128x128.size a := fun v648 v787 k0_hw158 => k0_hw158

def k0_chk159 (v659 : IVec S16 32) (v792 : IVec S16 32) : Prop :=
  (∀ a x, ((![v659, v792] : Fin 2 → IVec S16 32) a x).toNat < S128x128.size a)
theorem k0_idx159_inb : ∀ (v659 : IVec S16 32) (v792 : IVec S16 32) (k0_hw159 : k0_chk159 v659 v792), ∀ a x, ((![v659, v792] : Fin 2 → IVec S16 32) a x).toNat < S128x128.size a := fun v659 v792 k0_hw159 => k0_hw159

def k0_chk160 (v648 : IVec S16 32) (v796 : IVec S16 32) : Prop :=
  (∀ a x, ((![v648, v796] : Fin 2 → IVec S16 32) a x).toNat < S128x128.size a)
theorem k0_idx160_inb : ∀ (v648 : IVec S16 32) (v796 : IVec S16 32) (k0_hw160 : k0_chk160 v648 v796), ∀ a x, ((![v648, v796] : Fin 2 → IVec S16 32) a x).toNat < S128x128.size a := fun v648 v796 k0_hw160 => k0_hw160

def k0_chk161 (v659 : IVec S16 32) (v801 : IVec S16 32) : Prop :=
  (∀ a x, ((![v659, v801] : Fin 2 → IVec S16 32) a x).toNat < S128x128.size a)
theorem k0_idx161_inb : ∀ (v659 : IVec S16 32) (v801 : IVec S16 32) (k0_hw161 : k0_chk161 v659 v801), ∀ a x, ((![v659, v801] : Fin 2 → IVec S16 32) a x).toNat < S128x128.size a := fun v659 v801 k0_hw161 => k0_hw161

def k0_chk162 (v648 : IVec S16 32) (v805 : IVec S16 32) : Prop :=
  (∀ a x, ((![v648, v805] : Fin 2 → IVec S16 32) a x).toNat < S128x128.size a)
theorem k0_idx162_inb : ∀ (v648 : IVec S16 32) (v805 : IVec S16 32) (k0_hw162 : k0_chk162 v648 v805), ∀ a x, ((![v648, v805] : Fin 2 → IVec S16 32) a x).toNat < S128x128.size a := fun v648 v805 k0_hw162 => k0_hw162

def k0_chk163 (v659 : IVec S16 32) (v810 : IVec S16 32) : Prop :=
  (∀ a x, ((![v659, v810] : Fin 2 → IVec S16 32) a x).toNat < S128x128.size a)
theorem k0_idx163_inb : ∀ (v659 : IVec S16 32) (v810 : IVec S16 32) (k0_hw163 : k0_chk163 v659 v810), ∀ a x, ((![v659, v810] : Fin 2 → IVec S16 32) a x).toNat < S128x128.size a := fun v659 v810 k0_hw163 => k0_hw163

def k0_chk164 (v648 : IVec S16 32) (v814 : IVec S16 32) : Prop :=
  (∀ a x, ((![v648, v814] : Fin 2 → IVec S16 32) a x).toNat < S128x128.size a)
theorem k0_idx164_inb : ∀ (v648 : IVec S16 32) (v814 : IVec S16 32) (k0_hw164 : k0_chk164 v648 v814), ∀ a x, ((![v648, v814] : Fin 2 → IVec S16 32) a x).toNat < S128x128.size a := fun v648 v814 k0_hw164 => k0_hw164

def k0_chk165 (v659 : IVec S16 32) (v819 : IVec S16 32) : Prop :=
  (∀ a x, ((![v659, v819] : Fin 2 → IVec S16 32) a x).toNat < S128x128.size a)
theorem k0_idx165_inb : ∀ (v659 : IVec S16 32) (v819 : IVec S16 32) (k0_hw165 : k0_chk165 v659 v819), ∀ a x, ((![v659, v819] : Fin 2 → IVec S16 32) a x).toNat < S128x128.size a := fun v659 v819 k0_hw165 => k0_hw165

def k0_chk166 (v648 : IVec S16 32) (v823 : IVec S16 32) : Prop :=
  (∀ a x, ((![v648, v823] : Fin 2 → IVec S16 32) a x).toNat < S128x128.size a)
theorem k0_idx166_inb : ∀ (v648 : IVec S16 32) (v823 : IVec S16 32) (k0_hw166 : k0_chk166 v648 v823), ∀ a x, ((![v648, v823] : Fin 2 → IVec S16 32) a x).toNat < S128x128.size a := fun v648 v823 k0_hw166 => k0_hw166

def k0_chk167 (v659 : IVec S16 32) (v828 : IVec S16 32) : Prop :=
  (∀ a x, ((![v659, v828] : Fin 2 → IVec S16 32) a x).toNat < S128x128.size a)
theorem k0_idx167_inb : ∀ (v659 : IVec S16 32) (v828 : IVec S16 32) (k0_hw167 : k0_chk167 v659 v828), ∀ a x, ((![v659, v828] : Fin 2 → IVec S16 32) a x).toNat < S128x128.size a := fun v659 v828 k0_hw167 => k0_hw167

def k0_chk168 (v648 : IVec S16 32) (v832 : IVec S16 32) : Prop :=
  (∀ a x, ((![v648, v832] : Fin 2 → IVec S16 32) a x).toNat < S128x128.size a)
theorem k0_idx168_inb : ∀ (v648 : IVec S16 32) (v832 : IVec S16 32) (k0_hw168 : k0_chk168 v648 v832), ∀ a x, ((![v648, v832] : Fin 2 → IVec S16 32) a x).toNat < S128x128.size a := fun v648 v832 k0_hw168 => k0_hw168

def k0_chk169 (v659 : IVec S16 32) (v837 : IVec S16 32) : Prop :=
  (∀ a x, ((![v659, v837] : Fin 2 → IVec S16 32) a x).toNat < S128x128.size a)
theorem k0_idx169_inb : ∀ (v659 : IVec S16 32) (v837 : IVec S16 32) (k0_hw169 : k0_chk169 v659 v837), ∀ a x, ((![v659, v837] : Fin 2 → IVec S16 32) a x).toNat < S128x128.size a := fun v659 v837 k0_hw169 => k0_hw169

def k0_chk170 (v648 : IVec S16 32) (v841 : IVec S16 32) : Prop :=
  (∀ a x, ((![v648, v841] : Fin 2 → IVec S16 32) a x).toNat < S128x128.size a)
theorem k0_idx170_inb : ∀ (v648 : IVec S16 32) (v841 : IVec S16 32) (k0_hw170 : k0_chk170 v648 v841), ∀ a x, ((![v648, v841] : Fin 2 → IVec S16 32) a x).toNat < S128x128.size a := fun v648 v841 k0_hw170 => k0_hw170

def k0_chk171 (v659 : IVec S16 32) (v846 : IVec S16 32) : Prop :=
  (∀ a x, ((![v659, v846] : Fin 2 → IVec S16 32) a x).toNat < S128x128.size a)
theorem k0_idx171_inb : ∀ (v659 : IVec S16 32) (v846 : IVec S16 32) (k0_hw171 : k0_chk171 v659 v846), ∀ a x, ((![v659, v846] : Fin 2 → IVec S16 32) a x).toNat < S128x128.size a := fun v659 v846 k0_hw171 => k0_hw171

def k0_chk172 (v648 : IVec S16 32) (v850 : IVec S16 32) : Prop :=
  (∀ a x, ((![v648, v850] : Fin 2 → IVec S16 32) a x).toNat < S128x128.size a)
theorem k0_idx172_inb : ∀ (v648 : IVec S16 32) (v850 : IVec S16 32) (k0_hw172 : k0_chk172 v648 v850), ∀ a x, ((![v648, v850] : Fin 2 → IVec S16 32) a x).toNat < S128x128.size a := fun v648 v850 k0_hw172 => k0_hw172

def k0_chk173 (v659 : IVec S16 32) (v855 : IVec S16 32) : Prop :=
  (∀ a x, ((![v659, v855] : Fin 2 → IVec S16 32) a x).toNat < S128x128.size a)
theorem k0_idx173_inb : ∀ (v659 : IVec S16 32) (v855 : IVec S16 32) (k0_hw173 : k0_chk173 v659 v855), ∀ a x, ((![v659, v855] : Fin 2 → IVec S16 32) a x).toNat < S128x128.size a := fun v659 v855 k0_hw173 => k0_hw173

def k0_chk174 (v648 : IVec S16 32) (v859 : IVec S16 32) : Prop :=
  (∀ a x, ((![v648, v859] : Fin 2 → IVec S16 32) a x).toNat < S128x128.size a)
theorem k0_idx174_inb : ∀ (v648 : IVec S16 32) (v859 : IVec S16 32) (k0_hw174 : k0_chk174 v648 v859), ∀ a x, ((![v648, v859] : Fin 2 → IVec S16 32) a x).toNat < S128x128.size a := fun v648 v859 k0_hw174 => k0_hw174

def k0_chk175 (v659 : IVec S16 32) (v864 : IVec S16 32) : Prop :=
  (∀ a x, ((![v659, v864] : Fin 2 → IVec S16 32) a x).toNat < S128x128.size a)
theorem k0_idx175_inb : ∀ (v659 : IVec S16 32) (v864 : IVec S16 32) (k0_hw175 : k0_chk175 v659 v864), ∀ a x, ((![v659, v864] : Fin 2 → IVec S16 32) a x).toNat < S128x128.size a := fun v659 v864 k0_hw175 => k0_hw175

def k0_chk176 (v648 : IVec S16 32) (v868 : IVec S16 32) : Prop :=
  (∀ a x, ((![v648, v868] : Fin 2 → IVec S16 32) a x).toNat < S128x128.size a)
theorem k0_idx176_inb : ∀ (v648 : IVec S16 32) (v868 : IVec S16 32) (k0_hw176 : k0_chk176 v648 v868), ∀ a x, ((![v648, v868] : Fin 2 → IVec S16 32) a x).toNat < S128x128.size a := fun v648 v868 k0_hw176 => k0_hw176

def k0_chk177 (v659 : IVec S16 32) (v873 : IVec S16 32) : Prop :=
  (∀ a x, ((![v659, v873] : Fin 2 → IVec S16 32) a x).toNat < S128x128.size a)
theorem k0_idx177_inb : ∀ (v659 : IVec S16 32) (v873 : IVec S16 32) (k0_hw177 : k0_chk177 v659 v873), ∀ a x, ((![v659, v873] : Fin 2 → IVec S16 32) a x).toNat < S128x128.size a := fun v659 v873 k0_hw177 => k0_hw177

def k0_chk178 (v648 : IVec S16 32) (v877 : IVec S16 32) : Prop :=
  (∀ a x, ((![v648, v877] : Fin 2 → IVec S16 32) a x).toNat < S128x128.size a)
theorem k0_idx178_inb : ∀ (v648 : IVec S16 32) (v877 : IVec S16 32) (k0_hw178 : k0_chk178 v648 v877), ∀ a x, ((![v648, v877] : Fin 2 → IVec S16 32) a x).toNat < S128x128.size a := fun v648 v877 k0_hw178 => k0_hw178

def k0_chk179 (v659 : IVec S16 32) (v882 : IVec S16 32) : Prop :=
  (∀ a x, ((![v659, v882] : Fin 2 → IVec S16 32) a x).toNat < S128x128.size a)
theorem k0_idx179_inb : ∀ (v659 : IVec S16 32) (v882 : IVec S16 32) (k0_hw179 : k0_chk179 v659 v882), ∀ a x, ((![v659, v882] : Fin 2 → IVec S16 32) a x).toNat < S128x128.size a := fun v659 v882 k0_hw179 => k0_hw179

def k0_chk180 (v648 : IVec S16 32) (v886 : IVec S16 32) : Prop :=
  (∀ a x, ((![v648, v886] : Fin 2 → IVec S16 32) a x).toNat < S128x128.size a)
theorem k0_idx180_inb : ∀ (v648 : IVec S16 32) (v886 : IVec S16 32) (k0_hw180 : k0_chk180 v648 v886), ∀ a x, ((![v648, v886] : Fin 2 → IVec S16 32) a x).toNat < S128x128.size a := fun v648 v886 k0_hw180 => k0_hw180

def k0_chk181 (v659 : IVec S16 32) (v891 : IVec S16 32) : Prop :=
  (∀ a x, ((![v659, v891] : Fin 2 → IVec S16 32) a x).toNat < S128x128.size a)
theorem k0_idx181_inb : ∀ (v659 : IVec S16 32) (v891 : IVec S16 32) (k0_hw181 : k0_chk181 v659 v891), ∀ a x, ((![v659, v891] : Fin 2 → IVec S16 32) a x).toNat < S128x128.size a := fun v659 v891 k0_hw181 => k0_hw181

def k0_chk182 (v648 : IVec S16 32) (v895 : IVec S16 32) : Prop :=
  (∀ a x, ((![v648, v895] : Fin 2 → IVec S16 32) a x).toNat < S128x128.size a)
theorem k0_idx182_inb : ∀ (v648 : IVec S16 32) (v895 : IVec S16 32) (k0_hw182 : k0_chk182 v648 v895), ∀ a x, ((![v648, v895] : Fin 2 → IVec S16 32) a x).toNat < S128x128.size a := fun v648 v895 k0_hw182 => k0_hw182

def k0_chk183 (v659 : IVec S16 32) (v900 : IVec S16 32) : Prop :=
  (∀ a x, ((![v659, v900] : Fin 2 → IVec S16 32) a x).toNat < S128x128.size a)
theorem k0_idx183_inb : ∀ (v659 : IVec S16 32) (v900 : IVec S16 32) (k0_hw183 : k0_chk183 v659 v900), ∀ a x, ((![v659, v900] : Fin 2 → IVec S16 32) a x).toNat < S128x128.size a := fun v659 v900 k0_hw183 => k0_hw183

def k0_chk184 (v648 : IVec S16 32) (v904 : IVec S16 32) : Prop :=
  (∀ a x, ((![v648, v904] : Fin 2 → IVec S16 32) a x).toNat < S128x128.size a)
theorem k0_idx184_inb : ∀ (v648 : IVec S16 32) (v904 : IVec S16 32) (k0_hw184 : k0_chk184 v648 v904), ∀ a x, ((![v648, v904] : Fin 2 → IVec S16 32) a x).toNat < S128x128.size a := fun v648 v904 k0_hw184 => k0_hw184

def k0_chk185 (v659 : IVec S16 32) (v909 : IVec S16 32) : Prop :=
  (∀ a x, ((![v659, v909] : Fin 2 → IVec S16 32) a x).toNat < S128x128.size a)
theorem k0_idx185_inb : ∀ (v659 : IVec S16 32) (v909 : IVec S16 32) (k0_hw185 : k0_chk185 v659 v909), ∀ a x, ((![v659, v909] : Fin 2 → IVec S16 32) a x).toNat < S128x128.size a := fun v659 v909 k0_hw185 => k0_hw185

def k0_chk186 (v648 : IVec S16 32) (v913 : IVec S16 32) : Prop :=
  (∀ a x, ((![v648, v913] : Fin 2 → IVec S16 32) a x).toNat < S128x128.size a)
theorem k0_idx186_inb : ∀ (v648 : IVec S16 32) (v913 : IVec S16 32) (k0_hw186 : k0_chk186 v648 v913), ∀ a x, ((![v648, v913] : Fin 2 → IVec S16 32) a x).toNat < S128x128.size a := fun v648 v913 k0_hw186 => k0_hw186

def k0_chk187 (v659 : IVec S16 32) (v918 : IVec S16 32) : Prop :=
  (∀ a x, ((![v659, v918] : Fin 2 → IVec S16 32) a x).toNat < S128x128.size a)
theorem k0_idx187_inb : ∀ (v659 : IVec S16 32) (v918 : IVec S16 32) (k0_hw187 : k0_chk187 v659 v918), ∀ a x, ((![v659, v918] : Fin 2 → IVec S16 32) a x).toNat < S128x128.size a := fun v659 v918 k0_hw187 => k0_hw187

def k0_chk188 (v648 : IVec S16 32) (v922 : IVec S16 32) : Prop :=
  (∀ a x, ((![v648, v922] : Fin 2 → IVec S16 32) a x).toNat < S128x128.size a)
theorem k0_idx188_inb : ∀ (v648 : IVec S16 32) (v922 : IVec S16 32) (k0_hw188 : k0_chk188 v648 v922), ∀ a x, ((![v648, v922] : Fin 2 → IVec S16 32) a x).toNat < S128x128.size a := fun v648 v922 k0_hw188 => k0_hw188

def k0_chk189 (v659 : IVec S16 32) (v927 : IVec S16 32) : Prop :=
  (∀ a x, ((![v659, v927] : Fin 2 → IVec S16 32) a x).toNat < S128x128.size a)
theorem k0_idx189_inb : ∀ (v659 : IVec S16 32) (v927 : IVec S16 32) (k0_hw189 : k0_chk189 v659 v927), ∀ a x, ((![v659, v927] : Fin 2 → IVec S16 32) a x).toNat < S128x128.size a := fun v659 v927 k0_hw189 => k0_hw189

def k0_chk190 (v648 : IVec S16 32) (v931 : IVec S16 32) : Prop :=
  (∀ a x, ((![v648, v931] : Fin 2 → IVec S16 32) a x).toNat < S128x128.size a)
theorem k0_idx190_inb : ∀ (v648 : IVec S16 32) (v931 : IVec S16 32) (k0_hw190 : k0_chk190 v648 v931), ∀ a x, ((![v648, v931] : Fin 2 → IVec S16 32) a x).toNat < S128x128.size a := fun v648 v931 k0_hw190 => k0_hw190

def k0_chk191 (v659 : IVec S16 32) (v936 : IVec S16 32) : Prop :=
  (∀ a x, ((![v659, v936] : Fin 2 → IVec S16 32) a x).toNat < S128x128.size a)
theorem k0_idx191_inb : ∀ (v659 : IVec S16 32) (v936 : IVec S16 32) (k0_hw191 : k0_chk191 v659 v936), ∀ a x, ((![v659, v936] : Fin 2 → IVec S16 32) a x).toNat < S128x128.size a := fun v659 v936 k0_hw191 => k0_hw191

def k0_chk192 (v648 : IVec S16 32) (v940 : IVec S16 32) : Prop :=
  (∀ a x, ((![v648, v940] : Fin 2 → IVec S16 32) a x).toNat < S128x128.size a)
theorem k0_idx192_inb : ∀ (v648 : IVec S16 32) (v940 : IVec S16 32) (k0_hw192 : k0_chk192 v648 v940), ∀ a x, ((![v648, v940] : Fin 2 → IVec S16 32) a x).toNat < S128x128.size a := fun v648 v940 k0_hw192 => k0_hw192

def k0_chk193 (v659 : IVec S16 32) (v945 : IVec S16 32) : Prop :=
  (∀ a x, ((![v659, v945] : Fin 2 → IVec S16 32) a x).toNat < S128x128.size a)
theorem k0_idx193_inb : ∀ (v659 : IVec S16 32) (v945 : IVec S16 32) (k0_hw193 : k0_chk193 v659 v945), ∀ a x, ((![v659, v945] : Fin 2 → IVec S16 32) a x).toNat < S128x128.size a := fun v659 v945 k0_hw193 => k0_hw193

def k0_chk194 (v648 : IVec S16 32) (v949 : IVec S16 32) : Prop :=
  (∀ a x, ((![v648, v949] : Fin 2 → IVec S16 32) a x).toNat < S128x128.size a)
theorem k0_idx194_inb : ∀ (v648 : IVec S16 32) (v949 : IVec S16 32) (k0_hw194 : k0_chk194 v648 v949), ∀ a x, ((![v648, v949] : Fin 2 → IVec S16 32) a x).toNat < S128x128.size a := fun v648 v949 k0_hw194 => k0_hw194

def k0_chk195 (v659 : IVec S16 32) (v954 : IVec S16 32) : Prop :=
  (∀ a x, ((![v659, v954] : Fin 2 → IVec S16 32) a x).toNat < S128x128.size a)
theorem k0_idx195_inb : ∀ (v659 : IVec S16 32) (v954 : IVec S16 32) (k0_hw195 : k0_chk195 v659 v954), ∀ a x, ((![v659, v954] : Fin 2 → IVec S16 32) a x).toNat < S128x128.size a := fun v659 v954 k0_hw195 => k0_hw195

def k0_chk196 (v648 : IVec S16 32) (v958 : IVec S16 32) : Prop :=
  (∀ a x, ((![v648, v958] : Fin 2 → IVec S16 32) a x).toNat < S128x128.size a)
theorem k0_idx196_inb : ∀ (v648 : IVec S16 32) (v958 : IVec S16 32) (k0_hw196 : k0_chk196 v648 v958), ∀ a x, ((![v648, v958] : Fin 2 → IVec S16 32) a x).toNat < S128x128.size a := fun v648 v958 k0_hw196 => k0_hw196

def k0_chk197 (v659 : IVec S16 32) (v963 : IVec S16 32) : Prop :=
  (∀ a x, ((![v659, v963] : Fin 2 → IVec S16 32) a x).toNat < S128x128.size a)
theorem k0_idx197_inb : ∀ (v659 : IVec S16 32) (v963 : IVec S16 32) (k0_hw197 : k0_chk197 v659 v963), ∀ a x, ((![v659, v963] : Fin 2 → IVec S16 32) a x).toNat < S128x128.size a := fun v659 v963 k0_hw197 => k0_hw197

def k0_chk198 (v648 : IVec S16 32) (v967 : IVec S16 32) : Prop :=
  (∀ a x, ((![v648, v967] : Fin 2 → IVec S16 32) a x).toNat < S128x128.size a)
theorem k0_idx198_inb : ∀ (v648 : IVec S16 32) (v967 : IVec S16 32) (k0_hw198 : k0_chk198 v648 v967), ∀ a x, ((![v648, v967] : Fin 2 → IVec S16 32) a x).toNat < S128x128.size a := fun v648 v967 k0_hw198 => k0_hw198

def k0_chk199 (v659 : IVec S16 32) (v972 : IVec S16 32) : Prop :=
  (∀ a x, ((![v659, v972] : Fin 2 → IVec S16 32) a x).toNat < S128x128.size a)
theorem k0_idx199_inb : ∀ (v659 : IVec S16 32) (v972 : IVec S16 32) (k0_hw199 : k0_chk199 v659 v972), ∀ a x, ((![v659, v972] : Fin 2 → IVec S16 32) a x).toNat < S128x128.size a := fun v659 v972 k0_hw199 => k0_hw199

def k0_chk200 (v648 : IVec S16 32) (v976 : IVec S16 32) : Prop :=
  (∀ a x, ((![v648, v976] : Fin 2 → IVec S16 32) a x).toNat < S128x128.size a)
theorem k0_idx200_inb : ∀ (v648 : IVec S16 32) (v976 : IVec S16 32) (k0_hw200 : k0_chk200 v648 v976), ∀ a x, ((![v648, v976] : Fin 2 → IVec S16 32) a x).toNat < S128x128.size a := fun v648 v976 k0_hw200 => k0_hw200

def k0_chk201 (v659 : IVec S16 32) (v981 : IVec S16 32) : Prop :=
  (∀ a x, ((![v659, v981] : Fin 2 → IVec S16 32) a x).toNat < S128x128.size a)
theorem k0_idx201_inb : ∀ (v659 : IVec S16 32) (v981 : IVec S16 32) (k0_hw201 : k0_chk201 v659 v981), ∀ a x, ((![v659, v981] : Fin 2 → IVec S16 32) a x).toNat < S128x128.size a := fun v659 v981 k0_hw201 => k0_hw201

def k0_chk202 (v648 : IVec S16 32) (v985 : IVec S16 32) : Prop :=
  (∀ a x, ((![v648, v985] : Fin 2 → IVec S16 32) a x).toNat < S128x128.size a)
theorem k0_idx202_inb : ∀ (v648 : IVec S16 32) (v985 : IVec S16 32) (k0_hw202 : k0_chk202 v648 v985), ∀ a x, ((![v648, v985] : Fin 2 → IVec S16 32) a x).toNat < S128x128.size a := fun v648 v985 k0_hw202 => k0_hw202

def k0_chk203 (v659 : IVec S16 32) (v990 : IVec S16 32) : Prop :=
  (∀ a x, ((![v659, v990] : Fin 2 → IVec S16 32) a x).toNat < S128x128.size a)
theorem k0_idx203_inb : ∀ (v659 : IVec S16 32) (v990 : IVec S16 32) (k0_hw203 : k0_chk203 v659 v990), ∀ a x, ((![v659, v990] : Fin 2 → IVec S16 32) a x).toNat < S128x128.size a := fun v659 v990 k0_hw203 => k0_hw203

def k0_chk204 (v648 : IVec S16 32) (v994 : IVec S16 32) : Prop :=
  (∀ a x, ((![v648, v994] : Fin 2 → IVec S16 32) a x).toNat < S128x128.size a)
theorem k0_idx204_inb : ∀ (v648 : IVec S16 32) (v994 : IVec S16 32) (k0_hw204 : k0_chk204 v648 v994), ∀ a x, ((![v648, v994] : Fin 2 → IVec S16 32) a x).toNat < S128x128.size a := fun v648 v994 k0_hw204 => k0_hw204

def k0_chk205 (v659 : IVec S16 32) (v999 : IVec S16 32) : Prop :=
  (∀ a x, ((![v659, v999] : Fin 2 → IVec S16 32) a x).toNat < S128x128.size a)
theorem k0_idx205_inb : ∀ (v659 : IVec S16 32) (v999 : IVec S16 32) (k0_hw205 : k0_chk205 v659 v999), ∀ a x, ((![v659, v999] : Fin 2 → IVec S16 32) a x).toNat < S128x128.size a := fun v659 v999 k0_hw205 => k0_hw205

def k0_chk206 (v648 : IVec S16 32) (v1003 : IVec S16 32) : Prop :=
  (∀ a x, ((![v648, v1003] : Fin 2 → IVec S16 32) a x).toNat < S128x128.size a)
theorem k0_idx206_inb : ∀ (v648 : IVec S16 32) (v1003 : IVec S16 32) (k0_hw206 : k0_chk206 v648 v1003), ∀ a x, ((![v648, v1003] : Fin 2 → IVec S16 32) a x).toNat < S128x128.size a := fun v648 v1003 k0_hw206 => k0_hw206

def k0_chk207 (v659 : IVec S16 32) (v1008 : IVec S16 32) : Prop :=
  (∀ a x, ((![v659, v1008] : Fin 2 → IVec S16 32) a x).toNat < S128x128.size a)
theorem k0_idx207_inb : ∀ (v659 : IVec S16 32) (v1008 : IVec S16 32) (k0_hw207 : k0_chk207 v659 v1008), ∀ a x, ((![v659, v1008] : Fin 2 → IVec S16 32) a x).toNat < S128x128.size a := fun v659 v1008 k0_hw207 => k0_hw207

def k0_chk208 (v648 : IVec S16 32) (v1012 : IVec S16 32) : Prop :=
  (∀ a x, ((![v648, v1012] : Fin 2 → IVec S16 32) a x).toNat < S128x128.size a)
theorem k0_idx208_inb : ∀ (v648 : IVec S16 32) (v1012 : IVec S16 32) (k0_hw208 : k0_chk208 v648 v1012), ∀ a x, ((![v648, v1012] : Fin 2 → IVec S16 32) a x).toNat < S128x128.size a := fun v648 v1012 k0_hw208 => k0_hw208

def k0_chk209 (v659 : IVec S16 32) (v1017 : IVec S16 32) : Prop :=
  (∀ a x, ((![v659, v1017] : Fin 2 → IVec S16 32) a x).toNat < S128x128.size a)
theorem k0_idx209_inb : ∀ (v659 : IVec S16 32) (v1017 : IVec S16 32) (k0_hw209 : k0_chk209 v659 v1017), ∀ a x, ((![v659, v1017] : Fin 2 → IVec S16 32) a x).toNat < S128x128.size a := fun v659 v1017 k0_hw209 => k0_hw209

def k0_chk210 (v648 : IVec S16 32) (v1021 : IVec S16 32) : Prop :=
  (∀ a x, ((![v648, v1021] : Fin 2 → IVec S16 32) a x).toNat < S128x128.size a)
theorem k0_idx210_inb : ∀ (v648 : IVec S16 32) (v1021 : IVec S16 32) (k0_hw210 : k0_chk210 v648 v1021), ∀ a x, ((![v648, v1021] : Fin 2 → IVec S16 32) a x).toNat < S128x128.size a := fun v648 v1021 k0_hw210 => k0_hw210

def k0_chk211 (v659 : IVec S16 32) (v1026 : IVec S16 32) : Prop :=
  (∀ a x, ((![v659, v1026] : Fin 2 → IVec S16 32) a x).toNat < S128x128.size a)
theorem k0_idx211_inb : ∀ (v659 : IVec S16 32) (v1026 : IVec S16 32) (k0_hw211 : k0_chk211 v659 v1026), ∀ a x, ((![v659, v1026] : Fin 2 → IVec S16 32) a x).toNat < S128x128.size a := fun v659 v1026 k0_hw211 => k0_hw211

def k0_chk212 (v648 : IVec S16 32) (v1030 : IVec S16 32) : Prop :=
  (∀ a x, ((![v648, v1030] : Fin 2 → IVec S16 32) a x).toNat < S128x128.size a)
theorem k0_idx212_inb : ∀ (v648 : IVec S16 32) (v1030 : IVec S16 32) (k0_hw212 : k0_chk212 v648 v1030), ∀ a x, ((![v648, v1030] : Fin 2 → IVec S16 32) a x).toNat < S128x128.size a := fun v648 v1030 k0_hw212 => k0_hw212

def k0_chk213 (v659 : IVec S16 32) (v1035 : IVec S16 32) : Prop :=
  (∀ a x, ((![v659, v1035] : Fin 2 → IVec S16 32) a x).toNat < S128x128.size a)
theorem k0_idx213_inb : ∀ (v659 : IVec S16 32) (v1035 : IVec S16 32) (k0_hw213 : k0_chk213 v659 v1035), ∀ a x, ((![v659, v1035] : Fin 2 → IVec S16 32) a x).toNat < S128x128.size a := fun v659 v1035 k0_hw213 => k0_hw213

def k0_chk214 (v648 : IVec S16 32) (v1039 : IVec S16 32) : Prop :=
  (∀ a x, ((![v648, v1039] : Fin 2 → IVec S16 32) a x).toNat < S128x128.size a)
theorem k0_idx214_inb : ∀ (v648 : IVec S16 32) (v1039 : IVec S16 32) (k0_hw214 : k0_chk214 v648 v1039), ∀ a x, ((![v648, v1039] : Fin 2 → IVec S16 32) a x).toNat < S128x128.size a := fun v648 v1039 k0_hw214 => k0_hw214

def k0_chk215 (v659 : IVec S16 32) (v1044 : IVec S16 32) : Prop :=
  (∀ a x, ((![v659, v1044] : Fin 2 → IVec S16 32) a x).toNat < S128x128.size a)
theorem k0_idx215_inb : ∀ (v659 : IVec S16 32) (v1044 : IVec S16 32) (k0_hw215 : k0_chk215 v659 v1044), ∀ a x, ((![v659, v1044] : Fin 2 → IVec S16 32) a x).toNat < S128x128.size a := fun v659 v1044 k0_hw215 => k0_hw215

def k0_chk216 (v648 : IVec S16 32) (v1048 : IVec S16 32) : Prop :=
  (∀ a x, ((![v648, v1048] : Fin 2 → IVec S16 32) a x).toNat < S128x128.size a)
theorem k0_idx216_inb : ∀ (v648 : IVec S16 32) (v1048 : IVec S16 32) (k0_hw216 : k0_chk216 v648 v1048), ∀ a x, ((![v648, v1048] : Fin 2 → IVec S16 32) a x).toNat < S128x128.size a := fun v648 v1048 k0_hw216 => k0_hw216

def k0_chk217 (v659 : IVec S16 32) (v1053 : IVec S16 32) : Prop :=
  (∀ a x, ((![v659, v1053] : Fin 2 → IVec S16 32) a x).toNat < S128x128.size a)
theorem k0_idx217_inb : ∀ (v659 : IVec S16 32) (v1053 : IVec S16 32) (k0_hw217 : k0_chk217 v659 v1053), ∀ a x, ((![v659, v1053] : Fin 2 → IVec S16 32) a x).toNat < S128x128.size a := fun v659 v1053 k0_hw217 => k0_hw217

def k0_chk218 (v648 : IVec S16 32) (v1057 : IVec S16 32) : Prop :=
  (∀ a x, ((![v648, v1057] : Fin 2 → IVec S16 32) a x).toNat < S128x128.size a)
theorem k0_idx218_inb : ∀ (v648 : IVec S16 32) (v1057 : IVec S16 32) (k0_hw218 : k0_chk218 v648 v1057), ∀ a x, ((![v648, v1057] : Fin 2 → IVec S16 32) a x).toNat < S128x128.size a := fun v648 v1057 k0_hw218 => k0_hw218

def k0_chk219 (v659 : IVec S16 32) (v1062 : IVec S16 32) : Prop :=
  (∀ a x, ((![v659, v1062] : Fin 2 → IVec S16 32) a x).toNat < S128x128.size a)
theorem k0_idx219_inb : ∀ (v659 : IVec S16 32) (v1062 : IVec S16 32) (k0_hw219 : k0_chk219 v659 v1062), ∀ a x, ((![v659, v1062] : Fin 2 → IVec S16 32) a x).toNat < S128x128.size a := fun v659 v1062 k0_hw219 => k0_hw219

def k0_chk220 (v648 : IVec S16 32) (v1066 : IVec S16 32) : Prop :=
  (∀ a x, ((![v648, v1066] : Fin 2 → IVec S16 32) a x).toNat < S128x128.size a)
theorem k0_idx220_inb : ∀ (v648 : IVec S16 32) (v1066 : IVec S16 32) (k0_hw220 : k0_chk220 v648 v1066), ∀ a x, ((![v648, v1066] : Fin 2 → IVec S16 32) a x).toNat < S128x128.size a := fun v648 v1066 k0_hw220 => k0_hw220

def k0_chk221 (v659 : IVec S16 32) (v1071 : IVec S16 32) : Prop :=
  (∀ a x, ((![v659, v1071] : Fin 2 → IVec S16 32) a x).toNat < S128x128.size a)
theorem k0_idx221_inb : ∀ (v659 : IVec S16 32) (v1071 : IVec S16 32) (k0_hw221 : k0_chk221 v659 v1071), ∀ a x, ((![v659, v1071] : Fin 2 → IVec S16 32) a x).toNat < S128x128.size a := fun v659 v1071 k0_hw221 => k0_hw221

def k0_chk222 (v648 : IVec S16 32) (v1075 : IVec S16 32) : Prop :=
  (∀ a x, ((![v648, v1075] : Fin 2 → IVec S16 32) a x).toNat < S128x128.size a)
theorem k0_idx222_inb : ∀ (v648 : IVec S16 32) (v1075 : IVec S16 32) (k0_hw222 : k0_chk222 v648 v1075), ∀ a x, ((![v648, v1075] : Fin 2 → IVec S16 32) a x).toNat < S128x128.size a := fun v648 v1075 k0_hw222 => k0_hw222

def k0_chk223 (v659 : IVec S16 32) (v1080 : IVec S16 32) : Prop :=
  (∀ a x, ((![v659, v1080] : Fin 2 → IVec S16 32) a x).toNat < S128x128.size a)
theorem k0_idx223_inb : ∀ (v659 : IVec S16 32) (v1080 : IVec S16 32) (k0_hw223 : k0_chk223 v659 v1080), ∀ a x, ((![v659, v1080] : Fin 2 → IVec S16 32) a x).toNat < S128x128.size a := fun v659 v1080 k0_hw223 => k0_hw223

def k0_chk224 (v648 : IVec S16 32) (v1084 : IVec S16 32) : Prop :=
  (∀ a x, ((![v648, v1084] : Fin 2 → IVec S16 32) a x).toNat < S128x128.size a)
theorem k0_idx224_inb : ∀ (v648 : IVec S16 32) (v1084 : IVec S16 32) (k0_hw224 : k0_chk224 v648 v1084), ∀ a x, ((![v648, v1084] : Fin 2 → IVec S16 32) a x).toNat < S128x128.size a := fun v648 v1084 k0_hw224 => k0_hw224

def k0_chk225 (v659 : IVec S16 32) (v1089 : IVec S16 32) : Prop :=
  (∀ a x, ((![v659, v1089] : Fin 2 → IVec S16 32) a x).toNat < S128x128.size a)
theorem k0_idx225_inb : ∀ (v659 : IVec S16 32) (v1089 : IVec S16 32) (k0_hw225 : k0_chk225 v659 v1089), ∀ a x, ((![v659, v1089] : Fin 2 → IVec S16 32) a x).toNat < S128x128.size a := fun v659 v1089 k0_hw225 => k0_hw225

def k0_chk226 (v648 : IVec S16 32) (v1093 : IVec S16 32) : Prop :=
  (∀ a x, ((![v648, v1093] : Fin 2 → IVec S16 32) a x).toNat < S128x128.size a)
theorem k0_idx226_inb : ∀ (v648 : IVec S16 32) (v1093 : IVec S16 32) (k0_hw226 : k0_chk226 v648 v1093), ∀ a x, ((![v648, v1093] : Fin 2 → IVec S16 32) a x).toNat < S128x128.size a := fun v648 v1093 k0_hw226 => k0_hw226

def k0_chk227 (v659 : IVec S16 32) (v1098 : IVec S16 32) : Prop :=
  (∀ a x, ((![v659, v1098] : Fin 2 → IVec S16 32) a x).toNat < S128x128.size a)
theorem k0_idx227_inb : ∀ (v659 : IVec S16 32) (v1098 : IVec S16 32) (k0_hw227 : k0_chk227 v659 v1098), ∀ a x, ((![v659, v1098] : Fin 2 → IVec S16 32) a x).toNat < S128x128.size a := fun v659 v1098 k0_hw227 => k0_hw227

def k0_chk228 (v648 : IVec S16 32) (v1102 : IVec S16 32) : Prop :=
  (∀ a x, ((![v648, v1102] : Fin 2 → IVec S16 32) a x).toNat < S128x128.size a)
theorem k0_idx228_inb : ∀ (v648 : IVec S16 32) (v1102 : IVec S16 32) (k0_hw228 : k0_chk228 v648 v1102), ∀ a x, ((![v648, v1102] : Fin 2 → IVec S16 32) a x).toNat < S128x128.size a := fun v648 v1102 k0_hw228 => k0_hw228

def k0_chk229 (v659 : IVec S16 32) (v1107 : IVec S16 32) : Prop :=
  (∀ a x, ((![v659, v1107] : Fin 2 → IVec S16 32) a x).toNat < S128x128.size a)
theorem k0_idx229_inb : ∀ (v659 : IVec S16 32) (v1107 : IVec S16 32) (k0_hw229 : k0_chk229 v659 v1107), ∀ a x, ((![v659, v1107] : Fin 2 → IVec S16 32) a x).toNat < S128x128.size a := fun v659 v1107 k0_hw229 => k0_hw229

def k0_chk230 (v648 : IVec S16 32) (v1111 : IVec S16 32) : Prop :=
  (∀ a x, ((![v648, v1111] : Fin 2 → IVec S16 32) a x).toNat < S128x128.size a)
theorem k0_idx230_inb : ∀ (v648 : IVec S16 32) (v1111 : IVec S16 32) (k0_hw230 : k0_chk230 v648 v1111), ∀ a x, ((![v648, v1111] : Fin 2 → IVec S16 32) a x).toNat < S128x128.size a := fun v648 v1111 k0_hw230 => k0_hw230

def k0_chk231 (v659 : IVec S16 32) (v1116 : IVec S16 32) : Prop :=
  (∀ a x, ((![v659, v1116] : Fin 2 → IVec S16 32) a x).toNat < S128x128.size a)
theorem k0_idx231_inb : ∀ (v659 : IVec S16 32) (v1116 : IVec S16 32) (k0_hw231 : k0_chk231 v659 v1116), ∀ a x, ((![v659, v1116] : Fin 2 → IVec S16 32) a x).toNat < S128x128.size a := fun v659 v1116 k0_hw231 => k0_hw231

def k0_chk232 (v648 : IVec S16 32) (v1120 : IVec S16 32) : Prop :=
  (∀ a x, ((![v648, v1120] : Fin 2 → IVec S16 32) a x).toNat < S128x128.size a)
theorem k0_idx232_inb : ∀ (v648 : IVec S16 32) (v1120 : IVec S16 32) (k0_hw232 : k0_chk232 v648 v1120), ∀ a x, ((![v648, v1120] : Fin 2 → IVec S16 32) a x).toNat < S128x128.size a := fun v648 v1120 k0_hw232 => k0_hw232

def k0_chk233 (v659 : IVec S16 32) (v1125 : IVec S16 32) : Prop :=
  (∀ a x, ((![v659, v1125] : Fin 2 → IVec S16 32) a x).toNat < S128x128.size a)
theorem k0_idx233_inb : ∀ (v659 : IVec S16 32) (v1125 : IVec S16 32) (k0_hw233 : k0_chk233 v659 v1125), ∀ a x, ((![v659, v1125] : Fin 2 → IVec S16 32) a x).toNat < S128x128.size a := fun v659 v1125 k0_hw233 => k0_hw233

def k0_chk234 (v648 : IVec S16 32) (v1129 : IVec S16 32) : Prop :=
  (∀ a x, ((![v648, v1129] : Fin 2 → IVec S16 32) a x).toNat < S128x128.size a)
theorem k0_idx234_inb : ∀ (v648 : IVec S16 32) (v1129 : IVec S16 32) (k0_hw234 : k0_chk234 v648 v1129), ∀ a x, ((![v648, v1129] : Fin 2 → IVec S16 32) a x).toNat < S128x128.size a := fun v648 v1129 k0_hw234 => k0_hw234

def k0_chk235 (v659 : IVec S16 32) (v1134 : IVec S16 32) : Prop :=
  (∀ a x, ((![v659, v1134] : Fin 2 → IVec S16 32) a x).toNat < S128x128.size a)
theorem k0_idx235_inb : ∀ (v659 : IVec S16 32) (v1134 : IVec S16 32) (k0_hw235 : k0_chk235 v659 v1134), ∀ a x, ((![v659, v1134] : Fin 2 → IVec S16 32) a x).toNat < S128x128.size a := fun v659 v1134 k0_hw235 => k0_hw235

def k0_chk236 (v648 : IVec S16 32) (v1138 : IVec S16 32) : Prop :=
  (∀ a x, ((![v648, v1138] : Fin 2 → IVec S16 32) a x).toNat < S128x128.size a)
theorem k0_idx236_inb : ∀ (v648 : IVec S16 32) (v1138 : IVec S16 32) (k0_hw236 : k0_chk236 v648 v1138), ∀ a x, ((![v648, v1138] : Fin 2 → IVec S16 32) a x).toNat < S128x128.size a := fun v648 v1138 k0_hw236 => k0_hw236

def k0_chk237 (v659 : IVec S16 32) (v1143 : IVec S16 32) : Prop :=
  (∀ a x, ((![v659, v1143] : Fin 2 → IVec S16 32) a x).toNat < S128x128.size a)
theorem k0_idx237_inb : ∀ (v659 : IVec S16 32) (v1143 : IVec S16 32) (k0_hw237 : k0_chk237 v659 v1143), ∀ a x, ((![v659, v1143] : Fin 2 → IVec S16 32) a x).toNat < S128x128.size a := fun v659 v1143 k0_hw237 => k0_hw237

def k0_chk238 (v648 : IVec S16 32) (v1147 : IVec S16 32) : Prop :=
  (∀ a x, ((![v648, v1147] : Fin 2 → IVec S16 32) a x).toNat < S128x128.size a)
theorem k0_idx238_inb : ∀ (v648 : IVec S16 32) (v1147 : IVec S16 32) (k0_hw238 : k0_chk238 v648 v1147), ∀ a x, ((![v648, v1147] : Fin 2 → IVec S16 32) a x).toNat < S128x128.size a := fun v648 v1147 k0_hw238 => k0_hw238

def k0_chk239 (v659 : IVec S16 32) (v1152 : IVec S16 32) : Prop :=
  (∀ a x, ((![v659, v1152] : Fin 2 → IVec S16 32) a x).toNat < S128x128.size a)
theorem k0_idx239_inb : ∀ (v659 : IVec S16 32) (v1152 : IVec S16 32) (k0_hw239 : k0_chk239 v659 v1152), ∀ a x, ((![v659, v1152] : Fin 2 → IVec S16 32) a x).toNat < S128x128.size a := fun v659 v1152 k0_hw239 => k0_hw239

def k0_chk240 (v648 : IVec S16 32) (v1156 : IVec S16 32) : Prop :=
  (∀ a x, ((![v648, v1156] : Fin 2 → IVec S16 32) a x).toNat < S128x128.size a)
theorem k0_idx240_inb : ∀ (v648 : IVec S16 32) (v1156 : IVec S16 32) (k0_hw240 : k0_chk240 v648 v1156), ∀ a x, ((![v648, v1156] : Fin 2 → IVec S16 32) a x).toNat < S128x128.size a := fun v648 v1156 k0_hw240 => k0_hw240

def k0_chk241 (v659 : IVec S16 32) (v1161 : IVec S16 32) : Prop :=
  (∀ a x, ((![v659, v1161] : Fin 2 → IVec S16 32) a x).toNat < S128x128.size a)
theorem k0_idx241_inb : ∀ (v659 : IVec S16 32) (v1161 : IVec S16 32) (k0_hw241 : k0_chk241 v659 v1161), ∀ a x, ((![v659, v1161] : Fin 2 → IVec S16 32) a x).toNat < S128x128.size a := fun v659 v1161 k0_hw241 => k0_hw241

def k0_chk242 (v648 : IVec S16 32) (v1165 : IVec S16 32) : Prop :=
  (∀ a x, ((![v648, v1165] : Fin 2 → IVec S16 32) a x).toNat < S128x128.size a)
theorem k0_idx242_inb : ∀ (v648 : IVec S16 32) (v1165 : IVec S16 32) (k0_hw242 : k0_chk242 v648 v1165), ∀ a x, ((![v648, v1165] : Fin 2 → IVec S16 32) a x).toNat < S128x128.size a := fun v648 v1165 k0_hw242 => k0_hw242

def k0_chk243 (v659 : IVec S16 32) (v1170 : IVec S16 32) : Prop :=
  (∀ a x, ((![v659, v1170] : Fin 2 → IVec S16 32) a x).toNat < S128x128.size a)
theorem k0_idx243_inb : ∀ (v659 : IVec S16 32) (v1170 : IVec S16 32) (k0_hw243 : k0_chk243 v659 v1170), ∀ a x, ((![v659, v1170] : Fin 2 → IVec S16 32) a x).toNat < S128x128.size a := fun v659 v1170 k0_hw243 => k0_hw243

def k0_chk244 (v648 : IVec S16 32) (v1174 : IVec S16 32) : Prop :=
  (∀ a x, ((![v648, v1174] : Fin 2 → IVec S16 32) a x).toNat < S128x128.size a)
theorem k0_idx244_inb : ∀ (v648 : IVec S16 32) (v1174 : IVec S16 32) (k0_hw244 : k0_chk244 v648 v1174), ∀ a x, ((![v648, v1174] : Fin 2 → IVec S16 32) a x).toNat < S128x128.size a := fun v648 v1174 k0_hw244 => k0_hw244

def k0_chk245 (v659 : IVec S16 32) (v1179 : IVec S16 32) : Prop :=
  (∀ a x, ((![v659, v1179] : Fin 2 → IVec S16 32) a x).toNat < S128x128.size a)
theorem k0_idx245_inb : ∀ (v659 : IVec S16 32) (v1179 : IVec S16 32) (k0_hw245 : k0_chk245 v659 v1179), ∀ a x, ((![v659, v1179] : Fin 2 → IVec S16 32) a x).toNat < S128x128.size a := fun v659 v1179 k0_hw245 => k0_hw245

def k0_chk246 (v648 : IVec S16 32) (v1183 : IVec S16 32) : Prop :=
  (∀ a x, ((![v648, v1183] : Fin 2 → IVec S16 32) a x).toNat < S128x128.size a)
theorem k0_idx246_inb : ∀ (v648 : IVec S16 32) (v1183 : IVec S16 32) (k0_hw246 : k0_chk246 v648 v1183), ∀ a x, ((![v648, v1183] : Fin 2 → IVec S16 32) a x).toNat < S128x128.size a := fun v648 v1183 k0_hw246 => k0_hw246

def k0_chk247 (v659 : IVec S16 32) (v1188 : IVec S16 32) : Prop :=
  (∀ a x, ((![v659, v1188] : Fin 2 → IVec S16 32) a x).toNat < S128x128.size a)
theorem k0_idx247_inb : ∀ (v659 : IVec S16 32) (v1188 : IVec S16 32) (k0_hw247 : k0_chk247 v659 v1188), ∀ a x, ((![v659, v1188] : Fin 2 → IVec S16 32) a x).toNat < S128x128.size a := fun v659 v1188 k0_hw247 => k0_hw247

def k0_chk248 (v648 : IVec S16 32) (v1192 : IVec S16 32) : Prop :=
  (∀ a x, ((![v648, v1192] : Fin 2 → IVec S16 32) a x).toNat < S128x128.size a)
theorem k0_idx248_inb : ∀ (v648 : IVec S16 32) (v1192 : IVec S16 32) (k0_hw248 : k0_chk248 v648 v1192), ∀ a x, ((![v648, v1192] : Fin 2 → IVec S16 32) a x).toNat < S128x128.size a := fun v648 v1192 k0_hw248 => k0_hw248

def k0_chk249 (v659 : IVec S16 32) (v1197 : IVec S16 32) : Prop :=
  (∀ a x, ((![v659, v1197] : Fin 2 → IVec S16 32) a x).toNat < S128x128.size a)
theorem k0_idx249_inb : ∀ (v659 : IVec S16 32) (v1197 : IVec S16 32) (k0_hw249 : k0_chk249 v659 v1197), ∀ a x, ((![v659, v1197] : Fin 2 → IVec S16 32) a x).toNat < S128x128.size a := fun v659 v1197 k0_hw249 => k0_hw249

def k0_chk250 (v648 : IVec S16 32) (v1201 : IVec S16 32) : Prop :=
  (∀ a x, ((![v648, v1201] : Fin 2 → IVec S16 32) a x).toNat < S128x128.size a)
theorem k0_idx250_inb : ∀ (v648 : IVec S16 32) (v1201 : IVec S16 32) (k0_hw250 : k0_chk250 v648 v1201), ∀ a x, ((![v648, v1201] : Fin 2 → IVec S16 32) a x).toNat < S128x128.size a := fun v648 v1201 k0_hw250 => k0_hw250

def k0_chk251 (v659 : IVec S16 32) (v1206 : IVec S16 32) : Prop :=
  (∀ a x, ((![v659, v1206] : Fin 2 → IVec S16 32) a x).toNat < S128x128.size a)
theorem k0_idx251_inb : ∀ (v659 : IVec S16 32) (v1206 : IVec S16 32) (k0_hw251 : k0_chk251 v659 v1206), ∀ a x, ((![v659, v1206] : Fin 2 → IVec S16 32) a x).toNat < S128x128.size a := fun v659 v1206 k0_hw251 => k0_hw251

def k0_chk252 (v648 : IVec S16 32) (v1210 : IVec S16 32) : Prop :=
  (∀ a x, ((![v648, v1210] : Fin 2 → IVec S16 32) a x).toNat < S128x128.size a)
theorem k0_idx252_inb : ∀ (v648 : IVec S16 32) (v1210 : IVec S16 32) (k0_hw252 : k0_chk252 v648 v1210), ∀ a x, ((![v648, v1210] : Fin 2 → IVec S16 32) a x).toNat < S128x128.size a := fun v648 v1210 k0_hw252 => k0_hw252

def k0_chk253 (v659 : IVec S16 32) (v1215 : IVec S16 32) : Prop :=
  (∀ a x, ((![v659, v1215] : Fin 2 → IVec S16 32) a x).toNat < S128x128.size a)
theorem k0_idx253_inb : ∀ (v659 : IVec S16 32) (v1215 : IVec S16 32) (k0_hw253 : k0_chk253 v659 v1215), ∀ a x, ((![v659, v1215] : Fin 2 → IVec S16 32) a x).toNat < S128x128.size a := fun v659 v1215 k0_hw253 => k0_hw253

def k0_chk254 (v648 : IVec S16 32) (v1219 : IVec S16 32) : Prop :=
  (∀ a x, ((![v648, v1219] : Fin 2 → IVec S16 32) a x).toNat < S128x128.size a)
theorem k0_idx254_inb : ∀ (v648 : IVec S16 32) (v1219 : IVec S16 32) (k0_hw254 : k0_chk254 v648 v1219), ∀ a x, ((![v648, v1219] : Fin 2 → IVec S16 32) a x).toNat < S128x128.size a := fun v648 v1219 k0_hw254 => k0_hw254

def k0_chk255 (v659 : IVec S16 32) (v1224 : IVec S16 32) : Prop :=
  (∀ a x, ((![v659, v1224] : Fin 2 → IVec S16 32) a x).toNat < S128x128.size a)
theorem k0_idx255_inb : ∀ (v659 : IVec S16 32) (v1224 : IVec S16 32) (k0_hw255 : k0_chk255 v659 v1224), ∀ a x, ((![v659, v1224] : Fin 2 → IVec S16 32) a x).toNat < S128x128.size a := fun v659 v1224 k0_hw255 => k0_hw255

def k0_chk256 (v648 : IVec S16 32) (v1228 : IVec S16 32) : Prop :=
  (∀ a x, ((![v648, v1228] : Fin 2 → IVec S16 32) a x).toNat < S128x128.size a)
theorem k0_idx256_inb : ∀ (v648 : IVec S16 32) (v1228 : IVec S16 32) (k0_hw256 : k0_chk256 v648 v1228), ∀ a x, ((![v648, v1228] : Fin 2 → IVec S16 32) a x).toNat < S128x128.size a := fun v648 v1228 k0_hw256 => k0_hw256

def k0_chk257 (v659 : IVec S16 32) (v1233 : IVec S16 32) : Prop :=
  (∀ a x, ((![v659, v1233] : Fin 2 → IVec S16 32) a x).toNat < S128x128.size a)
theorem k0_idx257_inb : ∀ (v659 : IVec S16 32) (v1233 : IVec S16 32) (k0_hw257 : k0_chk257 v659 v1233), ∀ a x, ((![v659, v1233] : Fin 2 → IVec S16 32) a x).toNat < S128x128.size a := fun v659 v1233 k0_hw257 => k0_hw257
def k0_mult8 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v3 : BitVec 32 := Scalar.muli v1 c16384_i32
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c1_i32_251 : BitVec 32 := 1#32
  let v511 : BitVec 32 := Scalar.addi v429 c1_i32_251
  let c128_i32_252 : BitVec 32 := 128#32
  let v512 : BitVec 32 := Scalar.muli v511 c128_i32_252
  let v513 : BitVec 32 := Scalar.addi v3 v512
  let c0_i32_254 : BitVec 32 := 0#32
  let v515 : BitVec 1 := Scalar.cmpi .sgt v513 c0_i32_254
  let v516 : BitVec 32 := Scalar.extui v515
  let c0_i32_255 : BitVec 32 := 0#32
  let v517 : BitVec 1 := Scalar.cmpi .slt v513 c0_i32_255
  let v518 : BitVec 32 := Scalar.extui v517
  let v519 : BitVec 32 := Scalar.subi v516 v518
  let c2_i32_253 : BitVec 32 := 2#32
  let c0_i32_256 : BitVec 32 := 0#32
  let v520 : BitVec 1 := Scalar.cmpi .sgt c2_i32_253 c0_i32_256
  let v521 : BitVec 32 := Scalar.extui v520
  let c0_i32_257 : BitVec 32 := 0#32
  let v522 : BitVec 1 := Scalar.cmpi .slt c2_i32_253 c0_i32_257
  let v523 : BitVec 32 := Scalar.extui v522
  let v524 : BitVec 32 := Scalar.subi v521 v523
  let v525 : BitVec 1 := Scalar.cmpi .ne v519 v524
  let v526 : BitVec 32 := Scalar.remsi v513 c2_i32_253
  let c0_i32_258 : BitVec 32 := 0#32
  let v527 : BitVec 1 := Scalar.cmpi .ne v526 c0_i32_258
  let v528 : BitVec 1 := Scalar.andi v525 v527
  let v514 : BitVec 32 := Scalar.divsi v513 c2_i32_253
  let c1_i32_259 : BitVec 32 := 1#32
  let v529 : BitVec 32 := Scalar.subi v514 c1_i32_259
  let v530 : BitVec 32 := Scalar.select v528 v529 v514
  v530
@[reducible] def k0_t5_loop : Scf.Loop 32 :=
  let c0_i32_280 : BitVec 32 := 0#32
  let c8_i32_281 : BitVec 32 := 8#32
  let v547 : BitVec 32 := Scalar.addi c0_i32_280 c8_i32_281
  let c1_i32_282 : BitVec 32 := 1#32
  ⟨c0_i32_280, v547, c1_i32_282⟩
def k0_mult9 (k0_t2 : Fin k0_t2_loop.trips) (k0_t5 : Fin k0_t5_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c2_i32_277 : BitVec 32 := 2#32
  let v546 : BitVec 32 := Scalar.addi v429 c2_i32_277
  let c128_i32_382 : BitVec 32 := 128#32
  let v649 : BitVec 32 := Scalar.muli v546 c128_i32_382
  let c0_i32_280 : BitVec 32 := 0#32
  let c1_i32_282 : BitVec 32 := 1#32
  let arg13 : BitVec 32 := Scf.iv c0_i32_280 c1_i32_282 k0_t5
  let c16_i32_383 : BitVec 32 := 16#32
  let v650 : BitVec 32 := Scalar.muli arg13 c16_i32_383
  let v651 : BitVec 32 := Scalar.addi v649 v650
  v651
def k0_off7 (k0_t2 : Fin k0_t2_loop.trips) (k0_t5 : Fin k0_t5_loop.trips) : Fin 1 → Nat :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c2_i32_277 : BitVec 32 := 2#32
  let v546 : BitVec 32 := Scalar.addi v429 c2_i32_277
  let c128_i32_382 : BitVec 32 := 128#32
  let v649 : BitVec 32 := Scalar.muli v546 c128_i32_382
  let c0_i32_280 : BitVec 32 := 0#32
  let c1_i32_282 : BitVec 32 := 1#32
  let arg13 : BitVec 32 := Scf.iv c0_i32_280 c1_i32_282 k0_t5
  let c16_i32_383 : BitVec 32 := 16#32
  let v650 : BitVec 32 := Scalar.muli arg13 c16_i32_383
  let v651 : BitVec 32 := Scalar.addi v649 v650
  let v652 : BitVec 32 := v651
  let v653 : Index := Scalar.indexCast v652
  ![v653.toNat]

def k0_chk258 (v648 : IVec S16 32) (v661 : IVec S16 32) : Prop :=
  (∀ a x, ((![v648, v661] : Fin 2 → IVec S16 32) a x).toNat < S128x128.size a)
theorem k0_idx258_inb : ∀ (v648 : IVec S16 32) (v661 : IVec S16 32) (k0_hw258 : k0_chk258 v648 v661), ∀ a x, ((![v648, v661] : Fin 2 → IVec S16 32) a x).toNat < S128x128.size a := fun v648 v661 k0_hw258 => k0_hw258

def k0_chk259 (v659 : IVec S16 32) (v666 : IVec S16 32) : Prop :=
  (∀ a x, ((![v659, v666] : Fin 2 → IVec S16 32) a x).toNat < S128x128.size a)
theorem k0_idx259_inb : ∀ (v659 : IVec S16 32) (v666 : IVec S16 32) (k0_hw259 : k0_chk259 v659 v666), ∀ a x, ((![v659, v666] : Fin 2 → IVec S16 32) a x).toNat < S128x128.size a := fun v659 v666 k0_hw259 => k0_hw259

def k0_chk260 (v648 : IVec S16 32) (v670 : IVec S16 32) : Prop :=
  (∀ a x, ((![v648, v670] : Fin 2 → IVec S16 32) a x).toNat < S128x128.size a)
theorem k0_idx260_inb : ∀ (v648 : IVec S16 32) (v670 : IVec S16 32) (k0_hw260 : k0_chk260 v648 v670), ∀ a x, ((![v648, v670] : Fin 2 → IVec S16 32) a x).toNat < S128x128.size a := fun v648 v670 k0_hw260 => k0_hw260

def k0_chk261 (v659 : IVec S16 32) (v675 : IVec S16 32) : Prop :=
  (∀ a x, ((![v659, v675] : Fin 2 → IVec S16 32) a x).toNat < S128x128.size a)
theorem k0_idx261_inb : ∀ (v659 : IVec S16 32) (v675 : IVec S16 32) (k0_hw261 : k0_chk261 v659 v675), ∀ a x, ((![v659, v675] : Fin 2 → IVec S16 32) a x).toNat < S128x128.size a := fun v659 v675 k0_hw261 => k0_hw261

def k0_chk262 (v648 : IVec S16 32) (v679 : IVec S16 32) : Prop :=
  (∀ a x, ((![v648, v679] : Fin 2 → IVec S16 32) a x).toNat < S128x128.size a)
theorem k0_idx262_inb : ∀ (v648 : IVec S16 32) (v679 : IVec S16 32) (k0_hw262 : k0_chk262 v648 v679), ∀ a x, ((![v648, v679] : Fin 2 → IVec S16 32) a x).toNat < S128x128.size a := fun v648 v679 k0_hw262 => k0_hw262

def k0_chk263 (v659 : IVec S16 32) (v684 : IVec S16 32) : Prop :=
  (∀ a x, ((![v659, v684] : Fin 2 → IVec S16 32) a x).toNat < S128x128.size a)
theorem k0_idx263_inb : ∀ (v659 : IVec S16 32) (v684 : IVec S16 32) (k0_hw263 : k0_chk263 v659 v684), ∀ a x, ((![v659, v684] : Fin 2 → IVec S16 32) a x).toNat < S128x128.size a := fun v659 v684 k0_hw263 => k0_hw263

def k0_chk264 (v648 : IVec S16 32) (v688 : IVec S16 32) : Prop :=
  (∀ a x, ((![v648, v688] : Fin 2 → IVec S16 32) a x).toNat < S128x128.size a)
theorem k0_idx264_inb : ∀ (v648 : IVec S16 32) (v688 : IVec S16 32) (k0_hw264 : k0_chk264 v648 v688), ∀ a x, ((![v648, v688] : Fin 2 → IVec S16 32) a x).toNat < S128x128.size a := fun v648 v688 k0_hw264 => k0_hw264

def k0_chk265 (v659 : IVec S16 32) (v693 : IVec S16 32) : Prop :=
  (∀ a x, ((![v659, v693] : Fin 2 → IVec S16 32) a x).toNat < S128x128.size a)
theorem k0_idx265_inb : ∀ (v659 : IVec S16 32) (v693 : IVec S16 32) (k0_hw265 : k0_chk265 v659 v693), ∀ a x, ((![v659, v693] : Fin 2 → IVec S16 32) a x).toNat < S128x128.size a := fun v659 v693 k0_hw265 => k0_hw265

def k0_chk266 (v648 : IVec S16 32) (v697 : IVec S16 32) : Prop :=
  (∀ a x, ((![v648, v697] : Fin 2 → IVec S16 32) a x).toNat < S128x128.size a)
theorem k0_idx266_inb : ∀ (v648 : IVec S16 32) (v697 : IVec S16 32) (k0_hw266 : k0_chk266 v648 v697), ∀ a x, ((![v648, v697] : Fin 2 → IVec S16 32) a x).toNat < S128x128.size a := fun v648 v697 k0_hw266 => k0_hw266

def k0_chk267 (v659 : IVec S16 32) (v702 : IVec S16 32) : Prop :=
  (∀ a x, ((![v659, v702] : Fin 2 → IVec S16 32) a x).toNat < S128x128.size a)
theorem k0_idx267_inb : ∀ (v659 : IVec S16 32) (v702 : IVec S16 32) (k0_hw267 : k0_chk267 v659 v702), ∀ a x, ((![v659, v702] : Fin 2 → IVec S16 32) a x).toNat < S128x128.size a := fun v659 v702 k0_hw267 => k0_hw267

def k0_chk268 (v648 : IVec S16 32) (v706 : IVec S16 32) : Prop :=
  (∀ a x, ((![v648, v706] : Fin 2 → IVec S16 32) a x).toNat < S128x128.size a)
theorem k0_idx268_inb : ∀ (v648 : IVec S16 32) (v706 : IVec S16 32) (k0_hw268 : k0_chk268 v648 v706), ∀ a x, ((![v648, v706] : Fin 2 → IVec S16 32) a x).toNat < S128x128.size a := fun v648 v706 k0_hw268 => k0_hw268

def k0_chk269 (v659 : IVec S16 32) (v711 : IVec S16 32) : Prop :=
  (∀ a x, ((![v659, v711] : Fin 2 → IVec S16 32) a x).toNat < S128x128.size a)
theorem k0_idx269_inb : ∀ (v659 : IVec S16 32) (v711 : IVec S16 32) (k0_hw269 : k0_chk269 v659 v711), ∀ a x, ((![v659, v711] : Fin 2 → IVec S16 32) a x).toNat < S128x128.size a := fun v659 v711 k0_hw269 => k0_hw269

def k0_chk270 (v648 : IVec S16 32) (v715 : IVec S16 32) : Prop :=
  (∀ a x, ((![v648, v715] : Fin 2 → IVec S16 32) a x).toNat < S128x128.size a)
theorem k0_idx270_inb : ∀ (v648 : IVec S16 32) (v715 : IVec S16 32) (k0_hw270 : k0_chk270 v648 v715), ∀ a x, ((![v648, v715] : Fin 2 → IVec S16 32) a x).toNat < S128x128.size a := fun v648 v715 k0_hw270 => k0_hw270

def k0_chk271 (v659 : IVec S16 32) (v720 : IVec S16 32) : Prop :=
  (∀ a x, ((![v659, v720] : Fin 2 → IVec S16 32) a x).toNat < S128x128.size a)
theorem k0_idx271_inb : ∀ (v659 : IVec S16 32) (v720 : IVec S16 32) (k0_hw271 : k0_chk271 v659 v720), ∀ a x, ((![v659, v720] : Fin 2 → IVec S16 32) a x).toNat < S128x128.size a := fun v659 v720 k0_hw271 => k0_hw271

def k0_chk272 (v648 : IVec S16 32) (v724 : IVec S16 32) : Prop :=
  (∀ a x, ((![v648, v724] : Fin 2 → IVec S16 32) a x).toNat < S128x128.size a)
theorem k0_idx272_inb : ∀ (v648 : IVec S16 32) (v724 : IVec S16 32) (k0_hw272 : k0_chk272 v648 v724), ∀ a x, ((![v648, v724] : Fin 2 → IVec S16 32) a x).toNat < S128x128.size a := fun v648 v724 k0_hw272 => k0_hw272

def k0_chk273 (v659 : IVec S16 32) (v729 : IVec S16 32) : Prop :=
  (∀ a x, ((![v659, v729] : Fin 2 → IVec S16 32) a x).toNat < S128x128.size a)
theorem k0_idx273_inb : ∀ (v659 : IVec S16 32) (v729 : IVec S16 32) (k0_hw273 : k0_chk273 v659 v729), ∀ a x, ((![v659, v729] : Fin 2 → IVec S16 32) a x).toNat < S128x128.size a := fun v659 v729 k0_hw273 => k0_hw273

def k0_chk274 (v648 : IVec S16 32) (v733 : IVec S16 32) : Prop :=
  (∀ a x, ((![v648, v733] : Fin 2 → IVec S16 32) a x).toNat < S128x128.size a)
theorem k0_idx274_inb : ∀ (v648 : IVec S16 32) (v733 : IVec S16 32) (k0_hw274 : k0_chk274 v648 v733), ∀ a x, ((![v648, v733] : Fin 2 → IVec S16 32) a x).toNat < S128x128.size a := fun v648 v733 k0_hw274 => k0_hw274

def k0_chk275 (v659 : IVec S16 32) (v738 : IVec S16 32) : Prop :=
  (∀ a x, ((![v659, v738] : Fin 2 → IVec S16 32) a x).toNat < S128x128.size a)
theorem k0_idx275_inb : ∀ (v659 : IVec S16 32) (v738 : IVec S16 32) (k0_hw275 : k0_chk275 v659 v738), ∀ a x, ((![v659, v738] : Fin 2 → IVec S16 32) a x).toNat < S128x128.size a := fun v659 v738 k0_hw275 => k0_hw275

def k0_chk276 (v648 : IVec S16 32) (v742 : IVec S16 32) : Prop :=
  (∀ a x, ((![v648, v742] : Fin 2 → IVec S16 32) a x).toNat < S128x128.size a)
theorem k0_idx276_inb : ∀ (v648 : IVec S16 32) (v742 : IVec S16 32) (k0_hw276 : k0_chk276 v648 v742), ∀ a x, ((![v648, v742] : Fin 2 → IVec S16 32) a x).toNat < S128x128.size a := fun v648 v742 k0_hw276 => k0_hw276

def k0_chk277 (v659 : IVec S16 32) (v747 : IVec S16 32) : Prop :=
  (∀ a x, ((![v659, v747] : Fin 2 → IVec S16 32) a x).toNat < S128x128.size a)
theorem k0_idx277_inb : ∀ (v659 : IVec S16 32) (v747 : IVec S16 32) (k0_hw277 : k0_chk277 v659 v747), ∀ a x, ((![v659, v747] : Fin 2 → IVec S16 32) a x).toNat < S128x128.size a := fun v659 v747 k0_hw277 => k0_hw277

def k0_chk278 (v648 : IVec S16 32) (v751 : IVec S16 32) : Prop :=
  (∀ a x, ((![v648, v751] : Fin 2 → IVec S16 32) a x).toNat < S128x128.size a)
theorem k0_idx278_inb : ∀ (v648 : IVec S16 32) (v751 : IVec S16 32) (k0_hw278 : k0_chk278 v648 v751), ∀ a x, ((![v648, v751] : Fin 2 → IVec S16 32) a x).toNat < S128x128.size a := fun v648 v751 k0_hw278 => k0_hw278

def k0_chk279 (v659 : IVec S16 32) (v756 : IVec S16 32) : Prop :=
  (∀ a x, ((![v659, v756] : Fin 2 → IVec S16 32) a x).toNat < S128x128.size a)
theorem k0_idx279_inb : ∀ (v659 : IVec S16 32) (v756 : IVec S16 32) (k0_hw279 : k0_chk279 v659 v756), ∀ a x, ((![v659, v756] : Fin 2 → IVec S16 32) a x).toNat < S128x128.size a := fun v659 v756 k0_hw279 => k0_hw279

def k0_chk280 (v648 : IVec S16 32) (v760 : IVec S16 32) : Prop :=
  (∀ a x, ((![v648, v760] : Fin 2 → IVec S16 32) a x).toNat < S128x128.size a)
theorem k0_idx280_inb : ∀ (v648 : IVec S16 32) (v760 : IVec S16 32) (k0_hw280 : k0_chk280 v648 v760), ∀ a x, ((![v648, v760] : Fin 2 → IVec S16 32) a x).toNat < S128x128.size a := fun v648 v760 k0_hw280 => k0_hw280

def k0_chk281 (v659 : IVec S16 32) (v765 : IVec S16 32) : Prop :=
  (∀ a x, ((![v659, v765] : Fin 2 → IVec S16 32) a x).toNat < S128x128.size a)
theorem k0_idx281_inb : ∀ (v659 : IVec S16 32) (v765 : IVec S16 32) (k0_hw281 : k0_chk281 v659 v765), ∀ a x, ((![v659, v765] : Fin 2 → IVec S16 32) a x).toNat < S128x128.size a := fun v659 v765 k0_hw281 => k0_hw281

def k0_chk282 (v648 : IVec S16 32) (v769 : IVec S16 32) : Prop :=
  (∀ a x, ((![v648, v769] : Fin 2 → IVec S16 32) a x).toNat < S128x128.size a)
theorem k0_idx282_inb : ∀ (v648 : IVec S16 32) (v769 : IVec S16 32) (k0_hw282 : k0_chk282 v648 v769), ∀ a x, ((![v648, v769] : Fin 2 → IVec S16 32) a x).toNat < S128x128.size a := fun v648 v769 k0_hw282 => k0_hw282

def k0_chk283 (v659 : IVec S16 32) (v774 : IVec S16 32) : Prop :=
  (∀ a x, ((![v659, v774] : Fin 2 → IVec S16 32) a x).toNat < S128x128.size a)
theorem k0_idx283_inb : ∀ (v659 : IVec S16 32) (v774 : IVec S16 32) (k0_hw283 : k0_chk283 v659 v774), ∀ a x, ((![v659, v774] : Fin 2 → IVec S16 32) a x).toNat < S128x128.size a := fun v659 v774 k0_hw283 => k0_hw283

def k0_chk284 (v648 : IVec S16 32) (v778 : IVec S16 32) : Prop :=
  (∀ a x, ((![v648, v778] : Fin 2 → IVec S16 32) a x).toNat < S128x128.size a)
theorem k0_idx284_inb : ∀ (v648 : IVec S16 32) (v778 : IVec S16 32) (k0_hw284 : k0_chk284 v648 v778), ∀ a x, ((![v648, v778] : Fin 2 → IVec S16 32) a x).toNat < S128x128.size a := fun v648 v778 k0_hw284 => k0_hw284

def k0_chk285 (v659 : IVec S16 32) (v783 : IVec S16 32) : Prop :=
  (∀ a x, ((![v659, v783] : Fin 2 → IVec S16 32) a x).toNat < S128x128.size a)
theorem k0_idx285_inb : ∀ (v659 : IVec S16 32) (v783 : IVec S16 32) (k0_hw285 : k0_chk285 v659 v783), ∀ a x, ((![v659, v783] : Fin 2 → IVec S16 32) a x).toNat < S128x128.size a := fun v659 v783 k0_hw285 => k0_hw285

def k0_chk286 (v648 : IVec S16 32) (v787 : IVec S16 32) : Prop :=
  (∀ a x, ((![v648, v787] : Fin 2 → IVec S16 32) a x).toNat < S128x128.size a)
theorem k0_idx286_inb : ∀ (v648 : IVec S16 32) (v787 : IVec S16 32) (k0_hw286 : k0_chk286 v648 v787), ∀ a x, ((![v648, v787] : Fin 2 → IVec S16 32) a x).toNat < S128x128.size a := fun v648 v787 k0_hw286 => k0_hw286

def k0_chk287 (v659 : IVec S16 32) (v792 : IVec S16 32) : Prop :=
  (∀ a x, ((![v659, v792] : Fin 2 → IVec S16 32) a x).toNat < S128x128.size a)
theorem k0_idx287_inb : ∀ (v659 : IVec S16 32) (v792 : IVec S16 32) (k0_hw287 : k0_chk287 v659 v792), ∀ a x, ((![v659, v792] : Fin 2 → IVec S16 32) a x).toNat < S128x128.size a := fun v659 v792 k0_hw287 => k0_hw287

def k0_chk288 (v648 : IVec S16 32) (v796 : IVec S16 32) : Prop :=
  (∀ a x, ((![v648, v796] : Fin 2 → IVec S16 32) a x).toNat < S128x128.size a)
theorem k0_idx288_inb : ∀ (v648 : IVec S16 32) (v796 : IVec S16 32) (k0_hw288 : k0_chk288 v648 v796), ∀ a x, ((![v648, v796] : Fin 2 → IVec S16 32) a x).toNat < S128x128.size a := fun v648 v796 k0_hw288 => k0_hw288

def k0_chk289 (v659 : IVec S16 32) (v801 : IVec S16 32) : Prop :=
  (∀ a x, ((![v659, v801] : Fin 2 → IVec S16 32) a x).toNat < S128x128.size a)
theorem k0_idx289_inb : ∀ (v659 : IVec S16 32) (v801 : IVec S16 32) (k0_hw289 : k0_chk289 v659 v801), ∀ a x, ((![v659, v801] : Fin 2 → IVec S16 32) a x).toNat < S128x128.size a := fun v659 v801 k0_hw289 => k0_hw289

def k0_chk290 (v648 : IVec S16 32) (v805 : IVec S16 32) : Prop :=
  (∀ a x, ((![v648, v805] : Fin 2 → IVec S16 32) a x).toNat < S128x128.size a)
theorem k0_idx290_inb : ∀ (v648 : IVec S16 32) (v805 : IVec S16 32) (k0_hw290 : k0_chk290 v648 v805), ∀ a x, ((![v648, v805] : Fin 2 → IVec S16 32) a x).toNat < S128x128.size a := fun v648 v805 k0_hw290 => k0_hw290

def k0_chk291 (v659 : IVec S16 32) (v810 : IVec S16 32) : Prop :=
  (∀ a x, ((![v659, v810] : Fin 2 → IVec S16 32) a x).toNat < S128x128.size a)
theorem k0_idx291_inb : ∀ (v659 : IVec S16 32) (v810 : IVec S16 32) (k0_hw291 : k0_chk291 v659 v810), ∀ a x, ((![v659, v810] : Fin 2 → IVec S16 32) a x).toNat < S128x128.size a := fun v659 v810 k0_hw291 => k0_hw291

def k0_chk292 (v648 : IVec S16 32) (v814 : IVec S16 32) : Prop :=
  (∀ a x, ((![v648, v814] : Fin 2 → IVec S16 32) a x).toNat < S128x128.size a)
theorem k0_idx292_inb : ∀ (v648 : IVec S16 32) (v814 : IVec S16 32) (k0_hw292 : k0_chk292 v648 v814), ∀ a x, ((![v648, v814] : Fin 2 → IVec S16 32) a x).toNat < S128x128.size a := fun v648 v814 k0_hw292 => k0_hw292

def k0_chk293 (v659 : IVec S16 32) (v819 : IVec S16 32) : Prop :=
  (∀ a x, ((![v659, v819] : Fin 2 → IVec S16 32) a x).toNat < S128x128.size a)
theorem k0_idx293_inb : ∀ (v659 : IVec S16 32) (v819 : IVec S16 32) (k0_hw293 : k0_chk293 v659 v819), ∀ a x, ((![v659, v819] : Fin 2 → IVec S16 32) a x).toNat < S128x128.size a := fun v659 v819 k0_hw293 => k0_hw293

def k0_chk294 (v648 : IVec S16 32) (v823 : IVec S16 32) : Prop :=
  (∀ a x, ((![v648, v823] : Fin 2 → IVec S16 32) a x).toNat < S128x128.size a)
theorem k0_idx294_inb : ∀ (v648 : IVec S16 32) (v823 : IVec S16 32) (k0_hw294 : k0_chk294 v648 v823), ∀ a x, ((![v648, v823] : Fin 2 → IVec S16 32) a x).toNat < S128x128.size a := fun v648 v823 k0_hw294 => k0_hw294

def k0_chk295 (v659 : IVec S16 32) (v828 : IVec S16 32) : Prop :=
  (∀ a x, ((![v659, v828] : Fin 2 → IVec S16 32) a x).toNat < S128x128.size a)
theorem k0_idx295_inb : ∀ (v659 : IVec S16 32) (v828 : IVec S16 32) (k0_hw295 : k0_chk295 v659 v828), ∀ a x, ((![v659, v828] : Fin 2 → IVec S16 32) a x).toNat < S128x128.size a := fun v659 v828 k0_hw295 => k0_hw295

def k0_chk296 (v648 : IVec S16 32) (v832 : IVec S16 32) : Prop :=
  (∀ a x, ((![v648, v832] : Fin 2 → IVec S16 32) a x).toNat < S128x128.size a)
theorem k0_idx296_inb : ∀ (v648 : IVec S16 32) (v832 : IVec S16 32) (k0_hw296 : k0_chk296 v648 v832), ∀ a x, ((![v648, v832] : Fin 2 → IVec S16 32) a x).toNat < S128x128.size a := fun v648 v832 k0_hw296 => k0_hw296

def k0_chk297 (v659 : IVec S16 32) (v837 : IVec S16 32) : Prop :=
  (∀ a x, ((![v659, v837] : Fin 2 → IVec S16 32) a x).toNat < S128x128.size a)
theorem k0_idx297_inb : ∀ (v659 : IVec S16 32) (v837 : IVec S16 32) (k0_hw297 : k0_chk297 v659 v837), ∀ a x, ((![v659, v837] : Fin 2 → IVec S16 32) a x).toNat < S128x128.size a := fun v659 v837 k0_hw297 => k0_hw297

def k0_chk298 (v648 : IVec S16 32) (v841 : IVec S16 32) : Prop :=
  (∀ a x, ((![v648, v841] : Fin 2 → IVec S16 32) a x).toNat < S128x128.size a)
theorem k0_idx298_inb : ∀ (v648 : IVec S16 32) (v841 : IVec S16 32) (k0_hw298 : k0_chk298 v648 v841), ∀ a x, ((![v648, v841] : Fin 2 → IVec S16 32) a x).toNat < S128x128.size a := fun v648 v841 k0_hw298 => k0_hw298

def k0_chk299 (v659 : IVec S16 32) (v846 : IVec S16 32) : Prop :=
  (∀ a x, ((![v659, v846] : Fin 2 → IVec S16 32) a x).toNat < S128x128.size a)
theorem k0_idx299_inb : ∀ (v659 : IVec S16 32) (v846 : IVec S16 32) (k0_hw299 : k0_chk299 v659 v846), ∀ a x, ((![v659, v846] : Fin 2 → IVec S16 32) a x).toNat < S128x128.size a := fun v659 v846 k0_hw299 => k0_hw299

def k0_chk300 (v648 : IVec S16 32) (v850 : IVec S16 32) : Prop :=
  (∀ a x, ((![v648, v850] : Fin 2 → IVec S16 32) a x).toNat < S128x128.size a)
theorem k0_idx300_inb : ∀ (v648 : IVec S16 32) (v850 : IVec S16 32) (k0_hw300 : k0_chk300 v648 v850), ∀ a x, ((![v648, v850] : Fin 2 → IVec S16 32) a x).toNat < S128x128.size a := fun v648 v850 k0_hw300 => k0_hw300

def k0_chk301 (v659 : IVec S16 32) (v855 : IVec S16 32) : Prop :=
  (∀ a x, ((![v659, v855] : Fin 2 → IVec S16 32) a x).toNat < S128x128.size a)
theorem k0_idx301_inb : ∀ (v659 : IVec S16 32) (v855 : IVec S16 32) (k0_hw301 : k0_chk301 v659 v855), ∀ a x, ((![v659, v855] : Fin 2 → IVec S16 32) a x).toNat < S128x128.size a := fun v659 v855 k0_hw301 => k0_hw301

def k0_chk302 (v648 : IVec S16 32) (v859 : IVec S16 32) : Prop :=
  (∀ a x, ((![v648, v859] : Fin 2 → IVec S16 32) a x).toNat < S128x128.size a)
theorem k0_idx302_inb : ∀ (v648 : IVec S16 32) (v859 : IVec S16 32) (k0_hw302 : k0_chk302 v648 v859), ∀ a x, ((![v648, v859] : Fin 2 → IVec S16 32) a x).toNat < S128x128.size a := fun v648 v859 k0_hw302 => k0_hw302

def k0_chk303 (v659 : IVec S16 32) (v864 : IVec S16 32) : Prop :=
  (∀ a x, ((![v659, v864] : Fin 2 → IVec S16 32) a x).toNat < S128x128.size a)
theorem k0_idx303_inb : ∀ (v659 : IVec S16 32) (v864 : IVec S16 32) (k0_hw303 : k0_chk303 v659 v864), ∀ a x, ((![v659, v864] : Fin 2 → IVec S16 32) a x).toNat < S128x128.size a := fun v659 v864 k0_hw303 => k0_hw303

def k0_chk304 (v648 : IVec S16 32) (v868 : IVec S16 32) : Prop :=
  (∀ a x, ((![v648, v868] : Fin 2 → IVec S16 32) a x).toNat < S128x128.size a)
theorem k0_idx304_inb : ∀ (v648 : IVec S16 32) (v868 : IVec S16 32) (k0_hw304 : k0_chk304 v648 v868), ∀ a x, ((![v648, v868] : Fin 2 → IVec S16 32) a x).toNat < S128x128.size a := fun v648 v868 k0_hw304 => k0_hw304

def k0_chk305 (v659 : IVec S16 32) (v873 : IVec S16 32) : Prop :=
  (∀ a x, ((![v659, v873] : Fin 2 → IVec S16 32) a x).toNat < S128x128.size a)
theorem k0_idx305_inb : ∀ (v659 : IVec S16 32) (v873 : IVec S16 32) (k0_hw305 : k0_chk305 v659 v873), ∀ a x, ((![v659, v873] : Fin 2 → IVec S16 32) a x).toNat < S128x128.size a := fun v659 v873 k0_hw305 => k0_hw305

def k0_chk306 (v648 : IVec S16 32) (v877 : IVec S16 32) : Prop :=
  (∀ a x, ((![v648, v877] : Fin 2 → IVec S16 32) a x).toNat < S128x128.size a)
theorem k0_idx306_inb : ∀ (v648 : IVec S16 32) (v877 : IVec S16 32) (k0_hw306 : k0_chk306 v648 v877), ∀ a x, ((![v648, v877] : Fin 2 → IVec S16 32) a x).toNat < S128x128.size a := fun v648 v877 k0_hw306 => k0_hw306

def k0_chk307 (v659 : IVec S16 32) (v882 : IVec S16 32) : Prop :=
  (∀ a x, ((![v659, v882] : Fin 2 → IVec S16 32) a x).toNat < S128x128.size a)
theorem k0_idx307_inb : ∀ (v659 : IVec S16 32) (v882 : IVec S16 32) (k0_hw307 : k0_chk307 v659 v882), ∀ a x, ((![v659, v882] : Fin 2 → IVec S16 32) a x).toNat < S128x128.size a := fun v659 v882 k0_hw307 => k0_hw307

def k0_chk308 (v648 : IVec S16 32) (v886 : IVec S16 32) : Prop :=
  (∀ a x, ((![v648, v886] : Fin 2 → IVec S16 32) a x).toNat < S128x128.size a)
theorem k0_idx308_inb : ∀ (v648 : IVec S16 32) (v886 : IVec S16 32) (k0_hw308 : k0_chk308 v648 v886), ∀ a x, ((![v648, v886] : Fin 2 → IVec S16 32) a x).toNat < S128x128.size a := fun v648 v886 k0_hw308 => k0_hw308

def k0_chk309 (v659 : IVec S16 32) (v891 : IVec S16 32) : Prop :=
  (∀ a x, ((![v659, v891] : Fin 2 → IVec S16 32) a x).toNat < S128x128.size a)
theorem k0_idx309_inb : ∀ (v659 : IVec S16 32) (v891 : IVec S16 32) (k0_hw309 : k0_chk309 v659 v891), ∀ a x, ((![v659, v891] : Fin 2 → IVec S16 32) a x).toNat < S128x128.size a := fun v659 v891 k0_hw309 => k0_hw309

def k0_chk310 (v648 : IVec S16 32) (v895 : IVec S16 32) : Prop :=
  (∀ a x, ((![v648, v895] : Fin 2 → IVec S16 32) a x).toNat < S128x128.size a)
theorem k0_idx310_inb : ∀ (v648 : IVec S16 32) (v895 : IVec S16 32) (k0_hw310 : k0_chk310 v648 v895), ∀ a x, ((![v648, v895] : Fin 2 → IVec S16 32) a x).toNat < S128x128.size a := fun v648 v895 k0_hw310 => k0_hw310

def k0_chk311 (v659 : IVec S16 32) (v900 : IVec S16 32) : Prop :=
  (∀ a x, ((![v659, v900] : Fin 2 → IVec S16 32) a x).toNat < S128x128.size a)
theorem k0_idx311_inb : ∀ (v659 : IVec S16 32) (v900 : IVec S16 32) (k0_hw311 : k0_chk311 v659 v900), ∀ a x, ((![v659, v900] : Fin 2 → IVec S16 32) a x).toNat < S128x128.size a := fun v659 v900 k0_hw311 => k0_hw311

def k0_chk312 (v648 : IVec S16 32) (v904 : IVec S16 32) : Prop :=
  (∀ a x, ((![v648, v904] : Fin 2 → IVec S16 32) a x).toNat < S128x128.size a)
theorem k0_idx312_inb : ∀ (v648 : IVec S16 32) (v904 : IVec S16 32) (k0_hw312 : k0_chk312 v648 v904), ∀ a x, ((![v648, v904] : Fin 2 → IVec S16 32) a x).toNat < S128x128.size a := fun v648 v904 k0_hw312 => k0_hw312

def k0_chk313 (v659 : IVec S16 32) (v909 : IVec S16 32) : Prop :=
  (∀ a x, ((![v659, v909] : Fin 2 → IVec S16 32) a x).toNat < S128x128.size a)
theorem k0_idx313_inb : ∀ (v659 : IVec S16 32) (v909 : IVec S16 32) (k0_hw313 : k0_chk313 v659 v909), ∀ a x, ((![v659, v909] : Fin 2 → IVec S16 32) a x).toNat < S128x128.size a := fun v659 v909 k0_hw313 => k0_hw313

def k0_chk314 (v648 : IVec S16 32) (v913 : IVec S16 32) : Prop :=
  (∀ a x, ((![v648, v913] : Fin 2 → IVec S16 32) a x).toNat < S128x128.size a)
theorem k0_idx314_inb : ∀ (v648 : IVec S16 32) (v913 : IVec S16 32) (k0_hw314 : k0_chk314 v648 v913), ∀ a x, ((![v648, v913] : Fin 2 → IVec S16 32) a x).toNat < S128x128.size a := fun v648 v913 k0_hw314 => k0_hw314

def k0_chk315 (v659 : IVec S16 32) (v918 : IVec S16 32) : Prop :=
  (∀ a x, ((![v659, v918] : Fin 2 → IVec S16 32) a x).toNat < S128x128.size a)
theorem k0_idx315_inb : ∀ (v659 : IVec S16 32) (v918 : IVec S16 32) (k0_hw315 : k0_chk315 v659 v918), ∀ a x, ((![v659, v918] : Fin 2 → IVec S16 32) a x).toNat < S128x128.size a := fun v659 v918 k0_hw315 => k0_hw315

def k0_chk316 (v648 : IVec S16 32) (v922 : IVec S16 32) : Prop :=
  (∀ a x, ((![v648, v922] : Fin 2 → IVec S16 32) a x).toNat < S128x128.size a)
theorem k0_idx316_inb : ∀ (v648 : IVec S16 32) (v922 : IVec S16 32) (k0_hw316 : k0_chk316 v648 v922), ∀ a x, ((![v648, v922] : Fin 2 → IVec S16 32) a x).toNat < S128x128.size a := fun v648 v922 k0_hw316 => k0_hw316

def k0_chk317 (v659 : IVec S16 32) (v927 : IVec S16 32) : Prop :=
  (∀ a x, ((![v659, v927] : Fin 2 → IVec S16 32) a x).toNat < S128x128.size a)
theorem k0_idx317_inb : ∀ (v659 : IVec S16 32) (v927 : IVec S16 32) (k0_hw317 : k0_chk317 v659 v927), ∀ a x, ((![v659, v927] : Fin 2 → IVec S16 32) a x).toNat < S128x128.size a := fun v659 v927 k0_hw317 => k0_hw317

def k0_chk318 (v648 : IVec S16 32) (v931 : IVec S16 32) : Prop :=
  (∀ a x, ((![v648, v931] : Fin 2 → IVec S16 32) a x).toNat < S128x128.size a)
theorem k0_idx318_inb : ∀ (v648 : IVec S16 32) (v931 : IVec S16 32) (k0_hw318 : k0_chk318 v648 v931), ∀ a x, ((![v648, v931] : Fin 2 → IVec S16 32) a x).toNat < S128x128.size a := fun v648 v931 k0_hw318 => k0_hw318

def k0_chk319 (v659 : IVec S16 32) (v936 : IVec S16 32) : Prop :=
  (∀ a x, ((![v659, v936] : Fin 2 → IVec S16 32) a x).toNat < S128x128.size a)
theorem k0_idx319_inb : ∀ (v659 : IVec S16 32) (v936 : IVec S16 32) (k0_hw319 : k0_chk319 v659 v936), ∀ a x, ((![v659, v936] : Fin 2 → IVec S16 32) a x).toNat < S128x128.size a := fun v659 v936 k0_hw319 => k0_hw319

def k0_chk320 (v648 : IVec S16 32) (v940 : IVec S16 32) : Prop :=
  (∀ a x, ((![v648, v940] : Fin 2 → IVec S16 32) a x).toNat < S128x128.size a)
theorem k0_idx320_inb : ∀ (v648 : IVec S16 32) (v940 : IVec S16 32) (k0_hw320 : k0_chk320 v648 v940), ∀ a x, ((![v648, v940] : Fin 2 → IVec S16 32) a x).toNat < S128x128.size a := fun v648 v940 k0_hw320 => k0_hw320

def k0_chk321 (v659 : IVec S16 32) (v945 : IVec S16 32) : Prop :=
  (∀ a x, ((![v659, v945] : Fin 2 → IVec S16 32) a x).toNat < S128x128.size a)
theorem k0_idx321_inb : ∀ (v659 : IVec S16 32) (v945 : IVec S16 32) (k0_hw321 : k0_chk321 v659 v945), ∀ a x, ((![v659, v945] : Fin 2 → IVec S16 32) a x).toNat < S128x128.size a := fun v659 v945 k0_hw321 => k0_hw321

def k0_chk322 (v648 : IVec S16 32) (v949 : IVec S16 32) : Prop :=
  (∀ a x, ((![v648, v949] : Fin 2 → IVec S16 32) a x).toNat < S128x128.size a)
theorem k0_idx322_inb : ∀ (v648 : IVec S16 32) (v949 : IVec S16 32) (k0_hw322 : k0_chk322 v648 v949), ∀ a x, ((![v648, v949] : Fin 2 → IVec S16 32) a x).toNat < S128x128.size a := fun v648 v949 k0_hw322 => k0_hw322

def k0_chk323 (v659 : IVec S16 32) (v954 : IVec S16 32) : Prop :=
  (∀ a x, ((![v659, v954] : Fin 2 → IVec S16 32) a x).toNat < S128x128.size a)
theorem k0_idx323_inb : ∀ (v659 : IVec S16 32) (v954 : IVec S16 32) (k0_hw323 : k0_chk323 v659 v954), ∀ a x, ((![v659, v954] : Fin 2 → IVec S16 32) a x).toNat < S128x128.size a := fun v659 v954 k0_hw323 => k0_hw323

def k0_chk324 (v648 : IVec S16 32) (v958 : IVec S16 32) : Prop :=
  (∀ a x, ((![v648, v958] : Fin 2 → IVec S16 32) a x).toNat < S128x128.size a)
theorem k0_idx324_inb : ∀ (v648 : IVec S16 32) (v958 : IVec S16 32) (k0_hw324 : k0_chk324 v648 v958), ∀ a x, ((![v648, v958] : Fin 2 → IVec S16 32) a x).toNat < S128x128.size a := fun v648 v958 k0_hw324 => k0_hw324

def k0_chk325 (v659 : IVec S16 32) (v963 : IVec S16 32) : Prop :=
  (∀ a x, ((![v659, v963] : Fin 2 → IVec S16 32) a x).toNat < S128x128.size a)
theorem k0_idx325_inb : ∀ (v659 : IVec S16 32) (v963 : IVec S16 32) (k0_hw325 : k0_chk325 v659 v963), ∀ a x, ((![v659, v963] : Fin 2 → IVec S16 32) a x).toNat < S128x128.size a := fun v659 v963 k0_hw325 => k0_hw325

def k0_chk326 (v648 : IVec S16 32) (v967 : IVec S16 32) : Prop :=
  (∀ a x, ((![v648, v967] : Fin 2 → IVec S16 32) a x).toNat < S128x128.size a)
theorem k0_idx326_inb : ∀ (v648 : IVec S16 32) (v967 : IVec S16 32) (k0_hw326 : k0_chk326 v648 v967), ∀ a x, ((![v648, v967] : Fin 2 → IVec S16 32) a x).toNat < S128x128.size a := fun v648 v967 k0_hw326 => k0_hw326

def k0_chk327 (v659 : IVec S16 32) (v972 : IVec S16 32) : Prop :=
  (∀ a x, ((![v659, v972] : Fin 2 → IVec S16 32) a x).toNat < S128x128.size a)
theorem k0_idx327_inb : ∀ (v659 : IVec S16 32) (v972 : IVec S16 32) (k0_hw327 : k0_chk327 v659 v972), ∀ a x, ((![v659, v972] : Fin 2 → IVec S16 32) a x).toNat < S128x128.size a := fun v659 v972 k0_hw327 => k0_hw327

def k0_chk328 (v648 : IVec S16 32) (v976 : IVec S16 32) : Prop :=
  (∀ a x, ((![v648, v976] : Fin 2 → IVec S16 32) a x).toNat < S128x128.size a)
theorem k0_idx328_inb : ∀ (v648 : IVec S16 32) (v976 : IVec S16 32) (k0_hw328 : k0_chk328 v648 v976), ∀ a x, ((![v648, v976] : Fin 2 → IVec S16 32) a x).toNat < S128x128.size a := fun v648 v976 k0_hw328 => k0_hw328

def k0_chk329 (v659 : IVec S16 32) (v981 : IVec S16 32) : Prop :=
  (∀ a x, ((![v659, v981] : Fin 2 → IVec S16 32) a x).toNat < S128x128.size a)
theorem k0_idx329_inb : ∀ (v659 : IVec S16 32) (v981 : IVec S16 32) (k0_hw329 : k0_chk329 v659 v981), ∀ a x, ((![v659, v981] : Fin 2 → IVec S16 32) a x).toNat < S128x128.size a := fun v659 v981 k0_hw329 => k0_hw329

def k0_chk330 (v648 : IVec S16 32) (v985 : IVec S16 32) : Prop :=
  (∀ a x, ((![v648, v985] : Fin 2 → IVec S16 32) a x).toNat < S128x128.size a)
theorem k0_idx330_inb : ∀ (v648 : IVec S16 32) (v985 : IVec S16 32) (k0_hw330 : k0_chk330 v648 v985), ∀ a x, ((![v648, v985] : Fin 2 → IVec S16 32) a x).toNat < S128x128.size a := fun v648 v985 k0_hw330 => k0_hw330

def k0_chk331 (v659 : IVec S16 32) (v990 : IVec S16 32) : Prop :=
  (∀ a x, ((![v659, v990] : Fin 2 → IVec S16 32) a x).toNat < S128x128.size a)
theorem k0_idx331_inb : ∀ (v659 : IVec S16 32) (v990 : IVec S16 32) (k0_hw331 : k0_chk331 v659 v990), ∀ a x, ((![v659, v990] : Fin 2 → IVec S16 32) a x).toNat < S128x128.size a := fun v659 v990 k0_hw331 => k0_hw331

def k0_chk332 (v648 : IVec S16 32) (v994 : IVec S16 32) : Prop :=
  (∀ a x, ((![v648, v994] : Fin 2 → IVec S16 32) a x).toNat < S128x128.size a)
theorem k0_idx332_inb : ∀ (v648 : IVec S16 32) (v994 : IVec S16 32) (k0_hw332 : k0_chk332 v648 v994), ∀ a x, ((![v648, v994] : Fin 2 → IVec S16 32) a x).toNat < S128x128.size a := fun v648 v994 k0_hw332 => k0_hw332

def k0_chk333 (v659 : IVec S16 32) (v999 : IVec S16 32) : Prop :=
  (∀ a x, ((![v659, v999] : Fin 2 → IVec S16 32) a x).toNat < S128x128.size a)
theorem k0_idx333_inb : ∀ (v659 : IVec S16 32) (v999 : IVec S16 32) (k0_hw333 : k0_chk333 v659 v999), ∀ a x, ((![v659, v999] : Fin 2 → IVec S16 32) a x).toNat < S128x128.size a := fun v659 v999 k0_hw333 => k0_hw333

def k0_chk334 (v648 : IVec S16 32) (v1003 : IVec S16 32) : Prop :=
  (∀ a x, ((![v648, v1003] : Fin 2 → IVec S16 32) a x).toNat < S128x128.size a)
theorem k0_idx334_inb : ∀ (v648 : IVec S16 32) (v1003 : IVec S16 32) (k0_hw334 : k0_chk334 v648 v1003), ∀ a x, ((![v648, v1003] : Fin 2 → IVec S16 32) a x).toNat < S128x128.size a := fun v648 v1003 k0_hw334 => k0_hw334

def k0_chk335 (v659 : IVec S16 32) (v1008 : IVec S16 32) : Prop :=
  (∀ a x, ((![v659, v1008] : Fin 2 → IVec S16 32) a x).toNat < S128x128.size a)
theorem k0_idx335_inb : ∀ (v659 : IVec S16 32) (v1008 : IVec S16 32) (k0_hw335 : k0_chk335 v659 v1008), ∀ a x, ((![v659, v1008] : Fin 2 → IVec S16 32) a x).toNat < S128x128.size a := fun v659 v1008 k0_hw335 => k0_hw335

def k0_chk336 (v648 : IVec S16 32) (v1012 : IVec S16 32) : Prop :=
  (∀ a x, ((![v648, v1012] : Fin 2 → IVec S16 32) a x).toNat < S128x128.size a)
theorem k0_idx336_inb : ∀ (v648 : IVec S16 32) (v1012 : IVec S16 32) (k0_hw336 : k0_chk336 v648 v1012), ∀ a x, ((![v648, v1012] : Fin 2 → IVec S16 32) a x).toNat < S128x128.size a := fun v648 v1012 k0_hw336 => k0_hw336

def k0_chk337 (v659 : IVec S16 32) (v1017 : IVec S16 32) : Prop :=
  (∀ a x, ((![v659, v1017] : Fin 2 → IVec S16 32) a x).toNat < S128x128.size a)
theorem k0_idx337_inb : ∀ (v659 : IVec S16 32) (v1017 : IVec S16 32) (k0_hw337 : k0_chk337 v659 v1017), ∀ a x, ((![v659, v1017] : Fin 2 → IVec S16 32) a x).toNat < S128x128.size a := fun v659 v1017 k0_hw337 => k0_hw337

def k0_chk338 (v648 : IVec S16 32) (v1021 : IVec S16 32) : Prop :=
  (∀ a x, ((![v648, v1021] : Fin 2 → IVec S16 32) a x).toNat < S128x128.size a)
theorem k0_idx338_inb : ∀ (v648 : IVec S16 32) (v1021 : IVec S16 32) (k0_hw338 : k0_chk338 v648 v1021), ∀ a x, ((![v648, v1021] : Fin 2 → IVec S16 32) a x).toNat < S128x128.size a := fun v648 v1021 k0_hw338 => k0_hw338

def k0_chk339 (v659 : IVec S16 32) (v1026 : IVec S16 32) : Prop :=
  (∀ a x, ((![v659, v1026] : Fin 2 → IVec S16 32) a x).toNat < S128x128.size a)
theorem k0_idx339_inb : ∀ (v659 : IVec S16 32) (v1026 : IVec S16 32) (k0_hw339 : k0_chk339 v659 v1026), ∀ a x, ((![v659, v1026] : Fin 2 → IVec S16 32) a x).toNat < S128x128.size a := fun v659 v1026 k0_hw339 => k0_hw339

def k0_chk340 (v648 : IVec S16 32) (v1030 : IVec S16 32) : Prop :=
  (∀ a x, ((![v648, v1030] : Fin 2 → IVec S16 32) a x).toNat < S128x128.size a)
theorem k0_idx340_inb : ∀ (v648 : IVec S16 32) (v1030 : IVec S16 32) (k0_hw340 : k0_chk340 v648 v1030), ∀ a x, ((![v648, v1030] : Fin 2 → IVec S16 32) a x).toNat < S128x128.size a := fun v648 v1030 k0_hw340 => k0_hw340

def k0_chk341 (v659 : IVec S16 32) (v1035 : IVec S16 32) : Prop :=
  (∀ a x, ((![v659, v1035] : Fin 2 → IVec S16 32) a x).toNat < S128x128.size a)
theorem k0_idx341_inb : ∀ (v659 : IVec S16 32) (v1035 : IVec S16 32) (k0_hw341 : k0_chk341 v659 v1035), ∀ a x, ((![v659, v1035] : Fin 2 → IVec S16 32) a x).toNat < S128x128.size a := fun v659 v1035 k0_hw341 => k0_hw341

def k0_chk342 (v648 : IVec S16 32) (v1039 : IVec S16 32) : Prop :=
  (∀ a x, ((![v648, v1039] : Fin 2 → IVec S16 32) a x).toNat < S128x128.size a)
theorem k0_idx342_inb : ∀ (v648 : IVec S16 32) (v1039 : IVec S16 32) (k0_hw342 : k0_chk342 v648 v1039), ∀ a x, ((![v648, v1039] : Fin 2 → IVec S16 32) a x).toNat < S128x128.size a := fun v648 v1039 k0_hw342 => k0_hw342

def k0_chk343 (v659 : IVec S16 32) (v1044 : IVec S16 32) : Prop :=
  (∀ a x, ((![v659, v1044] : Fin 2 → IVec S16 32) a x).toNat < S128x128.size a)
theorem k0_idx343_inb : ∀ (v659 : IVec S16 32) (v1044 : IVec S16 32) (k0_hw343 : k0_chk343 v659 v1044), ∀ a x, ((![v659, v1044] : Fin 2 → IVec S16 32) a x).toNat < S128x128.size a := fun v659 v1044 k0_hw343 => k0_hw343

def k0_chk344 (v648 : IVec S16 32) (v1048 : IVec S16 32) : Prop :=
  (∀ a x, ((![v648, v1048] : Fin 2 → IVec S16 32) a x).toNat < S128x128.size a)
theorem k0_idx344_inb : ∀ (v648 : IVec S16 32) (v1048 : IVec S16 32) (k0_hw344 : k0_chk344 v648 v1048), ∀ a x, ((![v648, v1048] : Fin 2 → IVec S16 32) a x).toNat < S128x128.size a := fun v648 v1048 k0_hw344 => k0_hw344

def k0_chk345 (v659 : IVec S16 32) (v1053 : IVec S16 32) : Prop :=
  (∀ a x, ((![v659, v1053] : Fin 2 → IVec S16 32) a x).toNat < S128x128.size a)
theorem k0_idx345_inb : ∀ (v659 : IVec S16 32) (v1053 : IVec S16 32) (k0_hw345 : k0_chk345 v659 v1053), ∀ a x, ((![v659, v1053] : Fin 2 → IVec S16 32) a x).toNat < S128x128.size a := fun v659 v1053 k0_hw345 => k0_hw345

def k0_chk346 (v648 : IVec S16 32) (v1057 : IVec S16 32) : Prop :=
  (∀ a x, ((![v648, v1057] : Fin 2 → IVec S16 32) a x).toNat < S128x128.size a)
theorem k0_idx346_inb : ∀ (v648 : IVec S16 32) (v1057 : IVec S16 32) (k0_hw346 : k0_chk346 v648 v1057), ∀ a x, ((![v648, v1057] : Fin 2 → IVec S16 32) a x).toNat < S128x128.size a := fun v648 v1057 k0_hw346 => k0_hw346

def k0_chk347 (v659 : IVec S16 32) (v1062 : IVec S16 32) : Prop :=
  (∀ a x, ((![v659, v1062] : Fin 2 → IVec S16 32) a x).toNat < S128x128.size a)
theorem k0_idx347_inb : ∀ (v659 : IVec S16 32) (v1062 : IVec S16 32) (k0_hw347 : k0_chk347 v659 v1062), ∀ a x, ((![v659, v1062] : Fin 2 → IVec S16 32) a x).toNat < S128x128.size a := fun v659 v1062 k0_hw347 => k0_hw347

def k0_chk348 (v648 : IVec S16 32) (v1066 : IVec S16 32) : Prop :=
  (∀ a x, ((![v648, v1066] : Fin 2 → IVec S16 32) a x).toNat < S128x128.size a)
theorem k0_idx348_inb : ∀ (v648 : IVec S16 32) (v1066 : IVec S16 32) (k0_hw348 : k0_chk348 v648 v1066), ∀ a x, ((![v648, v1066] : Fin 2 → IVec S16 32) a x).toNat < S128x128.size a := fun v648 v1066 k0_hw348 => k0_hw348

def k0_chk349 (v659 : IVec S16 32) (v1071 : IVec S16 32) : Prop :=
  (∀ a x, ((![v659, v1071] : Fin 2 → IVec S16 32) a x).toNat < S128x128.size a)
theorem k0_idx349_inb : ∀ (v659 : IVec S16 32) (v1071 : IVec S16 32) (k0_hw349 : k0_chk349 v659 v1071), ∀ a x, ((![v659, v1071] : Fin 2 → IVec S16 32) a x).toNat < S128x128.size a := fun v659 v1071 k0_hw349 => k0_hw349

def k0_chk350 (v648 : IVec S16 32) (v1075 : IVec S16 32) : Prop :=
  (∀ a x, ((![v648, v1075] : Fin 2 → IVec S16 32) a x).toNat < S128x128.size a)
theorem k0_idx350_inb : ∀ (v648 : IVec S16 32) (v1075 : IVec S16 32) (k0_hw350 : k0_chk350 v648 v1075), ∀ a x, ((![v648, v1075] : Fin 2 → IVec S16 32) a x).toNat < S128x128.size a := fun v648 v1075 k0_hw350 => k0_hw350

def k0_chk351 (v659 : IVec S16 32) (v1080 : IVec S16 32) : Prop :=
  (∀ a x, ((![v659, v1080] : Fin 2 → IVec S16 32) a x).toNat < S128x128.size a)
theorem k0_idx351_inb : ∀ (v659 : IVec S16 32) (v1080 : IVec S16 32) (k0_hw351 : k0_chk351 v659 v1080), ∀ a x, ((![v659, v1080] : Fin 2 → IVec S16 32) a x).toNat < S128x128.size a := fun v659 v1080 k0_hw351 => k0_hw351

def k0_chk352 (v648 : IVec S16 32) (v1084 : IVec S16 32) : Prop :=
  (∀ a x, ((![v648, v1084] : Fin 2 → IVec S16 32) a x).toNat < S128x128.size a)
theorem k0_idx352_inb : ∀ (v648 : IVec S16 32) (v1084 : IVec S16 32) (k0_hw352 : k0_chk352 v648 v1084), ∀ a x, ((![v648, v1084] : Fin 2 → IVec S16 32) a x).toNat < S128x128.size a := fun v648 v1084 k0_hw352 => k0_hw352

def k0_chk353 (v659 : IVec S16 32) (v1089 : IVec S16 32) : Prop :=
  (∀ a x, ((![v659, v1089] : Fin 2 → IVec S16 32) a x).toNat < S128x128.size a)
theorem k0_idx353_inb : ∀ (v659 : IVec S16 32) (v1089 : IVec S16 32) (k0_hw353 : k0_chk353 v659 v1089), ∀ a x, ((![v659, v1089] : Fin 2 → IVec S16 32) a x).toNat < S128x128.size a := fun v659 v1089 k0_hw353 => k0_hw353

def k0_chk354 (v648 : IVec S16 32) (v1093 : IVec S16 32) : Prop :=
  (∀ a x, ((![v648, v1093] : Fin 2 → IVec S16 32) a x).toNat < S128x128.size a)
theorem k0_idx354_inb : ∀ (v648 : IVec S16 32) (v1093 : IVec S16 32) (k0_hw354 : k0_chk354 v648 v1093), ∀ a x, ((![v648, v1093] : Fin 2 → IVec S16 32) a x).toNat < S128x128.size a := fun v648 v1093 k0_hw354 => k0_hw354

def k0_chk355 (v659 : IVec S16 32) (v1098 : IVec S16 32) : Prop :=
  (∀ a x, ((![v659, v1098] : Fin 2 → IVec S16 32) a x).toNat < S128x128.size a)
theorem k0_idx355_inb : ∀ (v659 : IVec S16 32) (v1098 : IVec S16 32) (k0_hw355 : k0_chk355 v659 v1098), ∀ a x, ((![v659, v1098] : Fin 2 → IVec S16 32) a x).toNat < S128x128.size a := fun v659 v1098 k0_hw355 => k0_hw355

def k0_chk356 (v648 : IVec S16 32) (v1102 : IVec S16 32) : Prop :=
  (∀ a x, ((![v648, v1102] : Fin 2 → IVec S16 32) a x).toNat < S128x128.size a)
theorem k0_idx356_inb : ∀ (v648 : IVec S16 32) (v1102 : IVec S16 32) (k0_hw356 : k0_chk356 v648 v1102), ∀ a x, ((![v648, v1102] : Fin 2 → IVec S16 32) a x).toNat < S128x128.size a := fun v648 v1102 k0_hw356 => k0_hw356

def k0_chk357 (v659 : IVec S16 32) (v1107 : IVec S16 32) : Prop :=
  (∀ a x, ((![v659, v1107] : Fin 2 → IVec S16 32) a x).toNat < S128x128.size a)
theorem k0_idx357_inb : ∀ (v659 : IVec S16 32) (v1107 : IVec S16 32) (k0_hw357 : k0_chk357 v659 v1107), ∀ a x, ((![v659, v1107] : Fin 2 → IVec S16 32) a x).toNat < S128x128.size a := fun v659 v1107 k0_hw357 => k0_hw357

def k0_chk358 (v648 : IVec S16 32) (v1111 : IVec S16 32) : Prop :=
  (∀ a x, ((![v648, v1111] : Fin 2 → IVec S16 32) a x).toNat < S128x128.size a)
theorem k0_idx358_inb : ∀ (v648 : IVec S16 32) (v1111 : IVec S16 32) (k0_hw358 : k0_chk358 v648 v1111), ∀ a x, ((![v648, v1111] : Fin 2 → IVec S16 32) a x).toNat < S128x128.size a := fun v648 v1111 k0_hw358 => k0_hw358

def k0_chk359 (v659 : IVec S16 32) (v1116 : IVec S16 32) : Prop :=
  (∀ a x, ((![v659, v1116] : Fin 2 → IVec S16 32) a x).toNat < S128x128.size a)
theorem k0_idx359_inb : ∀ (v659 : IVec S16 32) (v1116 : IVec S16 32) (k0_hw359 : k0_chk359 v659 v1116), ∀ a x, ((![v659, v1116] : Fin 2 → IVec S16 32) a x).toNat < S128x128.size a := fun v659 v1116 k0_hw359 => k0_hw359

def k0_chk360 (v648 : IVec S16 32) (v1120 : IVec S16 32) : Prop :=
  (∀ a x, ((![v648, v1120] : Fin 2 → IVec S16 32) a x).toNat < S128x128.size a)
theorem k0_idx360_inb : ∀ (v648 : IVec S16 32) (v1120 : IVec S16 32) (k0_hw360 : k0_chk360 v648 v1120), ∀ a x, ((![v648, v1120] : Fin 2 → IVec S16 32) a x).toNat < S128x128.size a := fun v648 v1120 k0_hw360 => k0_hw360

def k0_chk361 (v659 : IVec S16 32) (v1125 : IVec S16 32) : Prop :=
  (∀ a x, ((![v659, v1125] : Fin 2 → IVec S16 32) a x).toNat < S128x128.size a)
theorem k0_idx361_inb : ∀ (v659 : IVec S16 32) (v1125 : IVec S16 32) (k0_hw361 : k0_chk361 v659 v1125), ∀ a x, ((![v659, v1125] : Fin 2 → IVec S16 32) a x).toNat < S128x128.size a := fun v659 v1125 k0_hw361 => k0_hw361

def k0_chk362 (v648 : IVec S16 32) (v1129 : IVec S16 32) : Prop :=
  (∀ a x, ((![v648, v1129] : Fin 2 → IVec S16 32) a x).toNat < S128x128.size a)
theorem k0_idx362_inb : ∀ (v648 : IVec S16 32) (v1129 : IVec S16 32) (k0_hw362 : k0_chk362 v648 v1129), ∀ a x, ((![v648, v1129] : Fin 2 → IVec S16 32) a x).toNat < S128x128.size a := fun v648 v1129 k0_hw362 => k0_hw362

def k0_chk363 (v659 : IVec S16 32) (v1134 : IVec S16 32) : Prop :=
  (∀ a x, ((![v659, v1134] : Fin 2 → IVec S16 32) a x).toNat < S128x128.size a)
theorem k0_idx363_inb : ∀ (v659 : IVec S16 32) (v1134 : IVec S16 32) (k0_hw363 : k0_chk363 v659 v1134), ∀ a x, ((![v659, v1134] : Fin 2 → IVec S16 32) a x).toNat < S128x128.size a := fun v659 v1134 k0_hw363 => k0_hw363

def k0_chk364 (v648 : IVec S16 32) (v1138 : IVec S16 32) : Prop :=
  (∀ a x, ((![v648, v1138] : Fin 2 → IVec S16 32) a x).toNat < S128x128.size a)
theorem k0_idx364_inb : ∀ (v648 : IVec S16 32) (v1138 : IVec S16 32) (k0_hw364 : k0_chk364 v648 v1138), ∀ a x, ((![v648, v1138] : Fin 2 → IVec S16 32) a x).toNat < S128x128.size a := fun v648 v1138 k0_hw364 => k0_hw364

def k0_chk365 (v659 : IVec S16 32) (v1143 : IVec S16 32) : Prop :=
  (∀ a x, ((![v659, v1143] : Fin 2 → IVec S16 32) a x).toNat < S128x128.size a)
theorem k0_idx365_inb : ∀ (v659 : IVec S16 32) (v1143 : IVec S16 32) (k0_hw365 : k0_chk365 v659 v1143), ∀ a x, ((![v659, v1143] : Fin 2 → IVec S16 32) a x).toNat < S128x128.size a := fun v659 v1143 k0_hw365 => k0_hw365

def k0_chk366 (v648 : IVec S16 32) (v1147 : IVec S16 32) : Prop :=
  (∀ a x, ((![v648, v1147] : Fin 2 → IVec S16 32) a x).toNat < S128x128.size a)
theorem k0_idx366_inb : ∀ (v648 : IVec S16 32) (v1147 : IVec S16 32) (k0_hw366 : k0_chk366 v648 v1147), ∀ a x, ((![v648, v1147] : Fin 2 → IVec S16 32) a x).toNat < S128x128.size a := fun v648 v1147 k0_hw366 => k0_hw366

def k0_chk367 (v659 : IVec S16 32) (v1152 : IVec S16 32) : Prop :=
  (∀ a x, ((![v659, v1152] : Fin 2 → IVec S16 32) a x).toNat < S128x128.size a)
theorem k0_idx367_inb : ∀ (v659 : IVec S16 32) (v1152 : IVec S16 32) (k0_hw367 : k0_chk367 v659 v1152), ∀ a x, ((![v659, v1152] : Fin 2 → IVec S16 32) a x).toNat < S128x128.size a := fun v659 v1152 k0_hw367 => k0_hw367

def k0_chk368 (v648 : IVec S16 32) (v1156 : IVec S16 32) : Prop :=
  (∀ a x, ((![v648, v1156] : Fin 2 → IVec S16 32) a x).toNat < S128x128.size a)
theorem k0_idx368_inb : ∀ (v648 : IVec S16 32) (v1156 : IVec S16 32) (k0_hw368 : k0_chk368 v648 v1156), ∀ a x, ((![v648, v1156] : Fin 2 → IVec S16 32) a x).toNat < S128x128.size a := fun v648 v1156 k0_hw368 => k0_hw368

def k0_chk369 (v659 : IVec S16 32) (v1161 : IVec S16 32) : Prop :=
  (∀ a x, ((![v659, v1161] : Fin 2 → IVec S16 32) a x).toNat < S128x128.size a)
theorem k0_idx369_inb : ∀ (v659 : IVec S16 32) (v1161 : IVec S16 32) (k0_hw369 : k0_chk369 v659 v1161), ∀ a x, ((![v659, v1161] : Fin 2 → IVec S16 32) a x).toNat < S128x128.size a := fun v659 v1161 k0_hw369 => k0_hw369

def k0_chk370 (v648 : IVec S16 32) (v1165 : IVec S16 32) : Prop :=
  (∀ a x, ((![v648, v1165] : Fin 2 → IVec S16 32) a x).toNat < S128x128.size a)
theorem k0_idx370_inb : ∀ (v648 : IVec S16 32) (v1165 : IVec S16 32) (k0_hw370 : k0_chk370 v648 v1165), ∀ a x, ((![v648, v1165] : Fin 2 → IVec S16 32) a x).toNat < S128x128.size a := fun v648 v1165 k0_hw370 => k0_hw370

def k0_chk371 (v659 : IVec S16 32) (v1170 : IVec S16 32) : Prop :=
  (∀ a x, ((![v659, v1170] : Fin 2 → IVec S16 32) a x).toNat < S128x128.size a)
theorem k0_idx371_inb : ∀ (v659 : IVec S16 32) (v1170 : IVec S16 32) (k0_hw371 : k0_chk371 v659 v1170), ∀ a x, ((![v659, v1170] : Fin 2 → IVec S16 32) a x).toNat < S128x128.size a := fun v659 v1170 k0_hw371 => k0_hw371

def k0_chk372 (v648 : IVec S16 32) (v1174 : IVec S16 32) : Prop :=
  (∀ a x, ((![v648, v1174] : Fin 2 → IVec S16 32) a x).toNat < S128x128.size a)
theorem k0_idx372_inb : ∀ (v648 : IVec S16 32) (v1174 : IVec S16 32) (k0_hw372 : k0_chk372 v648 v1174), ∀ a x, ((![v648, v1174] : Fin 2 → IVec S16 32) a x).toNat < S128x128.size a := fun v648 v1174 k0_hw372 => k0_hw372

def k0_chk373 (v659 : IVec S16 32) (v1179 : IVec S16 32) : Prop :=
  (∀ a x, ((![v659, v1179] : Fin 2 → IVec S16 32) a x).toNat < S128x128.size a)
theorem k0_idx373_inb : ∀ (v659 : IVec S16 32) (v1179 : IVec S16 32) (k0_hw373 : k0_chk373 v659 v1179), ∀ a x, ((![v659, v1179] : Fin 2 → IVec S16 32) a x).toNat < S128x128.size a := fun v659 v1179 k0_hw373 => k0_hw373

def k0_chk374 (v648 : IVec S16 32) (v1183 : IVec S16 32) : Prop :=
  (∀ a x, ((![v648, v1183] : Fin 2 → IVec S16 32) a x).toNat < S128x128.size a)
theorem k0_idx374_inb : ∀ (v648 : IVec S16 32) (v1183 : IVec S16 32) (k0_hw374 : k0_chk374 v648 v1183), ∀ a x, ((![v648, v1183] : Fin 2 → IVec S16 32) a x).toNat < S128x128.size a := fun v648 v1183 k0_hw374 => k0_hw374

def k0_chk375 (v659 : IVec S16 32) (v1188 : IVec S16 32) : Prop :=
  (∀ a x, ((![v659, v1188] : Fin 2 → IVec S16 32) a x).toNat < S128x128.size a)
theorem k0_idx375_inb : ∀ (v659 : IVec S16 32) (v1188 : IVec S16 32) (k0_hw375 : k0_chk375 v659 v1188), ∀ a x, ((![v659, v1188] : Fin 2 → IVec S16 32) a x).toNat < S128x128.size a := fun v659 v1188 k0_hw375 => k0_hw375

def k0_chk376 (v648 : IVec S16 32) (v1192 : IVec S16 32) : Prop :=
  (∀ a x, ((![v648, v1192] : Fin 2 → IVec S16 32) a x).toNat < S128x128.size a)
theorem k0_idx376_inb : ∀ (v648 : IVec S16 32) (v1192 : IVec S16 32) (k0_hw376 : k0_chk376 v648 v1192), ∀ a x, ((![v648, v1192] : Fin 2 → IVec S16 32) a x).toNat < S128x128.size a := fun v648 v1192 k0_hw376 => k0_hw376

def k0_chk377 (v659 : IVec S16 32) (v1197 : IVec S16 32) : Prop :=
  (∀ a x, ((![v659, v1197] : Fin 2 → IVec S16 32) a x).toNat < S128x128.size a)
theorem k0_idx377_inb : ∀ (v659 : IVec S16 32) (v1197 : IVec S16 32) (k0_hw377 : k0_chk377 v659 v1197), ∀ a x, ((![v659, v1197] : Fin 2 → IVec S16 32) a x).toNat < S128x128.size a := fun v659 v1197 k0_hw377 => k0_hw377

def k0_chk378 (v648 : IVec S16 32) (v1201 : IVec S16 32) : Prop :=
  (∀ a x, ((![v648, v1201] : Fin 2 → IVec S16 32) a x).toNat < S128x128.size a)
theorem k0_idx378_inb : ∀ (v648 : IVec S16 32) (v1201 : IVec S16 32) (k0_hw378 : k0_chk378 v648 v1201), ∀ a x, ((![v648, v1201] : Fin 2 → IVec S16 32) a x).toNat < S128x128.size a := fun v648 v1201 k0_hw378 => k0_hw378

def k0_chk379 (v659 : IVec S16 32) (v1206 : IVec S16 32) : Prop :=
  (∀ a x, ((![v659, v1206] : Fin 2 → IVec S16 32) a x).toNat < S128x128.size a)
theorem k0_idx379_inb : ∀ (v659 : IVec S16 32) (v1206 : IVec S16 32) (k0_hw379 : k0_chk379 v659 v1206), ∀ a x, ((![v659, v1206] : Fin 2 → IVec S16 32) a x).toNat < S128x128.size a := fun v659 v1206 k0_hw379 => k0_hw379

def k0_chk380 (v648 : IVec S16 32) (v1210 : IVec S16 32) : Prop :=
  (∀ a x, ((![v648, v1210] : Fin 2 → IVec S16 32) a x).toNat < S128x128.size a)
theorem k0_idx380_inb : ∀ (v648 : IVec S16 32) (v1210 : IVec S16 32) (k0_hw380 : k0_chk380 v648 v1210), ∀ a x, ((![v648, v1210] : Fin 2 → IVec S16 32) a x).toNat < S128x128.size a := fun v648 v1210 k0_hw380 => k0_hw380

def k0_chk381 (v659 : IVec S16 32) (v1215 : IVec S16 32) : Prop :=
  (∀ a x, ((![v659, v1215] : Fin 2 → IVec S16 32) a x).toNat < S128x128.size a)
theorem k0_idx381_inb : ∀ (v659 : IVec S16 32) (v1215 : IVec S16 32) (k0_hw381 : k0_chk381 v659 v1215), ∀ a x, ((![v659, v1215] : Fin 2 → IVec S16 32) a x).toNat < S128x128.size a := fun v659 v1215 k0_hw381 => k0_hw381

def k0_chk382 (v648 : IVec S16 32) (v1219 : IVec S16 32) : Prop :=
  (∀ a x, ((![v648, v1219] : Fin 2 → IVec S16 32) a x).toNat < S128x128.size a)
theorem k0_idx382_inb : ∀ (v648 : IVec S16 32) (v1219 : IVec S16 32) (k0_hw382 : k0_chk382 v648 v1219), ∀ a x, ((![v648, v1219] : Fin 2 → IVec S16 32) a x).toNat < S128x128.size a := fun v648 v1219 k0_hw382 => k0_hw382

def k0_chk383 (v659 : IVec S16 32) (v1224 : IVec S16 32) : Prop :=
  (∀ a x, ((![v659, v1224] : Fin 2 → IVec S16 32) a x).toNat < S128x128.size a)
theorem k0_idx383_inb : ∀ (v659 : IVec S16 32) (v1224 : IVec S16 32) (k0_hw383 : k0_chk383 v659 v1224), ∀ a x, ((![v659, v1224] : Fin 2 → IVec S16 32) a x).toNat < S128x128.size a := fun v659 v1224 k0_hw383 => k0_hw383

def k0_chk384 (v648 : IVec S16 32) (v1228 : IVec S16 32) : Prop :=
  (∀ a x, ((![v648, v1228] : Fin 2 → IVec S16 32) a x).toNat < S128x128.size a)
theorem k0_idx384_inb : ∀ (v648 : IVec S16 32) (v1228 : IVec S16 32) (k0_hw384 : k0_chk384 v648 v1228), ∀ a x, ((![v648, v1228] : Fin 2 → IVec S16 32) a x).toNat < S128x128.size a := fun v648 v1228 k0_hw384 => k0_hw384

def k0_chk385 (v659 : IVec S16 32) (v1233 : IVec S16 32) : Prop :=
  (∀ a x, ((![v659, v1233] : Fin 2 → IVec S16 32) a x).toNat < S128x128.size a)
theorem k0_idx385_inb : ∀ (v659 : IVec S16 32) (v1233 : IVec S16 32) (k0_hw385 : k0_chk385 v659 v1233), ∀ a x, ((![v659, v1233] : Fin 2 → IVec S16 32) a x).toNat < S128x128.size a := fun v659 v1233 k0_hw385 => k0_hw385
def k0_mult10 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v3 : BitVec 32 := Scalar.muli v1 c16384_i32
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c2_i32_284 : BitVec 32 := 2#32
  let v548 : BitVec 32 := Scalar.addi v429 c2_i32_284
  let c128_i32_285 : BitVec 32 := 128#32
  let v549 : BitVec 32 := Scalar.muli v548 c128_i32_285
  let v550 : BitVec 32 := Scalar.addi v3 v549
  let c0_i32_287 : BitVec 32 := 0#32
  let v552 : BitVec 1 := Scalar.cmpi .sgt v550 c0_i32_287
  let v553 : BitVec 32 := Scalar.extui v552
  let c0_i32_288 : BitVec 32 := 0#32
  let v554 : BitVec 1 := Scalar.cmpi .slt v550 c0_i32_288
  let v555 : BitVec 32 := Scalar.extui v554
  let v556 : BitVec 32 := Scalar.subi v553 v555
  let c2_i32_286 : BitVec 32 := 2#32
  let c0_i32_289 : BitVec 32 := 0#32
  let v557 : BitVec 1 := Scalar.cmpi .sgt c2_i32_286 c0_i32_289
  let v558 : BitVec 32 := Scalar.extui v557
  let c0_i32_290 : BitVec 32 := 0#32
  let v559 : BitVec 1 := Scalar.cmpi .slt c2_i32_286 c0_i32_290
  let v560 : BitVec 32 := Scalar.extui v559
  let v561 : BitVec 32 := Scalar.subi v558 v560
  let v562 : BitVec 1 := Scalar.cmpi .ne v556 v561
  let v563 : BitVec 32 := Scalar.remsi v550 c2_i32_286
  let c0_i32_291 : BitVec 32 := 0#32
  let v564 : BitVec 1 := Scalar.cmpi .ne v563 c0_i32_291
  let v565 : BitVec 1 := Scalar.andi v562 v564
  let v551 : BitVec 32 := Scalar.divsi v550 c2_i32_286
  let c1_i32_292 : BitVec 32 := 1#32
  let v566 : BitVec 32 := Scalar.subi v551 c1_i32_292
  let v567 : BitVec 32 := Scalar.select v565 v566 v551
  v567
@[reducible] def k0_t6_loop : Scf.Loop 32 :=
  let c0_i32_313 : BitVec 32 := 0#32
  let c8_i32_314 : BitVec 32 := 8#32
  let v584 : BitVec 32 := Scalar.addi c0_i32_313 c8_i32_314
  let c1_i32_315 : BitVec 32 := 1#32
  ⟨c0_i32_313, v584, c1_i32_315⟩
def k0_mult11 (k0_t2 : Fin k0_t2_loop.trips) (k0_t6 : Fin k0_t6_loop.trips) : BitVec 32 :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c3_i32_310 : BitVec 32 := 3#32
  let v583 : BitVec 32 := Scalar.addi v429 c3_i32_310
  let c128_i32_382 : BitVec 32 := 128#32
  let v649 : BitVec 32 := Scalar.muli v583 c128_i32_382
  let c0_i32_313 : BitVec 32 := 0#32
  let c1_i32_315 : BitVec 32 := 1#32
  let arg13 : BitVec 32 := Scf.iv c0_i32_313 c1_i32_315 k0_t6
  let c16_i32_383 : BitVec 32 := 16#32
  let v650 : BitVec 32 := Scalar.muli arg13 c16_i32_383
  let v651 : BitVec 32 := Scalar.addi v649 v650
  v651
def k0_off8 (k0_t2 : Fin k0_t2_loop.trips) (k0_t6 : Fin k0_t6_loop.trips) : Fin 1 → Nat :=
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c3_i32_310 : BitVec 32 := 3#32
  let v583 : BitVec 32 := Scalar.addi v429 c3_i32_310
  let c128_i32_382 : BitVec 32 := 128#32
  let v649 : BitVec 32 := Scalar.muli v583 c128_i32_382
  let c0_i32_313 : BitVec 32 := 0#32
  let c1_i32_315 : BitVec 32 := 1#32
  let arg13 : BitVec 32 := Scf.iv c0_i32_313 c1_i32_315 k0_t6
  let c16_i32_383 : BitVec 32 := 16#32
  let v650 : BitVec 32 := Scalar.muli arg13 c16_i32_383
  let v651 : BitVec 32 := Scalar.addi v649 v650
  let v652 : BitVec 32 := v651
  let v653 : Index := Scalar.indexCast v652
  ![v653.toNat]

def k0_chk386 (v648 : IVec S16 32) (v661 : IVec S16 32) : Prop :=
  (∀ a x, ((![v648, v661] : Fin 2 → IVec S16 32) a x).toNat < S128x128.size a)
theorem k0_idx386_inb : ∀ (v648 : IVec S16 32) (v661 : IVec S16 32) (k0_hw386 : k0_chk386 v648 v661), ∀ a x, ((![v648, v661] : Fin 2 → IVec S16 32) a x).toNat < S128x128.size a := fun v648 v661 k0_hw386 => k0_hw386

def k0_chk387 (v659 : IVec S16 32) (v666 : IVec S16 32) : Prop :=
  (∀ a x, ((![v659, v666] : Fin 2 → IVec S16 32) a x).toNat < S128x128.size a)
theorem k0_idx387_inb : ∀ (v659 : IVec S16 32) (v666 : IVec S16 32) (k0_hw387 : k0_chk387 v659 v666), ∀ a x, ((![v659, v666] : Fin 2 → IVec S16 32) a x).toNat < S128x128.size a := fun v659 v666 k0_hw387 => k0_hw387

def k0_chk388 (v648 : IVec S16 32) (v670 : IVec S16 32) : Prop :=
  (∀ a x, ((![v648, v670] : Fin 2 → IVec S16 32) a x).toNat < S128x128.size a)
theorem k0_idx388_inb : ∀ (v648 : IVec S16 32) (v670 : IVec S16 32) (k0_hw388 : k0_chk388 v648 v670), ∀ a x, ((![v648, v670] : Fin 2 → IVec S16 32) a x).toNat < S128x128.size a := fun v648 v670 k0_hw388 => k0_hw388

def k0_chk389 (v659 : IVec S16 32) (v675 : IVec S16 32) : Prop :=
  (∀ a x, ((![v659, v675] : Fin 2 → IVec S16 32) a x).toNat < S128x128.size a)
theorem k0_idx389_inb : ∀ (v659 : IVec S16 32) (v675 : IVec S16 32) (k0_hw389 : k0_chk389 v659 v675), ∀ a x, ((![v659, v675] : Fin 2 → IVec S16 32) a x).toNat < S128x128.size a := fun v659 v675 k0_hw389 => k0_hw389

def k0_chk390 (v648 : IVec S16 32) (v679 : IVec S16 32) : Prop :=
  (∀ a x, ((![v648, v679] : Fin 2 → IVec S16 32) a x).toNat < S128x128.size a)
theorem k0_idx390_inb : ∀ (v648 : IVec S16 32) (v679 : IVec S16 32) (k0_hw390 : k0_chk390 v648 v679), ∀ a x, ((![v648, v679] : Fin 2 → IVec S16 32) a x).toNat < S128x128.size a := fun v648 v679 k0_hw390 => k0_hw390

def k0_chk391 (v659 : IVec S16 32) (v684 : IVec S16 32) : Prop :=
  (∀ a x, ((![v659, v684] : Fin 2 → IVec S16 32) a x).toNat < S128x128.size a)
theorem k0_idx391_inb : ∀ (v659 : IVec S16 32) (v684 : IVec S16 32) (k0_hw391 : k0_chk391 v659 v684), ∀ a x, ((![v659, v684] : Fin 2 → IVec S16 32) a x).toNat < S128x128.size a := fun v659 v684 k0_hw391 => k0_hw391

def k0_chk392 (v648 : IVec S16 32) (v688 : IVec S16 32) : Prop :=
  (∀ a x, ((![v648, v688] : Fin 2 → IVec S16 32) a x).toNat < S128x128.size a)
theorem k0_idx392_inb : ∀ (v648 : IVec S16 32) (v688 : IVec S16 32) (k0_hw392 : k0_chk392 v648 v688), ∀ a x, ((![v648, v688] : Fin 2 → IVec S16 32) a x).toNat < S128x128.size a := fun v648 v688 k0_hw392 => k0_hw392

def k0_chk393 (v659 : IVec S16 32) (v693 : IVec S16 32) : Prop :=
  (∀ a x, ((![v659, v693] : Fin 2 → IVec S16 32) a x).toNat < S128x128.size a)
theorem k0_idx393_inb : ∀ (v659 : IVec S16 32) (v693 : IVec S16 32) (k0_hw393 : k0_chk393 v659 v693), ∀ a x, ((![v659, v693] : Fin 2 → IVec S16 32) a x).toNat < S128x128.size a := fun v659 v693 k0_hw393 => k0_hw393

def k0_chk394 (v648 : IVec S16 32) (v697 : IVec S16 32) : Prop :=
  (∀ a x, ((![v648, v697] : Fin 2 → IVec S16 32) a x).toNat < S128x128.size a)
theorem k0_idx394_inb : ∀ (v648 : IVec S16 32) (v697 : IVec S16 32) (k0_hw394 : k0_chk394 v648 v697), ∀ a x, ((![v648, v697] : Fin 2 → IVec S16 32) a x).toNat < S128x128.size a := fun v648 v697 k0_hw394 => k0_hw394

def k0_chk395 (v659 : IVec S16 32) (v702 : IVec S16 32) : Prop :=
  (∀ a x, ((![v659, v702] : Fin 2 → IVec S16 32) a x).toNat < S128x128.size a)
theorem k0_idx395_inb : ∀ (v659 : IVec S16 32) (v702 : IVec S16 32) (k0_hw395 : k0_chk395 v659 v702), ∀ a x, ((![v659, v702] : Fin 2 → IVec S16 32) a x).toNat < S128x128.size a := fun v659 v702 k0_hw395 => k0_hw395

def k0_chk396 (v648 : IVec S16 32) (v706 : IVec S16 32) : Prop :=
  (∀ a x, ((![v648, v706] : Fin 2 → IVec S16 32) a x).toNat < S128x128.size a)
theorem k0_idx396_inb : ∀ (v648 : IVec S16 32) (v706 : IVec S16 32) (k0_hw396 : k0_chk396 v648 v706), ∀ a x, ((![v648, v706] : Fin 2 → IVec S16 32) a x).toNat < S128x128.size a := fun v648 v706 k0_hw396 => k0_hw396

def k0_chk397 (v659 : IVec S16 32) (v711 : IVec S16 32) : Prop :=
  (∀ a x, ((![v659, v711] : Fin 2 → IVec S16 32) a x).toNat < S128x128.size a)
theorem k0_idx397_inb : ∀ (v659 : IVec S16 32) (v711 : IVec S16 32) (k0_hw397 : k0_chk397 v659 v711), ∀ a x, ((![v659, v711] : Fin 2 → IVec S16 32) a x).toNat < S128x128.size a := fun v659 v711 k0_hw397 => k0_hw397

def k0_chk398 (v648 : IVec S16 32) (v715 : IVec S16 32) : Prop :=
  (∀ a x, ((![v648, v715] : Fin 2 → IVec S16 32) a x).toNat < S128x128.size a)
theorem k0_idx398_inb : ∀ (v648 : IVec S16 32) (v715 : IVec S16 32) (k0_hw398 : k0_chk398 v648 v715), ∀ a x, ((![v648, v715] : Fin 2 → IVec S16 32) a x).toNat < S128x128.size a := fun v648 v715 k0_hw398 => k0_hw398

def k0_chk399 (v659 : IVec S16 32) (v720 : IVec S16 32) : Prop :=
  (∀ a x, ((![v659, v720] : Fin 2 → IVec S16 32) a x).toNat < S128x128.size a)
theorem k0_idx399_inb : ∀ (v659 : IVec S16 32) (v720 : IVec S16 32) (k0_hw399 : k0_chk399 v659 v720), ∀ a x, ((![v659, v720] : Fin 2 → IVec S16 32) a x).toNat < S128x128.size a := fun v659 v720 k0_hw399 => k0_hw399

def k0_chk400 (v648 : IVec S16 32) (v724 : IVec S16 32) : Prop :=
  (∀ a x, ((![v648, v724] : Fin 2 → IVec S16 32) a x).toNat < S128x128.size a)
theorem k0_idx400_inb : ∀ (v648 : IVec S16 32) (v724 : IVec S16 32) (k0_hw400 : k0_chk400 v648 v724), ∀ a x, ((![v648, v724] : Fin 2 → IVec S16 32) a x).toNat < S128x128.size a := fun v648 v724 k0_hw400 => k0_hw400

def k0_chk401 (v659 : IVec S16 32) (v729 : IVec S16 32) : Prop :=
  (∀ a x, ((![v659, v729] : Fin 2 → IVec S16 32) a x).toNat < S128x128.size a)
theorem k0_idx401_inb : ∀ (v659 : IVec S16 32) (v729 : IVec S16 32) (k0_hw401 : k0_chk401 v659 v729), ∀ a x, ((![v659, v729] : Fin 2 → IVec S16 32) a x).toNat < S128x128.size a := fun v659 v729 k0_hw401 => k0_hw401

def k0_chk402 (v648 : IVec S16 32) (v733 : IVec S16 32) : Prop :=
  (∀ a x, ((![v648, v733] : Fin 2 → IVec S16 32) a x).toNat < S128x128.size a)
theorem k0_idx402_inb : ∀ (v648 : IVec S16 32) (v733 : IVec S16 32) (k0_hw402 : k0_chk402 v648 v733), ∀ a x, ((![v648, v733] : Fin 2 → IVec S16 32) a x).toNat < S128x128.size a := fun v648 v733 k0_hw402 => k0_hw402

def k0_chk403 (v659 : IVec S16 32) (v738 : IVec S16 32) : Prop :=
  (∀ a x, ((![v659, v738] : Fin 2 → IVec S16 32) a x).toNat < S128x128.size a)
theorem k0_idx403_inb : ∀ (v659 : IVec S16 32) (v738 : IVec S16 32) (k0_hw403 : k0_chk403 v659 v738), ∀ a x, ((![v659, v738] : Fin 2 → IVec S16 32) a x).toNat < S128x128.size a := fun v659 v738 k0_hw403 => k0_hw403

def k0_chk404 (v648 : IVec S16 32) (v742 : IVec S16 32) : Prop :=
  (∀ a x, ((![v648, v742] : Fin 2 → IVec S16 32) a x).toNat < S128x128.size a)
theorem k0_idx404_inb : ∀ (v648 : IVec S16 32) (v742 : IVec S16 32) (k0_hw404 : k0_chk404 v648 v742), ∀ a x, ((![v648, v742] : Fin 2 → IVec S16 32) a x).toNat < S128x128.size a := fun v648 v742 k0_hw404 => k0_hw404

def k0_chk405 (v659 : IVec S16 32) (v747 : IVec S16 32) : Prop :=
  (∀ a x, ((![v659, v747] : Fin 2 → IVec S16 32) a x).toNat < S128x128.size a)
theorem k0_idx405_inb : ∀ (v659 : IVec S16 32) (v747 : IVec S16 32) (k0_hw405 : k0_chk405 v659 v747), ∀ a x, ((![v659, v747] : Fin 2 → IVec S16 32) a x).toNat < S128x128.size a := fun v659 v747 k0_hw405 => k0_hw405

def k0_chk406 (v648 : IVec S16 32) (v751 : IVec S16 32) : Prop :=
  (∀ a x, ((![v648, v751] : Fin 2 → IVec S16 32) a x).toNat < S128x128.size a)
theorem k0_idx406_inb : ∀ (v648 : IVec S16 32) (v751 : IVec S16 32) (k0_hw406 : k0_chk406 v648 v751), ∀ a x, ((![v648, v751] : Fin 2 → IVec S16 32) a x).toNat < S128x128.size a := fun v648 v751 k0_hw406 => k0_hw406

def k0_chk407 (v659 : IVec S16 32) (v756 : IVec S16 32) : Prop :=
  (∀ a x, ((![v659, v756] : Fin 2 → IVec S16 32) a x).toNat < S128x128.size a)
theorem k0_idx407_inb : ∀ (v659 : IVec S16 32) (v756 : IVec S16 32) (k0_hw407 : k0_chk407 v659 v756), ∀ a x, ((![v659, v756] : Fin 2 → IVec S16 32) a x).toNat < S128x128.size a := fun v659 v756 k0_hw407 => k0_hw407

def k0_chk408 (v648 : IVec S16 32) (v760 : IVec S16 32) : Prop :=
  (∀ a x, ((![v648, v760] : Fin 2 → IVec S16 32) a x).toNat < S128x128.size a)
theorem k0_idx408_inb : ∀ (v648 : IVec S16 32) (v760 : IVec S16 32) (k0_hw408 : k0_chk408 v648 v760), ∀ a x, ((![v648, v760] : Fin 2 → IVec S16 32) a x).toNat < S128x128.size a := fun v648 v760 k0_hw408 => k0_hw408

def k0_chk409 (v659 : IVec S16 32) (v765 : IVec S16 32) : Prop :=
  (∀ a x, ((![v659, v765] : Fin 2 → IVec S16 32) a x).toNat < S128x128.size a)
theorem k0_idx409_inb : ∀ (v659 : IVec S16 32) (v765 : IVec S16 32) (k0_hw409 : k0_chk409 v659 v765), ∀ a x, ((![v659, v765] : Fin 2 → IVec S16 32) a x).toNat < S128x128.size a := fun v659 v765 k0_hw409 => k0_hw409

def k0_chk410 (v648 : IVec S16 32) (v769 : IVec S16 32) : Prop :=
  (∀ a x, ((![v648, v769] : Fin 2 → IVec S16 32) a x).toNat < S128x128.size a)
theorem k0_idx410_inb : ∀ (v648 : IVec S16 32) (v769 : IVec S16 32) (k0_hw410 : k0_chk410 v648 v769), ∀ a x, ((![v648, v769] : Fin 2 → IVec S16 32) a x).toNat < S128x128.size a := fun v648 v769 k0_hw410 => k0_hw410

def k0_chk411 (v659 : IVec S16 32) (v774 : IVec S16 32) : Prop :=
  (∀ a x, ((![v659, v774] : Fin 2 → IVec S16 32) a x).toNat < S128x128.size a)
theorem k0_idx411_inb : ∀ (v659 : IVec S16 32) (v774 : IVec S16 32) (k0_hw411 : k0_chk411 v659 v774), ∀ a x, ((![v659, v774] : Fin 2 → IVec S16 32) a x).toNat < S128x128.size a := fun v659 v774 k0_hw411 => k0_hw411

def k0_chk412 (v648 : IVec S16 32) (v778 : IVec S16 32) : Prop :=
  (∀ a x, ((![v648, v778] : Fin 2 → IVec S16 32) a x).toNat < S128x128.size a)
theorem k0_idx412_inb : ∀ (v648 : IVec S16 32) (v778 : IVec S16 32) (k0_hw412 : k0_chk412 v648 v778), ∀ a x, ((![v648, v778] : Fin 2 → IVec S16 32) a x).toNat < S128x128.size a := fun v648 v778 k0_hw412 => k0_hw412

def k0_chk413 (v659 : IVec S16 32) (v783 : IVec S16 32) : Prop :=
  (∀ a x, ((![v659, v783] : Fin 2 → IVec S16 32) a x).toNat < S128x128.size a)
theorem k0_idx413_inb : ∀ (v659 : IVec S16 32) (v783 : IVec S16 32) (k0_hw413 : k0_chk413 v659 v783), ∀ a x, ((![v659, v783] : Fin 2 → IVec S16 32) a x).toNat < S128x128.size a := fun v659 v783 k0_hw413 => k0_hw413

def k0_chk414 (v648 : IVec S16 32) (v787 : IVec S16 32) : Prop :=
  (∀ a x, ((![v648, v787] : Fin 2 → IVec S16 32) a x).toNat < S128x128.size a)
theorem k0_idx414_inb : ∀ (v648 : IVec S16 32) (v787 : IVec S16 32) (k0_hw414 : k0_chk414 v648 v787), ∀ a x, ((![v648, v787] : Fin 2 → IVec S16 32) a x).toNat < S128x128.size a := fun v648 v787 k0_hw414 => k0_hw414

def k0_chk415 (v659 : IVec S16 32) (v792 : IVec S16 32) : Prop :=
  (∀ a x, ((![v659, v792] : Fin 2 → IVec S16 32) a x).toNat < S128x128.size a)
theorem k0_idx415_inb : ∀ (v659 : IVec S16 32) (v792 : IVec S16 32) (k0_hw415 : k0_chk415 v659 v792), ∀ a x, ((![v659, v792] : Fin 2 → IVec S16 32) a x).toNat < S128x128.size a := fun v659 v792 k0_hw415 => k0_hw415

def k0_chk416 (v648 : IVec S16 32) (v796 : IVec S16 32) : Prop :=
  (∀ a x, ((![v648, v796] : Fin 2 → IVec S16 32) a x).toNat < S128x128.size a)
theorem k0_idx416_inb : ∀ (v648 : IVec S16 32) (v796 : IVec S16 32) (k0_hw416 : k0_chk416 v648 v796), ∀ a x, ((![v648, v796] : Fin 2 → IVec S16 32) a x).toNat < S128x128.size a := fun v648 v796 k0_hw416 => k0_hw416

def k0_chk417 (v659 : IVec S16 32) (v801 : IVec S16 32) : Prop :=
  (∀ a x, ((![v659, v801] : Fin 2 → IVec S16 32) a x).toNat < S128x128.size a)
theorem k0_idx417_inb : ∀ (v659 : IVec S16 32) (v801 : IVec S16 32) (k0_hw417 : k0_chk417 v659 v801), ∀ a x, ((![v659, v801] : Fin 2 → IVec S16 32) a x).toNat < S128x128.size a := fun v659 v801 k0_hw417 => k0_hw417

def k0_chk418 (v648 : IVec S16 32) (v805 : IVec S16 32) : Prop :=
  (∀ a x, ((![v648, v805] : Fin 2 → IVec S16 32) a x).toNat < S128x128.size a)
theorem k0_idx418_inb : ∀ (v648 : IVec S16 32) (v805 : IVec S16 32) (k0_hw418 : k0_chk418 v648 v805), ∀ a x, ((![v648, v805] : Fin 2 → IVec S16 32) a x).toNat < S128x128.size a := fun v648 v805 k0_hw418 => k0_hw418

def k0_chk419 (v659 : IVec S16 32) (v810 : IVec S16 32) : Prop :=
  (∀ a x, ((![v659, v810] : Fin 2 → IVec S16 32) a x).toNat < S128x128.size a)
theorem k0_idx419_inb : ∀ (v659 : IVec S16 32) (v810 : IVec S16 32) (k0_hw419 : k0_chk419 v659 v810), ∀ a x, ((![v659, v810] : Fin 2 → IVec S16 32) a x).toNat < S128x128.size a := fun v659 v810 k0_hw419 => k0_hw419

def k0_chk420 (v648 : IVec S16 32) (v814 : IVec S16 32) : Prop :=
  (∀ a x, ((![v648, v814] : Fin 2 → IVec S16 32) a x).toNat < S128x128.size a)
theorem k0_idx420_inb : ∀ (v648 : IVec S16 32) (v814 : IVec S16 32) (k0_hw420 : k0_chk420 v648 v814), ∀ a x, ((![v648, v814] : Fin 2 → IVec S16 32) a x).toNat < S128x128.size a := fun v648 v814 k0_hw420 => k0_hw420

def k0_chk421 (v659 : IVec S16 32) (v819 : IVec S16 32) : Prop :=
  (∀ a x, ((![v659, v819] : Fin 2 → IVec S16 32) a x).toNat < S128x128.size a)
theorem k0_idx421_inb : ∀ (v659 : IVec S16 32) (v819 : IVec S16 32) (k0_hw421 : k0_chk421 v659 v819), ∀ a x, ((![v659, v819] : Fin 2 → IVec S16 32) a x).toNat < S128x128.size a := fun v659 v819 k0_hw421 => k0_hw421

def k0_chk422 (v648 : IVec S16 32) (v823 : IVec S16 32) : Prop :=
  (∀ a x, ((![v648, v823] : Fin 2 → IVec S16 32) a x).toNat < S128x128.size a)
theorem k0_idx422_inb : ∀ (v648 : IVec S16 32) (v823 : IVec S16 32) (k0_hw422 : k0_chk422 v648 v823), ∀ a x, ((![v648, v823] : Fin 2 → IVec S16 32) a x).toNat < S128x128.size a := fun v648 v823 k0_hw422 => k0_hw422

def k0_chk423 (v659 : IVec S16 32) (v828 : IVec S16 32) : Prop :=
  (∀ a x, ((![v659, v828] : Fin 2 → IVec S16 32) a x).toNat < S128x128.size a)
theorem k0_idx423_inb : ∀ (v659 : IVec S16 32) (v828 : IVec S16 32) (k0_hw423 : k0_chk423 v659 v828), ∀ a x, ((![v659, v828] : Fin 2 → IVec S16 32) a x).toNat < S128x128.size a := fun v659 v828 k0_hw423 => k0_hw423

def k0_chk424 (v648 : IVec S16 32) (v832 : IVec S16 32) : Prop :=
  (∀ a x, ((![v648, v832] : Fin 2 → IVec S16 32) a x).toNat < S128x128.size a)
theorem k0_idx424_inb : ∀ (v648 : IVec S16 32) (v832 : IVec S16 32) (k0_hw424 : k0_chk424 v648 v832), ∀ a x, ((![v648, v832] : Fin 2 → IVec S16 32) a x).toNat < S128x128.size a := fun v648 v832 k0_hw424 => k0_hw424

def k0_chk425 (v659 : IVec S16 32) (v837 : IVec S16 32) : Prop :=
  (∀ a x, ((![v659, v837] : Fin 2 → IVec S16 32) a x).toNat < S128x128.size a)
theorem k0_idx425_inb : ∀ (v659 : IVec S16 32) (v837 : IVec S16 32) (k0_hw425 : k0_chk425 v659 v837), ∀ a x, ((![v659, v837] : Fin 2 → IVec S16 32) a x).toNat < S128x128.size a := fun v659 v837 k0_hw425 => k0_hw425

def k0_chk426 (v648 : IVec S16 32) (v841 : IVec S16 32) : Prop :=
  (∀ a x, ((![v648, v841] : Fin 2 → IVec S16 32) a x).toNat < S128x128.size a)
theorem k0_idx426_inb : ∀ (v648 : IVec S16 32) (v841 : IVec S16 32) (k0_hw426 : k0_chk426 v648 v841), ∀ a x, ((![v648, v841] : Fin 2 → IVec S16 32) a x).toNat < S128x128.size a := fun v648 v841 k0_hw426 => k0_hw426

def k0_chk427 (v659 : IVec S16 32) (v846 : IVec S16 32) : Prop :=
  (∀ a x, ((![v659, v846] : Fin 2 → IVec S16 32) a x).toNat < S128x128.size a)
theorem k0_idx427_inb : ∀ (v659 : IVec S16 32) (v846 : IVec S16 32) (k0_hw427 : k0_chk427 v659 v846), ∀ a x, ((![v659, v846] : Fin 2 → IVec S16 32) a x).toNat < S128x128.size a := fun v659 v846 k0_hw427 => k0_hw427

def k0_chk428 (v648 : IVec S16 32) (v850 : IVec S16 32) : Prop :=
  (∀ a x, ((![v648, v850] : Fin 2 → IVec S16 32) a x).toNat < S128x128.size a)
theorem k0_idx428_inb : ∀ (v648 : IVec S16 32) (v850 : IVec S16 32) (k0_hw428 : k0_chk428 v648 v850), ∀ a x, ((![v648, v850] : Fin 2 → IVec S16 32) a x).toNat < S128x128.size a := fun v648 v850 k0_hw428 => k0_hw428

def k0_chk429 (v659 : IVec S16 32) (v855 : IVec S16 32) : Prop :=
  (∀ a x, ((![v659, v855] : Fin 2 → IVec S16 32) a x).toNat < S128x128.size a)
theorem k0_idx429_inb : ∀ (v659 : IVec S16 32) (v855 : IVec S16 32) (k0_hw429 : k0_chk429 v659 v855), ∀ a x, ((![v659, v855] : Fin 2 → IVec S16 32) a x).toNat < S128x128.size a := fun v659 v855 k0_hw429 => k0_hw429

def k0_chk430 (v648 : IVec S16 32) (v859 : IVec S16 32) : Prop :=
  (∀ a x, ((![v648, v859] : Fin 2 → IVec S16 32) a x).toNat < S128x128.size a)
theorem k0_idx430_inb : ∀ (v648 : IVec S16 32) (v859 : IVec S16 32) (k0_hw430 : k0_chk430 v648 v859), ∀ a x, ((![v648, v859] : Fin 2 → IVec S16 32) a x).toNat < S128x128.size a := fun v648 v859 k0_hw430 => k0_hw430

def k0_chk431 (v659 : IVec S16 32) (v864 : IVec S16 32) : Prop :=
  (∀ a x, ((![v659, v864] : Fin 2 → IVec S16 32) a x).toNat < S128x128.size a)
theorem k0_idx431_inb : ∀ (v659 : IVec S16 32) (v864 : IVec S16 32) (k0_hw431 : k0_chk431 v659 v864), ∀ a x, ((![v659, v864] : Fin 2 → IVec S16 32) a x).toNat < S128x128.size a := fun v659 v864 k0_hw431 => k0_hw431

def k0_chk432 (v648 : IVec S16 32) (v868 : IVec S16 32) : Prop :=
  (∀ a x, ((![v648, v868] : Fin 2 → IVec S16 32) a x).toNat < S128x128.size a)
theorem k0_idx432_inb : ∀ (v648 : IVec S16 32) (v868 : IVec S16 32) (k0_hw432 : k0_chk432 v648 v868), ∀ a x, ((![v648, v868] : Fin 2 → IVec S16 32) a x).toNat < S128x128.size a := fun v648 v868 k0_hw432 => k0_hw432

def k0_chk433 (v659 : IVec S16 32) (v873 : IVec S16 32) : Prop :=
  (∀ a x, ((![v659, v873] : Fin 2 → IVec S16 32) a x).toNat < S128x128.size a)
theorem k0_idx433_inb : ∀ (v659 : IVec S16 32) (v873 : IVec S16 32) (k0_hw433 : k0_chk433 v659 v873), ∀ a x, ((![v659, v873] : Fin 2 → IVec S16 32) a x).toNat < S128x128.size a := fun v659 v873 k0_hw433 => k0_hw433

def k0_chk434 (v648 : IVec S16 32) (v877 : IVec S16 32) : Prop :=
  (∀ a x, ((![v648, v877] : Fin 2 → IVec S16 32) a x).toNat < S128x128.size a)
theorem k0_idx434_inb : ∀ (v648 : IVec S16 32) (v877 : IVec S16 32) (k0_hw434 : k0_chk434 v648 v877), ∀ a x, ((![v648, v877] : Fin 2 → IVec S16 32) a x).toNat < S128x128.size a := fun v648 v877 k0_hw434 => k0_hw434

def k0_chk435 (v659 : IVec S16 32) (v882 : IVec S16 32) : Prop :=
  (∀ a x, ((![v659, v882] : Fin 2 → IVec S16 32) a x).toNat < S128x128.size a)
theorem k0_idx435_inb : ∀ (v659 : IVec S16 32) (v882 : IVec S16 32) (k0_hw435 : k0_chk435 v659 v882), ∀ a x, ((![v659, v882] : Fin 2 → IVec S16 32) a x).toNat < S128x128.size a := fun v659 v882 k0_hw435 => k0_hw435

def k0_chk436 (v648 : IVec S16 32) (v886 : IVec S16 32) : Prop :=
  (∀ a x, ((![v648, v886] : Fin 2 → IVec S16 32) a x).toNat < S128x128.size a)
theorem k0_idx436_inb : ∀ (v648 : IVec S16 32) (v886 : IVec S16 32) (k0_hw436 : k0_chk436 v648 v886), ∀ a x, ((![v648, v886] : Fin 2 → IVec S16 32) a x).toNat < S128x128.size a := fun v648 v886 k0_hw436 => k0_hw436

def k0_chk437 (v659 : IVec S16 32) (v891 : IVec S16 32) : Prop :=
  (∀ a x, ((![v659, v891] : Fin 2 → IVec S16 32) a x).toNat < S128x128.size a)
theorem k0_idx437_inb : ∀ (v659 : IVec S16 32) (v891 : IVec S16 32) (k0_hw437 : k0_chk437 v659 v891), ∀ a x, ((![v659, v891] : Fin 2 → IVec S16 32) a x).toNat < S128x128.size a := fun v659 v891 k0_hw437 => k0_hw437

def k0_chk438 (v648 : IVec S16 32) (v895 : IVec S16 32) : Prop :=
  (∀ a x, ((![v648, v895] : Fin 2 → IVec S16 32) a x).toNat < S128x128.size a)
theorem k0_idx438_inb : ∀ (v648 : IVec S16 32) (v895 : IVec S16 32) (k0_hw438 : k0_chk438 v648 v895), ∀ a x, ((![v648, v895] : Fin 2 → IVec S16 32) a x).toNat < S128x128.size a := fun v648 v895 k0_hw438 => k0_hw438

def k0_chk439 (v659 : IVec S16 32) (v900 : IVec S16 32) : Prop :=
  (∀ a x, ((![v659, v900] : Fin 2 → IVec S16 32) a x).toNat < S128x128.size a)
theorem k0_idx439_inb : ∀ (v659 : IVec S16 32) (v900 : IVec S16 32) (k0_hw439 : k0_chk439 v659 v900), ∀ a x, ((![v659, v900] : Fin 2 → IVec S16 32) a x).toNat < S128x128.size a := fun v659 v900 k0_hw439 => k0_hw439

def k0_chk440 (v648 : IVec S16 32) (v904 : IVec S16 32) : Prop :=
  (∀ a x, ((![v648, v904] : Fin 2 → IVec S16 32) a x).toNat < S128x128.size a)
theorem k0_idx440_inb : ∀ (v648 : IVec S16 32) (v904 : IVec S16 32) (k0_hw440 : k0_chk440 v648 v904), ∀ a x, ((![v648, v904] : Fin 2 → IVec S16 32) a x).toNat < S128x128.size a := fun v648 v904 k0_hw440 => k0_hw440

def k0_chk441 (v659 : IVec S16 32) (v909 : IVec S16 32) : Prop :=
  (∀ a x, ((![v659, v909] : Fin 2 → IVec S16 32) a x).toNat < S128x128.size a)
theorem k0_idx441_inb : ∀ (v659 : IVec S16 32) (v909 : IVec S16 32) (k0_hw441 : k0_chk441 v659 v909), ∀ a x, ((![v659, v909] : Fin 2 → IVec S16 32) a x).toNat < S128x128.size a := fun v659 v909 k0_hw441 => k0_hw441

def k0_chk442 (v648 : IVec S16 32) (v913 : IVec S16 32) : Prop :=
  (∀ a x, ((![v648, v913] : Fin 2 → IVec S16 32) a x).toNat < S128x128.size a)
theorem k0_idx442_inb : ∀ (v648 : IVec S16 32) (v913 : IVec S16 32) (k0_hw442 : k0_chk442 v648 v913), ∀ a x, ((![v648, v913] : Fin 2 → IVec S16 32) a x).toNat < S128x128.size a := fun v648 v913 k0_hw442 => k0_hw442

def k0_chk443 (v659 : IVec S16 32) (v918 : IVec S16 32) : Prop :=
  (∀ a x, ((![v659, v918] : Fin 2 → IVec S16 32) a x).toNat < S128x128.size a)
theorem k0_idx443_inb : ∀ (v659 : IVec S16 32) (v918 : IVec S16 32) (k0_hw443 : k0_chk443 v659 v918), ∀ a x, ((![v659, v918] : Fin 2 → IVec S16 32) a x).toNat < S128x128.size a := fun v659 v918 k0_hw443 => k0_hw443

def k0_chk444 (v648 : IVec S16 32) (v922 : IVec S16 32) : Prop :=
  (∀ a x, ((![v648, v922] : Fin 2 → IVec S16 32) a x).toNat < S128x128.size a)
theorem k0_idx444_inb : ∀ (v648 : IVec S16 32) (v922 : IVec S16 32) (k0_hw444 : k0_chk444 v648 v922), ∀ a x, ((![v648, v922] : Fin 2 → IVec S16 32) a x).toNat < S128x128.size a := fun v648 v922 k0_hw444 => k0_hw444

def k0_chk445 (v659 : IVec S16 32) (v927 : IVec S16 32) : Prop :=
  (∀ a x, ((![v659, v927] : Fin 2 → IVec S16 32) a x).toNat < S128x128.size a)
theorem k0_idx445_inb : ∀ (v659 : IVec S16 32) (v927 : IVec S16 32) (k0_hw445 : k0_chk445 v659 v927), ∀ a x, ((![v659, v927] : Fin 2 → IVec S16 32) a x).toNat < S128x128.size a := fun v659 v927 k0_hw445 => k0_hw445

def k0_chk446 (v648 : IVec S16 32) (v931 : IVec S16 32) : Prop :=
  (∀ a x, ((![v648, v931] : Fin 2 → IVec S16 32) a x).toNat < S128x128.size a)
theorem k0_idx446_inb : ∀ (v648 : IVec S16 32) (v931 : IVec S16 32) (k0_hw446 : k0_chk446 v648 v931), ∀ a x, ((![v648, v931] : Fin 2 → IVec S16 32) a x).toNat < S128x128.size a := fun v648 v931 k0_hw446 => k0_hw446

def k0_chk447 (v659 : IVec S16 32) (v936 : IVec S16 32) : Prop :=
  (∀ a x, ((![v659, v936] : Fin 2 → IVec S16 32) a x).toNat < S128x128.size a)
theorem k0_idx447_inb : ∀ (v659 : IVec S16 32) (v936 : IVec S16 32) (k0_hw447 : k0_chk447 v659 v936), ∀ a x, ((![v659, v936] : Fin 2 → IVec S16 32) a x).toNat < S128x128.size a := fun v659 v936 k0_hw447 => k0_hw447

def k0_chk448 (v648 : IVec S16 32) (v940 : IVec S16 32) : Prop :=
  (∀ a x, ((![v648, v940] : Fin 2 → IVec S16 32) a x).toNat < S128x128.size a)
theorem k0_idx448_inb : ∀ (v648 : IVec S16 32) (v940 : IVec S16 32) (k0_hw448 : k0_chk448 v648 v940), ∀ a x, ((![v648, v940] : Fin 2 → IVec S16 32) a x).toNat < S128x128.size a := fun v648 v940 k0_hw448 => k0_hw448

def k0_chk449 (v659 : IVec S16 32) (v945 : IVec S16 32) : Prop :=
  (∀ a x, ((![v659, v945] : Fin 2 → IVec S16 32) a x).toNat < S128x128.size a)
theorem k0_idx449_inb : ∀ (v659 : IVec S16 32) (v945 : IVec S16 32) (k0_hw449 : k0_chk449 v659 v945), ∀ a x, ((![v659, v945] : Fin 2 → IVec S16 32) a x).toNat < S128x128.size a := fun v659 v945 k0_hw449 => k0_hw449

def k0_chk450 (v648 : IVec S16 32) (v949 : IVec S16 32) : Prop :=
  (∀ a x, ((![v648, v949] : Fin 2 → IVec S16 32) a x).toNat < S128x128.size a)
theorem k0_idx450_inb : ∀ (v648 : IVec S16 32) (v949 : IVec S16 32) (k0_hw450 : k0_chk450 v648 v949), ∀ a x, ((![v648, v949] : Fin 2 → IVec S16 32) a x).toNat < S128x128.size a := fun v648 v949 k0_hw450 => k0_hw450

def k0_chk451 (v659 : IVec S16 32) (v954 : IVec S16 32) : Prop :=
  (∀ a x, ((![v659, v954] : Fin 2 → IVec S16 32) a x).toNat < S128x128.size a)
theorem k0_idx451_inb : ∀ (v659 : IVec S16 32) (v954 : IVec S16 32) (k0_hw451 : k0_chk451 v659 v954), ∀ a x, ((![v659, v954] : Fin 2 → IVec S16 32) a x).toNat < S128x128.size a := fun v659 v954 k0_hw451 => k0_hw451

def k0_chk452 (v648 : IVec S16 32) (v958 : IVec S16 32) : Prop :=
  (∀ a x, ((![v648, v958] : Fin 2 → IVec S16 32) a x).toNat < S128x128.size a)
theorem k0_idx452_inb : ∀ (v648 : IVec S16 32) (v958 : IVec S16 32) (k0_hw452 : k0_chk452 v648 v958), ∀ a x, ((![v648, v958] : Fin 2 → IVec S16 32) a x).toNat < S128x128.size a := fun v648 v958 k0_hw452 => k0_hw452

def k0_chk453 (v659 : IVec S16 32) (v963 : IVec S16 32) : Prop :=
  (∀ a x, ((![v659, v963] : Fin 2 → IVec S16 32) a x).toNat < S128x128.size a)
theorem k0_idx453_inb : ∀ (v659 : IVec S16 32) (v963 : IVec S16 32) (k0_hw453 : k0_chk453 v659 v963), ∀ a x, ((![v659, v963] : Fin 2 → IVec S16 32) a x).toNat < S128x128.size a := fun v659 v963 k0_hw453 => k0_hw453

def k0_chk454 (v648 : IVec S16 32) (v967 : IVec S16 32) : Prop :=
  (∀ a x, ((![v648, v967] : Fin 2 → IVec S16 32) a x).toNat < S128x128.size a)
theorem k0_idx454_inb : ∀ (v648 : IVec S16 32) (v967 : IVec S16 32) (k0_hw454 : k0_chk454 v648 v967), ∀ a x, ((![v648, v967] : Fin 2 → IVec S16 32) a x).toNat < S128x128.size a := fun v648 v967 k0_hw454 => k0_hw454

def k0_chk455 (v659 : IVec S16 32) (v972 : IVec S16 32) : Prop :=
  (∀ a x, ((![v659, v972] : Fin 2 → IVec S16 32) a x).toNat < S128x128.size a)
theorem k0_idx455_inb : ∀ (v659 : IVec S16 32) (v972 : IVec S16 32) (k0_hw455 : k0_chk455 v659 v972), ∀ a x, ((![v659, v972] : Fin 2 → IVec S16 32) a x).toNat < S128x128.size a := fun v659 v972 k0_hw455 => k0_hw455

def k0_chk456 (v648 : IVec S16 32) (v976 : IVec S16 32) : Prop :=
  (∀ a x, ((![v648, v976] : Fin 2 → IVec S16 32) a x).toNat < S128x128.size a)
theorem k0_idx456_inb : ∀ (v648 : IVec S16 32) (v976 : IVec S16 32) (k0_hw456 : k0_chk456 v648 v976), ∀ a x, ((![v648, v976] : Fin 2 → IVec S16 32) a x).toNat < S128x128.size a := fun v648 v976 k0_hw456 => k0_hw456

def k0_chk457 (v659 : IVec S16 32) (v981 : IVec S16 32) : Prop :=
  (∀ a x, ((![v659, v981] : Fin 2 → IVec S16 32) a x).toNat < S128x128.size a)
theorem k0_idx457_inb : ∀ (v659 : IVec S16 32) (v981 : IVec S16 32) (k0_hw457 : k0_chk457 v659 v981), ∀ a x, ((![v659, v981] : Fin 2 → IVec S16 32) a x).toNat < S128x128.size a := fun v659 v981 k0_hw457 => k0_hw457

def k0_chk458 (v648 : IVec S16 32) (v985 : IVec S16 32) : Prop :=
  (∀ a x, ((![v648, v985] : Fin 2 → IVec S16 32) a x).toNat < S128x128.size a)
theorem k0_idx458_inb : ∀ (v648 : IVec S16 32) (v985 : IVec S16 32) (k0_hw458 : k0_chk458 v648 v985), ∀ a x, ((![v648, v985] : Fin 2 → IVec S16 32) a x).toNat < S128x128.size a := fun v648 v985 k0_hw458 => k0_hw458

def k0_chk459 (v659 : IVec S16 32) (v990 : IVec S16 32) : Prop :=
  (∀ a x, ((![v659, v990] : Fin 2 → IVec S16 32) a x).toNat < S128x128.size a)
theorem k0_idx459_inb : ∀ (v659 : IVec S16 32) (v990 : IVec S16 32) (k0_hw459 : k0_chk459 v659 v990), ∀ a x, ((![v659, v990] : Fin 2 → IVec S16 32) a x).toNat < S128x128.size a := fun v659 v990 k0_hw459 => k0_hw459

def k0_chk460 (v648 : IVec S16 32) (v994 : IVec S16 32) : Prop :=
  (∀ a x, ((![v648, v994] : Fin 2 → IVec S16 32) a x).toNat < S128x128.size a)
theorem k0_idx460_inb : ∀ (v648 : IVec S16 32) (v994 : IVec S16 32) (k0_hw460 : k0_chk460 v648 v994), ∀ a x, ((![v648, v994] : Fin 2 → IVec S16 32) a x).toNat < S128x128.size a := fun v648 v994 k0_hw460 => k0_hw460

def k0_chk461 (v659 : IVec S16 32) (v999 : IVec S16 32) : Prop :=
  (∀ a x, ((![v659, v999] : Fin 2 → IVec S16 32) a x).toNat < S128x128.size a)
theorem k0_idx461_inb : ∀ (v659 : IVec S16 32) (v999 : IVec S16 32) (k0_hw461 : k0_chk461 v659 v999), ∀ a x, ((![v659, v999] : Fin 2 → IVec S16 32) a x).toNat < S128x128.size a := fun v659 v999 k0_hw461 => k0_hw461

def k0_chk462 (v648 : IVec S16 32) (v1003 : IVec S16 32) : Prop :=
  (∀ a x, ((![v648, v1003] : Fin 2 → IVec S16 32) a x).toNat < S128x128.size a)
theorem k0_idx462_inb : ∀ (v648 : IVec S16 32) (v1003 : IVec S16 32) (k0_hw462 : k0_chk462 v648 v1003), ∀ a x, ((![v648, v1003] : Fin 2 → IVec S16 32) a x).toNat < S128x128.size a := fun v648 v1003 k0_hw462 => k0_hw462

def k0_chk463 (v659 : IVec S16 32) (v1008 : IVec S16 32) : Prop :=
  (∀ a x, ((![v659, v1008] : Fin 2 → IVec S16 32) a x).toNat < S128x128.size a)
theorem k0_idx463_inb : ∀ (v659 : IVec S16 32) (v1008 : IVec S16 32) (k0_hw463 : k0_chk463 v659 v1008), ∀ a x, ((![v659, v1008] : Fin 2 → IVec S16 32) a x).toNat < S128x128.size a := fun v659 v1008 k0_hw463 => k0_hw463

def k0_chk464 (v648 : IVec S16 32) (v1012 : IVec S16 32) : Prop :=
  (∀ a x, ((![v648, v1012] : Fin 2 → IVec S16 32) a x).toNat < S128x128.size a)
theorem k0_idx464_inb : ∀ (v648 : IVec S16 32) (v1012 : IVec S16 32) (k0_hw464 : k0_chk464 v648 v1012), ∀ a x, ((![v648, v1012] : Fin 2 → IVec S16 32) a x).toNat < S128x128.size a := fun v648 v1012 k0_hw464 => k0_hw464

def k0_chk465 (v659 : IVec S16 32) (v1017 : IVec S16 32) : Prop :=
  (∀ a x, ((![v659, v1017] : Fin 2 → IVec S16 32) a x).toNat < S128x128.size a)
theorem k0_idx465_inb : ∀ (v659 : IVec S16 32) (v1017 : IVec S16 32) (k0_hw465 : k0_chk465 v659 v1017), ∀ a x, ((![v659, v1017] : Fin 2 → IVec S16 32) a x).toNat < S128x128.size a := fun v659 v1017 k0_hw465 => k0_hw465

def k0_chk466 (v648 : IVec S16 32) (v1021 : IVec S16 32) : Prop :=
  (∀ a x, ((![v648, v1021] : Fin 2 → IVec S16 32) a x).toNat < S128x128.size a)
theorem k0_idx466_inb : ∀ (v648 : IVec S16 32) (v1021 : IVec S16 32) (k0_hw466 : k0_chk466 v648 v1021), ∀ a x, ((![v648, v1021] : Fin 2 → IVec S16 32) a x).toNat < S128x128.size a := fun v648 v1021 k0_hw466 => k0_hw466

def k0_chk467 (v659 : IVec S16 32) (v1026 : IVec S16 32) : Prop :=
  (∀ a x, ((![v659, v1026] : Fin 2 → IVec S16 32) a x).toNat < S128x128.size a)
theorem k0_idx467_inb : ∀ (v659 : IVec S16 32) (v1026 : IVec S16 32) (k0_hw467 : k0_chk467 v659 v1026), ∀ a x, ((![v659, v1026] : Fin 2 → IVec S16 32) a x).toNat < S128x128.size a := fun v659 v1026 k0_hw467 => k0_hw467

def k0_chk468 (v648 : IVec S16 32) (v1030 : IVec S16 32) : Prop :=
  (∀ a x, ((![v648, v1030] : Fin 2 → IVec S16 32) a x).toNat < S128x128.size a)
theorem k0_idx468_inb : ∀ (v648 : IVec S16 32) (v1030 : IVec S16 32) (k0_hw468 : k0_chk468 v648 v1030), ∀ a x, ((![v648, v1030] : Fin 2 → IVec S16 32) a x).toNat < S128x128.size a := fun v648 v1030 k0_hw468 => k0_hw468

def k0_chk469 (v659 : IVec S16 32) (v1035 : IVec S16 32) : Prop :=
  (∀ a x, ((![v659, v1035] : Fin 2 → IVec S16 32) a x).toNat < S128x128.size a)
theorem k0_idx469_inb : ∀ (v659 : IVec S16 32) (v1035 : IVec S16 32) (k0_hw469 : k0_chk469 v659 v1035), ∀ a x, ((![v659, v1035] : Fin 2 → IVec S16 32) a x).toNat < S128x128.size a := fun v659 v1035 k0_hw469 => k0_hw469

def k0_chk470 (v648 : IVec S16 32) (v1039 : IVec S16 32) : Prop :=
  (∀ a x, ((![v648, v1039] : Fin 2 → IVec S16 32) a x).toNat < S128x128.size a)
theorem k0_idx470_inb : ∀ (v648 : IVec S16 32) (v1039 : IVec S16 32) (k0_hw470 : k0_chk470 v648 v1039), ∀ a x, ((![v648, v1039] : Fin 2 → IVec S16 32) a x).toNat < S128x128.size a := fun v648 v1039 k0_hw470 => k0_hw470

def k0_chk471 (v659 : IVec S16 32) (v1044 : IVec S16 32) : Prop :=
  (∀ a x, ((![v659, v1044] : Fin 2 → IVec S16 32) a x).toNat < S128x128.size a)
theorem k0_idx471_inb : ∀ (v659 : IVec S16 32) (v1044 : IVec S16 32) (k0_hw471 : k0_chk471 v659 v1044), ∀ a x, ((![v659, v1044] : Fin 2 → IVec S16 32) a x).toNat < S128x128.size a := fun v659 v1044 k0_hw471 => k0_hw471

def k0_chk472 (v648 : IVec S16 32) (v1048 : IVec S16 32) : Prop :=
  (∀ a x, ((![v648, v1048] : Fin 2 → IVec S16 32) a x).toNat < S128x128.size a)
theorem k0_idx472_inb : ∀ (v648 : IVec S16 32) (v1048 : IVec S16 32) (k0_hw472 : k0_chk472 v648 v1048), ∀ a x, ((![v648, v1048] : Fin 2 → IVec S16 32) a x).toNat < S128x128.size a := fun v648 v1048 k0_hw472 => k0_hw472

def k0_chk473 (v659 : IVec S16 32) (v1053 : IVec S16 32) : Prop :=
  (∀ a x, ((![v659, v1053] : Fin 2 → IVec S16 32) a x).toNat < S128x128.size a)
theorem k0_idx473_inb : ∀ (v659 : IVec S16 32) (v1053 : IVec S16 32) (k0_hw473 : k0_chk473 v659 v1053), ∀ a x, ((![v659, v1053] : Fin 2 → IVec S16 32) a x).toNat < S128x128.size a := fun v659 v1053 k0_hw473 => k0_hw473

def k0_chk474 (v648 : IVec S16 32) (v1057 : IVec S16 32) : Prop :=
  (∀ a x, ((![v648, v1057] : Fin 2 → IVec S16 32) a x).toNat < S128x128.size a)
theorem k0_idx474_inb : ∀ (v648 : IVec S16 32) (v1057 : IVec S16 32) (k0_hw474 : k0_chk474 v648 v1057), ∀ a x, ((![v648, v1057] : Fin 2 → IVec S16 32) a x).toNat < S128x128.size a := fun v648 v1057 k0_hw474 => k0_hw474

def k0_chk475 (v659 : IVec S16 32) (v1062 : IVec S16 32) : Prop :=
  (∀ a x, ((![v659, v1062] : Fin 2 → IVec S16 32) a x).toNat < S128x128.size a)
theorem k0_idx475_inb : ∀ (v659 : IVec S16 32) (v1062 : IVec S16 32) (k0_hw475 : k0_chk475 v659 v1062), ∀ a x, ((![v659, v1062] : Fin 2 → IVec S16 32) a x).toNat < S128x128.size a := fun v659 v1062 k0_hw475 => k0_hw475

def k0_chk476 (v648 : IVec S16 32) (v1066 : IVec S16 32) : Prop :=
  (∀ a x, ((![v648, v1066] : Fin 2 → IVec S16 32) a x).toNat < S128x128.size a)
theorem k0_idx476_inb : ∀ (v648 : IVec S16 32) (v1066 : IVec S16 32) (k0_hw476 : k0_chk476 v648 v1066), ∀ a x, ((![v648, v1066] : Fin 2 → IVec S16 32) a x).toNat < S128x128.size a := fun v648 v1066 k0_hw476 => k0_hw476

def k0_chk477 (v659 : IVec S16 32) (v1071 : IVec S16 32) : Prop :=
  (∀ a x, ((![v659, v1071] : Fin 2 → IVec S16 32) a x).toNat < S128x128.size a)
theorem k0_idx477_inb : ∀ (v659 : IVec S16 32) (v1071 : IVec S16 32) (k0_hw477 : k0_chk477 v659 v1071), ∀ a x, ((![v659, v1071] : Fin 2 → IVec S16 32) a x).toNat < S128x128.size a := fun v659 v1071 k0_hw477 => k0_hw477

def k0_chk478 (v648 : IVec S16 32) (v1075 : IVec S16 32) : Prop :=
  (∀ a x, ((![v648, v1075] : Fin 2 → IVec S16 32) a x).toNat < S128x128.size a)
theorem k0_idx478_inb : ∀ (v648 : IVec S16 32) (v1075 : IVec S16 32) (k0_hw478 : k0_chk478 v648 v1075), ∀ a x, ((![v648, v1075] : Fin 2 → IVec S16 32) a x).toNat < S128x128.size a := fun v648 v1075 k0_hw478 => k0_hw478

def k0_chk479 (v659 : IVec S16 32) (v1080 : IVec S16 32) : Prop :=
  (∀ a x, ((![v659, v1080] : Fin 2 → IVec S16 32) a x).toNat < S128x128.size a)
theorem k0_idx479_inb : ∀ (v659 : IVec S16 32) (v1080 : IVec S16 32) (k0_hw479 : k0_chk479 v659 v1080), ∀ a x, ((![v659, v1080] : Fin 2 → IVec S16 32) a x).toNat < S128x128.size a := fun v659 v1080 k0_hw479 => k0_hw479

def k0_chk480 (v648 : IVec S16 32) (v1084 : IVec S16 32) : Prop :=
  (∀ a x, ((![v648, v1084] : Fin 2 → IVec S16 32) a x).toNat < S128x128.size a)
theorem k0_idx480_inb : ∀ (v648 : IVec S16 32) (v1084 : IVec S16 32) (k0_hw480 : k0_chk480 v648 v1084), ∀ a x, ((![v648, v1084] : Fin 2 → IVec S16 32) a x).toNat < S128x128.size a := fun v648 v1084 k0_hw480 => k0_hw480

def k0_chk481 (v659 : IVec S16 32) (v1089 : IVec S16 32) : Prop :=
  (∀ a x, ((![v659, v1089] : Fin 2 → IVec S16 32) a x).toNat < S128x128.size a)
theorem k0_idx481_inb : ∀ (v659 : IVec S16 32) (v1089 : IVec S16 32) (k0_hw481 : k0_chk481 v659 v1089), ∀ a x, ((![v659, v1089] : Fin 2 → IVec S16 32) a x).toNat < S128x128.size a := fun v659 v1089 k0_hw481 => k0_hw481

def k0_chk482 (v648 : IVec S16 32) (v1093 : IVec S16 32) : Prop :=
  (∀ a x, ((![v648, v1093] : Fin 2 → IVec S16 32) a x).toNat < S128x128.size a)
theorem k0_idx482_inb : ∀ (v648 : IVec S16 32) (v1093 : IVec S16 32) (k0_hw482 : k0_chk482 v648 v1093), ∀ a x, ((![v648, v1093] : Fin 2 → IVec S16 32) a x).toNat < S128x128.size a := fun v648 v1093 k0_hw482 => k0_hw482

def k0_chk483 (v659 : IVec S16 32) (v1098 : IVec S16 32) : Prop :=
  (∀ a x, ((![v659, v1098] : Fin 2 → IVec S16 32) a x).toNat < S128x128.size a)
theorem k0_idx483_inb : ∀ (v659 : IVec S16 32) (v1098 : IVec S16 32) (k0_hw483 : k0_chk483 v659 v1098), ∀ a x, ((![v659, v1098] : Fin 2 → IVec S16 32) a x).toNat < S128x128.size a := fun v659 v1098 k0_hw483 => k0_hw483

def k0_chk484 (v648 : IVec S16 32) (v1102 : IVec S16 32) : Prop :=
  (∀ a x, ((![v648, v1102] : Fin 2 → IVec S16 32) a x).toNat < S128x128.size a)
theorem k0_idx484_inb : ∀ (v648 : IVec S16 32) (v1102 : IVec S16 32) (k0_hw484 : k0_chk484 v648 v1102), ∀ a x, ((![v648, v1102] : Fin 2 → IVec S16 32) a x).toNat < S128x128.size a := fun v648 v1102 k0_hw484 => k0_hw484

def k0_chk485 (v659 : IVec S16 32) (v1107 : IVec S16 32) : Prop :=
  (∀ a x, ((![v659, v1107] : Fin 2 → IVec S16 32) a x).toNat < S128x128.size a)
theorem k0_idx485_inb : ∀ (v659 : IVec S16 32) (v1107 : IVec S16 32) (k0_hw485 : k0_chk485 v659 v1107), ∀ a x, ((![v659, v1107] : Fin 2 → IVec S16 32) a x).toNat < S128x128.size a := fun v659 v1107 k0_hw485 => k0_hw485

def k0_chk486 (v648 : IVec S16 32) (v1111 : IVec S16 32) : Prop :=
  (∀ a x, ((![v648, v1111] : Fin 2 → IVec S16 32) a x).toNat < S128x128.size a)
theorem k0_idx486_inb : ∀ (v648 : IVec S16 32) (v1111 : IVec S16 32) (k0_hw486 : k0_chk486 v648 v1111), ∀ a x, ((![v648, v1111] : Fin 2 → IVec S16 32) a x).toNat < S128x128.size a := fun v648 v1111 k0_hw486 => k0_hw486

def k0_chk487 (v659 : IVec S16 32) (v1116 : IVec S16 32) : Prop :=
  (∀ a x, ((![v659, v1116] : Fin 2 → IVec S16 32) a x).toNat < S128x128.size a)
theorem k0_idx487_inb : ∀ (v659 : IVec S16 32) (v1116 : IVec S16 32) (k0_hw487 : k0_chk487 v659 v1116), ∀ a x, ((![v659, v1116] : Fin 2 → IVec S16 32) a x).toNat < S128x128.size a := fun v659 v1116 k0_hw487 => k0_hw487

def k0_chk488 (v648 : IVec S16 32) (v1120 : IVec S16 32) : Prop :=
  (∀ a x, ((![v648, v1120] : Fin 2 → IVec S16 32) a x).toNat < S128x128.size a)
theorem k0_idx488_inb : ∀ (v648 : IVec S16 32) (v1120 : IVec S16 32) (k0_hw488 : k0_chk488 v648 v1120), ∀ a x, ((![v648, v1120] : Fin 2 → IVec S16 32) a x).toNat < S128x128.size a := fun v648 v1120 k0_hw488 => k0_hw488

def k0_chk489 (v659 : IVec S16 32) (v1125 : IVec S16 32) : Prop :=
  (∀ a x, ((![v659, v1125] : Fin 2 → IVec S16 32) a x).toNat < S128x128.size a)
theorem k0_idx489_inb : ∀ (v659 : IVec S16 32) (v1125 : IVec S16 32) (k0_hw489 : k0_chk489 v659 v1125), ∀ a x, ((![v659, v1125] : Fin 2 → IVec S16 32) a x).toNat < S128x128.size a := fun v659 v1125 k0_hw489 => k0_hw489

def k0_chk490 (v648 : IVec S16 32) (v1129 : IVec S16 32) : Prop :=
  (∀ a x, ((![v648, v1129] : Fin 2 → IVec S16 32) a x).toNat < S128x128.size a)
theorem k0_idx490_inb : ∀ (v648 : IVec S16 32) (v1129 : IVec S16 32) (k0_hw490 : k0_chk490 v648 v1129), ∀ a x, ((![v648, v1129] : Fin 2 → IVec S16 32) a x).toNat < S128x128.size a := fun v648 v1129 k0_hw490 => k0_hw490

def k0_chk491 (v659 : IVec S16 32) (v1134 : IVec S16 32) : Prop :=
  (∀ a x, ((![v659, v1134] : Fin 2 → IVec S16 32) a x).toNat < S128x128.size a)
theorem k0_idx491_inb : ∀ (v659 : IVec S16 32) (v1134 : IVec S16 32) (k0_hw491 : k0_chk491 v659 v1134), ∀ a x, ((![v659, v1134] : Fin 2 → IVec S16 32) a x).toNat < S128x128.size a := fun v659 v1134 k0_hw491 => k0_hw491

def k0_chk492 (v648 : IVec S16 32) (v1138 : IVec S16 32) : Prop :=
  (∀ a x, ((![v648, v1138] : Fin 2 → IVec S16 32) a x).toNat < S128x128.size a)
theorem k0_idx492_inb : ∀ (v648 : IVec S16 32) (v1138 : IVec S16 32) (k0_hw492 : k0_chk492 v648 v1138), ∀ a x, ((![v648, v1138] : Fin 2 → IVec S16 32) a x).toNat < S128x128.size a := fun v648 v1138 k0_hw492 => k0_hw492

def k0_chk493 (v659 : IVec S16 32) (v1143 : IVec S16 32) : Prop :=
  (∀ a x, ((![v659, v1143] : Fin 2 → IVec S16 32) a x).toNat < S128x128.size a)
theorem k0_idx493_inb : ∀ (v659 : IVec S16 32) (v1143 : IVec S16 32) (k0_hw493 : k0_chk493 v659 v1143), ∀ a x, ((![v659, v1143] : Fin 2 → IVec S16 32) a x).toNat < S128x128.size a := fun v659 v1143 k0_hw493 => k0_hw493

def k0_chk494 (v648 : IVec S16 32) (v1147 : IVec S16 32) : Prop :=
  (∀ a x, ((![v648, v1147] : Fin 2 → IVec S16 32) a x).toNat < S128x128.size a)
theorem k0_idx494_inb : ∀ (v648 : IVec S16 32) (v1147 : IVec S16 32) (k0_hw494 : k0_chk494 v648 v1147), ∀ a x, ((![v648, v1147] : Fin 2 → IVec S16 32) a x).toNat < S128x128.size a := fun v648 v1147 k0_hw494 => k0_hw494

def k0_chk495 (v659 : IVec S16 32) (v1152 : IVec S16 32) : Prop :=
  (∀ a x, ((![v659, v1152] : Fin 2 → IVec S16 32) a x).toNat < S128x128.size a)
theorem k0_idx495_inb : ∀ (v659 : IVec S16 32) (v1152 : IVec S16 32) (k0_hw495 : k0_chk495 v659 v1152), ∀ a x, ((![v659, v1152] : Fin 2 → IVec S16 32) a x).toNat < S128x128.size a := fun v659 v1152 k0_hw495 => k0_hw495

def k0_chk496 (v648 : IVec S16 32) (v1156 : IVec S16 32) : Prop :=
  (∀ a x, ((![v648, v1156] : Fin 2 → IVec S16 32) a x).toNat < S128x128.size a)
theorem k0_idx496_inb : ∀ (v648 : IVec S16 32) (v1156 : IVec S16 32) (k0_hw496 : k0_chk496 v648 v1156), ∀ a x, ((![v648, v1156] : Fin 2 → IVec S16 32) a x).toNat < S128x128.size a := fun v648 v1156 k0_hw496 => k0_hw496

def k0_chk497 (v659 : IVec S16 32) (v1161 : IVec S16 32) : Prop :=
  (∀ a x, ((![v659, v1161] : Fin 2 → IVec S16 32) a x).toNat < S128x128.size a)
theorem k0_idx497_inb : ∀ (v659 : IVec S16 32) (v1161 : IVec S16 32) (k0_hw497 : k0_chk497 v659 v1161), ∀ a x, ((![v659, v1161] : Fin 2 → IVec S16 32) a x).toNat < S128x128.size a := fun v659 v1161 k0_hw497 => k0_hw497

def k0_chk498 (v648 : IVec S16 32) (v1165 : IVec S16 32) : Prop :=
  (∀ a x, ((![v648, v1165] : Fin 2 → IVec S16 32) a x).toNat < S128x128.size a)
theorem k0_idx498_inb : ∀ (v648 : IVec S16 32) (v1165 : IVec S16 32) (k0_hw498 : k0_chk498 v648 v1165), ∀ a x, ((![v648, v1165] : Fin 2 → IVec S16 32) a x).toNat < S128x128.size a := fun v648 v1165 k0_hw498 => k0_hw498

def k0_chk499 (v659 : IVec S16 32) (v1170 : IVec S16 32) : Prop :=
  (∀ a x, ((![v659, v1170] : Fin 2 → IVec S16 32) a x).toNat < S128x128.size a)
theorem k0_idx499_inb : ∀ (v659 : IVec S16 32) (v1170 : IVec S16 32) (k0_hw499 : k0_chk499 v659 v1170), ∀ a x, ((![v659, v1170] : Fin 2 → IVec S16 32) a x).toNat < S128x128.size a := fun v659 v1170 k0_hw499 => k0_hw499

def k0_chk500 (v648 : IVec S16 32) (v1174 : IVec S16 32) : Prop :=
  (∀ a x, ((![v648, v1174] : Fin 2 → IVec S16 32) a x).toNat < S128x128.size a)
theorem k0_idx500_inb : ∀ (v648 : IVec S16 32) (v1174 : IVec S16 32) (k0_hw500 : k0_chk500 v648 v1174), ∀ a x, ((![v648, v1174] : Fin 2 → IVec S16 32) a x).toNat < S128x128.size a := fun v648 v1174 k0_hw500 => k0_hw500

def k0_chk501 (v659 : IVec S16 32) (v1179 : IVec S16 32) : Prop :=
  (∀ a x, ((![v659, v1179] : Fin 2 → IVec S16 32) a x).toNat < S128x128.size a)
theorem k0_idx501_inb : ∀ (v659 : IVec S16 32) (v1179 : IVec S16 32) (k0_hw501 : k0_chk501 v659 v1179), ∀ a x, ((![v659, v1179] : Fin 2 → IVec S16 32) a x).toNat < S128x128.size a := fun v659 v1179 k0_hw501 => k0_hw501

def k0_chk502 (v648 : IVec S16 32) (v1183 : IVec S16 32) : Prop :=
  (∀ a x, ((![v648, v1183] : Fin 2 → IVec S16 32) a x).toNat < S128x128.size a)
theorem k0_idx502_inb : ∀ (v648 : IVec S16 32) (v1183 : IVec S16 32) (k0_hw502 : k0_chk502 v648 v1183), ∀ a x, ((![v648, v1183] : Fin 2 → IVec S16 32) a x).toNat < S128x128.size a := fun v648 v1183 k0_hw502 => k0_hw502

def k0_chk503 (v659 : IVec S16 32) (v1188 : IVec S16 32) : Prop :=
  (∀ a x, ((![v659, v1188] : Fin 2 → IVec S16 32) a x).toNat < S128x128.size a)
theorem k0_idx503_inb : ∀ (v659 : IVec S16 32) (v1188 : IVec S16 32) (k0_hw503 : k0_chk503 v659 v1188), ∀ a x, ((![v659, v1188] : Fin 2 → IVec S16 32) a x).toNat < S128x128.size a := fun v659 v1188 k0_hw503 => k0_hw503

def k0_chk504 (v648 : IVec S16 32) (v1192 : IVec S16 32) : Prop :=
  (∀ a x, ((![v648, v1192] : Fin 2 → IVec S16 32) a x).toNat < S128x128.size a)
theorem k0_idx504_inb : ∀ (v648 : IVec S16 32) (v1192 : IVec S16 32) (k0_hw504 : k0_chk504 v648 v1192), ∀ a x, ((![v648, v1192] : Fin 2 → IVec S16 32) a x).toNat < S128x128.size a := fun v648 v1192 k0_hw504 => k0_hw504

def k0_chk505 (v659 : IVec S16 32) (v1197 : IVec S16 32) : Prop :=
  (∀ a x, ((![v659, v1197] : Fin 2 → IVec S16 32) a x).toNat < S128x128.size a)
theorem k0_idx505_inb : ∀ (v659 : IVec S16 32) (v1197 : IVec S16 32) (k0_hw505 : k0_chk505 v659 v1197), ∀ a x, ((![v659, v1197] : Fin 2 → IVec S16 32) a x).toNat < S128x128.size a := fun v659 v1197 k0_hw505 => k0_hw505

def k0_chk506 (v648 : IVec S16 32) (v1201 : IVec S16 32) : Prop :=
  (∀ a x, ((![v648, v1201] : Fin 2 → IVec S16 32) a x).toNat < S128x128.size a)
theorem k0_idx506_inb : ∀ (v648 : IVec S16 32) (v1201 : IVec S16 32) (k0_hw506 : k0_chk506 v648 v1201), ∀ a x, ((![v648, v1201] : Fin 2 → IVec S16 32) a x).toNat < S128x128.size a := fun v648 v1201 k0_hw506 => k0_hw506

def k0_chk507 (v659 : IVec S16 32) (v1206 : IVec S16 32) : Prop :=
  (∀ a x, ((![v659, v1206] : Fin 2 → IVec S16 32) a x).toNat < S128x128.size a)
theorem k0_idx507_inb : ∀ (v659 : IVec S16 32) (v1206 : IVec S16 32) (k0_hw507 : k0_chk507 v659 v1206), ∀ a x, ((![v659, v1206] : Fin 2 → IVec S16 32) a x).toNat < S128x128.size a := fun v659 v1206 k0_hw507 => k0_hw507

def k0_chk508 (v648 : IVec S16 32) (v1210 : IVec S16 32) : Prop :=
  (∀ a x, ((![v648, v1210] : Fin 2 → IVec S16 32) a x).toNat < S128x128.size a)
theorem k0_idx508_inb : ∀ (v648 : IVec S16 32) (v1210 : IVec S16 32) (k0_hw508 : k0_chk508 v648 v1210), ∀ a x, ((![v648, v1210] : Fin 2 → IVec S16 32) a x).toNat < S128x128.size a := fun v648 v1210 k0_hw508 => k0_hw508

def k0_chk509 (v659 : IVec S16 32) (v1215 : IVec S16 32) : Prop :=
  (∀ a x, ((![v659, v1215] : Fin 2 → IVec S16 32) a x).toNat < S128x128.size a)
theorem k0_idx509_inb : ∀ (v659 : IVec S16 32) (v1215 : IVec S16 32) (k0_hw509 : k0_chk509 v659 v1215), ∀ a x, ((![v659, v1215] : Fin 2 → IVec S16 32) a x).toNat < S128x128.size a := fun v659 v1215 k0_hw509 => k0_hw509

def k0_chk510 (v648 : IVec S16 32) (v1219 : IVec S16 32) : Prop :=
  (∀ a x, ((![v648, v1219] : Fin 2 → IVec S16 32) a x).toNat < S128x128.size a)
theorem k0_idx510_inb : ∀ (v648 : IVec S16 32) (v1219 : IVec S16 32) (k0_hw510 : k0_chk510 v648 v1219), ∀ a x, ((![v648, v1219] : Fin 2 → IVec S16 32) a x).toNat < S128x128.size a := fun v648 v1219 k0_hw510 => k0_hw510

def k0_chk511 (v659 : IVec S16 32) (v1224 : IVec S16 32) : Prop :=
  (∀ a x, ((![v659, v1224] : Fin 2 → IVec S16 32) a x).toNat < S128x128.size a)
theorem k0_idx511_inb : ∀ (v659 : IVec S16 32) (v1224 : IVec S16 32) (k0_hw511 : k0_chk511 v659 v1224), ∀ a x, ((![v659, v1224] : Fin 2 → IVec S16 32) a x).toNat < S128x128.size a := fun v659 v1224 k0_hw511 => k0_hw511

def k0_chk512 (v648 : IVec S16 32) (v1228 : IVec S16 32) : Prop :=
  (∀ a x, ((![v648, v1228] : Fin 2 → IVec S16 32) a x).toNat < S128x128.size a)
theorem k0_idx512_inb : ∀ (v648 : IVec S16 32) (v1228 : IVec S16 32) (k0_hw512 : k0_chk512 v648 v1228), ∀ a x, ((![v648, v1228] : Fin 2 → IVec S16 32) a x).toNat < S128x128.size a := fun v648 v1228 k0_hw512 => k0_hw512

def k0_chk513 (v659 : IVec S16 32) (v1233 : IVec S16 32) : Prop :=
  (∀ a x, ((![v659, v1233] : Fin 2 → IVec S16 32) a x).toNat < S128x128.size a)
theorem k0_idx513_inb : ∀ (v659 : IVec S16 32) (v1233 : IVec S16 32) (k0_hw513 : k0_chk513 v659 v1233), ∀ a x, ((![v659, v1233] : Fin 2 → IVec S16 32) a x).toNat < S128x128.size a := fun v659 v1233 k0_hw513 => k0_hw513
def k0_mult12 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v3 : BitVec 32 := Scalar.muli v1 c16384_i32
  let c0_i32_170 : BitVec 32 := 0#32
  let c1_i32_171 : BitVec 32 := 1#32
  let arg12 : BitVec 32 := Scf.iv c0_i32_170 c1_i32_171 k0_t2
  let c4_i32_173 : BitVec 32 := 4#32
  let v429 : BitVec 32 := Scalar.muli arg12 c4_i32_173
  let c3_i32_317 : BitVec 32 := 3#32
  let v585 : BitVec 32 := Scalar.addi v429 c3_i32_317
  let c128_i32_318 : BitVec 32 := 128#32
  let v586 : BitVec 32 := Scalar.muli v585 c128_i32_318
  let v587 : BitVec 32 := Scalar.addi v3 v586
  let c0_i32_320 : BitVec 32 := 0#32
  let v589 : BitVec 1 := Scalar.cmpi .sgt v587 c0_i32_320
  let v590 : BitVec 32 := Scalar.extui v589
  let c0_i32_321 : BitVec 32 := 0#32
  let v591 : BitVec 1 := Scalar.cmpi .slt v587 c0_i32_321
  let v592 : BitVec 32 := Scalar.extui v591
  let v593 : BitVec 32 := Scalar.subi v590 v592
  let c2_i32_319 : BitVec 32 := 2#32
  let c0_i32_322 : BitVec 32 := 0#32
  let v594 : BitVec 1 := Scalar.cmpi .sgt c2_i32_319 c0_i32_322
  let v595 : BitVec 32 := Scalar.extui v594
  let c0_i32_323 : BitVec 32 := 0#32
  let v596 : BitVec 1 := Scalar.cmpi .slt c2_i32_319 c0_i32_323
  let v597 : BitVec 32 := Scalar.extui v596
  let v598 : BitVec 32 := Scalar.subi v595 v597
  let v599 : BitVec 1 := Scalar.cmpi .ne v593 v598
  let v600 : BitVec 32 := Scalar.remsi v587 c2_i32_319
  let c0_i32_324 : BitVec 32 := 0#32
  let v601 : BitVec 1 := Scalar.cmpi .ne v600 c0_i32_324
  let v602 : BitVec 1 := Scalar.andi v599 v601
  let v588 : BitVec 32 := Scalar.divsi v587 c2_i32_319
  let c1_i32_325 : BitVec 32 := 1#32
  let v603 : BitVec 32 := Scalar.subi v588 c1_i32_325
  let v604 : BitVec 32 := Scalar.select v602 v603 v588
  v604
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x32 : Shape := ⟨2, ![16384, 32]⟩
abbrev S1000000x64 : Shape := ⟨2, ![1000000, 64]⟩
abbrev S2048x128 : Shape := ⟨2, ![2048, 128]⟩
abbrev S128 : Shape := ⟨1, ![128]⟩
abbrev S128x2 : Shape := ⟨2, ![128, 2]⟩
abbrev S2 : Shape := ⟨1, ![2]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S16384x32x64 : Shape := ⟨3, ![16384, 32, 64]⟩
abbrev S16384x2048 : Shape := ⟨2, ![16384, 2048]⟩
abbrev S16384x128 : Shape := ⟨2, ![16384, 128]⟩
abbrev S1x128 : Shape := ⟨2, ![1, 128]⟩
abbrev S16384x2 : Shape := ⟨2, ![16384, 2]⟩
abbrev S1x2 : Shape := ⟨2, ![1, 2]⟩

abbrev nBuf : Space → Nat
  | .hbm => 45
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S1000000x64, .f32⟩
  | .hbm, ⟨2, _⟩ => ⟨S2048x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S_, .i32⟩
  | .hbm, ⟨7, _⟩ => ⟨S16384x32, .i32⟩
  | .hbm, ⟨8, _⟩ => ⟨S16384x32, .i1⟩
  | .hbm, ⟨9, _⟩ => ⟨S_, .i32⟩
  | .hbm, ⟨10, _⟩ => ⟨S16384x32, .i32⟩
  | .hbm, ⟨11, _⟩ => ⟨S16384x32, .i32⟩
  | .hbm, ⟨12, _⟩ => ⟨S16384x32, .i32⟩
  | .hbm, ⟨13, _⟩ => ⟨S16384x32x1, .i32⟩
  | .hbm, ⟨14, _⟩ => ⟨S1, .i32⟩
  | .hbm, ⟨15, _⟩ => ⟨S_, .i32⟩
  | .hbm, ⟨16, _⟩ => ⟨S16384x32x1, .i32⟩
  | .hbm, ⟨17, _⟩ => ⟨S16384x32x1, .i1⟩
  | .hbm, ⟨18, _⟩ => ⟨S1x1x1, .i32⟩
  | .hbm, ⟨19, _⟩ => ⟨S16384x32x1, .i32⟩
  | .hbm, ⟨20, _⟩ => ⟨S16384x32x1, .i1⟩
  | .hbm, ⟨21, _⟩ => ⟨S16384x32x1, .i1⟩
  | .hbm, ⟨22, _⟩ => ⟨S_, .i1⟩
  | .hbm, ⟨23, _⟩ => ⟨S16384x32, .i1⟩
  | .hbm, ⟨24, _⟩ => ⟨S16384x32x64, .f32⟩
  | .hbm, ⟨25, _⟩ => ⟨S16384x32x64, .i1⟩
  | .hbm, ⟨26, _⟩ => ⟨S_, .f32⟩
  | .hbm, ⟨27, _⟩ => ⟨S16384x32x64, .f32⟩
  | .hbm, ⟨28, _⟩ => ⟨S16384x32x64, .f32⟩
  | .hbm, ⟨29, _⟩ => ⟨S16384x2048, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S_, .f32⟩
  | .hbm, ⟨35, _⟩ => ⟨S16384x128, .f32⟩
  | .hbm, ⟨36, _⟩ => ⟨S16384x128, .i1⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x2, .f32⟩
  | .hbm, ⟨42, _⟩ => ⟨S1x2, .f32⟩
  | .hbm, ⟨43, _⟩ => ⟨S16384x2, .f32⟩
  | .hbm, ⟨44, _⟩ => ⟨S16384x2, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩

abbrev nD : Nat := 1
abbrev τ : Topo := Topo.v7x

variable {F : FTy → Type} [FloatOps F]
-- ==== Proof.Shape.lean ====
module

public import proofs.«01_k».proof.Proof.Gen.KernelIdeal.Skeleton

@[expose] public section

set_option synthInstance.maxSize 4096

noncomputable section

namespace Cert.KernelIdeal.Own

open Idealize.ShloMosaic Idealize.SL.Sem Cert.KernelIdeal Cert.KernelIdeal.Gen

variable {F : FTy → Type} [FloatOps F]

/-- Programs of the tile at grid point `i`. -/
abbrev TP (F : FTy → Type) [FloatOps F] (i : grid0.Coords) (α : Type) : Type 1 :=
  Prog (TpuEff nD τ sig (Elt F) Λ₀ (.scVector ((i 0).castLE hcore0) ((i 1).castLE hsub0))) α

/-- Row buffer `b` lies inside the four. -/
theorem buf_inb (b : Fin 4) : ∀ a, (![b.val, 0, 0] : Fin 3 → Nat) a + S1x128x128.size a ≤ S4x128x128.size a := by
  revert b; decide

/-- Row buffer `b` of the four, as a 128 by 128 array. -/
abbrev buf (arg8 : Memref sig .scVector .vmem S4x128x128 .f32) (b : Fin 4) : Memref sig .scVector .vmem S128x128 .f32 :=
  (arg8.slice (Rect.unit (s := S4x128x128) ![b.val, 0, 0] S1x128x128.size (buf_inb b)) (fun _ => rfl)).squeeze S128x128
    squeezes_S1x128x128_S128x128

/-- The sixteen lanes' numbers. -/
def lanes : IVec S16 32 := iota .scVector S16 32 [0] iota_S16_d0_w32_scVector

/-- The rows a block's lanes read: `16 bk + lane`. -/
def rowV (bk : Nat) : IVec S16 32 := addi lanes (broadcast S16 (Scalar.muli (Scf.iv 0#32 1#32 bk) 16#32))
/-- The rows a block's lanes write: `8 bk + lane / 2`. -/
def drowV (bk : Nat) : IVec S16 32 := addi k0_pay1 (broadcast S16 (Scalar.muli (Scf.iv 0#32 1#32 bk) 8#32))
/-- The columns a block's lanes read at step `w`: the lane's half of its row, then `w`. -/
def colV (hv : IVec S16 32) (w : BitVec 32) : IVec S16 32 := addi (k0_pay4 (F := F) hv) (broadcast S16 w)
/-- The columns a block's lanes write at step `w`: the lane's parity's half, then `w`. -/
def dcolV (w : BitVec 32) : IVec S16 32 := addi k0_pay2 (broadcast S16 w)

/-- One step of the compaction: sixteen elements read out of a buffer and written to their place in it. -/
def cstep (i : grid0.Coords) (B : Memref sig .scVector .vmem S128x128 .f32) (bk : Nat) (hv : IVec S16 32) (w : BitVec 32) :
    TP F i Unit := do
  have h1 : k0_chk2 (rowV bk) (colV (F := F) hv w) := (← Prog.lift (TpuEff.assume (k0_chk2 (rowV bk) (colV (F := F) hv w)) (k0_chk2.dec (rowV bk) (colV (F := F) hv w)))).down
  let x : Vec F S16 .f32 ← SparseCore.vectorLoadIdx B ![rowV bk, colV (F := F) hv w] (k0_idx2_inb _ _ h1) (View.loads_vmem h_S128x128)
  have h2 : k0_chk2 (drowV bk) (dcolV w) := (← Prog.lift (TpuEff.assume (k0_chk2 (drowV bk) (dcolV w)) (k0_chk2.dec (drowV bk) (dcolV w)))).down
  SparseCore.vectorStoreIdx B ![drowV bk, dcolV w] x (fun _ => 1#1) false (k0_idx2_inb _ _ h2) (View.stores_vmem_bits_univ h_S128x128 rfl)

/-- `n` steps of the compaction from step `w` on. -/
def csteps (i : grid0.Coords) (B : Memref sig .scVector .vmem S128x128 .f32) (bk : Nat) (hv : IVec S16 32) : Nat → Nat → TP F i Unit
  | 0, _ => pure ()
  | n + 1, w => cstep i B bk hv (BitVec.ofNat 32 w) >>= fun _ => csteps i B bk hv n (w + 1)

/-- One block of the compaction of buffer `b`: the sixteen lanes' halves loaded, then the 64 steps. -/
def cblock (i : grid0.Coords) (arg7 : Memref sig .scVector .vmem S16384 .i32) (arg8 : Memref sig .scVector .vmem S4x128x128 .f32) (b : Fin 4)
    (off : Fin 1 → Nat) (hoff : ∀ a, off a + S16.size a ≤ S16384.size a) (bk : Nat) : TP F i Unit := do
  let hv : Vec F S16 .i32 ← Prog.lift (.load arg7 (Rect.unit (s := S16384) off S16.size hoff).toLoadRect (View.loadsAt_vmem h_S16))
  csteps i (buf arg8 b) bk hv 64 0

/-- Row `l` of the stage lies inside it. -/
theorem stage_inb (l : Fin 32) : ∀ a, (![l.val, 0] : Fin 2 → Nat) a + S1x512.size a ≤ S32x512.size a := by
  revert l; decide

/-- Row `l` of the stage, as 512 words. -/
abbrev stageRow (arg5 : Memref sig .scVector .vmem S32x512 .i32) (l : Fin 32) : Memref sig .scVector .vmem S512 .i32 :=
  (arg5.slice (Rect.unit (s := S32x512) ![l.val, 0] S1x512.size (stage_inb l)) (fun _ => rfl)).squeeze S512 squeezes_S1x512_S512

/-- The tile's 512 texts at position `l`, in the texts laid out position by position. -/
abbrev textRow (i : grid0.Coords) (arg2 : Memref sig .scVector .hbm S524288 .i32) (l : Fin 32) : Memref sig .scVector .hbm S512 .i32 :=
  arg2.slice (Rect.unit (s := S524288) (k0_off1 i (BitVec.ofNat 32 (16384 * l.val))) S512.size (k0_off1_inb i l)) (fun _ => rfl)

/-- The stage copies of positions `l`, `l + 1`, …: `n` of them issued. -/
def issues (i : grid0.Coords) (arg2 : Memref sig .scVector .hbm S524288 .i32) (arg5 : Memref sig .scVector .vmem S32x512 .i32) (arg9 : DmaSems sig S_) :
    (n l : Nat) → l + n ≤ 32 → TP F i Unit
  | 0, _, _ => pure ()
  | n + 1, l, h =>
    Prog.lift (.enqueueDma (textRow i arg2 ⟨l, by omega⟩) (.here (stageRow arg5 ⟨l, by omega⟩)) (.dma arg9.sem) (View.wordExact_bits rfl)
      ((View.wordExact_bits rfl).reshape _ _) ⟨Or.inl rfl, trivial⟩) >>= fun _ => issues i arg2 arg5 arg9 n (l + 1) (by omega)

/-- The waits of the stage copies of positions `l`, `l + 1`, …: `n` of them. -/
def waits (i : grid0.Coords) (arg2 : Memref sig .scVector .hbm S524288 .i32) (arg5 : Memref sig .scVector .vmem S32x512 .i32) (arg9 : DmaSems sig S_) :
    (n l : Nat) → l + n ≤ 32 → TP F i Unit
  | 0, _, _ => pure ()
  | n + 1, l, h =>
    Prog.lift (.waitDma2 arg9.sem (textRow i arg2 ⟨l, by omega⟩) (stageRow arg5 ⟨l, by omega⟩) (View.wordExact_bits rfl)
      ((View.wordExact_bits rfl).reshape _ _)) >>= fun _ => waits i arg2 arg5 arg9 n (l + 1) (by omega)

/-- The index list of chunk `b` of group `g`. -/
abbrev list (arg6 : Memref sig .scVector .vmem S16384 .i32) (g : Fin k0_t2_loop.trips) (b : Fin 4) : Memref sig .scVector .vmem S128 .i32 :=
  arg6.slice (Rect.unit (s := S16384) (k0_off3 g (BitVec.ofNat 32 b.val)) S128.size (k0_off3_inb g b)) (fun _ => rfl)

/-- The table, as the gathers name it. -/
abbrev table (arg3 : Memref sig .scVector .hbm S500000x128 .f32) : Memref sig .scVector .hbm S500000x128 .f32 :=
  arg3.slice (Rect.unit (s := S500000x128) ![0, 0] S500000x128.size inb_S500000x128_S500000x128_0_0) (fun _ => rfl)

/-- Semaphore `b` of the four lies inside them. -/
theorem gsem_inb (b : Fin 4) : ∀ a, (![b.val] : Fin 1 → Nat) a + S1.size a ≤ S4.size a := by
  revert b; decide

/-- The semaphore of row buffer `b`. -/
abbrev gsem (arg10 : DmaSems sig S4) (b : Fin 4) : DmaSem sig :=
  ((arg10.slice (Rect.unit (s := S4) ![b.val] S1.size (gsem_inb b))).squeeze S_ squeezes_S1_S_).sem

/-- The gather of chunk `b` of group `g` issued. -/
def gissue (i : grid0.Coords) (arg3 : Memref sig .scVector .hbm S500000x128 .f32) (arg6 : Memref sig .scVector .vmem S16384 .i32)
    (arg8 : Memref sig .scVector .vmem S4x128x128 .f32) (arg10 : DmaSems sig S4) (g : Fin k0_t2_loop.trips) (b : Fin 4) : TP F i Unit :=
  SparseCore.enqueueIndirectGather rfl (table arg3) (buf arg8 b) gathers_S500000x128_S128x128 (list arg6 g b) rfl (gsem arg10 b)
    (View.wordExact_bits rfl) rfl (Or.inl rfl)

/-- The gather of chunk `b` of a group waited for. -/
def gwait (i : grid0.Coords) (arg3 : Memref sig .scVector .hbm S500000x128 .f32)
    (arg8 : Memref sig .scVector .vmem S4x128x128 .f32) (arg10 : DmaSems sig S4) (b : Fin 4) : TP F i Unit :=
  SparseCore.waitIndirectGather (gsem arg10 b) (table arg3) (buf arg8 b) (View.wordExact_bits rfl) ((View.wordExact_bits rfl).reshape _ _)

/-- The first 64 rows of row buffer `b`: the compacted chunk. -/
abbrev half (arg8 : Memref sig .scVector .vmem S4x128x128 .f32) (b : Fin 4) : Memref sig .scVector .vmem S64x128 .f32 :=
  (buf arg8 b).slice (Rect.unit (s := S128x128) ![0, 0] S64x128.size inb_S128x128_S64x128_0_0) (fun _ => rfl)

/-- The rows of the result chunk `b` of group `g` goes to. -/
abbrev outRows (i : grid0.Coords) (arg4 : Memref sig .scVector .hbm S262144x128 .f32) (g : Fin k0_t2_loop.trips) (b : Fin 4) :
    Memref sig .scVector .hbm S64x128 .f32 :=
  arg4.slice (Rect.unit (s := S262144x128) (k0_off5 i g (BitVec.ofNat 32 b.val)) S64x128.size (k0_off5_inb i g b)) (fun _ => rfl)

/-- The write-out of chunk `b` of group `g` issued. -/
def wissue (i : grid0.Coords) (arg4 : Memref sig .scVector .hbm S262144x128 .f32) (arg8 : Memref sig .scVector .vmem S4x128x128 .f32)
    (arg11 : DmaSems sig S_) (g : Fin k0_t2_loop.trips) (b : Fin 4) : TP F i Unit :=
  Prog.lift (.enqueueDma (half arg8 b) (.here (outRows i arg4 g b)) (.dma arg11.sem) (View.wordExact_bits rfl) (View.wordExact_bits rfl)
    ⟨Or.inl rfl, trivial⟩)

/-- The write-out of chunk `b` of group `g` waited for. -/
def wwait (i : grid0.Coords) (arg4 : Memref sig .scVector .hbm S262144x128 .f32) (arg8 : Memref sig .scVector .vmem S4x128x128 .f32)
    (arg11 : DmaSems sig S_) (g : Fin k0_t2_loop.trips) (b : Fin 4) : TP F i Unit :=
  Prog.lift (.waitDma2 arg11.sem (half arg8 b) (outRows i arg4 g b) (View.wordExact_bits rfl) (View.wordExact_bits rfl))

/-- Where block `k` of chunk `b` of group `g` loads its halves from. -/
def offH (g : Fin k0_t2_loop.trips) (b : Fin 4) (k : Fin k0_t3_loop.trips) : Fin 1 → Nat :=
  match b with
  | 0 => k0_off4 g k
  | 1 => k0_off6 g k
  | 2 => k0_off7 g k
  | 3 => k0_off8 g k

/-- It is 16 words inside the halves. -/
theorem offH_inb (g : Fin k0_t2_loop.trips) (b : Fin 4) (k : Fin k0_t3_loop.trips) : ∀ a, offH g b k a + S16.size a ≤ S16384.size a :=
  match b with
  | 0 => k0_off4_inb g k
  | 1 => k0_off6_inb g k
  | 2 => k0_off7_inb g k
  | 3 => k0_off8_inb g k

/-- The compaction of chunk `b` of group `g`: its eight blocks. -/
def compact (i : grid0.Coords) (arg7 : Memref sig .scVector .vmem S16384 .i32) (arg8 : Memref sig .scVector .vmem S4x128x128 .f32)
    (g : Fin k0_t2_loop.trips) (b : Fin 4) : TP F i Unit :=
  Scf.Loop.for k0_t3_loop k0_t3_ok ⟨⟩ (fun k _ => cblock i arg7 arg8 b (offH g b k) (offH_inb g b k) k)

/-- Chunk `b` of group `g` taken from its gather to its write-out. -/
def chunk (i : grid0.Coords) (arg3 : Memref sig .scVector .hbm S500000x128 .f32) (arg4 : Memref sig .scVector .hbm S262144x128 .f32)
    (arg7 : Memref sig .scVector .vmem S16384 .i32) (arg8 : Memref sig .scVector .vmem S4x128x128 .f32)
    (arg10 : DmaSems sig S4) (arg11 : DmaSems sig S_) (g : Fin k0_t2_loop.trips) (b : Fin 4) : TP F i Unit := do
  gwait i arg3 arg8 arg10 b
  compact i arg7 arg8 g b
  wissue i arg4 arg8 arg11 g b

/-- A group: its four gathers issued, each chunk compacted and sent out in turn, the four write-outs waited for. -/
def group (i : grid0.Coords) (arg3 : Memref sig .scVector .hbm S500000x128 .f32) (arg4 : Memref sig .scVector .hbm S262144x128 .f32)
    (arg6 : Memref sig .scVector .vmem S16384 .i32) (arg7 : Memref sig .scVector .vmem S16384 .i32) (arg8 : Memref sig .scVector .vmem S4x128x128 .f32)
    (arg10 : DmaSems sig S4) (arg11 : DmaSems sig S_) (g : Fin k0_t2_loop.trips) : TP F i Unit := do
  gissue i arg3 arg6 arg8 arg10 g 0
  gissue i arg3 arg6 arg8 arg10 g 1
  gissue i arg3 arg6 arg8 arg10 g 2
  gissue i arg3 arg6 arg8 arg10 g 3
  chunk i arg3 arg4 arg7 arg8 arg10 arg11 g 0
  chunk i arg3 arg4 arg7 arg8 arg10 arg11 g 1
  chunk i arg3 arg4 arg7 arg8 arg10 arg11 g 2
  chunk i arg3 arg4 arg7 arg8 arg10 arg11 g 3
  wwait i arg4 arg8 arg11 g 0
  wwait i arg4 arg8 arg11 g 1
  wwait i arg4 arg8 arg11 g 2
  wwait i arg4 arg8 arg11 g 3

/-- A trip of the reordering loop: sixteen staged texts split into the row they are in and the half of it. -/
def reorder (i : grid0.Coords) (arg5 : Memref sig .scVector .vmem S32x512 .i32) (arg6 arg7 : Memref sig .scVector .vmem S16384 .i32)
    (t : Fin k0_t1_loop.trips) : TP F i Unit := do
  have h1 : k0_chk1 (k0_pay528 t) (k0_pay529 t) := (← Prog.lift (TpuEff.assume (k0_chk1 (k0_pay528 t) (k0_pay529 t)) (k0_chk1.dec _ _))).down
  let v : Vec F S16 .i32 ← SparseCore.vectorLoadIdx arg5 ![k0_pay528 t, k0_pay529 t] (k0_idx1_inb _ _ h1) (View.loads_vmem h_S32x512)
  let _ : Vec F S16 .i32 ← Prog.lift (.load arg6 (Rect.unit (s := S16384) (k0_off2 t) S16.size (k0_off2_inb t)).toLoadRect (View.loadsAt_vmem h_S16))
  Prog.lift (.store arg6 (Rect.unit (s := S16384) (k0_off2 t) S16.size (k0_off2_inb t)) (k0_pay530 (F := F) v) Finset.univ (View.stores_vmem_bits_univ h_S16 rfl) (.inl rfl))
  let _ : Vec F S16 .i32 ← Prog.lift (.load arg7 (Rect.unit (s := S16384) (k0_off2 t) S16.size (k0_off2_inb t)).toLoadRect (View.loadsAt_vmem h_S16))
  Prog.lift (.store arg7 (Rect.unit (s := S16384) (k0_off2 t) S16.size (k0_off2_inb t)) (k0_pay531 (F := F) v) Finset.univ (View.stores_vmem_bits_univ h_S16 rfl) (.inl rfl))

/-- The tile's program, the repeated stretches of it named once. -/
def tile (i : grid0.Coords) (arg2 : Memref sig .scVector .hbm S524288 .i32) (arg3 : Memref sig .scVector .hbm S500000x128 .f32)
    (arg4 : Memref sig .scVector .hbm S262144x128 .f32) (arg5 : Memref sig .scVector .vmem S32x512 .i32) (arg6 arg7 : Memref sig .scVector .vmem S16384 .i32)
    (arg8 : Memref sig .scVector .vmem S4x128x128 .f32) (arg9 : DmaSems sig S_) (arg10 : DmaSems sig S4) (arg11 : DmaSems sig S_) : TP F i Unit := do
  issues i arg2 arg5 arg9 32 0 (by omega)
  waits i arg2 arg5 arg9 32 0 (by omega)
  Scf.Loop.for k0_t1_loop k0_t1_ok ⟨⟩ (fun t _ => reorder i arg5 arg6 arg7 t)
  Scf.Loop.for k0_t2_loop k0_t2_ok ⟨⟩ (fun g _ => group i arg3 arg4 arg6 arg7 arg8 arg10 arg11 g)

section Same

variable (i : grid0.Coords) (arg2 : Memref sig .scVector .hbm S524288 .i32) (harg2 : arg2.IsWhole) (arg3 : Memref sig .scVector .hbm S500000x128 .f32) (harg3 : arg3.IsWhole) (arg4 : Memref sig .scVector .hbm S262144x128 .f32) (harg4 : arg4.IsWhole) (arg5 : Memref sig .scVector .vmem S32x512 .i32) (harg5 : arg5.IsWhole) (arg6 : Memref sig .scVector .vmem S16384 .i32) (harg6 : arg6.IsWhole) (arg7 : Memref sig .scVector .vmem S16384 .i32) (harg7 : arg7.IsWhole) (arg8 : Memref sig .scVector .vmem S4x128x128 .f32) (harg8 : arg8.IsWhole) (arg9 : DmaSems sig S_) (arg10 : DmaSems sig S4) (arg11 : DmaSems sig S_)

set_option maxHeartbeats 4000000 in
set_option maxRecDepth 100000 in
/-- The first stretch of a group: three gathers issued. -/
theorem w77_eq (g : Fin k0_t2_loop.trips)  :
    ∃ v, k0_part77 (F := F) i arg2 harg2 arg3 harg3 arg4 harg4 arg5 harg5 arg6 harg6 arg7 harg7 arg8 harg8 arg9 arg10 arg11 0#32 1#32 g
      = (do gissue i arg3 arg6 arg8 arg10 g 0; gissue i arg3 arg6 arg8 arg10 g 1; gissue i arg3 arg6 arg8 arg10 g 2; pure v) := ⟨_, rfl⟩

set_option maxHeartbeats 4000000 in
set_option maxRecDepth 100000 in
/-- The second: the fourth gather issued, chunk 0 waited for and compacted. -/
theorem w78_eq (g : Fin k0_t2_loop.trips) (v3 a b c : BitVec 32) :
    ∃ v, k0_part78 (F := F) i arg2 harg2 arg3 harg3 arg4 harg4 arg5 harg5 arg6 harg6 arg7 harg7 arg8 harg8 arg9 arg10 arg11 v3 lanes k0_pay1 k0_pay2 g a b c
      = (do gissue i arg3 arg6 arg8 arg10 g 3; gwait i arg3 arg8 arg10 0; compact i arg7 arg8 g 0; pure v) := ⟨_, rfl⟩

set_option maxHeartbeats 4000000 in
set_option maxRecDepth 100000 in
/-- The third: chunk 0 sent out, chunk 1 waited for and compacted. -/
theorem w79_eq (g : Fin k0_t2_loop.trips) (v3 a b c d : BitVec 32) (e : BitVec 1) :
    ∃ v, k0_part79 (F := F) i arg2 harg2 arg3 harg3 arg4 harg4 arg5 harg5 arg6 harg6 arg7 harg7 arg8 harg8 arg9 arg10 arg11 v3 lanes k0_pay1 k0_pay2 g a b c d e
      = (do wissue i arg4 arg8 arg11 g 0; gwait i arg3 arg8 arg10 1; compact i arg7 arg8 g 1; pure v) := ⟨_, rfl⟩

set_option maxHeartbeats 4000000 in
set_option maxRecDepth 100000 in
/-- The fourth: chunk 1 sent out, chunk 2 waited for. -/
theorem w80_eq (g : Fin k0_t2_loop.trips) (a b c d : BitVec 32) (e : BitVec 1) :
    ∃ v, k0_part80 (F := F) i arg2 harg2 arg3 harg3 arg4 harg4 arg5 harg5 arg6 harg6 arg7 harg7 arg8 harg8 arg9 arg10 arg11 g a b c d e
      = (do wissue i arg4 arg8 arg11 g 1; gwait i arg3 arg8 arg10 2; pure ⟨v, 0#32, 8#32⟩) := ⟨_, rfl⟩

set_option maxHeartbeats 4000000 in
set_option maxRecDepth 100000 in
/-- The fifth: chunk 2 compacted and sent out. -/
theorem w81_eq (g : Fin k0_t2_loop.trips) (v3 a b : BitVec 32) :
    k0_part81 (F := F) i arg2 harg2 arg3 harg3 arg4 harg4 arg5 harg5 arg6 harg6 arg7 harg7 arg8 harg8 arg9 arg10 arg11 v3 lanes k0_pay1 k0_pay2 g a b 0#32 8#32
      = (do compact i arg7 arg8 g 2; wissue i arg4 arg8 arg11 g 2) := rfl

set_option maxHeartbeats 4000000 in
set_option maxRecDepth 100000 in
/-- The sixth: chunk 3 waited for and compacted. -/
theorem w82_eq (g : Fin k0_t2_loop.trips) (v3 a : BitVec 32) :
    k0_part82 (F := F) i arg2 harg2 arg3 harg3 arg4 harg4 arg5 harg5 arg6 harg6 arg7 harg7 arg8 harg8 arg9 arg10 arg11 v3 lanes k0_pay1 k0_pay2 g a
      = (do gwait i arg3 arg8 arg10 3; compact i arg7 arg8 g 3; pure ⟨⟩) := rfl

set_option maxHeartbeats 4000000 in
set_option maxRecDepth 100000 in
/-- The seventh: chunk 3 sent out, the first two write-outs waited for. -/
theorem w83_eq (g : Fin k0_t2_loop.trips)  :
    k0_part83 (F := F) i arg2 harg2 arg3 harg3 arg4 harg4 arg5 harg5 arg6 harg6 arg7 harg7 arg8 harg8 arg9 arg10 arg11 g
      = (do wissue i arg4 arg8 arg11 g 3; wwait i arg4 arg8 arg11 g 0; wwait i arg4 arg8 arg11 g 1) := rfl

set_option maxHeartbeats 4000000 in
set_option maxRecDepth 100000 in
/-- A trip of the printed group loop is a group. -/
theorem t2_eq (v3 : BitVec 32) : k0_t2_body (F := F) i arg2 harg2 arg3 harg3 arg4 harg4 arg5 harg5 arg6 harg6 arg7 harg7 arg8 harg8 arg9 arg10 arg11 v3 lanes = fun g _ => group i arg3 arg4 arg6 arg7 arg8 arg10 arg11 g := by
  funext g _
  obtain ⟨⟨a1, a2, a3⟩, h77⟩ := w77_eq (F := F) i arg2 harg2 arg3 harg3 arg4 harg4 arg5 harg5 arg6 harg6 arg7 harg7 arg8 harg8 arg9 arg10 arg11 g
  obtain ⟨⟨b1, b2, b3, b4⟩, h78⟩ := w78_eq (F := F) i arg2 harg2 arg3 harg3 arg4 harg4 arg5 harg5 arg6 harg6 arg7 harg7 arg8 harg8 arg9 arg10 arg11 g v3 a1 a2 a3
  obtain ⟨⟨c1, c2, c3, c4⟩, h79⟩ := w79_eq (F := F) i arg2 harg2 arg3 harg3 arg4 harg4 arg5 harg5 arg6 harg6 arg7 harg7 arg8 harg8 arg9 arg10 arg11 g v3 a1 b1 b2 b3 b4
  obtain ⟨d1, h80⟩ := w80_eq (F := F) i arg2 harg2 arg3 harg3 arg4 harg4 arg5 harg5 arg6 harg6 arg7 harg7 arg8 harg8 arg9 arg10 arg11 g a1 c1 c2 c3 c4
  unfold k0_t2_body group chunk
  simp only [h77, h78, h79, h80, w81_eq, w82_eq, w83_eq, bind_assoc, pure_bind]
  rfl

set_option maxHeartbeats 4000000 in
set_option maxRecDepth 100000 in
/-- The printed program's first stretches are the stage copies, their waits and the reordering. -/
theorem head_eq : ∃ v3 : BitVec 32, cc0__sc_gather_skel (F := F) i arg2 harg2 arg3 harg3 arg4 harg4 arg5 harg5 arg6 harg6 arg7 harg7 arg8 harg8 arg9 arg10 arg11
    = ((do issues i arg2 arg5 arg9 32 0 (by omega); waits i arg2 arg5 arg9 32 0 (by omega); Scf.Loop.for k0_t1_loop k0_t1_ok ⟨⟩ (fun t _ => reorder i arg5 arg6 arg7 t); pure ⟨⟩) >>= fun _ : Unit =>
        Scf.Loop.for k0_t2_loop k0_t2_ok ⟨⟩ (k0_t2_body i arg2 harg2 arg3 harg3 arg4 harg4 arg5 harg5 arg6 harg6 arg7 harg7 arg8 harg8 arg9 arg10 arg11 v3 lanes) >>= fun _ => pure ⟨⟩) := ⟨_, rfl⟩

/-- The tile's program is the printed one. -/
theorem tile_eq :
    cc0__sc_gather (F := F) i arg2 harg2 arg3 harg3 arg4 harg4 arg5 harg5 arg6 harg6 arg7 harg7 arg8 harg8 arg9 arg10 arg11
      = tile i arg2 arg3 arg4 arg5 arg6 arg7 arg8 arg9 arg10 arg11 := by
  rw [cc0__sc_gather_eq_skeleton]
  obtain ⟨v3, h⟩ := head_eq (F := F) i arg2 harg2 arg3 harg3 arg4 harg4 arg5 harg5 arg6 harg6 arg7 harg7 arg8 harg8 arg9 arg10 arg11
  rw [h, t2_eq]
  unfold tile
  simp only [bind_assoc, pure_bind]
  exact congrArg _ (funext fun _ => congrArg _ (funext fun _ => congrArg _ (funext fun _ => bind_pure _)))

end Same

end Cert.KernelIdeal.Own
-- ==== Proof.Compact.lean ====
module

public import proofs.«01_k».proof.Proof.Shape

@[expose] public section

noncomputable section

namespace Cert.KernelIdeal.Own

open Idealize.ShloMosaic Idealize.SL.Sem Cert.KernelIdeal Cert.KernelIdeal.Gen

variable {F : FTy → Type} [FloatOps F]

/-- The place of row `r` and column `c` in a 128 by 128 array. -/
def at2 (r c : Nat) : S128x128.Idx
  | 0 => ⟨r % 128, Nat.mod_lt _ (by decide)⟩
  | 1 => ⟨c % 128, Nat.mod_lt _ (by decide)⟩

/-- Lane `x`'s number. -/
abbrev ln (x : S16.Idx) : Nat := (x 0).val

theorem ln_lt (x : S16.Idx) : ln x < 16 := (x 0).isLt

/-- A nonnegative word shifted right by one is its half. -/
theorem shr1_toNat (u : ArithUnit) (v : BitVec 32) (h : v.toNat < 2 ^ 31) : (IntOp.shrsi u v 1#32).toNat = v.toNat / 2 := by
  unfold IntOp.shrsi
  rw [if_pos (by decide), BitVec.sshiftRight_eq', BitVec.sshiftRight_eq_of_msb_false (by rw [BitVec.msb_eq_false_iff_two_mul_lt]; omega),
    BitVec.toNat_ushiftRight, Nat.shiftRight_eq_div_pow]
  rfl

theorem lanes_toNat (x : S16.Idx) : (lanes x).toNat = ln x := by
  unfold lanes
  have h := ln_lt x
  simp only [iota, BitVec.toNat_ofNat]
  simp
  omega

theorem rowV_toNat (bk : Nat) (hbk : bk < 8) (x : S16.Idx) : (rowV bk x).toNat = 16 * bk + ln x := by
  have h := ln_lt x
  have hl := lanes_toNat x
  simp only [rowV, addi, broadcast, Scalar.muli, Scf.iv, IntOp.addi, IntOp.muli, BitVec.toNat_add, BitVec.toNat_mul, BitVec.toNat_ofNat, hl]
  omega

theorem drowV_toNat (bk : Nat) (hbk : bk < 8) (x : S16.Idx) : (drowV bk x).toNat = 8 * bk + ln x / 2 := by
  have h := ln_lt x
  have hl := lanes_toNat x
  have hp : (k0_pay1 x).toNat = ln x / 2 := by
    have := shr1_toNat .vector (lanes x) (by omega)
    rw [hl] at this
    exact this
  simp only [drowV, addi, broadcast, Scalar.muli, Scf.iv, IntOp.addi, IntOp.muli, BitVec.toNat_add, BitVec.toNat_mul, BitVec.toNat_ofNat, hp]
  omega

theorem colV_toNat (hv : IVec S16 32) (hhv : ∀ x, (hv x).toNat < 2) (w : Nat) (hw : w < 64) (x : S16.Idx) :
    (colV (F := F) hv (BitVec.ofNat 32 w) x).toNat = 64 * (hv x).toNat + w := by
  have h := hhv x
  have hp : (k0_pay4 (F := F) hv x).toNat = (hv x).toNat * 64 := by
    show ((hv x) * 64#32).toNat = _
    rw [BitVec.toNat_mul, BitVec.toNat_ofNat]; omega
  simp only [colV, addi, broadcast, IntOp.addi, IntOp.muli, BitVec.toNat_add, BitVec.toNat_ofNat, hp]
  omega

theorem dcolV_toNat (w : Nat) (hw : w < 64) (x : S16.Idx) : (dcolV (BitVec.ofNat 32 w) x).toNat = 64 * (ln x % 2) + w := by
  have h := ln_lt x
  have hl := lanes_toNat x
  have hp : (k0_pay2 x).toNat = ln x % 2 * 64 := by
    show (((lanes x) &&& 1#32) * 64#32).toNat = _
    rw [BitVec.toNat_mul, BitVec.toNat_and, hl, BitVec.toNat_ofNat, BitVec.toNat_ofNat, show (1 % 2 ^ 32) = 2 ^ 1 - 1 from rfl, Nat.and_two_pow_sub_one_eq_mod]
    omega
  simp only [dcolV, addi, broadcast, IntOp.addi, IntOp.muli, BitVec.toNat_add, BitVec.toNat_ofNat, hp]
  omega

/-- The rows and columns read stay inside the buffer. -/
theorem chk_src (bk : Nat) (hbk : bk < 8) (hv : IVec S16 32) (hhv : ∀ x, (hv x).toNat < 2) (w : Nat) (hw : w < 64) :
    k0_chk2 (rowV bk) (colV (F := F) hv (BitVec.ofNat 32 w)) := by
  intro a x
  have h := ln_lt x
  have h2 := hhv x
  match a with
  | 0 => show (rowV bk x).toNat < 128; rw [rowV_toNat bk hbk]; omega
  | 1 => show (colV (F := F) hv (BitVec.ofNat 32 w) x).toNat < 128; rw [colV_toNat hv hhv w hw]; omega

/-- The rows and columns written stay inside the buffer. -/
theorem chk_dst (bk : Nat) (hbk : bk < 8) (w : Nat) (hw : w < 64) : k0_chk2 (drowV bk) (dcolV (BitVec.ofNat 32 w)) := by
  intro a x
  have h := ln_lt x
  match a with
  | 0 => show (drowV bk x).toNat < 128; rw [drowV_toNat bk hbk]; omega
  | 1 => show (dcolV (BitVec.ofNat 32 w) x).toNat < 128; rw [dcolV_toNat w hw]; omega

/-- The compacted value at `j`: the half `hv` picks of row `2 (j 0) + (j 1) / 64`. -/
def packed (G : S128x128.Idx → Elt F .f32) (hv : Nat → Nat) (j : S128x128.Idx) : Elt F .f32 :=
  G (at2 (2 * (j 0).val + (j 1).val / 64) (64 * hv (2 * (j 0).val + (j 1).val / 64) + (j 1).val % 64))

/-- A buffer compacted up to step `w` of block `bk`: what it held at first, the places already written at their compacted values. -/
def comp (G : S128x128.Idx → Elt F .f32) (hv : Nat → Nat) (bk w : Nat) : S128x128.Idx → Elt F .f32 := fun j =>
  if (j 0).val < 8 * bk ∨ ((j 0).val < 8 * bk + 8 ∧ (j 1).val % 64 < w) then packed G hv j else G j

theorem comp_zero (G : S128x128.Idx → Elt F .f32) (hv : Nat → Nat) : comp G hv 0 0 = G := by
  funext j; unfold comp; rw [if_neg]; omega

theorem comp_last (G : S128x128.Idx → Elt F .f32) (hv : Nat → Nat) (bk : Nat) : comp G hv bk 64 = comp G hv (bk + 1) 0 := by
  funext j; unfold comp
  have : (j 1).val % 64 < 64 := Nat.mod_lt _ (by decide)
  congr 1
  apply propext; omega

/-- Writing through a list of lanes, one after the other: a place some lane names holds the value those lanes share. -/
theorem foldl_lanes {n : Nat} {ι α : Type} (p : Fin n → ι → Prop) [∀ k j, Decidable (p k j)] (v : Fin n → α) (j : ι) :
    ∀ (L : List (Fin n)) (f : ι → α) (y : α), (∀ k ∈ L, p k j → v k = y) → (f j = y ∨ ∃ k ∈ L, p k j) →
      (L.foldl (fun g k => fun i => if p k i then v k else g i) f) j = y
  | [], f, y, _, h => by
    rcases h with h | ⟨k, hk, _⟩
    · exact h
    · exact absurd hk (List.not_mem_nil)
  | k :: L, f, y, hv, h => by
    rw [List.foldl_cons]
    apply foldl_lanes p v j L _ y (fun k' hk' => hv k' (List.mem_cons_of_mem _ hk'))
    by_cases hp : p k j
    · left; rw [if_pos hp]; exact hv k List.mem_cons_self hp
    · rcases h with h | ⟨k', hk', hp'⟩
      · left; rw [if_neg hp]; exact h
      · right
        rcases List.mem_cons.mp hk' with e | e
        · exact absurd (e ▸ hp') hp
        · exact ⟨k', e, hp'⟩

theorem foldl_lanes_none {n : Nat} {ι α : Type} (p : Fin n → ι → Prop) [∀ k j, Decidable (p k j)] (v : Fin n → α) (j : ι)
    (L : List (Fin n)) (f : ι → α) (h : ∀ k ∈ L, ¬p k j) : (L.foldl (fun g k => fun i => if p k i then v k else g i) f) j = f j := by
  apply foldl_lanes p v j L f (f j) (fun k hk hp => absurd hp (h k hk)) (Or.inl rfl)

/-- One step of the compaction at the array: the sixteen elements read are stored at their compacted places. -/
theorem comp_step (G : S128x128.Idx → Elt F .f32) (hv : IVec S16 32) (hhv : ∀ x, (hv x).toNat < 2) (H : Nat → Nat) (bk : Nat) (hbk : bk < 8)
    (hH : ∀ x : S16.Idx, (hv x).toNat = H (16 * bk + ln x)) (w : Nat) (hw : w < 64)
    (h1 : ∀ a x, ((![rowV bk, colV (F := F) hv (BitVec.ofNat 32 w)] : Fin 2 → IVec S16 32) a x).toNat < S128x128.size a)
    (h2 : ∀ a x, ((![drowV bk, dcolV (BitVec.ofNat 32 w)] : Fin 2 → IVec S16 32) a x).toNat < S128x128.size a) :
    storeIdx (F := F) (e := .f32) (comp G H bk w) ![drowV bk, dcolV (BitVec.ofNat 32 w)]
        (loadIdx (F := F) (e := .f32) (t := S16) (comp G H bk w) ![rowV bk, colV (F := F) hv (BitVec.ofNat 32 w)] h1) (fun _ => 1#1) false h2
      = comp G H bk (w + 1) := by
  funext j
  unfold storeIdx
  have hlane : ∀ k : Fin 16, ln (Shape.ofLane (d := ![16]) k) = k.val := fun k => rfl
  simp only [if_true, Bool.false_eq_true, if_false]
  have key : ∀ k : Fin 16, (∀ a, (j a).val = (idxAt (s := S128x128) ![drowV bk, dcolV (BitVec.ofNat 32 w)] h2 (Shape.ofLane (d := ![16]) k) a).val)
      ↔ ((j 0).val = 8 * bk + k.val / 2 ∧ (j 1).val = 64 * (k.val % 2) + w) := by
    intro k
    rw [Fin.forall_fin_two]
    have e0 : (idxAt (s := S128x128) ![drowV bk, dcolV (BitVec.ofNat 32 w)] h2 (Shape.ofLane (d := ![16]) k) 0).val = 8 * bk + k.val / 2 := drowV_toNat bk hbk _
    have e1 : (idxAt (s := S128x128) ![drowV bk, dcolV (BitVec.ofNat 32 w)] h2 (Shape.ofLane (d := ![16]) k) 1).val = 64 * (k.val % 2) + w := dcolV_toNat w hw _
    rw [e0, e1]
  have hval : ∀ k : Fin 16, loadIdx (F := F) (e := .f32) (t := S16) (comp G H bk w) ![rowV bk, colV (F := F) hv (BitVec.ofNat 32 w)] h1 (Shape.ofLane (d := ![16]) k)
      = G (at2 (16 * bk + k.val) (64 * H (16 * bk + k.val) + w)) := by
    intro k
    have hk := k.isLt
    have hHk : (hv (Shape.ofLane (d := ![16]) k)).toNat = H (16 * bk + k.val) := hH _
    have e0 : (idxAt (s := S128x128) ![rowV bk, colV (F := F) hv (BitVec.ofNat 32 w)] h1 (Shape.ofLane (d := ![16]) k) 0).val = 16 * bk + k.val := rowV_toNat bk hbk _
    have e1 : (idxAt (s := S128x128) ![rowV bk, colV (F := F) hv (BitVec.ofNat 32 w)] h1 (Shape.ofLane (d := ![16]) k) 1).val = 64 * H (16 * bk + k.val) + w := by
      rw [← hHk]; exact colV_toNat hv hhv w hw _
    have hH2 : H (16 * bk + k.val) < 2 := by rw [← hHk]; exact hhv _
    unfold loadIdx comp
    rw [e0, e1, if_neg (by omega)]
    congr 1
    funext a
    apply Fin.ext
    match a with
    | 0 => rw [e0]; exact (Nat.mod_eq_of_lt (by omega)).symm
    | 1 => rw [e1]; exact (Nat.mod_eq_of_lt (by omega)).symm
  have hj0 : (j 0).val < 128 := (j 0).isLt
  have hj1 : (j 1).val < 128 := (j 1).isLt
  have pk : packed G H j = G (at2 (2 * (j 0).val + (j 1).val / 64) (64 * H (2 * (j 0).val + (j 1).val / 64) + (j 1).val % 64)) := rfl
  by_cases hin : 8 * bk ≤ (j 0).val ∧ (j 0).val < 8 * bk + 8 ∧ (j 1).val % 64 = w
  · have hc : comp G H bk (w + 1) j = packed G H j := by unfold comp; rw [if_pos (by omega)]
    rw [hc]
    refine foldl_lanes (fun (k : Fin 16) j' => ∀ a, (j' a).val = (idxAt (s := S128x128) ![drowV bk, dcolV (BitVec.ofNat 32 w)] h2 (Shape.ofLane (d := ![16]) k) a).val)
      (fun k => loadIdx (F := F) (e := .f32) (t := S16) (comp G H bk w) ![rowV bk, colV (F := F) hv (BitVec.ofNat 32 w)] h1 (Shape.ofLane (d := ![16]) k)) j
      (List.finRange 16) (comp G H bk w) (packed G H j) ?_ ?_
    · intro k _ hp
      have hp' := (key k).mp hp
      show loadIdx _ _ _ _ = _
      rw [hval k, pk]
      have hk := k.isLt
      rw [show 2 * (j 0).val + (j 1).val / 64 = 16 * bk + k.val by omega, hin.2.2]
    · right
      refine ⟨⟨(2 * (j 0).val + (j 1).val / 64) - 16 * bk, by omega⟩, List.mem_finRange _, (key _).mpr ?_⟩
      constructor <;> simp only [] <;> omega
  · have hc : comp G H bk (w + 1) j = comp G H bk w j := by
      unfold comp
      congr 1
      apply propext
      omega
    rw [hc]
    refine foldl_lanes_none (fun (k : Fin 16) j' => ∀ a, (j' a).val = (idxAt (s := S128x128) ![drowV bk, dcolV (BitVec.ofNat 32 w)] h2 (Shape.ofLane (d := ![16]) k) a).val)
      (fun k => loadIdx (F := F) (e := .f32) (t := S16) (comp G H bk w) ![rowV bk, colV (F := F) hv (BitVec.ofNat 32 w)] h1 (Shape.ofLane (d := ![16]) k)) j
      (List.finRange 16) (comp G H bk w) ?_
    intro k _ hp
    have hp' := (key k).mp hp
    have hk := k.isLt
    omega

end Cert.KernelIdeal.Own
-- ==== Proof.Setup.lean ====
module

public import proofs.«01_k».proof.Proof.Compact
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart from one another and from the kernels' own. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds, the left of the right component. -/
def EP : Emb UP (MT nD τ sig (HIx 1) (Elt F) ℕ UU ℕ) := (Emb.inl : Emb UP (UP × Counters)).trans embR
instance EP_landsIn : (EP (F := F)).LandsIn (upEmb : UEmb _ 𝕄) := by unfold EP embR; infer_instance

/-! ## Shares: a share halved `n` times -/

/-- Leaf `i` of share `q` halved `n` times. -/
def leaf : (n : ℕ) → PosShare TreeShare → ℕ → PosShare TreeShare
  | 0, q, _ => q
  | n + 1, q, i => if i < 2 ^ n then leaf n q.left i else leaf n q.right (i - 2 ^ n)

/-- The leaves of depth `n + 1` are the left half's and the right half's. -/
def twoHalves (n : ℕ) : Fin (2 ^ n) ⊕ Fin (2 ^ n) ≃ Fin (2 ^ (n + 1)) := finSumFinEquiv.trans (finCongr (by omega))

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i.val} f
  | 0, q => (bigSep_univ_of_subsingleton (0 : Fin 1) (Φ := fun i : Fin (2 ^ 0) => (ℓ ↦[I]{leaf 0 q i.val} f : sProp 𝕄))).symm
  | n + 1, q => by
    have hs := pointsTo_share (nD := nD) (τ := τ) (sig := sig) (Ix := HIx 1) (Val := Elt F) (Name := ℕ) (U := UU) (Lvl := ℕ) (ℓ := ℓ) (I := I) (f := f) (PosShare.mem_left_op_right q)
    rw [BI.Entails.antisymm hs.1 hs.2, pointsTo_leaves I f n q.left, pointsTo_leaves I f n q.right,
      bigSep_univ_equiv (twoHalves n) (fun i : Fin (2 ^ (n + 1)) => (ℓ ↦[I]{leaf (n + 1) q i.val} f : sProp 𝕄)), bigSep_univ_sum]
    congr 1 <;> refine bigSep_congr fun i _ => ?_
    · have e : ((twoHalves n) (Sum.inl i)).val = i.val := by simp [twoHalves]
      rw [e, leaf, if_pos i.isLt]
    · have e : ((twoHalves n) (Sum.inr i)).val = 2 ^ n + i.val := by simp [twoHalves]; omega
      rw [e, leaf, if_neg (by omega), Nat.add_sub_cancel_left]

/-! ## The thread and its buffers -/

abbrev cV (i : grid0.Coords) : Fin τ.nSC := (i 0).castLE hcore0
abbrev jV (i : grid0.Coords) : Fin τ.nSub := (i 1).castLE hsub0

/-- The tile's number among the thirty-two. -/
def wid (i : grid0.Coords) : Nat := 2 * (i 1).val + (i 0).val

theorem wid_lt (i : grid0.Coords) : wid i < 32 := by
  have h0 : (i 0).val < 2 := (i 0).isLt
  have h1 : (i 1).val < 16 := (i 1).isLt
  unfold wid; omega

abbrev tLoc (d : Dev nD) : Loc nD τ sig := (SparseCore.T d).loc main_v1
abbrev eLoc (d : Dev nD) : Loc nD τ sig := (SparseCore.T d).loc main_v2
abbrev oLoc (d : Dev nD) : Loc nD τ sig := (SparseCore.T d).loc main_v3

abbrev tW : Memref sig .scVector .hbm S524288 .i32 := Memref.whole main_v1_scv
abbrev eW : Memref sig .scVector .hbm S500000x128 .f32 := Memref.whole main_v2_scv
abbrev oW : Memref sig .scVector .hbm S262144x128 .f32 := Memref.whole main_v3_scv
abbrev sW : Memref sig .scVector .vmem S32x512 .i32 := Memref.whole cc0_scratch0
abbrev xW : Memref sig .scVector .vmem S16384 .i32 := Memref.whole cc0_scratch1
abbrev hW : Memref sig .scVector .vmem S16384 .i32 := Memref.whole cc0_scratch2
abbrev rW : Memref sig .scVector .vmem S4x128x128 .f32 := Memref.whole cc0_scratch3

end Cert.KernelIdeal.Own
-- ==== Proof.Block.lean ====
module

public import proofs.«01_k».proof.Proof.Setup

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- An array seen through the whole rectangle is the array. -/
theorem access_whole_set {κ : Kind} {sp : Space} {s : Shape} {e : EltTy} (m : Memref sig κ sp s e) : (m.access (.whole s)).set = m.view.set := by
  show (m.view.slice (Rect.whole s)).set = m.view.set
  rw [View.set_slice, Rect.set_whole]
  rfl

theorem access_whole_read {κ : Kind} {sp : Space} {s : Shape} {e : EltTy} (m : Memref sig κ sp s e) (f : m.view.ty.Contents (Elt F)) :
    (m.access (.whole s)).read (Elt F) f = m.view.read (Elt F) f := by
  funext x
  show (m.view.slice (Rect.whole s)).read (Elt F) f x = _
  rw [View.read_apply, View.read_apply]
  have h : (m.view.slice (Rect.whole s)).emb x = m.view.emb x := congrArg m.view.emb (Rect.emb_whole_apply s x)
  exact congrArg (fun j => _root_.cast (congrArg (Elt F) m.view.elt_eq) (f j)) h

/-- The array behind `m` held outright, reading `G`. -/
def reads {sp : Space} {s : Shape} {e : EltTy} (c : Thread nD τ) (m : Memref sig c.2.kind sp s e) (G : s.Idx → Elt F e) : sProp 𝕄 :=
  iprop(∃ f, ⌜m.view.read (Elt F) f = G⌝ ∗ (m.view.loc c ↦[m.view.set]{fullShare} f))

section Steps

variable (d : Dev nD) (i : grid0.Coords)

/-- The thread of the tile at grid point `i`. -/
abbrev thr (d : Dev nD) (i : grid0.Coords) : Thread nD τ := SparseCore.V d (cV i) (jV i)

/-- Triples of the tile's programs. -/
abbrev WP {α : Type} (p : TP F i α) (Q : α → sProp 𝕄) : sProp 𝕄 := wp frame (wpE (defs₀ (F := F)) 𝒱₀ (thr d i) none) Set.univ p Q

theorem wp_pure_intro {α : Type} {a : α} {Q : α → sProp 𝕄} : Q a ⊢ WP (F := F) d i (pure a) Q := by
  show _ ⊢ wp _ _ _ (.ret a) Q
  rw [wp_ret]
  exact fupd_intro

/-- A step of the compaction, on a buffer reading `comp G H bk w`. -/
theorem wp_cstep (B : Memref sig .scVector .vmem S128x128 .f32) (G : S128x128.Idx → Elt F .f32) (hv : IVec S16 32) (hhv : ∀ x, (hv x).toNat < 2) (H : Nat → Nat)
    (bk : Nat) (hbk : bk < 8) (hH : ∀ x : S16.Idx, (hv x).toNat = H (16 * bk + ln x)) (w : Nat) (hw : w < 64) :
    reads (F := F) (thr d i) B (comp G H bk w) ⊢ WP (F := F) d i (cstep i B bk hv (BitVec.ofNat 32 w)) (fun _ => reads (thr d i) B (comp G H bk (w + 1))) := by
  rw [← bind_pure (cstep i B bk hv (BitVec.ofNat 32 w))]
  unfold reads cstep
  simp only [bind_assoc]
  show _ ⊢ WP (F := F) d i (.op (.assume _ _) _) _
  unfold WP
  rw [wp_assume_of _ _ _ _ (chk_src bk hbk hv hhv w hw)]
  iintro ⟨%f, %hf, Hb⟩
  iapply (SparseCore.wp_vectorLoadIdx 𝒱₀ (thr d i) none Set.univ (base := B) (hl := View.loads_vmem h_S128x128) (S := B.view.set) (q := fullShare) (access_whole_set B).le) $$ Hb
  iintro Hb
  rw [access_whole_read, hf]
  iapply (wp_assume 𝒱₀ (thr d i) none Set.univ (chk_dst bk hbk w hw))
  ihave Hb := (Entails.of_eq (congrArg (fun S => ((B.access (.whole S128x128)).loc (thr d i) ↦[S]{fullShare} f : sProp 𝕄)) (access_whole_set B).symm)) $$ Hb
  iapply (SparseCore.wp_vectorStoreIdx 𝒱₀ (thr d i) none Set.univ (base := B) (hs := View.stores_vmem_bits_univ h_S128x128 rfl)) $$ Hb
  iintro Hb
  rw [access_whole_read, hf, comp_step G hv hhv H bk hbk hH w hw]
  ihave Hb := (Entails.of_eq (congrArg (fun S => (B.view.loc (thr d i) ↦[S]{fullShare} ((B.access (.whole S128x128)).write (Elt F) f (comp G H bk (w + 1)) Finset.univ) : sProp 𝕄)) (access_whole_set B))) $$ Hb
  iapply (wp_pure_intro d i)
  iexists ((B.access (.whole S128x128)).write (Elt F) f (comp G H bk (w + 1)) Finset.univ)
  isplitr
  · ipureintro; exact (access_whole_read B _).symm.trans (View.read_write_univ _ _)
  · iexact Hb

/-- The steps from `w` to 64. -/
theorem wp_csteps (B : Memref sig .scVector .vmem S128x128 .f32) (G : S128x128.Idx → Elt F .f32) (hv : IVec S16 32) (hhv : ∀ x, (hv x).toNat < 2) (H : Nat → Nat)
    (bk : Nat) (hbk : bk < 8) (hH : ∀ x : S16.Idx, (hv x).toNat = H (16 * bk + ln x)) : ∀ (n w : Nat), w + n ≤ 64 →
    (reads (F := F) (thr d i) B (comp G H bk w) ⊢ WP (F := F) d i (csteps i B bk hv n w) (fun _ => reads (thr d i) B (comp G H bk (w + n))))
  | 0, w, _ => by
    unfold csteps
    exact (wp_pure_intro d i)
  | n + 1, w, h => by
    unfold csteps WP
    rw [wp_bind]
    refine (wp_cstep d i B G hv hhv H bk hbk hH w (by omega)).trans (wp_mono _ _ _ fun _ => ?_)
    rw [show w + (n + 1) = (w + 1) + n by omega]
    exact wp_csteps B G hv hhv H bk hbk hH n (w + 1) (by omega)

/-- Place `p` of a list of 16384. -/
def at1 (p : Nat) : S16384.Idx
  | 0 => ⟨p % 16384, Nat.mod_lt _ (by decide)⟩

theorem read_hW (f : S16384.Idx → Elt F .i32) (off : Fin 1 → Nat) (hoff : ∀ a, off a + S16.size a ≤ S16384.size a) (x : S16.Idx) :
    ((hW.access (Rect.unit (s := S16384) off S16.size hoff)).read (Elt F) f : S16.Idx → Elt F .i32) x = f (at1 (off 0 + ln x)) := by
  have h : off 0 + 16 ≤ 16384 := hoff 0
  have hx := ln_lt x
  have e : (Rect.unit (s := S16384) off S16.size hoff).emb x = at1 (off 0 + ln x) := by
    funext a
    apply Fin.ext
    match a with
    | 0 =>
      have hm : (off 0 + ln x) % 16384 = off 0 + ln x := Nat.mod_eq_of_lt (by omega)
      show off 0 + 1 * ln x = (off 0 + ln x) % 16384
      omega
  exact congrArg f e

/-- A block of the compaction of chunk `q`, the halves held at any share. -/
theorem wp_cblock (b : Fin 4) (G : S128x128.Idx → Elt F .f32) (f7 : S16384.Idx → Elt F .i32) (h7 : ∀ p, (f7 p).toNat < 2) (q : Nat) (off : Fin 1 → Nat)
    (hoff : ∀ a, off a + S16.size a ≤ S16384.size a) (bk : Nat) (hbk : bk < 8) (hq : off 0 = 128 * q + 16 * bk) :
    iprop(reads (F := F) (thr d i) (buf rW b) (comp G (fun r => (f7 (at1 (128 * q + r))).toNat) bk 0) ∗ (hW.view.loc (thr d i) ↦[Finset.univ]{fullShare} f7)) ⊢
      WP (F := F) d i (cblock i hW rW b off hoff bk)
        (fun _ => iprop(reads (F := F) (thr d i) (buf rW b) (comp G (fun r => (f7 (at1 (128 * q + r))).toNat) (bk + 1) 0) ∗ (hW.view.loc (thr d i) ↦[Finset.univ]{fullShare} f7))) := by
  unfold cblock WP
  iintro ⟨Hb, Hh⟩
  iapply (wp_load_rect 𝒱₀ (thr d i) none Set.univ (m := hW) (r := Rect.unit (s := S16384) off S16.size hoff) (S := Finset.univ) (Finset.subset_univ _)) $$ Hh
  iintro Hh
  iapply (wp_wand_r _ _ _)
  isplitl [Hb]
  · iapply (wp_csteps d i (buf rW b) G _ (fun x => by rw [read_hW]; exact h7 _) (fun r => (f7 (at1 (128 * q + r))).toNat) bk hbk
      (fun x => by rw [read_hW, hq, Nat.add_assoc]) 64 0 (by omega)) $$ Hb
  · iintro %_ Hb
    rw [Nat.zero_add, comp_last]
    isplitl [Hb]
    · iexact Hb
    · iexact Hh

theorem offH_eq (g : Fin k0_t2_loop.trips) (b : Fin 4) (k : Fin k0_t3_loop.trips) : offH g b k 0 = 128 * (4 * g.val + b.val) + 16 * k.val := by
  match b with
  | 0 => show k0_off4 g k 0 = _; rw [k0_off4_eq]; show 512 * g.val + 16 * k.val = 128 * (4 * g.val + 0) + _; omega
  | 1 => show k0_off6 g k 0 = _; rw [k0_off6_eq]; show 512 * g.val + 16 * k.val + 128 = 128 * (4 * g.val + 1) + _; omega
  | 2 => show k0_off7 g k 0 = _; rw [k0_off7_eq]; show 512 * g.val + 16 * k.val + 256 = 128 * (4 * g.val + 2) + _; omega
  | 3 => show k0_off8 g k 0 = _; rw [k0_off8_eq]; show 512 * g.val + 16 * k.val + 384 = 128 * (4 * g.val + 3) + _; omega

set_option maxRecDepth 20000 in
/-- The compaction of a chunk. -/
theorem wp_compact (g : Fin k0_t2_loop.trips) (b : Fin 4) (G : S128x128.Idx → Elt F .f32) (f7 : S16384.Idx → Elt F .i32) (h7 : ∀ p, (f7 p).toNat < 2) :
    iprop(reads (F := F) (thr d i) (buf rW b) G ∗ (hW.view.loc (thr d i) ↦[Finset.univ]{fullShare} f7)) ⊢
      WP (F := F) d i (compact i hW rW g b)
        (fun _ => iprop(reads (F := F) (thr d i) (buf rW b) (comp G (fun r => (f7 (at1 (128 * (4 * g.val + b.val) + r))).toNat) 8 0) ∗ (hW.view.loc (thr d i) ↦[Finset.univ]{fullShare} f7))) := by
  have ht : k0_t3_loop.trips = 8 := by decide
  have hb : ∀ (k : Fin k0_t3_loop.trips) (_ : PUnit),
      iprop(reads (F := F) (thr d i) (buf rW b) (comp G (fun r => (f7 (at1 (128 * (4 * g.val + b.val) + r))).toNat) k.val 0) ∗ (hW.view.loc (thr d i) ↦[Finset.univ]{fullShare} f7)) ⊢
      WP (F := F) d i (cblock i hW rW b (offH g b k) (offH_inb g b k) k)
        (fun _ => iprop(reads (F := F) (thr d i) (buf rW b) (comp G (fun r => (f7 (at1 (128 * (4 * g.val + b.val) + r))).toNat) (k.val + 1) 0) ∗ (hW.view.loc (thr d i) ↦[Finset.univ]{fullShare} f7))) :=
    fun k _ => wp_cblock d i b G f7 h7 (4 * g.val + b.val) (offH g b k) (offH_inb g b k) k.val (lt_of_lt_of_eq k.isLt ht) (offH_eq g b k)
  unfold compact WP
  iintro ⟨Hb, Hh⟩
  iapply (Scf.wp_for frame (wpE (defs₀ (F := F)) 𝒱₀ (thr d i) none) Set.univ k0_t3_loop.lb k0_t3_loop.ub k0_t3_loop.st k0_t3_ok (⟨⟩ : PUnit)
    (fun k _ => cblock i hW rW b (offH g b k) (offH_inb g b k) k)
    (fun k (_ : PUnit) => iprop(reads (F := F) (thr d i) (buf rW b) (comp G (fun r => (f7 (at1 (128 * (4 * g.val + b.val) + r))).toNat) k 0) ∗ (hW.view.loc (thr d i) ↦[Finset.univ]{fullShare} f7)))
    hb)
  isplitl [Hb Hh]
  · rw [comp_zero]
    isplitl [Hb]
    · iexact Hb
    · iexact Hh
  · iintro %_ H
    rw [show Scf.trips k0_t3_loop.lb k0_t3_loop.ub k0_t3_loop.st = 8 from ht]
    iexact H

end Steps

end Cert.KernelIdeal.Own
-- ==== Proof.Chunk.lean ====
module

public import proofs.«01_k».proof.Proof.Block

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Row `r`, column `c` of the table's pairs of rows. -/
def atE (r c : Nat) : S500000x128.Idx
  | 0 => ⟨r % 500000, Nat.mod_lt _ (by decide)⟩
  | 1 => ⟨c % 128, Nat.mod_lt _ (by decide)⟩

/-- What the gather of chunk `q` brings: at row `r` the table's row the list names. -/
def gath (te : S500000x128.Idx → Elt F .f32) (f6 : S16384.Idx → Elt F .i32) (q : Nat) (j : S128x128.Idx) : Elt F .f32 :=
  te (atE (f6 (at1 (128 * q + (j 0).val))).toNat (j 1).val)

/-- What a tile is left owing: as before, the waits it has made recorded. -/
def Owed (c : Thread nD τ) (O : CellTallies nD τ sig (HIx 1)) (W : Waits sig (HIx 1)) : sProp 𝕄 :=
  iprop(∃ W', ⌜∀ p ∈ W', p ∈ W ∨ p.2 = none⌝ ∗ owes c O W')

theorem Owed_elim (c : Thread nD τ) (O : CellTallies nD τ sig (HIx 1)) (W : Waits sig (HIx 1)) :
    (Owed c O W : sProp 𝕄) ⊢ iprop(∃ W', ⌜∀ p ∈ W', p ∈ W ∨ p.2 = none⌝ ∗ owes c O W') := by
  unfold Owed; exact .rfl

theorem Owed_intro (c : Thread nD τ) (O : CellTallies nD τ sig (HIx 1)) (W W' : Waits sig (HIx 1)) (h : ∀ p ∈ W', p ∈ W ∨ p.2 = none) (sm : SemLoc sig) :
    (owes c O (insert (sm, (default : HIx 1)) W') : sProp 𝕄) ⊢ Owed c O W := by
  unfold Owed
  iintro H
  iexists _
  isplitr
  rotate_left
  · iexact H
  · ipureintro
    intro p hp
    rcases Finset.mem_insert.mp hp with e | e
    · right; rw [e]; rfl
    · exact h p e

/-- The table named by a gather is all of it. -/
theorem table_set : (table eW).view.set = (Finset.univ : Finset S500000x128.Idx) := by
  apply Finset.eq_univ_of_forall
  intro x
  refine Finset.mem_map.mpr ⟨x, Finset.mem_univ _, ?_⟩
  funext a
  apply Fin.ext
  match a with
  | 0 => show 0 + 1 * (x 0).val = _; omega
  | 1 => show 0 + 1 * (x 1).val = _; omega

theorem read_list (g : Fin k0_t2_loop.trips) (b : Fin 4) (f : S16384.Idx → Elt F .i32) (x : S128.Idx) :
    ((list xW g b).view.read (Elt F) f : S128.Idx → Elt F .i32) x = f (at1 (128 * (4 * g.val + b.val) + (x 0).val)) := by
  have ho := k0_off3_eq g b
  have h := k0_off3_inb g b 0
  have hx : (x 0).val < 128 := (x 0).isLt
  have h' : k0_off3 g (BitVec.ofNat 32 b.val) 0 + 128 ≤ 16384 := h
  have e0 : k0_off3 g (BitVec.ofNat 32 b.val) 0 = 512 * g.val + 128 * b.val := by rw [ho]; rfl
  have e : (Rect.unit (s := S16384) (k0_off3 g (BitVec.ofNat 32 b.val)) S128.size (k0_off3_inb g b)).emb x = at1 (128 * (4 * g.val + b.val) + (x 0).val) := by
    funext a
    apply Fin.ext
    match a with
    | 0 =>
      have hm : (128 * (4 * g.val + b.val) + (x 0).val) % 16384 = 128 * (4 * g.val + b.val) + (x 0).val := Nat.mod_eq_of_lt (by omega)
      show k0_off3 g (BitVec.ofNat 32 b.val) 0 + 1 * (x 0).val = (128 * (4 * g.val + b.val) + (x 0).val) % 16384
      omega
  exact congrArg f e

section Gather

variable (d : Dev nD) (i : grid0.Coords) (te : S500000x128.Idx → Elt F .f32) (f6 : S16384.Idx → Elt F .i32) (hin6 : ∀ p, (f6 p).toNat < 500000)

theorem hin_list (g : Fin k0_t2_loop.trips) (b : Fin 4) (hin6 : ∀ p, (f6 p).toNat < 500000) :
    ∀ x, ((list xW g b).view.read (Elt F) f6 x).toNat < S500000x128.size gathers_S500000x128_S128x128.axis := by
  intro x
  have h := read_list g b f6 x
  have h2 : ((list xW g b).view.read (Elt F) f6 x) = f6 (at1 (128 * (4 * g.val + b.val) + (x 0).val)) := h
  rw [h2]
  exact hin6 _

theorem list_row (k : Fin 128) : ((S128.rowMajor.symm (k.cast rfl : Fin S128.numel)) 0).val = k.val := by
  revert k; decide

/-- The gather's payload is the table's rows the list names. -/
theorem payload_eq (g : Fin k0_t2_loop.trips) (b : Fin 4) (hin6 : ∀ p, (f6 p).toNat < 500000) :
    SparseCore.gatherPayload gathers_S500000x128_S128x128 ((table eW).view.read (Elt F) te)
              (SparseCore.rows ((list xW g b).view.read (Elt F) f6) rfl (hin_list f6 g b hin6)) = gath te f6 (4 * g.val + b.val) := by
  funext j
  unfold SparseCore.gatherPayload gath
  have e : (table eW).view.emb (gathers_S500000x128_S128x128.idx (SparseCore.rows ((list xW g b).view.read (Elt F) f6) rfl (hin_list f6 g b hin6)) j)
      = atE (f6 (at1 (128 * (4 * g.val + b.val) + (j 0).val))).toNat (j 1).val := by
    have h0 : (gathers_S500000x128_S128x128.idx (SparseCore.rows ((list xW g b).view.read (Elt F) f6) rfl (hin_list f6 g b hin6)) j 0).val
        = (f6 (at1 (128 * (4 * g.val + b.val) + (j 0).val))).toNat := by
      refine (congrArg Fin.val (Shape.Gathers.idx_axis gathers_S500000x128_S128x128 _ j)).trans ?_
      unfold SparseCore.rows
      have h := read_list g b f6 (S128.rowMajor.symm (((j 0 : Fin 128)).cast rfl : Fin S128.numel))
      exact congrArg BitVec.toNat (h.trans (congrArg (fun n => f6 (at1 (128 * (4 * g.val + b.val) + n))) (list_row (j 0))))
    have h1 : (gathers_S500000x128_S128x128.idx (SparseCore.rows ((list xW g b).view.read (Elt F) f6) rfl (hin_list f6 g b hin6)) j 1).val = (j 1).val :=
      Shape.Gathers.idx_of_ne gathers_S500000x128_S128x128 _ j (b := 1) (show (1 : Nat) ≠ 0 by decide)
    have hj : (j 1).val < 128 := (j 1).isLt
    funext a
    apply Fin.ext
    match a with
    | 0 => show 0 + 1 * _ = _ % 500000; rw [h0, Nat.mod_eq_of_lt (hin6 _)]; omega
    | 1 => show 0 + 1 * _ = _ % 128; rw [h1, Nat.mod_eq_of_lt hj]; omega
  exact congrArg te e

/-- The gather of chunk `b` of group `g` under way: at its wait the row buffer, the list's share and the table's come back. -/
def inFlight (q qo : PosShare TreeShare) (g : Fin k0_t2_loop.trips) (b : Fin 4) : sProp 𝕄 :=
  iprop(∃ fd, Transfers.Flight countersEmb (thr d i) (.dma (gsem cc0_scratch5 b)) (default : HIx 1) (buf rW b).view.dmaCredit
      iprop(((buf rW b).view.loc (thr d i) ↦[(buf rW b).view.set]{fullShare}
            ((buf rW b).view.write (Elt F) fd (SparseCore.gatherPayload gathers_S500000x128_S128x128 ((table eW).view.read (Elt F) te)
              (SparseCore.rows ((list xW g b).view.read (Elt F) f6) rfl (hin_list f6 g b hin6))) Finset.univ))
        ∗ ((table eW).view.loc (thr d i) ↦[(table eW).view.set]{q} te) ∗ ((list xW g b).view.loc (thr d i) ↦[(list xW g b).view.set]{qo} f6))
    ∗ (xW.view.loc (thr d i) ↦[Finset.univ \ (list xW g b).view.set]{qo} f6))

theorem gather_credit (b : Fin 4) (h : S500000x128.Gathers 0 S128x128) :
    ∑ j, ((buf rW b).slice (S128x128.rowRect h.axis' j) (S128x128.stride_rowRect h.axis' j)).view.dmaCredit = (buf rW b).view.dmaCredit := by
  revert b h; decide

/-- The gather of a chunk issued. -/
theorem wp_gissue (q qo : PosShare TreeShare) (g : Fin k0_t2_loop.trips) (b : Fin 4) {α : Type} (k : PUnit → TP F i α) (Q : α → sProp 𝕄) :
    iprop((eW.view.loc (thr d i) ↦[Finset.univ]{q} te) ∗ (xW.view.loc (thr d i) ↦[Finset.univ]{qo} f6)
        ∗ (∃ f, ((buf rW b).view.loc (thr d i) ↦[(buf rW b).view.set]{fullShare} f)) ∗ semVal (thr d i, SemLoc.dma (gsem cc0_scratch5 b)) 0)
      ⊢ iprop((inFlight d i te f6 hin6 q qo g b -∗ WP (F := F) d i (k ⟨⟩) Q) -∗ WP (F := F) d i (gissue i eW xW rW cc0_scratch5 g b >>= k) Q) := by
  iintro ⟨He, Hx, ⟨%fd, Hb⟩, Hs⟩ Hk
  unfold gissue
  ihave Hx := (pointsTo_split_subset (q := qo) (f := f6) (S := Finset.univ) (Finset.subset_univ (list xW g b).view.set)).1 $$ Hx
  icases Hx with ⟨Hx, Hr⟩
  ihave He := (Entails.of_eq (congrArg (fun S => (eW.view.loc (thr d i) ↦[S]{q} te : sProp 𝕄)) table_set.symm)) $$ He
  iapply (SparseCore.wp_indirectGatherLocal countersEmb 𝒱₀ (thr d i) none (hg := gathers_S500000x128_S128x128) (default : HIx 1)
      (buf rW b).view.dmaCredit (gather_credit b _) (by decide) (hin_list f6 g b hin6)) $$ [He Hb Hx Hs]
  · isplitl [He]; · iexact He
    isplitl [Hb]; · iexact Hb
    isplitl [Hx]; · iexact Hx
    iexact Hs
  iintro Hfl
  iapply Hk
  unfold inFlight
  iexists fd
  isplitl [Hfl]; · iexact Hfl
  iexact Hr

/-- The gather of a chunk waited for: its row buffer reads the rows its list names. -/
theorem wp_gwait (q qo : PosShare TreeShare) (g : Fin k0_t2_loop.trips) (b : Fin 4) (O : CellTallies nD τ sig (HIx 1)) (W : Waits sig (HIx 1))
    {α : Type} (k : PUnit → TP F i α) (Q : α → sProp 𝕄) :
    iprop(inFlight d i te f6 hin6 q qo g b ∗ Owed (thr d i) O W ∗ Transfers.MayWaits (thr d i) (default : HIx 1) O)
      ⊢ iprop((iprop((eW.view.loc (thr d i) ↦[Finset.univ]{q} te) ∗ (xW.view.loc (thr d i) ↦[Finset.univ]{qo} f6)
            ∗ reads (thr d i) (buf rW b) (gath te f6 (4 * g.val + b.val)) ∗ semVal (thr d i, SemLoc.dma (gsem cc0_scratch5 b)) 0 ∗ Owed (thr d i) O W)
          -∗ WP (F := F) d i (k ⟨⟩) Q) -∗ WP (F := F) d i (gwait i eW rW cc0_scratch5 b >>= k) Q) := by
  unfold inFlight gwait
  iintro ⟨⟨%fd, Hfl, Hr⟩, HO, Hmw⟩ Hk
  ihave HO := (Owed_elim (thr d i) O W) $$ HO
  icases HO with ⟨%W', %hW, HO⟩
  iapply (Transfers.wp_waitLocalO countersEmb 𝒱₀ (thr d i) none (default : HIx 1) (rfl : (buf rW b).view.dmaCredit = _)) $$ [Hfl HO Hmw]
  · isplitl [Hfl]; · iexact Hfl
    isplitl [HO]; · iexact HO
    iapply (Transfers.MayWaits.elim (SemLoc.dma (gsem cc0_scratch5 b))) $$ Hmw
  iintro ⟨⟨Hb, He, Hx⟩, Hs, HO⟩
  iapply Hk
  isplitl [He]
  · iapply (Entails.of_eq (congrArg (fun S => (eW.view.loc (thr d i) ↦[S]{q} te : sProp 𝕄)) table_set)) $$ He
  isplitl [Hx Hr]
  · iapply (pointsTo_split_subset (q := qo) (f := f6) (S := Finset.univ) (Finset.subset_univ (list xW g b).view.set)).2
    isplitl [Hx]; · iexact Hx
    iexact Hr
  isplitl [Hb]
  · unfold reads
    iexists _
    isplitr
    rotate_left
    · iexact Hb
    · ipureintro
      rw [View.read_write_univ, payload_eq te f6 g b hin6]
  isplitl [Hs]; · iexact Hs
  iapply (Owed_intro (thr d i) O W W' hW (SemLoc.dma (gsem cc0_scratch5 b))) $$ HO

end Gather

/-- Place `n` of the texts laid out position by position. -/
def atT (n : Nat) : S524288.Idx
  | 0 => ⟨n % 524288, Nat.mod_lt _ (by decide)⟩

/-- The text at flat position `p` of the result: position `p % 32` of batch row `p / 32`. -/
def tok (tf : S524288.Idx → Elt F .i32) (p : Nat) : Nat := (tf (atT (16384 * (p % 32) + p / 32)) : BitVec 32).toNat

/-- What the gathering leaves in its result: at row `r`, half `h` the table's row of the text at flat position `2 r + h`. -/
def OUT (tf : S524288.Idx → Elt F .i32) (te : S500000x128.Idx → Elt F .f32) (x : S262144x128.Idx) : Elt F .f32 :=
  te (atE (tok tf (2 * (x 0).val + (x 1).val / 64) / 2) (64 * (tok tf (2 * (x 0).val + (x 1).val / 64) % 2) + (x 1).val % 64))

/-- The lists of the tile numbered `w`: the pair of rows each text is in, and which of the two. -/
def Listed (tf : S524288.Idx → Elt F .i32) (w : Nat) (f6 f7 : S16384.Idx → Elt F .i32) : Prop :=
  ∀ p, p < 16384 → (f6 (at1 p)).toNat = tok tf (16384 * w + p) / 2 ∧ (f7 (at1 p)).toNat = tok tf (16384 * w + p) % 2

theorem half_subset (b : Fin 4) : (half rW b).view.set ⊆ (buf rW b).view.set := by
  show ((buf rW b).view.slice _).set ⊆ _
  rw [View.set_slice]
  exact View.setOn_subset_set _ _

section Write

variable (d : Dev nD) (i : grid0.Coords) (tf : S524288.Idx → Elt F .i32) (te : S500000x128.Idx → Elt F .f32) (f6 f7 : S16384.Idx → Elt F .i32)

theorem outRows_emb (g : Fin k0_t2_loop.trips) (b : Fin 4) (y : S64x128.Idx) :
    (((outRows i oW g b).view.emb y : S262144x128.Idx) 0).val = 8192 * wid i + 64 * (4 * g.val + b.val) + (y 0).val
      ∧ (((outRows i oW g b).view.emb y : S262144x128.Idx) 1).val = (y 1).val := by
  have ho := k0_off5_eq i g b
  have e0 : k0_off5 i g (BitVec.ofNat 32 b.val) 0 = 16384 * (i 1).val + 8192 * (i 0).val + 256 * g.val + 64 * b.val := by rw [ho]; rfl
  have e1 : k0_off5 i g (BitVec.ofNat 32 b.val) 1 = 0 := by rw [ho]; rfl
  constructor
  · show k0_off5 i g (BitVec.ofNat 32 b.val) 0 + 1 * (y 0).val = _
    unfold wid
    omega
  · show k0_off5 i g (BitVec.ofNat 32 b.val) 1 + 1 * (y 1).val = _
    omega

/-- The compacted chunk is what the result holds at its rows. -/
theorem packed_out (hl : Listed tf (wid i) f6 f7) (g : Fin k0_t2_loop.trips) (b : Fin 4) (y : S64x128.Idx) (j : S128x128.Idx) (h0 : (j 0).val = (y 0).val)
    (h1 : (j 1).val = (y 1).val) :
    comp (gath te f6 (4 * g.val + b.val)) (fun r => (f7 (at1 (128 * (4 * g.val + b.val) + r))).toNat) 8 0 j = OUT tf te ((outRows i oW g b).view.emb y) := by
  have hy0 : (y 0).val < 64 := (y 0).isLt
  have hy1 : (y 1).val < 128 := (y 1).isLt
  have hg : g.val < 32 := lt_of_lt_of_eq g.isLt (by decide)
  have hb := b.isLt
  obtain ⟨e0, e1⟩ := outRows_emb i g b y
  unfold comp packed OUT gath
  rw [if_pos (by omega), e0, e1, h0, h1]
  obtain ⟨l6, l7⟩ := hl (128 * (4 * g.val + b.val) + (2 * (y 0).val + (y 1).val / 64)) (by omega)
  have ep : 2 * (8192 * wid i + 64 * (4 * g.val + b.val) + (y 0).val) + (y 1).val / 64
      = 16384 * wid i + (128 * (4 * g.val + b.val) + (2 * (y 0).val + (y 1).val / 64)) := by omega
  rw [ep, ← l6, ← l7]
  have a0 : (at2 (2 * (y 0).val + (y 1).val / 64)
      (64 * (f7 (at1 (128 * (4 * g.val + b.val) + (2 * (y 0).val + (y 1).val / 64)))).toNat + (y 1).val % 64) 0).val = 2 * (y 0).val + (y 1).val / 64 :=
    Nat.mod_eq_of_lt (by omega)
  have a1 : (at2 (2 * (y 0).val + (y 1).val / 64)
      (64 * (f7 (at1 (128 * (4 * g.val + b.val) + (2 * (y 0).val + (y 1).val / 64)))).toNat + (y 1).val % 64) 1).val
      = 64 * (f7 (at1 (128 * (4 * g.val + b.val) + (2 * (y 0).val + (y 1).val / 64)))).toNat + (y 1).val % 64 :=
    Nat.mod_eq_of_lt (by omega)
  rw [a0, a1]

/-- What the write-out of chunk `b` of a group delivers: its rows of the result, and the compacted half of the row buffer back. -/
def wrote (g : Fin k0_t2_loop.trips) (b : Fin 4) : sProp 𝕄 :=
  iprop((oW.view.loc (thr d i) ↦[(outRows i oW g b).view.set]{fullShare} OUT tf te)
    ∗ ∃ f, (half rW b).view.loc (thr d i) ↦[(half rW b).view.set]{fullShare} f)

instance wrote_storable (g : Fin k0_t2_loop.trips) (b : Fin 4) : Storable (upEmb : UEmb _ 𝕄) (wrote d i tf te g b) := by
  unfold wrote; infer_instance

/-- The rest of a row buffer. -/
def rest (b : Fin 4) : sProp 𝕄 :=
  iprop(∃ f, (buf rW b).view.loc (thr d i) ↦[(buf rW b).view.set \ (half rW b).view.set]{fullShare} f)

/-- The write-outs' batch: `k` issued, `u` units of them waited for. -/
abbrev WB (g : Fin k0_t2_loop.trips) (k u : Nat) : sProp 𝕄 :=
  Transfers.Batch countersEmb (thr d i) (.dma cc0_scratch6.sem) (default : HIx 1) (outRows i oW g 0).view.dmaCredit (wrote d i tf te g) k u

/-- A write-out issued. -/
theorem wp_wissue (hl : Listed tf (wid i) f6 f7) (g : Fin k0_t2_loop.trips) (b : Fin 4) (fo : S262144x128.Idx → Elt F .f32) {α : Type} (k : PUnit → TP F i α) (Q : α → sProp 𝕄) :
    iprop(reads (thr d i) (buf rW b) (comp (gath te f6 (4 * g.val + b.val)) (fun r => (f7 (at1 (128 * (4 * g.val + b.val) + r))).toNat) 8 0)
        ∗ (oW.view.loc (thr d i) ↦[(outRows i oW g b).view.set]{fullShare} fo) ∗ WB d i tf te g b.val 0)
      ⊢ iprop((iprop(rest d i b ∗ WB d i tf te g (b.val + 1) 0) -∗ WP (F := F) d i (k ⟨⟩) Q)
        -∗ WP (F := F) d i (wissue i oW rW cc0_scratch6 g b >>= k) Q) := by
  unfold reads wissue
  iintro ⟨⟨%f, %hf, Hb⟩, Ho, HB⟩ Hk
  ihave Hb := (pointsTo_split_subset (q := fullShare) (f := f) (half_subset b)).1 $$ Hb
  icases Hb with ⟨Hh, Hr⟩
  iapply (Transfers.wp_dmaBatch countersEmb 𝒱₀ (thr d i) none (src := half rW b) (dst := outRows i oW g b) (Sd := (outRows i oW g b).view.set) (fd := fo) (fs := f) (q := fullShare)
    (D := wrote d i tf te g) (u := 0) (default : HIx 1) _ rfl subset_rfl b.isLt (Nat.zero_le _) ?_) $$ [Hh Ho HB]
  · show _ ⊢ wrote d i tf te g b
    unfold wrote
    iintro ⟨Ho, Hh⟩
    isplitl [Ho]
    · iapply (Entails.of_eq (pointsTo_congr (f := (outRows i oW g b).view.write (Elt F) fo ((half rW b).view.read (Elt F) f) Finset.univ) (g := OUT tf te) ?_)) $$ Ho
      intro x hx
      obtain ⟨y, -, rfl⟩ := Finset.mem_map.mp hx
      refine (View.write_emb (v := (outRows i oW g b).view) (Val := Elt F) fo ((half rW b).view.read (Elt F) f) Finset.univ y).trans ?_
      rw [if_pos (Finset.mem_univ _)]
      refine Eq.trans ?_ (packed_out i tf te f6 f7 hl g b y ((Rect.unit (s := S128x128) ![0, 0] S64x128.size inb_S128x128_S64x128_0_0).emb y) ?_ ?_)
      · rw [← hf]; rfl
      · show 0 + 1 * (y 0).val = _; omega
      · show 0 + 1 * (y 1).val = _; omega
    · iexists f
      iexact Hh
  · isplitl [Hh]; · iexact Hh
    isplitl [Ho]; · iexact Ho
    iexact HB
  iintro HB
  iapply Hk
  isplitl [Hr]
  · unfold rest
    iexists f
    iexact Hr
  · iexact HB

end Write

end Cert.KernelIdeal.Own
-- ==== Proof.Group.lean ====
module

public import proofs.«01_k».proof.Proof.Chunk

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The rows of the result from `lo` up to `hi`. -/
def rowsI (lo hi : Nat) : Finset S262144x128.Idx := Finset.univ.filter fun x => lo ≤ (x 0).val ∧ (x 0).val < hi

theorem mem_rowsI {lo hi : Nat} {x : S262144x128.Idx} : x ∈ rowsI lo hi ↔ lo ≤ (x 0).val ∧ (x 0).val < hi := by simp [rowsI]

theorem rowsI_empty (lo : Nat) : rowsI lo lo = ∅ := by
  ext x; rw [mem_rowsI]; simp

theorem rowsI_split {lo mid hi : Nat} (h₁ : lo ≤ mid) (h₂ : mid ≤ hi) : rowsI lo hi = rowsI lo mid ∪ rowsI mid hi := by
  ext x; rw [Finset.mem_union, mem_rowsI, mem_rowsI, mem_rowsI]; omega

theorem rowsI_disjoint (lo mid hi : Nat) : Disjoint (rowsI lo mid) (rowsI mid hi) := by
  rw [Finset.disjoint_left]; intro x h₁ h₂; rw [mem_rowsI] at h₁ h₂; omega

/-- A write-out's rows are the chunk's 64. -/
theorem outRows_set (i : grid0.Coords) (g : Fin k0_t2_loop.trips) (b : Fin 4) :
    (outRows i oW g b).view.set = rowsI (8192 * wid i + 64 * (4 * g.val + b.val)) (8192 * wid i + 64 * (4 * g.val + b.val) + 64) := by
  ext x
  rw [mem_rowsI]
  constructor
  · intro hx
    obtain ⟨y, -, rfl⟩ := Finset.mem_map.mp hx
    have hy : (y 0).val < 64 := (y 0).isLt
    have e := (outRows_emb i g b y).1
    constructor
    · exact (Nat.le_add_right _ _).trans_eq e.symm
    · refine lt_of_eq_of_lt e ?_; omega
  · intro ⟨h₁, h₂⟩
    refine Finset.mem_map.mpr ⟨fun | 0 => ⟨(x 0).val - (8192 * wid i + 64 * (4 * g.val + b.val)), ?_⟩ | 1 => x 1, Finset.mem_univ _, ?_⟩
    · show _ < 64; omega
    · funext a
      apply Fin.ext
      match a with
      | 0 => refine (outRows_emb i g b _).1.trans ?_; show _ + (_ - _) = _; omega
      | 1 => exact (outRows_emb i g b _).2

/-- Triples compose along a program. -/
theorem WP_seq (d : Dev nD) (i : grid0.Coords) {α β : Type} {p : TP F i α} {P : sProp 𝕄} {R : α → sProp 𝕄} (h : P ⊢ WP (F := F) d i p R) (k : α → TP F i β) (Q : β → sProp 𝕄) :
    P ⊢ iprop((∀ a, R a -∗ WP (F := F) d i (k a) Q) -∗ WP (F := F) d i (p >>= k) Q) := by
  unfold WP at h ⊢
  rw [wp_bind]
  iintro HP Hk
  iapply (wp_wand_r _ _ _)
  isplitl [HP]
  · iapply h $$ HP
  · iexact Hk

section Group

variable (d : Dev nD) (i : grid0.Coords) (tf : S524288.Idx → Elt F .i32) (te : S500000x128.Idx → Elt F .f32) (f6 f7 : S16384.Idx → Elt F .i32)
  (hin6 : ∀ p, (f6 p).toNat < 500000) (h7 : ∀ p, (f7 p).toNat < 2) (hl : Listed tf (wid i) f6 f7)
  (O : CellTallies nD τ sig (HIx 1)) (W : Waits sig (HIx 1))

include h7 hl in
/-- A chunk taken from its gather to its write-out. -/
theorem wp_chunk (q qo : PosShare TreeShare) (g : Fin k0_t2_loop.trips) (b : Fin 4) (fo : S262144x128.Idx → Elt F .f32) {α : Type} (k : PUnit → TP F i α) (Q : α → sProp 𝕄) :
    iprop(inFlight d i te f6 hin6 q qo g b ∗ Owed (thr d i) O W ∗ Transfers.MayWaits (thr d i) (default : HIx 1) O ∗ (hW.view.loc (thr d i) ↦[Finset.univ]{fullShare} f7)
        ∗ (oW.view.loc (thr d i) ↦[(outRows i oW g b).view.set]{fullShare} fo) ∗ WB d i tf te g b.val 0)
      ⊢ iprop((iprop((eW.view.loc (thr d i) ↦[Finset.univ]{q} te) ∗ (xW.view.loc (thr d i) ↦[Finset.univ]{qo} f6) ∗ semVal (thr d i, SemLoc.dma (gsem cc0_scratch5 b)) 0
            ∗ Owed (thr d i) O W ∗ (hW.view.loc (thr d i) ↦[Finset.univ]{fullShare} f7) ∗ rest d i b ∗ WB d i tf te g (b.val + 1) 0) -∗ WP (F := F) d i (k ⟨⟩) Q)
        -∗ WP (F := F) d i (chunk i eW oW hW rW cc0_scratch5 cc0_scratch6 g b >>= k) Q) := by
  unfold chunk
  rw [bind_assoc]
  simp only [bind_assoc]
  iintro ⟨Hfl, HO, Hmw, Hh, Ho, HB⟩ Hk
  iapply (wp_gwait d i te f6 hin6 q qo g b O W) $$ [Hfl HO Hmw]
  · isplitl [Hfl]; · iexact Hfl
    isplitl [HO]; · iexact HO
    iexact Hmw
  iintro ⟨He, Hx, Hb, Hs, HO⟩
  iapply (WP_seq d i (wp_compact d i g b (gath te f6 (4 * g.val + b.val)) f7 h7)) $$ [Hb Hh]
  · isplitl [Hb]; · iexact Hb
    iexact Hh
  iintro %_ ⟨Hb, Hh⟩
  iapply (wp_wissue d i tf te f6 f7 hl g b fo) $$ [Hb Ho HB]
  · isplitl [Hb]; · iexact Hb
    isplitl [Ho]; · iexact Ho
    iexact HB
  iintro ⟨Hr, HB⟩
  iapply Hk
  isplitl [He]; · iexact He
  isplitl [Hx]; · iexact Hx
  isplitl [Hs]; · iexact Hs
  isplitl [HO]; · iexact HO
  isplitl [Hh]; · iexact Hh
  isplitl [Hr]; · iexact Hr
  iexact HB

/-- A write-out's wait that is not the last. -/
theorem wp_wwait (g : Fin k0_t2_loop.trips) (b : Fin 4) (u : Nat) (hu : u + (outRows i oW g 0).view.dmaCredit < (outRows i oW g 0).view.dmaCredit * 4)
    {α : Type} (k : PUnit → TP F i α) (Q : α → sProp 𝕄) :
    iprop(WB d i tf te g 4 u ∗ Owed (thr d i) O W ∗ Transfers.MayWaits (thr d i) (default : HIx 1) O)
      ⊢ iprop((iprop(WB d i tf te g 4 (u + (outRows i oW g 0).view.dmaCredit) ∗ Owed (thr d i) O W) -∗ WP (F := F) d i (k ⟨⟩) Q)
        -∗ WP (F := F) d i (wwait i oW rW cc0_scratch6 g b >>= k) Q) := by
  unfold wwait
  iintro ⟨HB, HO, Hmw⟩ Hk
  ihave HO := (Owed_elim (thr d i) O W) $$ HO
  icases HO with ⟨%W', %hW, HO⟩
  iapply (Transfers.wp_waitBatchO countersEmb 𝒱₀ (thr d i) none (default : HIx 1) (srcw := half rW b) (dstw := outRows i oW g b) (hsrc := View.wordExact_bits rfl) (hdst := View.wordExact_bits rfl) (N := (outRows i oW g 0).view.dmaCredit) rfl hu) $$ [HB HO Hmw]
  · isplitl [HB]; · iexact HB
    isplitl [HO]; · iexact HO
    iapply (Transfers.MayWaits.elim (SemLoc.dma cc0_scratch6.sem)) $$ Hmw
  iintro ⟨HB, HO⟩
  iapply Hk
  isplitl [HB]; · iexact HB
  iapply (Owed_intro (thr d i) O W W' hW (SemLoc.dma cc0_scratch6.sem)) $$ HO

/-- The last write-out's wait: everything written comes back. -/
theorem wp_wwait_last (g : Fin k0_t2_loop.trips) (b : Fin 4) (u : Nat) (hu : u + (outRows i oW g 0).view.dmaCredit = (outRows i oW g 0).view.dmaCredit * 4)
    {α : Type} (k : PUnit → TP F i α) (Q : α → sProp 𝕄) :
    iprop(WB d i tf te g 4 u ∗ Owed (thr d i) O W ∗ Transfers.MayWaits (thr d i) (default : HIx 1) O)
      ⊢ iprop((iprop(bigSep Finset.univ (wrote d i tf te g) ∗ semVal (thr d i, SemLoc.dma cc0_scratch6.sem) 0 ∗ Owed (thr d i) O W) -∗ WP (F := F) d i (k ⟨⟩) Q)
        -∗ WP (F := F) d i (wwait i oW rW cc0_scratch6 g b >>= k) Q) := by
  unfold wwait
  iintro ⟨HB, HO, Hmw⟩ Hk
  ihave HO := (Owed_elim (thr d i) O W) $$ HO
  icases HO with ⟨%W', %hW, HO⟩
  iapply (Transfers.wp_waitBatchLastO countersEmb 𝒱₀ (thr d i) none (default : HIx 1) (srcw := half rW b) (dstw := outRows i oW g b) (hsrc := View.wordExact_bits rfl) (hdst := View.wordExact_bits rfl) (N := (outRows i oW g 0).view.dmaCredit) rfl (View.dmaCredit_pos _ (by decide)) hu) $$ [HB HO Hmw]
  · isplitl [HB]; · iexact HB
    isplitl [HO]; · iexact HO
    iapply (Transfers.MayWaits.elim (SemLoc.dma cc0_scratch6.sem)) $$ Hmw
  iintro ⟨HD, Hs, HO⟩
  iapply Hk
  isplitl [HD]; · iexact HD
  isplitl [Hs]; · iexact Hs
  iapply (Owed_intro (thr d i) O W W' hW (SemLoc.dma cc0_scratch6.sem)) $$ HO

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- A share in four. -/
theorem pointsTo_quarters {ℓ : Loc nD τ sig} (I : Finset (Idx ℓ)) (q : PosShare TreeShare) (f : Buf (Elt F) ℓ) :
    (ℓ ↦[I]{q} f : sProp 𝕄) = iprop((ℓ ↦[I]{q.left.left} f) ∗ (ℓ ↦[I]{q.left.right} f) ∗ (ℓ ↦[I]{q.right.left} f) ∗ (ℓ ↦[I]{q.right.right} f)) := by
  rw [pointsTo_leaves I f 2 q]
  exact bigSep_four (F := F) (fun i : Fin 4 => (ℓ ↦[I]{leaf 2 q i.val} f : sProp 𝕄))

/-- Row buffer `b`, whatever it holds. -/
def bufE (b : Fin 4) : sProp 𝕄 := iprop(∃ f, (buf rW b).view.loc (thr d i) ↦[(buf rW b).view.set]{fullShare} f)

/-- A row buffer's two parts are the buffer. -/
theorem buf_join (g : Fin k0_t2_loop.trips) (b : Fin 4) :
    iprop(rest (F := F) d i b ∗ wrote d i tf te g b) ⊢ iprop(bufE d i b ∗ (oW.view.loc (thr d i) ↦[(outRows i oW g b).view.set]{fullShare} OUT tf te)) := by
  unfold rest wrote bufE
  iintro ⟨⟨%f, Hr⟩, Ho, ⟨%f', Hh⟩⟩
  isplitl [Hr Hh]
  · iexists _
    iapply (pointsTo_join_subset (q := fullShare) (f := f) (g := f') (half_subset b))
    isplitl [Hh]; · iexact Hh
    iexact Hr
  · iexact Ho

/-- Rows of the result held at one function split at a row. -/
theorem out_split (f : S262144x128.Idx → Elt F .f32) {lo mid hi : Nat} (h₁ : lo ≤ mid) (h₂ : mid ≤ hi) :
    (oW.view.loc (thr d i) ↦[rowsI lo hi]{fullShare} f : sProp 𝕄)
      = iprop((oW.view.loc (thr d i) ↦[rowsI lo mid]{fullShare} f) ∗ (oW.view.loc (thr d i) ↦[rowsI mid hi]{fullShare} f)) := by
  rw [rowsI_split h₁ h₂]
  have h := pointsTo_union (nD := nD) (τ := τ) (sig := sig) (Ix := HIx 1) (Val := Elt F) (Name := ℕ) (U := UU) (Lvl := ℕ) (ℓ := oW.view.loc (thr d i)) (q := fullShare) (f := f) (rowsI_disjoint lo mid hi)
  exact BI.Entails.antisymm h.1 h.2

/-- A group's rows, and the later groups'. -/
theorem out_group (f : S262144x128.Idx → Elt F .f32) (g : Fin k0_t2_loop.trips) (hi : Nat) (hhi : 8192 * wid i + 256 * g.val + 256 ≤ hi) :
    (oW.view.loc (thr d i) ↦[rowsI (8192 * wid i + 256 * g.val) hi]{fullShare} f : sProp 𝕄)
      = iprop((oW.view.loc (thr d i) ↦[(outRows i oW g 0).view.set]{fullShare} f) ∗ (oW.view.loc (thr d i) ↦[(outRows i oW g 1).view.set]{fullShare} f)
        ∗ (oW.view.loc (thr d i) ↦[(outRows i oW g 2).view.set]{fullShare} f) ∗ (oW.view.loc (thr d i) ↦[(outRows i oW g 3).view.set]{fullShare} f)
        ∗ (oW.view.loc (thr d i) ↦[rowsI (8192 * wid i + 256 * (g.val + 1)) hi]{fullShare} f)) := by
  obtain ⟨B, hB⟩ : ∃ B, B = 8192 * wid i + 256 * g.val := ⟨_, rfl⟩
  have hlast : 8192 * wid i + 256 * (g.val + 1) = B + 64 + 64 + 64 + 64 := by omega
  have e0 : (outRows i oW g 0).view.set = rowsI B (B + 64) := by
    rw [outRows_set]; have e : 8192 * wid i + 64 * (4 * g.val + ((0 : Fin 4) : Nat)) = B := by rw [hB]; show _ + 64 * (4 * _ + 0) = _; omega
    rw [e]
  have e1 : (outRows i oW g 1).view.set = rowsI (B + 64) (B + 64 + 64) := by
    rw [outRows_set]; have e : 8192 * wid i + 64 * (4 * g.val + ((1 : Fin 4) : Nat)) = B + 64 := by rw [hB]; show _ + 64 * (4 * _ + 1) = _; omega
    rw [e]
  have e2 : (outRows i oW g 2).view.set = rowsI (B + 64 + 64) (B + 64 + 64 + 64) := by
    rw [outRows_set]; have e : 8192 * wid i + 64 * (4 * g.val + ((2 : Fin 4) : Nat)) = B + 64 + 64 := by rw [hB]; show _ + 64 * (4 * _ + 2) = _; omega
    rw [e]
  have e3 : (outRows i oW g 3).view.set = rowsI (B + 64 + 64 + 64) (B + 64 + 64 + 64 + 64) := by
    rw [outRows_set]; have e : 8192 * wid i + 64 * (4 * g.val + ((3 : Fin 4) : Nat)) = B + 64 + 64 + 64 := by rw [hB]; show _ + 64 * (4 * _ + 3) = _; omega
    rw [e]
  rw [e0, e1, e2, e3, hlast, ← hB]
  rw [out_split d i f (lo := B) (mid := B + 64) (hi := hi) (by omega) (by omega),
    out_split d i f (lo := B + 64) (mid := B + 64 + 64) (hi := hi) (by omega) (by omega),
    out_split d i f (lo := B + 64 + 64) (mid := B + 64 + 64 + 64) (hi := hi) (by omega) (by omega),
    out_split d i f (lo := B + 64 + 64 + 64) (mid := B + 64 + 64 + 64 + 64) (hi := hi) (by omega) (by omega)]

/-- What the group loop holds before group `n`: the results of the earlier groups written, the later ones as they were. -/
def GI (q : PosShare TreeShare) (fo : S262144x128.Idx → Elt F .f32) (n : Nat) : sProp 𝕄 :=
  iprop(Transfers.MayWaits (thr d i) (default : HIx 1) O ∗ Owed (thr d i) O W
    ∗ (eW.view.loc (thr d i) ↦[Finset.univ]{q} te) ∗ (xW.view.loc (thr d i) ↦[Finset.univ]{fullShare} f6) ∗ (hW.view.loc (thr d i) ↦[Finset.univ]{fullShare} f7)
    ∗ (bufE (F := F) d i 0 ∗ bufE (F := F) d i 1 ∗ bufE (F := F) d i 2 ∗ bufE (F := F) d i 3)
    ∗ (semVal (thr d i, SemLoc.dma (gsem cc0_scratch5 0)) 0 ∗ semVal (thr d i, SemLoc.dma (gsem cc0_scratch5 1)) 0
      ∗ semVal (thr d i, SemLoc.dma (gsem cc0_scratch5 2)) 0 ∗ semVal (thr d i, SemLoc.dma (gsem cc0_scratch5 3)) 0)
    ∗ semVal (thr d i, SemLoc.dma cc0_scratch6.sem) 0
    ∗ (oW.view.loc (thr d i) ↦[rowsI (8192 * wid i) (8192 * wid i + 256 * n)]{fullShare} OUT tf te)
    ∗ (oW.view.loc (thr d i) ↦[rowsI (8192 * wid i + 256 * n) (8192 * wid i + 8192)]{fullShare} fo))

include hin6 h7 hl in
set_option maxHeartbeats 1000000 in
/-- A group. -/
theorem wp_group (q : PosShare TreeShare) (fo : S262144x128.Idx → Elt F .f32) (g : Fin k0_t2_loop.trips) :
    GI d i tf te f6 f7 O W q fo g.val ⊢ WP (F := F) d i (group i eW oW xW hW rW cc0_scratch5 cc0_scratch6 g) (fun _ => GI d i tf te f6 f7 O W q fo (g.val + 1)) := by
  have hg : g.val < 32 := lt_of_lt_of_eq g.isLt (by decide)
  rw [← bind_pure (group i eW oW xW hW rW cc0_scratch5 cc0_scratch6 g)]
  unfold group
  simp only [bind_assoc]
  unfold GI
  rw [out_group d i fo g (8192 * wid i + 8192) (by omega), pointsTo_quarters (F := F) (ℓ := eW.view.loc (thr d i)) Finset.univ q te,
    pointsTo_quarters (F := F) (ℓ := xW.view.loc (thr d i)) Finset.univ fullShare f6]
  iintro ⟨#Hmw, HO, ⟨He0, He1, He2, He3⟩, ⟨Hx0, Hx1, Hx2, Hx3⟩, Hh, ⟨Hb0, Hb1, Hb2, Hb3⟩, ⟨Hs0, Hs1, Hs2, Hs3⟩, Hws, Hdone, Ho0, Ho1, Ho2, Ho3, Hlater⟩
  unfold bufE
  iapply (wp_gissue d i te f6 hin6 q.left.left fullShare.left.left g 0) $$ [He0 Hx0 Hb0 Hs0]
  · isplitl [He0]; · iexact He0
    isplitl [Hx0]; · iexact Hx0
    isplitl [Hb0]; · iexact Hb0
    iexact Hs0
  iintro Hf0
  iapply (wp_gissue d i te f6 hin6 q.left.right fullShare.left.right g 1) $$ [He1 Hx1 Hb1 Hs1]
  · isplitl [He1]; · iexact He1
    isplitl [Hx1]; · iexact Hx1
    isplitl [Hb1]; · iexact Hb1
    iexact Hs1
  iintro Hf1
  iapply (wp_gissue d i te f6 hin6 q.right.left fullShare.right.left g 2) $$ [He2 Hx2 Hb2 Hs2]
  · isplitl [He2]; · iexact He2
    isplitl [Hx2]; · iexact Hx2
    isplitl [Hb2]; · iexact Hb2
    iexact Hs2
  iintro Hf2
  iapply (wp_gissue d i te f6 hin6 q.right.right fullShare.right.right g 3) $$ [He3 Hx3 Hb3 Hs3]
  · isplitl [He3]; · iexact He3
    isplitl [Hx3]; · iexact Hx3
    isplitl [Hb3]; · iexact Hb3
    iexact Hs3
  iintro Hf3
  imod (Transfers.batch_alloc' countersEmb (thr d i) (sm := .dma cc0_scratch6.sem) (default : HIx 1) (outRows i oW g 0).view.dmaCredit (wrote d i tf te g) (E := Set.univ)) $$ Hws with HB
  iapply (wp_chunk d i tf te f6 f7 hin6 h7 hl O W q.left.left fullShare.left.left g 0 fo) $$ [Hf0 HO Hh Ho0 HB]
  · isplitl [Hf0]; · iexact Hf0
    isplitl [HO]; · iexact HO
    isplitr; · iexact Hmw
    isplitl [Hh]; · iexact Hh
    isplitl [Ho0]; · iexact Ho0
    iexact HB
  iintro ⟨He0, Hx0, Hs0, HO, Hh, Hr0, HB⟩
  iapply (wp_chunk d i tf te f6 f7 hin6 h7 hl O W q.left.right fullShare.left.right g 1 fo) $$ [Hf1 HO Hh Ho1 HB]
  · isplitl [Hf1]; · iexact Hf1
    isplitl [HO]; · iexact HO
    isplitr; · iexact Hmw
    isplitl [Hh]; · iexact Hh
    isplitl [Ho1]; · iexact Ho1
    iexact HB
  iintro ⟨He1, Hx1, Hs1, HO, Hh, Hr1, HB⟩
  iapply (wp_chunk d i tf te f6 f7 hin6 h7 hl O W q.right.left fullShare.right.left g 2 fo) $$ [Hf2 HO Hh Ho2 HB]
  · isplitl [Hf2]; · iexact Hf2
    isplitl [HO]; · iexact HO
    isplitr; · iexact Hmw
    isplitl [Hh]; · iexact Hh
    isplitl [Ho2]; · iexact Ho2
    iexact HB
  iintro ⟨He2, Hx2, Hs2, HO, Hh, Hr2, HB⟩
  iapply (wp_chunk d i tf te f6 f7 hin6 h7 hl O W q.right.right fullShare.right.right g 3 fo) $$ [Hf3 HO Hh Ho3 HB]
  · isplitl [Hf3]; · iexact Hf3
    isplitl [HO]; · iexact HO
    isplitr; · iexact Hmw
    isplitl [Hh]; · iexact Hh
    isplitl [Ho3]; · iexact Ho3
    iexact HB
  iintro ⟨He3, Hx3, Hs3, HO, Hh, Hr3, HB⟩
  have hN : 0 < (outRows i oW g 0).view.dmaCredit := View.dmaCredit_pos _ (by decide)
  iapply (wp_wwait d i tf te O W g 0 0 (by omega)) $$ [HB HO]
  · isplitl [HB]; · iexact HB
    isplitl [HO]; · iexact HO
    iexact Hmw
  iintro ⟨HB, HO⟩
  iapply (wp_wwait d i tf te O W g 1 (0 + (outRows i oW g 0).view.dmaCredit) (by omega)) $$ [HB HO]
  · isplitl [HB]; · iexact HB
    isplitl [HO]; · iexact HO
    iexact Hmw
  iintro ⟨HB, HO⟩
  iapply (wp_wwait d i tf te O W g 2 (0 + (outRows i oW g 0).view.dmaCredit + (outRows i oW g 0).view.dmaCredit) (by omega)) $$ [HB HO]
  · isplitl [HB]; · iexact HB
    isplitl [HO]; · iexact HO
    iexact Hmw
  iintro ⟨HB, HO⟩
  iapply (wp_wwait_last d i tf te O W g 3 (0 + (outRows i oW g 0).view.dmaCredit + (outRows i oW g 0).view.dmaCredit + (outRows i oW g 0).view.dmaCredit) (by omega)) $$ [HB HO]
  · isplitl [HB]; · iexact HB
    isplitl [HO]; · iexact HO
    iexact Hmw
  iintro ⟨HD, Hws, HO⟩
  ihave HD := (Entails.of_eq (bigSep_four (F := F) (wrote d i tf te g))) $$ HD
  icases HD with ⟨Hd0, Hd1, Hd2, Hd3⟩
  ihave Hj0 := (buf_join d i tf te g 0) $$ [Hr0 Hd0]
  · isplitl [Hr0]; · iexact Hr0
    iexact Hd0
  ihave Hj1 := (buf_join d i tf te g 1) $$ [Hr1 Hd1]
  · isplitl [Hr1]; · iexact Hr1
    iexact Hd1
  ihave Hj2 := (buf_join d i tf te g 2) $$ [Hr2 Hd2]
  · isplitl [Hr2]; · iexact Hr2
    iexact Hd2
  ihave Hj3 := (buf_join d i tf te g 3) $$ [Hr3 Hd3]
  · isplitl [Hr3]; · iexact Hr3
    iexact Hd3
  unfold bufE
  icases Hj0 with ⟨Hb0, Ho0⟩
  icases Hj1 with ⟨Hb1, Ho1⟩
  icases Hj2 with ⟨Hb2, Ho2⟩
  icases Hj3 with ⟨Hb3, Ho3⟩
  iapply (wp_pure_intro d i)
  isplitr; · iexact Hmw
  isplitl [HO]; · iexact HO
  isplitl [He0 He1 He2 He3]
  · isplitl [He0]; · iexact He0
    isplitl [He1]; · iexact He1
    isplitl [He2]; · iexact He2
    iexact He3
  isplitl [Hx0 Hx1 Hx2 Hx3]
  · isplitl [Hx0]; · iexact Hx0
    isplitl [Hx1]; · iexact Hx1
    isplitl [Hx2]; · iexact Hx2
    iexact Hx3
  isplitl [Hh]; · iexact Hh
  isplitl [Hb0 Hb1 Hb2 Hb3]
  · isplitl [Hb0]; · iexact Hb0
    isplitl [Hb1]; · iexact Hb1
    isplitl [Hb2]; · iexact Hb2
    iexact Hb3
  isplitl [Hs0 Hs1 Hs2 Hs3]
  · isplitl [Hs0]; · iexact Hs0
    isplitl [Hs1]; · iexact Hs1
    isplitl [Hs2]; · iexact Hs2
    iexact Hs3
  isplitl [Hws]; · iexact Hws
  isplitl [Hdone Ho0 Ho1 Ho2 Ho3]
  · rw [out_split d i (OUT tf te) (lo := 8192 * wid i) (mid := 8192 * wid i + 256 * g.val) (hi := 8192 * wid i + 256 * (g.val + 1)) (by omega) (by omega),
      out_group d i (OUT tf te) g (8192 * wid i + 256 * (g.val + 1)) (by omega), rowsI_empty, pointsTo_empty]
    isplitl [Hdone]; · iexact Hdone
    isplitl [Ho0]; · iexact Ho0
    isplitl [Ho1]; · iexact Ho1
    isplitl [Ho2]; · iexact Ho2
    isplitl [Ho3]; · iexact Ho3
    iempintro
  iexact Hlater

end Group

end Cert.KernelIdeal.Own
-- ==== Proof.Stage.lean ====
module

public import proofs.«01_k».proof.Proof.Group

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Row `l` of the stage is the places of its row. -/
theorem mem_stageRow (l : Fin 32) (x : S32x512.Idx) : x ∈ ((stageRow sW l).view.set : Finset S32x512.Idx) ↔ (x 0).val = l.val := by
  rw [show ((stageRow sW l).view.set : Finset S32x512.Idx) = (sW.slice (Rect.unit (s := S32x512) ![l.val, 0] S1x512.size (stage_inb l)) (fun _ => rfl)).view.set from
    View.set_reshape (v := (sW.slice (Rect.unit (s := S32x512) ![l.val, 0] S1x512.size (stage_inb l)) (fun _ => rfl)).view) squeezes_S1x512_S512.numel_eq]
  constructor
  · intro hx
    obtain ⟨y, -, rfl⟩ := Finset.mem_map.mp hx
    have hy : (y 0).val < 1 := (y 0).isLt
    show l.val + 1 * (y 0).val = l.val
    omega
  · intro h
    refine Finset.mem_map.mpr ⟨fun | 0 => ⟨0, Nat.one_pos⟩ | 1 => x 1, Finset.mem_univ _, ?_⟩
    funext a
    apply Fin.ext
    match a with
    | 0 => show l.val + 1 * 0 = _; omega
    | 1 => show 0 + 1 * (x 1).val = _; omega

theorem stageRow_emb (l : Fin 32) (y : S512.Idx) :
    (((stageRow sW l).view.emb y : S32x512.Idx) 0).val = l.val ∧ (((stageRow sW l).view.emb y : S32x512.Idx) 1).val = (y 0).val := by
  have e : Shape.reshapeEquiv squeezes_S1x512_S512.numel_eq y = (Fin.cons ⟨0, Nat.one_pos⟩ y : S1x512.Idx) :=
    Shape.reshapeEquiv_cons_one (d := ![512]) _ y
  constructor
  · show l.val + 1 * ((Shape.reshapeEquiv squeezes_S1x512_S512.numel_eq y) 0).val = _
    rw [e]; show l.val + 1 * 0 = _; omega
  · show 0 + 1 * ((Shape.reshapeEquiv squeezes_S1x512_S512.numel_eq y) 1).val = _
    rw [e]; show 0 + 1 * (y 0).val = _; omega

/-- Buffer `b` of the four is the places of its number. -/
theorem mem_buf (b : Fin 4) (x : S4x128x128.Idx) : x ∈ ((buf rW b).view.set : Finset S4x128x128.Idx) ↔ (x 0).val = b.val := by
  rw [show ((buf rW b).view.set : Finset S4x128x128.Idx) = (rW.slice (Rect.unit (s := S4x128x128) ![b.val, 0, 0] S1x128x128.size (buf_inb b)) (fun _ => rfl)).view.set from
    View.set_reshape (v := (rW.slice (Rect.unit (s := S4x128x128) ![b.val, 0, 0] S1x128x128.size (buf_inb b)) (fun _ => rfl)).view) squeezes_S1x128x128_S128x128.numel_eq]
  constructor
  · intro hx
    obtain ⟨y, -, rfl⟩ := Finset.mem_map.mp hx
    have hy : (y 0).val < 1 := (y 0).isLt
    show b.val + 1 * (y 0).val = b.val
    omega
  · intro h
    refine Finset.mem_map.mpr ⟨fun | 0 => ⟨0, Nat.one_pos⟩ | 1 => x 1 | 2 => x 2, Finset.mem_univ _, ?_⟩
    funext a
    apply Fin.ext
    match a with
    | 0 => show b.val + 1 * 0 = _; omega
    | 1 => show 0 + 1 * (x 1).val = _; omega
    | 2 => show 0 + 1 * (x 2).val = _; omega

/-- A buffer in four by its places. -/
theorem pointsTo_four {ℓ : Loc nD τ sig} (S : Fin 4 → Finset (Idx ℓ)) (hu : Finset.univ = Finset.univ.biUnion S)
    (hd : ∀ b ∈ (Finset.univ : Finset (Fin 4)), ∀ b' ∈ (Finset.univ : Finset (Fin 4)), b ≠ b' → Disjoint (S b) (S b')) (q : PosShare TreeShare) (f : Buf (Elt F) ℓ) :
    (ℓ ↦[Finset.univ]{q} f : sProp 𝕄) = iprop((ℓ ↦[S 0]{q} f) ∗ (ℓ ↦[S 1]{q} f) ∗ (ℓ ↦[S 2]{q} f) ∗ (ℓ ↦[S 3]{q} f)) := by
  rw [hu, pointsTo_biUnion Finset.univ S hd]
  exact bigSep_four (F := F) (fun b : Fin 4 => (ℓ ↦[S b]{q} f : sProp 𝕄))

/-- The stage as the copies leave it, on the tile numbered `w`: at row `l` the texts at position `l` of the tile's batch rows. -/
def STAGE (tf : S524288.Idx → Elt F .i32) (w : Nat) (x : S32x512.Idx) : Elt F .i32 :=
  tf (atT (16384 * (x 0).val + 512 * w + (x 1).val))

section Stage

variable (d : Dev nD) (i : grid0.Coords) (tf : S524288.Idx → Elt F .i32) (O : CellTallies nD τ sig (HIx 1)) (W : Waits sig (HIx 1)) (q : PosShare TreeShare)

/-- The four buffers are the row scratch. -/
theorem bufs_split : iprop(∃ f, rW.view.loc (thr d i) ↦[Finset.univ]{fullShare} f)
    ⊢ (iprop(bufE d i 0 ∗ bufE d i 1 ∗ bufE d i 2 ∗ bufE d i 3) : sProp 𝕄) := by
  iintro ⟨%f, H⟩
  have hu : (Finset.univ : Finset S4x128x128.Idx) = Finset.univ.biUnion fun b : Fin 4 => (buf rW b).view.set := by
    ext x
    simp only [Finset.mem_univ, Finset.mem_biUnion, true_and, true_iff]
    exact ⟨x 0, (mem_buf (x 0) x).mpr rfl⟩
  have hd : ∀ b ∈ (Finset.univ : Finset (Fin 4)), ∀ b' ∈ (Finset.univ : Finset (Fin 4)), b ≠ b' →
      Disjoint ((buf rW b).view.set : Finset S4x128x128.Idx) (buf rW b').view.set := by
    intro b _ b' _ hne
    rw [Finset.disjoint_left]
    intro x h₁ h₂
    exact hne (Fin.ext (((mem_buf b x).mp h₁).symm.trans ((mem_buf b' x).mp h₂)))
  ihave H := (Entails.of_eq (pointsTo_four (F := F) (ℓ := rW.view.loc (thr d i)) (fun b : Fin 4 => (buf rW b).view.set) hu hd fullShare f)) $$ H
  icases H with ⟨H0, H1, H2, H3⟩
  unfold bufE
  isplitl [H0]
  · iexists f; iexact H0
  isplitl [H1]
  · iexists f; iexact H1
  isplitl [H2]
  · iexists f; iexact H2
  iexists f; iexact H3

theorem bufs_join : (iprop(bufE d i 0 ∗ bufE d i 1 ∗ bufE d i 2 ∗ bufE d i 3) : sProp 𝕄)
    ⊢ iprop(∃ f, rW.view.loc (thr d i) ↦[Finset.univ]{fullShare} f) := by
  have hd : ∀ b b' : Fin 4, b ≠ b' → Disjoint ((buf rW b).view.set : Finset S4x128x128.Idx) (buf rW b').view.set := by
    intro b b' hne
    rw [Finset.disjoint_left]
    intro x h₁ h₂
    exact hne (Fin.ext (((mem_buf b x).mp h₁).symm.trans ((mem_buf b' x).mp h₂)))
  have hu : (((((buf rW 0).view.set : Finset S4x128x128.Idx) ∪ (buf rW 1).view.set) ∪ (buf rW 2).view.set) ∪ (buf rW 3).view.set) = Finset.univ := by
    apply Finset.eq_univ_of_forall
    intro x
    simp only [Finset.mem_union]
    have h0 := mem_buf 0 x
    have h1 := mem_buf 1 x
    have h2 := mem_buf 2 x
    have h3 := mem_buf 3 x
    have hx : (x 0).val < 4 := (x 0).isLt
    have b0 : ((0 : Fin 4) : Nat) = 0 := rfl
    have b1 : ((1 : Fin 4) : Nat) = 1 := rfl
    have b2 : ((2 : Fin 4) : Nat) = 2 := rfl
    have b3 : ((3 : Fin 4) : Nat) = 3 := rfl
    rw [h0, h1, h2, h3, b0, b1, b2, b3]
    omega
  unfold bufE
  iintro ⟨⟨%f0, H0⟩, ⟨%f1, H1⟩, ⟨%f2, H2⟩, ⟨%f3, H3⟩⟩
  ihave H := (pointsTo_join (ℓ := rW.view.loc (thr d i)) (q := fullShare) (hd 0 1 (by decide))) $$ [H0 H1]
  · isplitl [H0]; · iexact H0
    iexact H1
  ihave H := (pointsTo_join (ℓ := rW.view.loc (thr d i)) (q := fullShare) (J := (buf rW 2).view.set) (Finset.disjoint_union_left.mpr ⟨hd 0 2 (by decide), hd 1 2 (by decide)⟩)) $$ [H H2]
  · isplitl [H]; · iexact H
    iexact H2
  ihave H := (pointsTo_join (ℓ := rW.view.loc (thr d i)) (q := fullShare) (J := (buf rW 3).view.set)
    (Finset.disjoint_union_left.mpr ⟨Finset.disjoint_union_left.mpr ⟨hd 0 3 (by decide), hd 1 3 (by decide)⟩, hd 2 3 (by decide)⟩)) $$ [H H3]
  · isplitl [H]; · iexact H
    iexact H3
  iexists _
  iapply (Entails.of_eq (congrArg (fun S => (rW.view.loc (thr d i) ↦[S]{fullShare} _ : sProp 𝕄)) hu)) $$ H

/-- What a stage copy delivers: its row of the stage, and the texts' share back. -/
def staged (l : Fin 32) : sProp 𝕄 :=
  iprop((sW.view.loc (thr d i) ↦[(stageRow sW l).view.set]{fullShare} STAGE tf (wid i))
    ∗ (tW.view.loc (thr d i) ↦[(textRow i tW l).view.set]{leaf 5 q l.val} tf))

instance staged_storable (l : Fin 32) : Storable (upEmb : UEmb _ 𝕄) (staged d i tf q l) := by
  unfold staged; infer_instance

/-- What a stage copy is issued with. -/
def toStage (fs : S32x512.Idx → Elt F .i32) (l : Fin 32) : sProp 𝕄 :=
  iprop((sW.view.loc (thr d i) ↦[(stageRow sW l).view.set]{fullShare} fs)
    ∗ (tW.view.loc (thr d i) ↦[(textRow i tW l).view.set]{leaf 5 q l.val} tf))

/-- The stage copies' batch. -/
abbrev SB (k u : Nat) : sProp 𝕄 :=
  Transfers.Batch countersEmb (thr d i) (.dma cc0_scratch4.sem) (default : HIx 1) (stageRow sW 0).view.dmaCredit (staged d i tf q) k u

theorem stage_value (fs : S32x512.Idx → Elt F .i32) (l : Fin 32) (x : S32x512.Idx) (hx : x ∈ ((stageRow sW l).view.set : Finset S32x512.Idx)) :
    ((stageRow sW l).view.write (Elt F) fs ((textRow i tW l).view.read (Elt F) tf) Finset.univ : S32x512.Idx → Elt F .i32) x = STAGE tf (wid i) x := by
  obtain ⟨y, -, rfl⟩ := Finset.mem_map.mp hx
  refine (View.write_emb (v := (stageRow sW l).view) (Val := Elt F) fs ((textRow i tW l).view.read (Elt F) tf) Finset.univ y).trans ?_
  rw [if_pos (Finset.mem_univ _)]
  obtain ⟨e0, e1⟩ := stageRow_emb l y
  unfold STAGE
  rw [e0, e1]
  have ho := k0_off1_eq i l
  have hw := wid_lt i
  have hl := l.isLt
  have hy : (y 0).val < 512 := (y 0).isLt
  have eo : k0_off1 i (BitVec.ofNat 32 (16384 * l.val)) 0 = 16384 * l.val + 1024 * (i 1).val + 512 * (i 0).val := by rw [ho]; rfl
  have e : (Rect.unit (s := S524288) (k0_off1 i (BitVec.ofNat 32 (16384 * l.val))) S512.size (k0_off1_inb i l)).emb y = atT (16384 * l.val + 512 * wid i + (y 0).val) := by
    funext a
    apply Fin.ext
    match a with
    | 0 =>
      have hm : (16384 * l.val + 512 * wid i + (y 0).val) % 524288 = 16384 * l.val + 512 * wid i + (y 0).val := Nat.mod_eq_of_lt (by omega)
      show k0_off1 i (BitVec.ofNat 32 (16384 * l.val)) 0 + 1 * (y 0).val = (16384 * l.val + 512 * wid i + (y 0).val) % 524288
      rw [hm, eo]
      unfold wid
      omega
  exact congrArg tf e

/-- The stage copies issued. -/
theorem wp_issues (fs : S32x512.Idx → Elt F .i32) : ∀ (n l : Nat) (h : l + n ≤ 32),
    (iprop(bigSep (Transfers.pending l) (toStage d i tf q fs) ∗ SB d i tf q l 0) ⊢
      WP (F := F) d i (issues i tW sW cc0_scratch4 n l h) (fun _ => iprop(bigSep (Transfers.pending (l + n)) (toStage d i tf q fs) ∗ SB d i tf q (l + n) 0)))
  | 0, l, h => by
    unfold issues
    exact wp_pure_intro d i
  | n + 1, l, h => by
    have hl : l < 32 := by omega
    have ih := wp_issues fs n (l + 1) (by omega)
    have ee : l + 1 + n = l + (n + 1) := by omega
    rw [Transfers.bigSep_pending_step _ l hl]
    have hS : toStage d i tf q fs ⟨l, hl⟩ = iprop((sW.view.loc (thr d i) ↦[(stageRow sW ⟨l, hl⟩).view.set]{fullShare} fs)
        ∗ (tW.view.loc (thr d i) ↦[(textRow i tW ⟨l, hl⟩).view.set]{leaf 5 q l} tf)) := rfl
    rw [hS]
    simp only [issues]
    iintro ⟨⟨⟨Hs, Ht⟩, Hp⟩, HB⟩
    iapply (Transfers.wp_dmaBatch countersEmb 𝒱₀ (thr d i) none (src := textRow i tW ⟨l, hl⟩) (dst := stageRow sW ⟨l, hl⟩) (Sd := (stageRow sW ⟨l, hl⟩).view.set) (fd := fs) (fs := tf)
      (q := leaf 5 q l) (D := staged d i tf q) (u := 0) (default : HIx 1) _ rfl subset_rfl hl (Nat.zero_le _) ?_) $$ [Hs Ht HB]
    · unfold staged
      iintro ⟨Hs, Ht⟩
      isplitl [Hs]
      · iapply (Entails.of_eq (pointsTo_congr (f := (stageRow sW ⟨l, hl⟩).view.write (Elt F) fs ((textRow i tW ⟨l, hl⟩).view.read (Elt F) tf) Finset.univ) (g := STAGE tf (wid i))
          (stage_value i tf fs ⟨l, hl⟩))) $$ Hs
      · iexact Ht
    · isplitl [Ht]; · iexact Ht
      isplitl [Hs]; · iexact Hs
      iexact HB
    iintro HB
    simp only [← ee]
    iapply ih
    isplitl [Hp]; · iexact Hp
    iexact HB

/-- The stage copies waited for. -/
theorem wp_waits : ∀ (n l : Nat) (h : l + n ≤ 32), l + n = 32 → 0 < n →
    (iprop(SB d i tf q 32 ((stageRow sW 0).view.dmaCredit * l) ∗ Owed (thr d i) O W ∗ Transfers.MayWaits (thr d i) (default : HIx 1) O) ⊢
      WP (F := F) d i (waits i tW sW cc0_scratch4 n l h)
        (fun _ => iprop(bigSep Finset.univ (staged d i tf q) ∗ semVal (thr d i, SemLoc.dma cc0_scratch4.sem) 0 ∗ Owed (thr d i) O W)))
  | 0, l, h, _, h0 => absurd h0 (by omega)
  | 1, l, h, hn, _ => by
    have hl : l < 32 := by omega
    have hu : (stageRow sW 0).view.dmaCredit * l + (stageRow sW 0).view.dmaCredit = (stageRow sW 0).view.dmaCredit * 32 := by
      have e : l = 31 := by omega
      rw [e]; omega
    unfold waits waits
    iintro ⟨HB, HO, Hmw⟩
    ihave HO := (Owed_elim (thr d i) O W) $$ HO
    icases HO with ⟨%W', %hW, HO⟩
    iapply (Transfers.wp_waitBatchLastO countersEmb 𝒱₀ (thr d i) none (default : HIx 1) (srcw := textRow i tW ⟨l, hl⟩) (dstw := stageRow sW ⟨l, hl⟩) (hsrc := View.wordExact_bits rfl)
      (hdst := (View.wordExact_bits rfl).reshape _ _) (N := (stageRow sW 0).view.dmaCredit) rfl (View.dmaCredit_pos _ (by decide)) hu) $$ [HB HO Hmw]
    · isplitl [HB]; · iexact HB
      isplitl [HO]; · iexact HO
      iapply (Transfers.MayWaits.elim (SemLoc.dma cc0_scratch4.sem)) $$ Hmw
    iintro ⟨HD, Hs, HO⟩
    iapply (wp_pure_intro d i)
    isplitl [HD]; · iexact HD
    isplitl [Hs]; · iexact Hs
    iapply (Owed_intro (thr d i) O W W' hW (SemLoc.dma cc0_scratch4.sem)) $$ HO
  | n + 2, l, h, hn, _ => by
    have hl : l < 32 := by omega
    have ih := wp_waits (n + 1) (l + 1) (by omega) (by omega) (by omega)
    have hN : 0 < (stageRow sW 0).view.dmaCredit := View.dmaCredit_pos _ (by decide)
    have hu : (stageRow sW 0).view.dmaCredit * l + (stageRow sW 0).view.dmaCredit < (stageRow sW 0).view.dmaCredit * 32 := by
      rw [← Nat.mul_succ]; exact Nat.mul_lt_mul_of_pos_left (by omega) hN
    unfold waits
    iintro ⟨HB, HO, #Hmw⟩
    ihave HO := (Owed_elim (thr d i) O W) $$ HO
    icases HO with ⟨%W', %hW, HO⟩
    iapply (Transfers.wp_waitBatchO countersEmb 𝒱₀ (thr d i) none (default : HIx 1) (srcw := textRow i tW ⟨l, hl⟩) (dstw := stageRow sW ⟨l, hl⟩) (hsrc := View.wordExact_bits rfl)
      (hdst := (View.wordExact_bits rfl).reshape _ _) (N := (stageRow sW 0).view.dmaCredit) rfl hu) $$ [HB HO]
    · isplitl [HB]; · iexact HB
      isplitl [HO]; · iexact HO
      iapply (Transfers.MayWaits.elim (SemLoc.dma cc0_scratch4.sem)) $$ Hmw
    iintro ⟨HB, HO⟩
    iapply ih
    isplitl [HB]
    · iexact HB
    isplitl [HO]
    · iapply (Owed_intro (thr d i) O W W' hW (SemLoc.dma cc0_scratch4.sem)) $$ HO
    iexact Hmw

/-- The stage is its rows. -/
theorem stage_rows (f : S32x512.Idx → Elt F .i32) :
    (sW.view.loc (thr d i) ↦[Finset.univ]{fullShare} f : sProp 𝕄)
      = bigSep Finset.univ fun l : Fin 32 => (sW.view.loc (thr d i) ↦[(stageRow sW l).view.set]{fullShare} f : sProp 𝕄) := by
  have hu : (Finset.univ : Finset S32x512.Idx) = Finset.univ.biUnion fun l : Fin 32 => (stageRow sW l).view.set := by
    ext x
    simp only [Finset.mem_univ, Finset.mem_biUnion, true_and, true_iff]
    exact ⟨x 0, (mem_stageRow (x 0) x).mpr rfl⟩
  have hd : ∀ b ∈ (Finset.univ : Finset (Fin 32)), ∀ b' ∈ (Finset.univ : Finset (Fin 32)), b ≠ b' →
      Disjoint ((stageRow sW b).view.set : Finset S32x512.Idx) (stageRow sW b').view.set := by
    intro b _ b' _ hne
    rw [Finset.disjoint_left]
    intro x h₁ h₂
    exact hne (Fin.ext (((mem_stageRow b x).mp h₁).symm.trans ((mem_stageRow b' x).mp h₂)))
  exact (congrArg (fun S => (sW.view.loc (thr d i) ↦[S]{fullShare} f : sProp 𝕄)) hu).trans
    (pointsTo_biUnion (ℓ := sW.view.loc (thr d i)) Finset.univ (fun l : Fin 32 => ((stageRow sW l).view.set : Finset S32x512.Idx)) hd)

/-- The texts' share in thirty-two leaves, each the row a copy reads and the others. -/
theorem text_leaves :
    (tW.view.loc (thr d i) ↦[Finset.univ]{q} tf : sProp 𝕄)
      = iprop((bigSep Finset.univ fun l : Fin 32 => (tW.view.loc (thr d i) ↦[(textRow i tW l).view.set]{leaf 5 q l.val} tf : sProp 𝕄))
        ∗ (bigSep Finset.univ fun l : Fin 32 => (tW.view.loc (thr d i) ↦[Finset.univ \ (textRow i tW l).view.set]{leaf 5 q l.val} tf : sProp 𝕄))) := by
  refine (pointsTo_leaves (F := F) (ℓ := tW.view.loc (thr d i)) Finset.univ tf 5 q).trans (.trans (bigSep_congr fun l _ => ?_) (BI.bigSep_sep ..))
  have hs := pointsTo_split_subset (nD := nD) (τ := τ) (sig := sig) (Ix := HIx 1) (Val := Elt F) (Name := ℕ) (U := UU) (Lvl := ℕ) (ℓ := tW.view.loc (thr d i))
    (q := leaf 5 q l.val) (f := tf) (Finset.subset_univ (textRow i tW ⟨l.val, l.isLt⟩).view.set)
  exact BI.Entails.antisymm hs.1 hs.2

/-- The stage copies: the tile's texts reach the stage. -/
theorem wp_stage (k : PUnit → TP F i PUnit) (Q : PUnit → sProp 𝕄) (fs : S32x512.Idx → Elt F .i32) :
    iprop((tW.view.loc (thr d i) ↦[Finset.univ]{q} tf) ∗ (sW.view.loc (thr d i) ↦[Finset.univ]{fullShare} fs) ∗ semVal (thr d i, SemLoc.dma cc0_scratch4.sem) 0
        ∗ Owed (thr d i) O W ∗ Transfers.MayWaits (thr d i) (default : HIx 1) O)
      ⊢ iprop((((tW.view.loc (thr d i) ↦[Finset.univ]{q} tf) ∗ (sW.view.loc (thr d i) ↦[Finset.univ]{fullShare} STAGE tf (wid i))
          ∗ semVal (thr d i, SemLoc.dma cc0_scratch4.sem) 0 ∗ Owed (thr d i) O W) -∗ WP (F := F) d i (k ⟨⟩) Q)
        -∗ WP (F := F) d i (issues i tW sW cc0_scratch4 32 0 (by omega) >>= fun _ => waits i tW sW cc0_scratch4 32 0 (by omega) >>= k) Q) := by
  have hI := wp_issues d i tf q fs 32 0 (by omega)
  have hW := wp_waits d i tf O W q 32 0 (by omega) (by omega) (by omega)
  rw [Nat.mul_zero] at hW
  rw [text_leaves, stage_rows, stage_rows]
  iintro ⟨⟨Ht, Hr⟩, Hst, Hsem, HO, #Hmw⟩ Hk
  imod (Transfers.batch_alloc' countersEmb (thr d i) (sm := .dma cc0_scratch4.sem) (default : HIx 1) (stageRow sW 0).view.dmaCredit (staged d i tf q) (E := Set.univ)) $$ Hsem with HB
  iapply (WP_seq d i hI) $$ [Ht Hst HB]
  · isplitl [Ht Hst]
    · rw [← Transfers.bigSep_pending_zero]
      unfold toStage
      iapply (Transfers.bigSep_sep_in _ _ _)
      isplitl [Hst]; · iexact Hst
      iexact Ht
    · iexact HB
  iintro %_ ⟨-, HB⟩
  iapply (WP_seq d i hW) $$ [HB HO]
  · isplitl [HB]; · iexact HB
    isplitl [HO]; · iexact HO
    iexact Hmw
  iintro %_ ⟨HD, Hsem, HO⟩
  iapply Hk
  unfold staged
  ihave HD := (Transfers.bigSep_sep_out _ _ _) $$ HD
  icases HD with ⟨Hst, Ht⟩
  isplitl [Ht Hr]
  · isplitl [Ht]; · iexact Ht
    iexact Hr
  isplitl [Hst]; · iexact Hst
  isplitl [Hsem]; · iexact Hsem
  iexact HO

end Stage

end Cert.KernelIdeal.Own
-- ==== Proof.Reorder.lean ====
module

public import proofs.«01_k».proof.Proof.Stage

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem divsi32 (v : BitVec 32) (h : v.toNat < 2 ^ 31) : (IntOp.divsi .vector v 32#32).toNat = v.toNat / 32 := by
  unfold IntOp.divsi
  rw [if_neg (by unfold IntOp.SDivCorner; rintro (h0 | ⟨-, h1⟩); exact absurd h0 (by decide); exact absurd h1 (by decide))]
  have hm : v.msb = false := by rw [BitVec.msb_eq_false_iff_two_mul_lt]; omega
  have h32 : (32#32 : BitVec 32).msb = false := by decide
  rw [BitVec.sdiv_eq, hm, h32]
  show (v / 32#32).toNat = _
  rw [BitVec.toNat_udiv]
  rfl

theorem remsi32 (v : BitVec 32) (h : v.toNat < 2 ^ 31) : (IntOp.remsi .vector v 32#32).toNat = v.toNat % 32 := by
  unfold IntOp.remsi
  rw [if_neg (by unfold IntOp.SDivCorner; rintro (h0 | ⟨-, h1⟩); exact absurd h0 (by decide); exact absurd h1 (by decide))]
  have hm : v.msb = false := by rw [BitVec.msb_eq_false_iff_two_mul_lt]; omega
  have h32 : (32#32 : BitVec 32).msb = false := by decide
  rw [BitVec.srem_eq, hm, h32]
  show (v % 32#32).toNat = _
  rw [BitVec.toNat_umod]
  rfl

/-- The trip's lanes are the next sixteen places of the list. -/
theorem place_toNat (t : Fin k0_t1_loop.trips) (x : S16.Idx) : (k0_pay527 t x).toNat = 16 * t.val + ln x := by
  have h := ln_lt x
  have ht : t.val < 1024 := t.isLt
  have hl := lanes_toNat x
  unfold k0_pay527
  simp only [addi, broadcast, Scalar.muli, Scf.iv, IntOp.addi, IntOp.muli, BitVec.toNat_add, BitVec.toNat_mul, BitVec.toNat_ofNat]
  have e : (iota .scVector S16 32 [0] iota_S16_d0_w32_scVector x).toNat = ln x := hl
  rw [e]
  omega

theorem pos_toNat (t : Fin k0_t1_loop.trips) (x : S16.Idx) : (k0_pay528 t x).toNat = (16 * t.val + ln x) % 32 := by
  have h := ln_lt x
  have ht : t.val < 1024 := t.isLt
  have e := place_toNat t x
  rw [← e]
  exact remsi32 _ (by omega)

theorem bat_toNat (t : Fin k0_t1_loop.trips) (x : S16.Idx) : (k0_pay529 t x).toNat = (16 * t.val + ln x) / 32 := by
  have h := ln_lt x
  have ht : t.val < 1024 := t.isLt
  have e := place_toNat t x
  rw [← e]
  exact divsi32 _ (by omega)

theorem chk_stage (t : Fin k0_t1_loop.trips) : k0_chk1 (k0_pay528 t) (k0_pay529 t) := by
  intro a x
  have h := ln_lt x
  have ht : t.val < 1024 := t.isLt
  match a with
  | 0 => show (k0_pay528 t x).toNat < 32; rw [pos_toNat]; omega
  | 1 => show (k0_pay529 t x).toNat < 512; rw [bat_toNat]; omega

theorem off2_val (t : Fin k0_t1_loop.trips) : k0_off2 t 0 = 16 * t.val := by
  rw [k0_off2_eq]; rfl

/-- A place of the list is written by the trip of its sixteen. -/
theorem write_xW (f : S16384.Idx → Elt F .i32) (t : Fin k0_t1_loop.trips) (w : S16.Idx → Elt F .i32) (g : Nat → Nat)
    (hf : ∀ p, p < 16 * t.val → (f (at1 p)).toNat = g p) (hw : ∀ x, (w x).toNat = g (16 * t.val + ln x)) (p : Nat) (hp : p < 16 * (t.val + 1)) :
    (((xW.access (Rect.unit (s := S16384) (k0_off2 t) S16.size (k0_off2_inb t))).write (Elt F) f w Finset.univ : S16384.Idx → Elt F .i32) (at1 p)).toNat = g p := by
  have ht : t.val < 1024 := t.isLt
  have ho := off2_val t
  by_cases h : p < 16 * t.val
  · rw [View.write_of_not_mem (v := xW.access (Rect.unit (s := S16384) (k0_off2 t) S16.size (k0_off2_inb t)))]
    · exact hf p h
    · intro hm
      obtain ⟨y, -, hy⟩ := Finset.mem_map.mp hm
      have e : k0_off2 t 0 + 1 * (y 0).val = p % 16384 := congrArg (fun j : S16384.Idx => (j 0).val) hy
      omega
  · obtain ⟨y, hy⟩ : ∃ y : S16.Idx, 16 * t.val + ln y = p := ⟨fun | 0 => ⟨p - 16 * t.val, by show _ < 16; omega⟩, by unfold ln; show 16 * t.val + (p - 16 * t.val) = p; omega⟩
    have hl := ln_lt y
    have e : (Rect.unit (s := S16384) (k0_off2 t) S16.size (k0_off2_inb t)).emb y = at1 p := by
      funext a
      apply Fin.ext
      match a with
      | 0 =>
        show k0_off2 t 0 + 1 * ln y = p % 16384
        omega
    have hq := View.write_emb (v := xW.access (Rect.unit (s := S16384) (k0_off2 t) S16.size (k0_off2_inb t))) (Val := Elt F) f w Finset.univ y
    rw [if_pos (Finset.mem_univ _)] at hq
    have hq' : ((xW.access (Rect.unit (s := S16384) (k0_off2 t) S16.size (k0_off2_inb t))).write (Elt F) f w Finset.univ : S16384.Idx → Elt F .i32) (at1 p) = w y := by
      rw [← e]; exact hq
    rw [hq', hw, hy]

theorem write_hW (f : S16384.Idx → Elt F .i32) (t : Fin k0_t1_loop.trips) (w : S16.Idx → Elt F .i32) (g : Nat → Nat)
    (hf : ∀ p, p < 16 * t.val → (f (at1 p)).toNat = g p) (hw : ∀ x, (w x).toNat = g (16 * t.val + ln x)) (p : Nat) (hp : p < 16 * (t.val + 1)) :
    (((hW.access (Rect.unit (s := S16384) (k0_off2 t) S16.size (k0_off2_inb t))).write (Elt F) f w Finset.univ : S16384.Idx → Elt F .i32) (at1 p)).toNat = g p :=
  write_xW f t w g hf hw p hp

section Reorder

variable (d : Dev nD) (i : grid0.Coords) (tf : S524288.Idx → Elt F .i32)

/-- What the loop has sorted before trip `t`. -/
def RI (t : Nat) : sProp 𝕄 :=
  iprop((sW.view.loc (thr d i) ↦[Finset.univ]{fullShare} STAGE tf (wid i))
    ∗ (∃ f6 : S16384.Idx → Elt F .i32, ⌜∀ p, p < 16 * t → (f6 (at1 p)).toNat = tok tf (16384 * wid i + p) / 2⌝ ∗ (xW.view.loc (thr d i) ↦[Finset.univ]{fullShare} f6))
    ∗ (∃ f7 : S16384.Idx → Elt F .i32, ⌜∀ p, p < 16 * t → (f7 (at1 p)).toNat = tok tf (16384 * wid i + p) % 2⌝ ∗ (hW.view.loc (thr d i) ↦[Finset.univ]{fullShare} f7)))

/-- The lanes a trip gathers out of the stage are its sixteen texts. -/
theorem staged_tok (t : Fin k0_t1_loop.trips) (h1 : k0_chk1 (k0_pay528 t) (k0_pay529 t)) (x : S16.Idx) :
    (loadIdx (F := F) (s := S32x512) (e := .i32) ((sW.access (.whole S32x512)).read (Elt F) (STAGE tf (wid i))) ![k0_pay528 t, k0_pay529 t] (k0_idx1_inb _ _ h1) x).toNat
      = tok tf (16384 * wid i + (16 * t.val + ln x)) := by
  have hx := ln_lt x
  have ht : t.val < 1024 := t.isLt
  have hw := wid_lt i
  rw [access_whole_read]
  unfold tok
  show (STAGE tf (wid i) (idxAt ![k0_pay528 t, k0_pay529 t] (k0_idx1_inb _ _ h1) x)).toNat = _
  unfold STAGE
  have e0 : (idxAt (s := S32x512) ![k0_pay528 t, k0_pay529 t] (k0_idx1_inb _ _ h1) x 0).val = (16 * t.val + ln x) % 32 := pos_toNat t x
  have e1 : (idxAt (s := S32x512) ![k0_pay528 t, k0_pay529 t] (k0_idx1_inb _ _ h1) x 1).val = (16 * t.val + ln x) / 32 := bat_toNat t x
  rw [e0, e1]
  congr 3
  omega

/-- The sixteen texts a trip gathers. -/
abbrev sixteen (t : Fin k0_t1_loop.trips) : Vec F S16 .i32 :=
  loadIdx (F := F) (s := S32x512) (e := .i32) ((sW.access (.whole S32x512)).read (Elt F) (STAGE tf (wid i))) ![k0_pay528 t, k0_pay529 t] (k0_idx1_inb _ _ (chk_stage t))

theorem wp_reorder (htf : ∀ p, (tf p).toNat < 1000000) (t : Fin k0_t1_loop.trips) :
    RI d i tf t.val ⊢ WP (F := F) d i (reorder i sW xW hW t) (fun _ => RI d i tf (t.val + 1)) := by
  have hlt : ∀ p, tok tf p < 1000000 := fun p => htf _
  simp only [reorder, WP, bind_assoc]
  unfold RI
  iintro ⟨Hs, ⟨%f6, %h6, Hx⟩, ⟨%f7, %h7, Hh⟩⟩
  iapply (wp_assume 𝒱₀ (thr d i) none Set.univ (chk_stage t))
  iapply (SparseCore.wp_vectorLoadIdx 𝒱₀ (thr d i) none Set.univ (base := sW) (idxs := ![k0_pay528 t, k0_pay529 t]) (h := k0_idx1_inb _ _ (chk_stage t)) (hl := View.loads_vmem h_S32x512) (S := Finset.univ) (Finset.subset_univ _)) $$ Hs
  iintro Hs
  iapply (wp_load_rect 𝒱₀ (thr d i) none Set.univ (m := xW) (r := Rect.unit (s := S16384) (k0_off2 t) S16.size (k0_off2_inb t)) (S := Finset.univ) (Finset.subset_univ _)) $$ Hx
  iintro Hx
  iapply (wp_store 𝒱₀ (thr d i) none Set.univ (m := xW) (r := Rect.unit (s := S16384) (k0_off2 t) S16.size (k0_off2_inb t)) (Mk := Finset.univ)
    (hx := View.stores_vmem_bits_univ h_S16 rfl) (hm := .inl rfl) (S := Finset.univ) (Finset.subset_univ _)) $$ Hx
  iintro Hx
  iapply (wp_load_rect 𝒱₀ (thr d i) none Set.univ (m := hW) (r := Rect.unit (s := S16384) (k0_off2 t) S16.size (k0_off2_inb t)) (S := Finset.univ) (Finset.subset_univ _)) $$ Hh
  iintro Hh
  iapply (wp_store 𝒱₀ (thr d i) none Set.univ (m := hW) (r := Rect.unit (s := S16384) (k0_off2 t) S16.size (k0_off2_inb t)) (Mk := Finset.univ)
    (hx := View.stores_vmem_bits_univ h_S16 rfl) (hm := .inl rfl) (S := Finset.univ) (Finset.subset_univ _)) $$ Hh
  iintro Hh
  iapply (wp_pure_intro d i)
  isplitl [Hs]; · iexact Hs
  isplitl [Hx]
  · iexists ((xW.access (Rect.unit (s := S16384) (k0_off2 t) S16.size (k0_off2_inb t))).write (Elt F) f6 (k0_pay530 (F := F) (sixteen i tf t)) Finset.univ)
    isplitr [Hx]
    · ipureintro
      refine write_xW f6 t _ (fun p => tok tf (16384 * wid i + p) / 2) h6 (fun x => ?_)
      have e := staged_tok i tf t (chk_stage t) x
      refine (shr1_toNat .vector _ ?_).trans ?_
      · rw [e]; have := hlt (16384 * wid i + (16 * t.val + ln x)); omega
      · rw [e]
    · iexact Hx
  · iexists ((hW.access (Rect.unit (s := S16384) (k0_off2 t) S16.size (k0_off2_inb t))).write (Elt F) f7 (k0_pay531 (F := F) (sixteen i tf t)) Finset.univ)
    isplitr [Hh]
    · ipureintro
      refine write_hW f7 t _ (fun p => tok tf (16384 * wid i + p) % 2) h7 (fun x => ?_)
      have e := staged_tok i tf t (chk_stage t) x
      rw [← e]
      refine (BitVec.toNat_and _ _).trans ?_
      exact Nat.and_one_is_mod _
    · iexact Hh

theorem at1_self (p : S16384.Idx) : at1 (p 0).val = p := by
  funext a
  apply Fin.ext
  match a with
  | 0 => exact Nat.mod_eq_of_lt (p 0).isLt

/-- The reordering loop: the lists are the rows and the halves of the tile's texts, in the output's order. -/
theorem wp_sort (htf : ∀ p, (tf p).toNat < 1000000) :
    (iprop((sW.view.loc (thr d i) ↦[Finset.univ]{fullShare} STAGE tf (wid i)) ∗ (∃ f, xW.view.loc (thr d i) ↦[Finset.univ]{fullShare} f)
        ∗ (∃ f, hW.view.loc (thr d i) ↦[Finset.univ]{fullShare} f)) : sProp 𝕄)
      ⊢ WP (F := F) d i (Scf.Loop.for k0_t1_loop k0_t1_ok ⟨⟩ (fun t _ => reorder i sW xW hW t)) (fun _ => iprop((sW.view.loc (thr d i) ↦[Finset.univ]{fullShare} STAGE tf (wid i))
        ∗ ∃ f6 f7 : S16384.Idx → Elt F .i32, ⌜Listed tf (wid i) f6 f7 ∧ (∀ p, (f6 p).toNat < 500000) ∧ (∀ p, (f7 p).toNat < 2)⌝
          ∗ (xW.view.loc (thr d i) ↦[Finset.univ]{fullShare} f6) ∗ (hW.view.loc (thr d i) ↦[Finset.univ]{fullShare} f7))) := by
  have hb := fun (k : Fin k0_t1_loop.trips) (_ : PUnit) => wp_reorder d i tf htf k
  have hlt : ∀ p, tok tf p < 1000000 := fun p => htf _
  unfold WP at hb ⊢
  iintro ⟨Hs, ⟨%f6, Hx⟩, ⟨%f7, Hh⟩⟩
  iapply (Scf.wp_for frame (wpE (defs₀ (F := F)) 𝒱₀ (thr d i) none) Set.univ k0_t1_loop.lb k0_t1_loop.ub k0_t1_loop.st k0_t1_ok (⟨⟩ : PUnit)
    (fun t _ => reorder i sW xW hW t) (fun k (_ : PUnit) => RI d i tf k) hb)
  isplitl [Hs Hx Hh]
  · unfold RI
    isplitl [Hs]; · iexact Hs
    isplitl [Hx]
    · iexists f6
      isplitr [Hx]
      · ipureintro; intro p hp; omega
      · iexact Hx
    · iexists f7
      isplitr [Hh]
      · ipureintro; intro p hp; omega
      · iexact Hh
  iintro %_ HR
  unfold RI
  icases HR with ⟨Hs, ⟨%f6, %h6, Hx⟩, ⟨%f7, %h7, Hh⟩⟩
  isplitl [Hs]; · iexact Hs
  iexists f6
  iexists f7
  isplitr [Hx Hh]
  · ipureintro
    have e : 16 * k0_t1_loop.trips = 16384 := by decide
    rw [e] at h6 h7
    refine ⟨fun p hp => ⟨h6 p hp, h7 p hp⟩, fun p => ?_, fun p => ?_⟩
    · have := h6 (p 0).val (p 0).isLt
      rw [at1_self] at this
      have := hlt (16384 * wid i + (p 0).val)
      omega
    · have := h7 (p 0).val (p 0).isLt
      rw [at1_self] at this
      omega
  · isplitl [Hx]; · iexact Hx
    iexact Hh

end Reorder

end Cert.KernelIdeal.Own
-- ==== Proof.Tile.lean ====
module

public import proofs.«01_k».proof.Proof.Reorder

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tile

variable (d : Dev nD) (i : grid0.Coords)

/-! ## The tile's own semaphores and scratch -/

/-- The six semaphores the kernel names. -/
def semOf : Fin 6 → SemLoc sig := ![.dma cc0_scratch4.sem, .dma (gsem cc0_scratch5 0), .dma (gsem cc0_scratch5 1), .dma (gsem cc0_scratch5 2), .dma (gsem cc0_scratch5 3), .dma cc0_scratch6.sem]
theorem semOf_inj : Function.Injective semOf := by decide
theorem semOf_scoped : ∀ n, (semOf n).isScoped .scVector = true := by decide

/-- The four buffers the kernel is given. -/
def refOf : Fin 4 → Ref sig .scVector := ![cc0_scratch0, cc0_scratch1, cc0_scratch2, cc0_scratch3]
theorem refOf_inj : Function.Injective refOf := by decide

def cellE : Fin 6 ↪ GSem nD τ sig := ⟨fun n => (thr d i, semOf n), fun a b h => semOf_inj (congrArg Prod.snd h)⟩
def bufEmb : Fin 4 ↪ DevRef τ sig := ⟨fun n => (Proc.scVector (cV i) (jV i)).devRef (refOf n), fun a b h => refOf_inj (Proc.devRef_injective _ h)⟩

theorem ownSems0_six :
    (ownSems0 (thr d i) : sProp 𝕄)
      = iprop((semVal (thr d i, SemLoc.dma cc0_scratch4.sem) 0 ∗ semVal (thr d i, SemLoc.dma (gsem cc0_scratch5 0)) 0 ∗ semVal (thr d i, SemLoc.dma (gsem cc0_scratch5 1)) 0
          ∗ semVal (thr d i, SemLoc.dma (gsem cc0_scratch5 2)) 0 ∗ semVal (thr d i, SemLoc.dma (gsem cc0_scratch5 3)) 0 ∗ semVal (thr d i, SemLoc.dma cc0_scratch6.sem) 0)
          ∗ bigSep (ownCells (thr d i) \ Finset.univ.map (cellE d i)) fun g => semVal g 0) := by
  have hsub : Finset.univ.map (cellE d i) ⊆ ownCells (thr d i) := by
    intro g hg
    obtain ⟨n, -, rfl⟩ := Finset.mem_map.mp hg
    exact mem_ownCells.mpr ⟨rfl, semOf_scoped n⟩
  unfold SparseCore.Cfg.ownSems0
  rw [SparseCore.bigSep_sdiff_split' hsub, bigSep_map, bigSep_univ_eq_bigSepL [0, 1, 2, 3, 4, 5] (by decide) (by decide)]
  rfl

theorem ownBufs_four :
    (ownBufs (thr d i) : sProp 𝕄)
      = iprop(((∃ f, sW.view.loc (thr d i) ↦[Finset.univ]{fullShare} f) ∗ (∃ f, xW.view.loc (thr d i) ↦[Finset.univ]{fullShare} f)
          ∗ (∃ f, hW.view.loc (thr d i) ↦[Finset.univ]{fullShare} f) ∗ (∃ f, rW.view.loc (thr d i) ↦[Finset.univ]{fullShare} f))
          ∗ bigSep (ownRefs (τ := τ) (.scVector (cV i) (jV i)) \ Finset.univ.map (bufEmb i)) fun b => iprop(∃ f, ((d, b) : Loc nD τ sig) ↦{fullShare} f)) := by
  have hown : ∀ n, ((Proc.scVector (cV i) (jV i)).devRef (refOf n)).owner = .proc (.scVector (cV i) (jV i)) := by
    intro n; match n with | 0 => rfl | 1 => rfl | 2 => rfl | 3 => rfl
  have hsub : Finset.univ.map (bufEmb i) ⊆ ownRefs (τ := τ) (.scVector (cV i) (jV i)) := by
    intro g hg
    obtain ⟨n, -, rfl⟩ := Finset.mem_map.mp hg
    exact SparseCore.Cfg.mem_ownRefs_of_owner (hown n)
  unfold SparseCore.Cfg.ownBufs
  refine (SparseCore.bigSep_sdiff_split' hsub).trans ?_
  rw [bigSep_map, bigSep_univ_eq_bigSepL [0, 1, 2, 3] (by decide) (by decide)]
  rfl

/-! ## The tile -/

variable (tf : S524288.Idx → Elt F .i32) (te : S500000x128.Idx → Elt F .f32) (O : CellTallies nD τ sig (HIx 1)) (W : Waits sig (HIx 1)) (q q' : PosShare TreeShare)

/-- The groups, all thirty-two. -/
theorem wp_groups (f6 f7 : S16384.Idx → Elt F .i32) (hin6 : ∀ p, (f6 p).toNat < 500000) (h7 : ∀ p, (f7 p).toNat < 2) (hl : Listed tf (wid i) f6 f7) (fo : S262144x128.Idx → Elt F .f32) :
    GI d i tf te f6 f7 O W q fo 0
      ⊢ WP (F := F) d i (Scf.Loop.for k0_t2_loop k0_t2_ok ⟨⟩ (fun g _ => group i eW oW xW hW rW cc0_scratch5 cc0_scratch6 g)) (fun _ => GI d i tf te f6 f7 O W q fo 32) := by
  have hb := fun (k : Fin k0_t2_loop.trips) (_ : PUnit) => wp_group d i tf te f6 f7 hin6 h7 hl O W q fo k
  unfold WP at hb ⊢
  iintro H
  iapply (Scf.wp_for frame (wpE (defs₀ (F := F)) 𝒱₀ (thr d i) none) Set.univ k0_t2_loop.lb k0_t2_loop.ub k0_t2_loop.st k0_t2_ok (⟨⟩ : PUnit)
    (fun g _ => group i eW oW xW hW rW cc0_scratch5 cc0_scratch6 g) (fun k (_ : PUnit) => GI d i tf te f6 f7 O W q fo k) hb)
  isplitl [H]
  · iexact H
  iintro %_ H
  rw [show Scf.trips k0_t2_loop.lb k0_t2_loop.ub k0_t2_loop.st = 32 by decide]
  iexact H

/-- A tile's run: its rows of the output come back as the table's rows of its texts. -/
theorem wp_tile (htf : ∀ p, (tf p).toNat < 1000000) (fo : S262144x128.Idx → Elt F .f32) :
    (iprop(Transfers.MayWaits (thr d i) (default : HIx 1) O ∗ Owed (thr d i) O W
        ∗ ((tW.view.loc (thr d i) ↦[Finset.univ]{q'} tf) ∗ (eW.view.loc (thr d i) ↦[Finset.univ]{q} te)
          ∗ (oW.view.loc (thr d i) ↦[rowsI (8192 * wid i) (8192 * wid i + 8192)]{fullShare} fo))
        ∗ ownBufs (thr d i) ∗ ownSems0 (thr d i)) : sProp 𝕄)
      ⊢ WP (F := F) d i (tile i tW eW oW sW xW hW rW cc0_scratch4 cc0_scratch5 cc0_scratch6)
        (fun _ => iprop(((tW.view.loc (thr d i) ↦[Finset.univ]{q'} tf) ∗ (eW.view.loc (thr d i) ↦[Finset.univ]{q} te)
            ∗ (oW.view.loc (thr d i) ↦[rowsI (8192 * wid i) (8192 * wid i + 8192)]{fullShare} OUT tf te))
          ∗ ownBufs (thr d i) ∗ ownSems0 (thr d i) ∗ Owed (thr d i) O W)) := by
  rw [ownBufs_four, ownSems0_six]
  unfold tile
  iintro ⟨#Hmw, HO, ⟨Ht, He, Ho⟩, ⟨⟨⟨%fs, Hs⟩, Hx, Hh, Hr⟩, Hbufs⟩, ⟨⟨Hss, Hg0, Hg1, Hg2, Hg3, Hws⟩, Hsems⟩⟩
  iapply (wp_stage d i tf O W q' _ _ fs) $$ [Ht Hs Hss HO]
  · isplitl [Ht]; · iexact Ht
    isplitl [Hs]; · iexact Hs
    isplitl [Hss]; · iexact Hss
    isplitl [HO]; · iexact HO
    iexact Hmw
  iintro ⟨Ht, Hs, Hss, HO⟩
  iapply (WP_seq d i (wp_sort d i tf htf)) $$ [Hs Hx Hh]
  · isplitl [Hs]; · iexact Hs
    isplitl [Hx]; · iexact Hx
    iexact Hh
  iintro %_ ⟨Hs, ⟨%f6, %f7, %hf, Hx, Hh⟩⟩
  obtain ⟨hl, hin6, h7⟩ := hf
  ihave Hb := (bufs_split d i) $$ Hr
  rw [← bind_pure (Scf.Loop.for k0_t2_loop k0_t2_ok ⟨⟩ (fun g _ => group i eW oW xW hW rW cc0_scratch5 cc0_scratch6 g))]
  iapply (WP_seq d i (wp_groups d i tf te O W q f6 f7 hin6 h7 hl fo)) $$ [HO He Hx Hh Hb Hg0 Hg1 Hg2 Hg3 Hws Ho]
  · unfold GI
    rw [show 8192 * wid i + 256 * 0 = 8192 * wid i from rfl, rowsI_empty (8192 * wid i), pointsTo_empty]
    isplitr; · iexact Hmw
    isplitl [HO]; · iexact HO
    isplitl [He]; · iexact He
    isplitl [Hx]; · iexact Hx
    isplitl [Hh]; · iexact Hh
    isplitl [Hb]; · iexact Hb
    isplitl [Hg0 Hg1 Hg2 Hg3]
    · isplitl [Hg0]; · iexact Hg0
      isplitl [Hg1]; · iexact Hg1
      isplitl [Hg2]; · iexact Hg2
      iexact Hg3
    isplitl [Hws]; · iexact Hws
    isplitr; · iempintro
    iexact Ho
  iintro %_ HG
  unfold GI
  rw [show 256 * 32 = 8192 from rfl]
  icases HG with ⟨-, HO, He, Hx, Hh, Hb, ⟨Hg0, Hg1, Hg2, Hg3⟩, Hws, Ho, -⟩
  ihave Hr := (bufs_join d i) $$ Hb
  iapply (wp_pure_intro d i)
  isplitl [Ht He Ho]
  · isplitl [Ht]; · iexact Ht
    isplitl [He]; · iexact He
    iexact Ho
  isplitl [Hs Hx Hh Hr Hbufs]
  · isplitl [Hs Hx Hh Hr]
    · isplitl [Hs]
      · iexists (STAGE tf (wid i)); iexact Hs
      isplitl [Hx]
      · iexists f6; iexact Hx
      isplitl [Hh]
      · iexists f7; iexact Hh
      iexact Hr
    · iexact Hbufs
  isplitl [Hss Hg0 Hg1 Hg2 Hg3 Hws Hsems]
  · isplitl [Hss Hg0 Hg1 Hg2 Hg3 Hws]
    · isplitl [Hss]; · iexact Hss
      isplitl [Hg0]; · iexact Hg0
      isplitl [Hg1]; · iexact Hg1
      isplitl [Hg2]; · iexact Hg2
      isplitl [Hg3]; · iexact Hg3
      iexact Hws
    · iexact Hsems
  iexact HO

end Tile

end Cert.KernelIdeal.Own
-- ==== Proof.Call.lean ====
module

public import proofs.«01_k».proof.Proof.Tile

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Call

variable (tf : Dev nD → S524288.Idx → Elt F .i32) (te : Dev nD → S500000x128.Idx → Elt F .f32) (fo : Dev nD → S262144x128.Idx → Elt F .f32)

/-! ## What the handshakes carry -/

/-- A tile's part: a share of the texts and of the table, and its own rows of the output. -/
def part (f : S262144x128.Idx → Elt F .f32) (d : Dev nD) (w : Nat) : sProp 𝕄 :=
  iprop((tLoc d ↦[Finset.univ]{leaf 5 fullShare w} tf d) ∗ (eLoc d ↦[Finset.univ]{leaf 5 fullShare w} te d)
    ∗ (oLoc d ↦[rowsI (8192 * w) (8192 * w + 8192)]{fullShare} f))

instance part_storable (f : S262144x128.Idx → Elt F .f32) (d : Dev nD) (w : Nat) : Storable (upEmb : UEmb _ 𝕄) (part tf te f d w) := by
  unfold part; infer_instance

/-- The call: each core its sixteen tiles' parts, each tile its own; the output's rows come back at the looked-up rows. -/
def P : (K (F := F)).Pay (nD := nD) (Val := Elt F) (Name := ℕ) (U := UU) where
  st := fun q d c => bigSep Finset.univ fun s : Fin ((K (F := F)).nSub q) => part tf te (fo d) d (2 * s.val + c.val)
  dn := fun q d c => bigSep Finset.univ fun s : Fin ((K (F := F)).nSub q) => part tf te (OUT (tf d) (te d)) d (2 * s.val + c.val)
  go := fun _ d c s => part tf te (fo d) d (2 * s.val + c.val)
  td := fun _ d c s => part tf te (OUT (tf d) (te d)) d (2 * s.val + c.val)
  x := fun _ _ => iprop(emp)

instance P_storable : (P tf te fo).IsStorable where
  st q d c := by unfold P; infer_instance
  dn q d c := by unfold P; infer_instance
  go q d c i := by unfold P; infer_instance
  td q d c i := by unfold P; infer_instance

theorem vecSplit : (K (F := F)).VecSplit' (P tf te fo) 0 := by
  intro d c
  show (bigSep Finset.univ fun s : Fin ((K (F := F)).nSub 0) => part tf te (fo d) d (2 * s.val + c.val)) ⊢ |={Set.univ}=> iprop(
    (bigSep Finset.univ fun s : Fin ((K (F := F)).nSub 0) => part tf te (fo d) d (2 * s.val + c.val))
    ∗ ((bigSep Finset.univ fun s : Fin ((K (F := F)).nSub 0) => part tf te (OUT (tf d) (te d)) d (2 * s.val + c.val))
      -∗ bigSep Finset.univ fun s : Fin ((K (F := F)).nSub 0) => part tf te (OUT (tf d) (te d)) d (2 * s.val + c.val)))
  iintro H; imodintro
  isplitl [H]; · iexact H
  iintro H; iexact H

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_gather (coordsV c s) tW (Memref.isWhole_whole _) eW (Memref.isWhole_whole _) oW (Memref.isWhole_whole _)
          sW (Memref.isWhole_whole _) xW (Memref.isWhole_whole _) hW (Memref.isWhole_whole _) rW (Memref.isWhole_whole _) cc0_scratch4 cc0_scratch5 cc0_scratch6) ⟨⟩ c s := rfl

/-- The tile's run, from what the launch hands it to what it gives back. -/
theorem tile_body [FloatOps F] (d : Dev nD) (i : grid0.Coords) (htf : ∀ d p, (tf d p).toNat < 1000000) (O : CellTallies nD τ sig (HIx 1)) (W : Waits sig (HIx 1)) (hO : ∀ g, O g none = 0) :
    iprop(levAts (K (F := F)).L (K (F := F)).lev ∗ emp ∗ part tf te (fo d) d (wid i)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__sc_gather i tW (Memref.isWhole_whole _) eW (Memref.isWhole_whole _) oW (Memref.isWhole_whole _)
            sW (Memref.isWhole_whole _) xW (Memref.isWhole_whole _) hW (Memref.isWhole_whole _) rW (Memref.isWhole_whole _) cc0_scratch4 cc0_scratch5 cc0_scratch6)
          fun _ => iprop(part tf te (OUT (tf d) (te d)) d (wid i) ∗ scopedBufs (V d (cV i) (jV i)) ∗ scopedSems0 (V d (cV i) (jV i))
            ∗ ∃ W', ⌜∀ p ∈ W', p ∈ W ∨ p.2 = none⌝ ∗ owes (V d (cV i) (jV i)) O W') := by
  have ht := wp_tile d i (tf d) (te d) O W (leaf 5 fullShare (wid i)) (leaf 5 fullShare (wid i)) (htf d) (fo d)
  rw [tile_eq, (K (F := F)).scopedBufs_V launchFacts d (cV i) (jV i), SparseCore.Cfg.scopedSems0_V (Val := Elt F) d (cV i) (jV i)]
  refine BI.Entails.trans (BI.Entails.trans ?_ ht) (wp_mono frame _ _ fun _ => ?_)
  · change (_ : sProp 𝕄) ⊢ _
    unfold part Owed
    iintro ⟨#Hlv, -, ⟨Ht, He, Ho⟩, Hbufs, Hsems, HO⟩
    ihave Hmw := (show levAts (K (F := F)).L (K (F := F)).lev ⊢ Transfers.MayWaits (thr d i) (default : HIx 1) O from
      (K (F := F)).mayWaits_none (thr := thr d i) hO) $$ Hlv
    isplitr; · iexact Hmw
    isplitl [HO]
    · iexists W
      isplitr
      · ipureintro; exact fun p hp => Or.inl hp
      · iexact HO
    isplitl [Ht He Ho]
    · isplitl [Ht]; · iexact Ht
      isplitl [He]; · iexact He
      iexact Ho
    isplitl [Hbufs]; · iexact Hbufs
    iexact Hsems
  · unfold part Owed
    iintro ⟨⟨Ht, He, Ho⟩, Hbufs, Hsems, HO⟩
    isplitl [Ht He Ho]
    · isplitl [Ht]; · iexact Ht
      isplitl [He]; · iexact He
      iexact Ho
    isplitl [Hbufs]; · iexact Hbufs
    isplitl [Hsems]; · iexact Hsems
    iexact HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl [FloatOps F] (htf : ∀ d p, (tf d p).toNat < 1000000) : (K (F := F)).TileObl (D (F := F)) 𝒱 (P tf te fo) v₀ 0 := by
  intro d c i O W hO _ _
  simp only [show (P tf te fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := (tile_body tf te fo d (coordsV ⟨_, hci.1⟩ ⟨_, hci.2⟩) htf O W hO).trans (wp_mono frame _ _ fun _ => obl_post (q := 0))
  exact hb

end Call

end Cert.KernelIdeal.Own
-- ==== Proof.Mlp.lean ====
module

public import proofs.«01_k».proof.Proof.Call
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import Idealize.ShloMosaic.Lib.Exec

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat BodyObligation)

/-! ## The dense layers' body -/

/-- A memref's buffer held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- What the body leaves in the result's staging buffer, with the run that leaves it there. -/
noncomputable def mlpRun (c : Dev nD) (i : grid1.Coords) (M0 : Memref sig .tc .vmem S8192x128 .f32) (h0 : M0.IsWhole) (M1 : Memref sig .tc .vmem S2048x128 .f32) (h1 : M1.IsWhole)
    (M2 : Memref sig .tc .vmem S1x128 .f32) (h2 : M2.IsWhole) (M3 : Memref sig .tc .vmem S128x2 .f32) (h3 : M3.IsWhole)
    (M4 : Memref sig .tc .vmem S1x2 .f32) (h4 : M4.IsWhole) (M5 : Memref sig .tc .vmem S512x2 .f32) (h5 : M5.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) :
    { W : Buf (Elt F) (M5.view.loc (c : Thread nD τ)) // ∀ (f5 : Buf (Elt F) (M5.view.loc (c : Thread nD τ))) (E : Set ℕ) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 f2 ∗ pt c M3 f3 ∗ pt c M4 f4 ∗ pt c M5 W) -∗ Q ⟨⟩))
          ⊢ wp frame (wpE (defs₀ (F := F)) Variants.none c none) E (cc1__mlp_body i M0 h0 M1 h1 M2 h2 M3 h3 M4 h4 M5 h5) Q } := by
  refine ⟨?_, fun f5 E Q => ?run⟩
  case run =>
    rw [cc1__mlp_body_eq_skeleton]
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-- Both are the payload of what the body loaded: every load and the store go through whole buffers. -/
theorem mlpRun_read (c : Dev nD) (i : grid1.Coords) (M0 : Memref sig .tc .vmem S8192x128 .f32) (h0 : M0.IsWhole) (M1 : Memref sig .tc .vmem S2048x128 .f32) (h1 : M1.IsWhole)
    (M2 : Memref sig .tc .vmem S1x128 .f32) (h2 : M2.IsWhole) (M3 : Memref sig .tc .vmem S128x2 .f32) (h3 : M3.IsWhole)
    (M4 : Memref sig .tc .vmem S1x2 .f32) (h4 : M4.IsWhole) (M5 : Memref sig .tc .vmem S512x2 .f32) (h5 : M5.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) :
    M5.view.read (Elt F) (mlpRun c i M0 h0 M1 h1 M2 h2 M3 h3 M4 h4 M5 h5 f0 f1 f2 f3 f4).1 =
     k1_pay1 (M0.view.read (Elt F) f0) (M1.view.read (Elt F) f1) (M2.view.read (Elt F) f2) (M3.view.read (Elt F) f3) (M4.view.read (Elt F) f4) := by
  have hz : (![0, 0] : Fin 2 → Nat) = fun _ => 0 := funext fun a => by fin_cases a <;> rfl
  show M5.view.read (Elt F) (M5.view.writes (Elt F) M5.view.junk [⟨Rect.unit (s := S512x2) ![0, 0] S512x2.size inb_S512x2_S512x2_0_0,
      k1_pay1 (View.ld (M0.view.read (Elt F) f0) (Rect.unit (s := S8192x128) ![0, 0] S8192x128.size inb_S8192x128_S8192x128_0_0))
        (View.ld (M1.view.read (Elt F) f1) (Rect.unit (s := S2048x128) ![0, 0] S2048x128.size inb_S2048x128_S2048x128_0_0))
        (View.ld (M2.view.read (Elt F) f2) (Rect.unit (s := S1x128) ![0, 0] S1x128.size inb_S1x128_S1x128_0_0))
        (View.ld (M3.view.read (Elt F) f3) (Rect.unit (s := S128x2) ![0, 0] S128x2.size inb_S128x2_S128x2_0_0))
        (View.ld (M4.view.read (Elt F) f4) (Rect.unit (s := S1x2) ![0, 0] S1x2.size inb_S1x2_S1x2_0_0))⟩]) = _
  rw [View.ld_unit_zero hz, View.ld_unit_zero hz, View.ld_unit_zero hz, View.ld_unit_zero hz, View.ld_unit_zero hz, View.read_writes_junk_eq_canon, View.canon_unit_zero hz]

/-- A memref's whole buffer, owned at what reads as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- The body from its staging buffers' contents to the result's at the payload. -/
theorem wp_mlp (c : Dev nD) (i : grid1.Coords) (M0 : Memref sig .tc .vmem S8192x128 .f32) (h0 : M0.IsWhole) (M1 : Memref sig .tc .vmem S2048x128 .f32) (h1 : M1.IsWhole)
    (M2 : Memref sig .tc .vmem S1x128 .f32) (h2 : M2.IsWhole) (M3 : Memref sig .tc .vmem S128x2 .f32) (h3 : M3.IsWhole)
    (M4 : Memref sig .tc .vmem S1x2 .f32) (h4 : M4.IsWhole) (M5 : Memref sig .tc .vmem S512x2 .f32) (h5 : M5.IsWhole)
    (X0 : S8192x128.Idx → Elt F .f32) (X1 : S2048x128.Idx → Elt F .f32) (X2 : S1x128.Idx → Elt F .f32) (X3 : S128x2.Idx → Elt F .f32) (X4 : S1x2.Idx → Elt F .f32)
    (X5 : S512x2.Idx → Elt F .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5
      ∗ (iprop(owns (c : Thread nD τ) M0 fullShare X0 ∗ owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare (k1_pay1 X0 X1 X2 X3 X4)) -∗ Q ⟨⟩))
      ⊢ wp frame (wpE (defs₀ (F := F)) Variants.none c none) E (cc1__mlp_body i M0 h0 M1 h1 M2 h2 M3 h3 M4 h4 M5 h5) Q := by
  rw [owns_pt c M0 h0, owns_pt c M1 h1, owns_pt c M2 h2, owns_pt c M3 h3, owns_pt c M4 h4, owns_pt c M5 h5, owns_pt c M5 h5]
  iintro ⟨⟨%f0, %e0, H0⟩, ⟨%f1, %e1, H1⟩, ⟨%f2, %e2, H2⟩, ⟨%f3, %e3, H3⟩, ⟨%f4, %e4, H4⟩, ⟨%f5, %e5, H5⟩, Hk⟩
  iapply ((mlpRun c i M0 h0 M1 h1 M2 h2 M3 h3 M4 h4 M5 h5 f0 f1 f2 f3 f4).2 f5 E Q)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  iexists _; isplitr; swap; (· iexact H5); ipureintro
  rw [mlpRun_read, e0, e1, e2, e3, e4]

/-! ## The pipeline's proof data -/

section Data

variable (V : Dev nD → (b : Ref sig .tc) → b.ty.Contents (Elt F))

/-- The block of window `w`'s array that point `t` works on. -/
abbrev blk0 (c : Dev nD) (t : Fin cfg1.N) : S8192x128.Idx → Elt F .f32 := ((cfg1.win 0).blk t).view.read (Elt F) (V c main_v3)
abbrev blk1 (c : Dev nD) (t : Fin cfg1.N) : S2048x128.Idx → Elt F .f32 := ((cfg1.win 1).blk t).view.read (Elt F) (V c main_arg2)
abbrev blk2 (c : Dev nD) (t : Fin cfg1.N) : S1x128.Idx → Elt F .f32 := ((cfg1.win 2).blk t).view.read (Elt F) (V c main_v4)
abbrev blk3 (c : Dev nD) (t : Fin cfg1.N) : S128x2.Idx → Elt F .f32 := ((cfg1.win 3).blk t).view.read (Elt F) (V c main_arg4)
abbrev blk4 (c : Dev nD) (t : Fin cfg1.N) : S1x2.Idx → Elt F .f32 := ((cfg1.win 4).blk t).view.read (Elt F) (V c main_v5)

/-- The arrays at the entry valuation; after the body the inputs' blocks as fetched and the result's at the payload;
    nothing owed, and every pair a wait recorded at or below the call's last level. -/
def mlpDat (_ : Fin 1) (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => k1_pay1 (blk0 V c t) (blk1 V c t) (blk2 V c t) (blk3 V c t) (blk4 V c t)
  Φ _ := iprop(emp)
  q _ := fullShare
  owed _ := 0
  recorded _ := {p | (K (F := F)).lev ((c : Thread nD τ), p.1) p.2 ≤ 8}

theorem before0 (c : Dev nD) (t : Fin cfg1.N) (d) : (mlpDat V 0 c).before 0 t d = blk0 V c t :=
  (mlpDat V 0 c).before_in_eq_fetched 0 rfl (fun _ => rfl) (fun _ _ _ => rfl) (fun _ => rfl) t d
theorem before1 (c : Dev nD) (t : Fin cfg1.N) (d) : (mlpDat V 0 c).before 1 t d = blk1 V c t :=
  (mlpDat V 0 c).before_in_eq_fetched 1 rfl (fun _ => rfl) (fun _ _ _ => rfl) (fun _ => rfl) t d
theorem before2 (c : Dev nD) (t : Fin cfg1.N) (d) : (mlpDat V 0 c).before 2 t d = blk2 V c t :=
  (mlpDat V 0 c).before_in_eq_fetched 2 rfl (fun _ => rfl) (fun _ _ _ => rfl) (fun _ => rfl) t d
theorem before3 (c : Dev nD) (t : Fin cfg1.N) (d) : (mlpDat V 0 c).before 3 t d = blk3 V c t :=
  (mlpDat V 0 c).before_in_eq_fetched 3 rfl (fun _ => rfl) (fun _ _ _ => rfl) (fun _ => rfl) t d
theorem before4 (c : Dev nD) (t : Fin cfg1.N) (d) : (mlpDat V 0 c).before 4 t d = blk4 V c t :=
  (mlpDat V 0 c).before_in_eq_fetched 4 rfl (fun _ => rfl) (fun _ _ _ => rfl) (fun _ => rfl) t d

theorem body_obligation (c : Dev nD) : BodyObligation (mlpDat V 0 c) (defs₀ (F := F)) Variants.none none Set.univ := fun t => by
  rw [bigSep_W1, bigSep_W1]
  rw [show (mlpDat V 0 c).owesAt none t.succ = (mlpDat V 0 c).owesAt none t.castSucc from rfl,
    show (mlpDat V 0 c).Φ t.succ = (mlpDat V 0 c).Φ t.castSucc from rfl]
  iintro ⟨HΦ, Howes, ⟨%d0, H0⟩, ⟨%d1, H1⟩, ⟨%d2, H2⟩, ⟨%d3, H3⟩, ⟨%d4, H4⟩, ⟨%d5, H5⟩⟩
  rw [before0, before1, before2, before3, before4]
  iapply (wp_mlp c (grid1.coords t) (st1_0 t) (stage_whole1 0 _) (st1_1 t) (stage_whole1 1 _) (st1_2 t) (stage_whole1 2 _) (st1_3 t) (stage_whole1 3 _)
    (st1_4 t) (stage_whole1 4 _) (st1_5 t) (stage_whole1 5 _) (blk0 V c t) (blk1 V c t) (blk2 V c t) (blk3 V c t) (blk4 V c t) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

end Data

end Cert.KernelIdeal.Own
-- ==== Proof.Region.lean ====
module

public import proofs.«01_k».proof.Proof.Mlp
public import Idealize.ShloMosaic.Lib.Pipeline.RegionsLoop

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat BodyObligation)

/-! The call of the TensorCore kernel, as one region between what holds before it and what holds after. -/

abbrev adm : (p : Fin 1) → (pcfgs (F := F) p).Adm := fun p => (cfgs p).toPCfg_adm

/-- The unscoped buffers of the TensorCore, as device references. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- What the core owes nothing under: the pairs its waits recorded lie at or below the call's last level. -/
def idle (c : Dev nD) : sProp 𝕄 :=
  iprop(∃ W, ⌜(K (F := F)).WBelow (T c) W 8⌝ ∗ owes (T c) (0 : CellTallies nD τ sig (HIx 1)) W)

section Region

variable (V Vp : Dev nD → (b : Ref sig .tc) → b.ty.Contents (Elt F))

set_option backward.isDefEq.respectTransparency.types false in
/-- The TensorCore kernel's region: entered with every unscoped buffer at `V`, left with them at `Vp`, which differs
    from `V` at the result only. -/
def reg (hVp_out : ∀ c, Vp c main_v6 = (mlpDat V 0 c).arrAt 5 cfg1.N) (hVp_ne : ∀ c (b : Ref sig .tc), b ≠ main_v6 → Vp c b = V c b) :
    Pipeline.RegionSeg (pcfgs (F := F)) adm (mlpDat V) none (defs₀ (F := F)) Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (Vp c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (mlpDat V) launch1.win launch1.arr_whole c
      ((mlpDat V 0 c).share_full fun _ => rfl) (V c) fun _ => rfl
    unfold idle
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (mlpDat V 0 c).Φ 0 = iprop(emp) from rfl]
    iintro ⟨-, -, Hr⟩
    iclear Hr
    iempintro
  hout c := by
    rw [Pipeline.ownSems0_none, show (mlpDat V 0 c).Φ (Fin.last _) = iprop(emp) from rfl, scopedRest1_eq]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (mlpDat V) ((mlpDat V 0 c).share_full fun _ => rfl) (V c) (Vp c) ((mlpDat V 0 c).arrAt · cfg1.N)
      (fun w => by
        fin_cases w
        · exact ((mlpDat V 0 c).arrAt_in 0 rfl _).trans (hVp_ne c main_v3 (by decide)).symm
        · exact ((mlpDat V 0 c).arrAt_in 1 rfl _).trans (hVp_ne c main_arg2 (by decide)).symm
        · exact ((mlpDat V 0 c).arrAt_in 2 rfl _).trans (hVp_ne c main_v4 (by decide)).symm
        · exact ((mlpDat V 0 c).arrAt_in 3 rfl _).trans (hVp_ne c main_arg4 (by decide)).symm
        · exact ((mlpDat V 0 c).arrAt_in 4 rfl _).trans (hVp_ne c main_v5 (by decide)).symm
        · exact (hVp_out c).symm)
      (fun b hb => hVp_ne c b fun h => hb (h ▸ Finset.mem_image.mpr ⟨5, Finset.mem_univ _, rfl⟩))
    unfold idle
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | h
      · exact h
      · obtain ⟨w, s, rfl⟩ := h
        exact Nat.zero_le _
    iexact HO

end Region

end Cert.KernelIdeal.Own
-- ==== Proof.Deal.lean ====
module

public import proofs.«01_k».proof.Proof.Region

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat BodyObligation)

/-! The call's arguments and result dealt out to the thirty-two tiles, and collected again. -/

section Deal

variable (tf : Dev nD → S524288.Idx → Elt F .i32) (te : Dev nD → S500000x128.Idx → Elt F .f32)

/-- The tiles' rows are apart. -/
theorem rows_apart (w w' : Fin 32) (h : w ≠ w') :
    Disjoint (rowsI (8192 * w.val) (8192 * w.val + 8192)) (rowsI (8192 * w'.val) (8192 * w'.val + 8192)) := by
  have hne : w.val ≠ w'.val := fun e => h (Fin.ext e)
  rw [Finset.disjoint_left]
  intro x h₁ h₂
  rw [mem_rowsI] at h₁ h₂
  omega

/-- Together they are all of them. -/
theorem rows_all : ((Finset.univ : Finset (Fin 32)).biUnion fun w => rowsI (8192 * w.val) (8192 * w.val + 8192)) = Finset.univ := by
  ext x
  have hx : (x 0).val < 262144 := (x 0).isLt
  rw [Finset.mem_biUnion]
  refine ⟨fun _ => Finset.mem_univ _, fun _ => ⟨⟨(x 0).val / 8192, by omega⟩, Finset.mem_univ _, ?_⟩⟩
  rw [mem_rowsI]
  show 8192 * ((x 0).val / 8192) ≤ _ ∧ _ < 8192 * ((x 0).val / 8192) + 8192
  omega

/-- The output whole is the tiles' rows. -/
theorem out_tiles (d : Dev nD) (f : S262144x128.Idx → Elt F .f32) :
    (oLoc d ↦{fullShare} f : sProp 𝕄) = bigSep Finset.univ fun w : Fin 32 => (oLoc d ↦[rowsI (8192 * w.val) (8192 * w.val + 8192)]{fullShare} f) := by
  rw [← pointsTo_biUnion (nD := nD) (τ := τ) (sig := sig) (Ix := HIx 1) (Val := Elt F) (Name := ℕ) (U := UU) (Lvl := ℕ) (ℓ := oLoc d) (q := fullShare) (f := f)
    (Finset.univ : Finset (Fin 32)) (fun w => rowsI (8192 * w.val) (8192 * w.val + 8192)) (fun w _ w' _ h => rows_apart w w' h)]
  rw [show ((Finset.univ : Finset (Fin 32)).biUnion fun w => rowsI (8192 * w.val) (8192 * w.val + 8192)) = (Finset.univ : Finset (Idx (oLoc d))) from rows_all]

/-- The three arrays whole are the tiles' parts. -/
theorem parts_eq (d : Dev nD) (f : S262144x128.Idx → Elt F .f32) :
    iprop((tLoc d ↦{fullShare} tf d) ∗ (eLoc d ↦{fullShare} te d) ∗ (oLoc d ↦{fullShare} f))
      = (bigSep Finset.univ fun w : Fin 32 => part tf te f d w.val : sProp 𝕄) := by
  unfold part
  rw [bigSep_sep', bigSep_sep', ← out_tiles]
  rw [show (bigSep Finset.univ fun w : Fin 32 => (tLoc d ↦[Finset.univ]{leaf 5 fullShare w.val} tf d) : sProp 𝕄) = (tLoc d ↦{fullShare} tf d)
    from (pointsTo_leaves (F := F) (ℓ := tLoc d) Finset.univ (tf d) 5 fullShare).symm,
    show (bigSep Finset.univ fun w : Fin 32 => (eLoc d ↦[Finset.univ]{leaf 5 fullShare w.val} te d) : sProp 𝕄) = (eLoc d ↦{fullShare} te d)
    from (pointsTo_leaves (F := F) (ℓ := eLoc d) Finset.univ (te d) 5 fullShare).symm]

/-- A family over the tiles, core by core. -/
theorem by_core (Φ : ℕ → sProp 𝕄) :
    (bigSep Finset.univ fun w : Fin 32 => Φ w.val)
      = bigSep Finset.univ fun c : Fin ((K (F := F)).nCore 0) => bigSep Finset.univ fun s : Fin ((K (F := F)).nSub 0) => Φ (2 * s.val + c.val) := by
  show _ = bigSep Finset.univ fun c : Fin 2 => bigSep Finset.univ fun s : Fin 16 => Φ (2 * s.val + c.val)
  rw [← bigSep_univ_prod (fun p : Fin 2 × Fin 16 => Φ (2 * p.2.val + p.1.val)),
    bigSep_univ_equiv ((Equiv.prodComm (Fin 2) (Fin 16)).trans (finProdFinEquiv : Fin 16 × Fin 2 ≃ Fin 32)) (fun w : Fin 32 => Φ w.val)]
  refine bigSep_congr fun p _ => ?_
  congr 1
  show (finProdFinEquiv (p.2, p.1) : Fin 32).val = _
  rw [finProdFinEquiv_apply_val]
  show p.1.val + 2 * p.2.val = _
  omega

/-- What the call takes, out of the arrays whole. -/
theorem st_eq (fo : Dev nD → S262144x128.Idx → Elt F .f32) (d : Dev nD) :
    (bigSep Finset.univ fun c : Fin ((K (F := F)).nCore 0) => (P tf te fo).st 0 d c)
      = iprop((tLoc d ↦{fullShare} tf d) ∗ (eLoc d ↦{fullShare} te d) ∗ (oLoc d ↦{fullShare} fo d)) := by
  rw [parts_eq tf te d (fo d)]
  exact (by_core (fun w => part tf te (fo d) d w)).symm

/-- What it gives back, the arrays whole. -/
theorem dn_eq (fo : Dev nD → S262144x128.Idx → Elt F .f32) (d : Dev nD) :
    (bigSep Finset.univ fun c : Fin ((K (F := F)).nCore 0) => (P tf te fo).dn 0 d c)
      = iprop((tLoc d ↦{fullShare} tf d) ∗ (eLoc d ↦{fullShare} te d) ∗ (oLoc d ↦{fullShare} OUT (tf d) (te d))) := by
  rw [parts_eq tf te d (OUT (tf d) (te d))]
  exact (by_core (fun w => part tf te (OUT (tf d) (te d)) d w)).symm

end Deal

end Cert.KernelIdeal.Own
-- ==== Proof.Whole.lean ====
module

public import proofs.«01_k».proof.Proof.Deal

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat BodyObligation)

/-! The whole program's run: three host operations, the SparseCore call, two host operations, the TensorCore call. -/

abbrev op0 : HloOp τ sig (Elt F) := StableHlo.unary main_arg0 main_v0 ((transpose S32x16384 [1, 0] · transposes_S16384x32_S32x16384_1_0) : (⟨S16384x32, .i32⟩ : BufTy).Contents (Elt F) → (⟨S32x16384, .i32⟩ : BufTy).Contents (Elt F))
abbrev op1 : HloOp τ sig (Elt F) := StableHlo.reshape main_v0 main_v1 (rfl : (.i32 : EltTy) = .i32) shapeCasts_S32x16384_S524288
abbrev op2 : HloOp τ sig (Elt F) := StableHlo.reshape main_arg1 main_v2 (rfl : (.f32 : EltTy) = .f32) shapeCasts_S1000000x64_S500000x128
abbrev op3 : HloOp τ sig (Elt F) := StableHlo.reshape main_arg3 main_v4 (rfl : (.f32 : EltTy) = .f32) shapeCasts_S128_S1x128
abbrev op4 : HloOp τ sig (Elt F) := StableHlo.reshape main_arg5 main_v5 (rfl : (.f32 : EltTy) = .f32) shapeCasts_S2_S1x2

/-- An operation's two buffers are among the unscoped ones. -/
theorem ops_sub {x y : Ref sig .tc} (hx : (Proc.devRef .tc x : DevRef τ sig) ∈ ucRefs) (hy : (Proc.devRef .tc y : DevRef τ sig) ∈ ucRefs) :
    ({Proc.devRef .tc x, Proc.devRef .tc y} : Finset (DevRef τ sig)) ⊆ ucRefs :=
  Finset.insert_subset hx (Finset.singleton_subset_iff.mpr hy)

section Run

variable (m : (ℓ : Loc nD τ sig) → Buf (Elt F) ℓ) (ρ : Dev nD → PrngReg)

/-- The buffers at the launch, after each host operation, after each call. -/
def W0 (d : Dev nD) : Valuation τ sig (Elt F) := fun b => m (d, b)
def W1 (d : Dev nD) : Valuation τ sig (Elt F) := op0.result (W0 m d)
def W2 (d : Dev nD) : Valuation τ sig (Elt F) := op1.result (W1 m d)
def W3 (d : Dev nD) : Valuation τ sig (Elt F) := op2.result (W2 m d)
abbrev TF (d : Dev nD) : S524288.Idx → Elt F .i32 := W3 m d (Proc.devRef .tc main_v1)
abbrev TE (d : Dev nD) : S500000x128.Idx → Elt F .f32 := W3 m d (Proc.devRef .tc main_v2)
abbrev FO (d : Dev nD) : S262144x128.Idx → Elt F .f32 := W3 m d (Proc.devRef .tc main_v3)
def W4 (d : Dev nD) : Valuation τ sig (Elt F) := Function.update (W3 m d) (Proc.devRef .tc main_v3) (OUT (TF m d) (TE m d))
def W5 (d : Dev nD) : Valuation τ sig (Elt F) := op3.result (W4 m d)
def W6 (d : Dev nD) : Valuation τ sig (Elt F) := op4.result (W5 m d)
def V6 (d : Dev nD) (b : Ref sig .tc) : b.ty.Contents (Elt F) := W6 m d (Proc.devRef .tc b)
/-- What the TensorCore call leaves in the result. -/
def RES (d : Dev nD) : S16384x2.Idx → Elt F .f32 := (mlpDat (V6 m) 0 d).arrAt 5 cfg1.N
def W7 (d : Dev nD) : Valuation τ sig (Elt F) := Function.update (W6 m d) (Proc.devRef .tc main_v6) (RES m d)
def V7 (d : Dev nD) (b : Ref sig .tc) : b.ty.Contents (Elt F) := W7 m d (Proc.devRef .tc b)

theorem V7_out (d : Dev nD) : V7 m d main_v6 = (mlpDat (V6 m) 0 d).arrAt 5 cfg1.N :=
  (Function.update_self _ _ _ : W7 m d (Proc.devRef .tc main_v6) = RES m d)
theorem V7_ne (d : Dev nD) (b : Ref sig .tc) (h : b ≠ main_v6) : V7 m d b = V6 m d b :=
  Function.update_of_ne (fun e => h (Proc.devRef_injective _ e)) _ _

/-- The call's three arrays, as device references. -/
def callRefs : Finset (DevRef τ sig) := {Proc.devRef .tc main_v1, Proc.devRef .tc main_v2, Proc.devRef .tc main_v3}

theorem callRefs_sub : callRefs ⊆ ucRefs := by decide

theorem held_call (d : Dev nD) (W : Valuation τ sig (Elt F)) :
    (StableHlo.held (SparseCore.T d) callRefs W : sProp 𝕄)
      = iprop((tLoc d ↦{fullShare} W (Proc.devRef .tc main_v1)) ∗ (eLoc d ↦{fullShare} W (Proc.devRef .tc main_v2)) ∗ (oLoc d ↦{fullShare} W (Proc.devRef .tc main_v3))) := by
  unfold StableHlo.held callRefs
  rw [SparseCore.bigSep_insert' (by decide), SparseCore.bigSep_insert' (by decide), bigSep_singleton]

theorem W4_v1 (d : Dev nD) : W4 m d (Proc.devRef .tc main_v1) = TF m d := Function.update_of_ne (by decide) _ _
theorem W4_v2 (d : Dev nD) : W4 m d (Proc.devRef .tc main_v2) = TE m d := Function.update_of_ne (by decide) _ _
theorem W4_v3 (d : Dev nD) : W4 m d (Proc.devRef .tc main_v3) = OUT (TF m d) (TE m d) := Function.update_self _ _ _

/-- Off the call's arrays the call changes nothing. -/
theorem held_rest (d : Dev nD) : (StableHlo.held (SparseCore.T d) (ucRefs \ callRefs) (W4 m d) : sProp 𝕄) = StableHlo.held (SparseCore.T d) (ucRefs \ callRefs) (W3 m d) :=
  StableHlo.held_congr (SparseCore.T d) fun b hb => Function.update_of_ne (fun e => (Finset.mem_sdiff.mp hb).2 (by rw [e]; decide)) _ _

/-- The call's arrays out of the unscoped buffers, -/
theorem call_split (d : Dev nD) : (StableHlo.held (SparseCore.T d) ucRefs (W3 m d) : sProp 𝕄)
    = iprop(((tLoc d ↦{fullShare} TF m d) ∗ (eLoc d ↦{fullShare} TE m d) ∗ (oLoc d ↦{fullShare} FO m d))
      ∗ StableHlo.held (SparseCore.T d) (ucRefs \ callRefs) (W3 m d)) := by
  rw [StableHlo.held_sub_split (SparseCore.T d) callRefs_sub (W3 m d), held_call]

/-- and back, the output rewritten. -/
theorem call_join (d : Dev nD) :
    iprop(((tLoc d ↦{fullShare} TF m d) ∗ (eLoc d ↦{fullShare} TE m d) ∗ (oLoc d ↦{fullShare} OUT (TF m d) (TE m d)))
      ∗ StableHlo.held (SparseCore.T d) (ucRefs \ callRefs) (W3 m d)) = (StableHlo.held (SparseCore.T d) ucRefs (W4 m d) : sProp 𝕄) := by
  rw [← held_rest, StableHlo.held_sub_split (SparseCore.T d) callRefs_sub (W4 m d), held_call, W4_v1, W4_v2, W4_v3]

/-- The TensorCore pipeline's ghost state, at the start. -/
def G (d : Dev nD) : sProp 𝕄 :=
  iprop(Pipeline.cellsGhost (Pipeline.pin (pcfgs (F := F)) adm) EP (0 : Fin 1) d ∗ Pipeline.toksInit (Pipeline.pin (pcfgs (F := F)) adm) EP (0 : Fin 1) d)

abbrev FIN (d : Dev nD) : sProp 𝕄 := StableHlo.held (SparseCore.T d) ucRefs (W7 m d)

/-- What the core's state after the call says of its debts. -/
theorem idle_eq (d : Dev nD) :
    iprop(∃ W, ⌜(K (F := F)).WBelow (SparseCore.T d) W (8 * SparseCore.Cfg.Blocks.fst 1 1 1)⌝ ∗ owes (SparseCore.T d) ((K (F := F)).Otc d 1) W) = (idle d : sProp 𝕄) := by
  unfold idle
  rw [(K (F := F)).Otc_end d (Nat.le_refl 1)]
  rfl

/-- The TensorCore call, from every unscoped buffer at `W6` to every one at `W7`. -/
theorem wp_region (d : Dev nD) (Q : PUnit → sProp 𝕄) :
    iprop(((boundary (SparseCore.T d) ∗ StableHlo.held (SparseCore.T d) ucRefs (W7 m d) ∗ idle d) -∗ Q ⟨⟩)
        ∗ boundary (SparseCore.T d) ∗ (StableHlo.held (SparseCore.T d) ucRefs (W6 m d) ∗ idle d) ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  have h := (reg (V6 m) (V7 m) (V7_out m) (V7_ne m)).wp (pcfgs (F := F)) adm (mlpDat (V6 m)) none cellOf_inj EP (defs₀ (F := F)) Variants.none
    (K (F := F)).L (K (F := F)).lev d none (fun u h => nomatch h) (fun _ => .ret ⟨⟩) Q
  rw [show (reg (V6 m) (V7 m) (V7_out m) (V7_ne m)).pre d = iprop(StableHlo.held (SparseCore.T d) ucRefs (W6 m d) ∗ idle d) from by
      rw [← unscopedBufs_held d (W6 m d)]; rfl,
    show (reg (V6 m) (V7 m) (V7_out m) (V7_ne m)).post d = iprop(StableHlo.held (SparseCore.T d) ucRefs (W7 m d) ∗ idle d) from by
      rw [← unscopedBufs_held d (W7 m d)]; rfl] at h
  have h' := h.trans ((K (F := F)).wp_liftProg (D (F := F)) 𝒱 (SparseCore.T d) Set.univ none _ Q)
  rw [SparseCore.liftProg_op] at h'
  refine BI.Entails.trans ?_ h'
  change (_ : sProp 𝕄) ⊢ _
  unfold G
  iintro ⟨Hk, Hb, Hpre, Hlev, Hg, Ht⟩
  isplitl [Hk]
  · iintro ⟨Hb, Hpost⟩
    rw [wp_ret]
    imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

/-- The TensorCore's thread. -/
theorem hmain (κ : GSem nD τ sig → ℕ) (d : Dev nD) :
    iprop((K (F := F)).ctx EH (P (TF m) (TE m) (FO m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) ucRefs (W0 m d) from unscopedBufs_held d (W0 m d)]
  simp only [main, wp_bind]
  iintro ⟨#Hctx, Hst, ⟨Hb, Hh, Hts, -⟩, HG⟩
  iapply (StableHlo.wp_hlo_within 𝒱 (SparseCore.T d) none Set.univ (op := op0) (S := ucRefs) (ops_sub (x := main_arg0) (y := main_v0) (by decide) (by decide)) (V := W0 m d)) $$ [Hb Hh]
  · isplitl [Hb] <;> iassumption
  rw [show (op0 (F := F)).result (W0 m d) = W1 m d from rfl]
  iintro ⟨Hb, Hh⟩
  rw [wp_ret]; imodintro
  iapply (StableHlo.wp_hlo_within 𝒱 (SparseCore.T d) none Set.univ (op := op1) (S := ucRefs) (ops_sub (x := main_v0) (y := main_v1) (by decide) (by decide)) (V := W1 m d)) $$ [Hb Hh]
  · isplitl [Hb] <;> iassumption
  rw [show (op1 (F := F)).result (W1 m d) = W2 m d from rfl]
  iintro ⟨Hb, Hh⟩
  rw [wp_ret]; imodintro
  iapply (StableHlo.wp_hlo_within 𝒱 (SparseCore.T d) none Set.univ (op := op2) (S := ucRefs) (ops_sub (x := main_arg1) (y := main_v2) (by decide) (by decide)) (V := W2 m d)) $$ [Hb Hh]
  · isplitl [Hb] <;> iassumption
  rw [show (op2 (F := F)).result (W2 m d) = W3 m d from rfl]
  iintro ⟨Hb, Hh⟩
  rw [wp_ret]; imodintro
  ihave Hh := (Entails.of_eq (call_split m d)) $$ Hh
  icases Hh with ⟨Hcall, Hrest⟩
  iapply ((K (F := F)).wp_run (D (F := F)) 𝒱 (EH := EH) (P := P (TF m) (TE m) (FO m)) κ d 0) $$ [Hst Hcall Hb Hts Hrest HG]
  isplitr; · iexact Hctx
  isplitl [Hst]; · iexact Hst
  isplitl [Hcall]
  · rw [st_eq]; iexact Hcall
  rw [dn_eq]
  iintro ⟨Hst, Hcall⟩
  ihave Hh := (Entails.of_eq (call_join m d)) $$ [Hcall Hrest]
  · isplitl [Hcall] <;> iassumption
  iapply (StableHlo.wp_hlo_within 𝒱 (SparseCore.T d) none Set.univ (op := op3) (S := ucRefs) (ops_sub (x := main_arg3) (y := main_v4) (by decide) (by decide)) (V := W4 m d)) $$ [Hb Hh]
  · isplitl [Hb] <;> iassumption
  rw [show (op3 (F := F)).result (W4 m d) = W5 m d from rfl]
  iintro ⟨Hb, Hh⟩
  rw [wp_ret]; imodintro
  iapply (StableHlo.wp_hlo_within 𝒱 (SparseCore.T d) none Set.univ (op := op4) (S := ucRefs) (ops_sub (x := main_arg5) (y := main_v5) (by decide) (by decide)) (V := W5 m d)) $$ [Hb Hh]
  · isplitl [Hb] <;> iassumption
  rw [show (op4 (F := F)).result (W5 m d) = W6 m d from rfl]
  iintro ⟨Hb, Hh⟩
  rw [wp_ret]; imodintro
  unfold SparseCore.Cfg.tcSt
  icases Hst with ⟨HO, Hst⟩
  ihave HO := (Entails.of_eq (show iprop(∃ W, ⌜(K (F := F)).WBelow (SparseCore.T d) W (8 * SparseCore.Cfg.Blocks.fst 1 1 ((0 : Fin 1).val + 1))⌝
    ∗ owes (SparseCore.T d) ((K (F := F)).Otc d ((0 : Fin 1).val + 1)) W) = (idle d : sProp 𝕄) from idle_eq (F := F) d)) $$ HO
  ihave Hlev := (SparseCore.Cfg.ctx_levAts κ) $$ Hctx
  iapply (wp_region m d _)
  isplitr [Hb Hh HO HG Hlev]
  · iintro ⟨Hb, Hh, HO⟩
    rw [wp_pure]; imodintro
    isplitl [HO Hst]
    · isplitl [HO]
      · iapply (Entails.of_eq (idle_eq (F := F) d).symm); iexact HO
      iexact Hst
    isplitl [Hh]; · iexact Hh
    isplitl [Hb] <;> iassumption
  isplitl [Hb]; · iexact Hb
  isplitl [Hh HO]
  · isplitl [Hh]; · iexact Hh
    iexact HO
  isplitl [Hlev]; · iexact Hlev
  iexact HG

end Run

end Cert.KernelIdeal.Own
-- ==== Proof.Run.lean ====
module

public import proofs.«01_k».proof.Proof.Whole

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat BodyObligation)

/-! The program's run from the launch, and what a final state holds. -/

section Run

variable (m : (ℓ : Loc nD τ sig) → Buf (Elt F) ℓ) (ρ : Dev nD → PrngReg)

/-- The launch element: the handshakes' rounds and the pipeline's. -/
def u₀ : UU := (Rounds.initOf (K (F := F)).hsCells (K (F := F)).hsToks,
  (Rounds.initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

/-- The pipelines' families, of which there is one. -/
theorem one_pipeline (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem hu₀ (tf : Dev nD → S524288.Idx → Elt F .i32) (te : Dev nD → S500000x128.Idx → Elt F .f32) (fo : Dev nD → S262144x128.Idx → Elt F .f32) :
    (ownU (u₀ (F := F)) : sProp 𝕄)
      ⊢ |={Set.univ}=> iprop(BI.own (EH (Rounds.initOf (K (F := F)).hsCells (K (F := F)).hsToks)) ∗ (bigSep Finset.univ fun d : Dev nD => G (F := F) d)
        ∗ bigSep Finset.univ fun thr : Thread nD τ => bigSep Finset.univ fun q : Fin 1 => (P tf te fo).x q thr) := by
  unfold u₀
  iintro Hu
  ihave H := (ownU_pair _ _) $$ Hu
  icases H with ⟨HH, HP⟩
  ihave HP := (show (BI.own ((embR : Emb (UP × Counters) 𝕄)
      (Rounds.initOf (Pipeline.cells (Pipeline.pin (pcfgs (F := F)) adm) cellOf_inj) (Pipeline.launchToks (Pipeline.pin (pcfgs (F := F)) adm) cellOf_inj), 1)) : sProp 𝕄)
    ⊢ BI.own (EP (Rounds.initOf (Pipeline.cells (Pipeline.pin (pcfgs (F := F)) adm) cellOf_inj) (Pipeline.launchToks (Pipeline.pin (pcfgs (F := F)) adm) cellOf_inj)))
    from .rfl) $$ HP
  imod (Pipeline.fund_ghost (Pipeline.pin (pcfgs (F := F)) adm) (Ix := HIx 1) (Name := ℕ) (U := UU) (Lvl := ℕ) EP cellOf_inj) $$ HP with ⟨Hc, Ht⟩
  imodintro
  isplitl [HH]; · iexact HH
  isplitl [Hc Ht]
  · unfold G
    rw [bigSep_sep']
    isplitl [Hc]
    · iapply (Entails.of_eq (one_pipeline (fun p c => Pipeline.cellsGhost (Pipeline.pin (pcfgs (F := F)) adm) EP p c))); iexact Hc
    · iapply (Entails.of_eq (one_pipeline (fun p c => Pipeline.toksInit (Pipeline.pin (pcfgs (F := F)) adm) EP p c))); iexact Ht
  rw [show (bigSep Finset.univ fun thr : Thread nD τ => bigSep Finset.univ fun q : Fin 1 => (P (F := F) tf te fo).x q thr) = bigSep Finset.univ fun _ => iprop(emp) from
    bigSep_congr fun _ _ => bigSep_univ_of_subsingleton (0 : Fin 1), bigSep_emp']
  iempintro

/-- A final state holds `W7` on every unscoped buffer. -/
def fq (d : Dev nD) (s' : Phys nD τ sig (Elt F)) : Prop := ∀ b ∈ ucRefs, s'.mem.mem (d, b) = W7 m d b

set_option maxRecDepth 16384 in
theorem hfin (d : Dev nD) (s' : Phys nD τ sig (Elt F)) : iprop(FIN m d ∗ SI s') ⊢ (⌜fq m d s'⌝ : sProp 𝕄) := by
  unfold fq
  iintro ⟨Hh, HSI⟩ %b %hb
  ihave Hp := (show (FIN m d : sProp 𝕄) ⊢ ((d, b) ↦{fullShare} W7 m d b) from bigSep_elim (Φ := fun b => (((d, b) : Loc nD τ sig) ↦{fullShare} W7 m d b : sProp 𝕄)) hb) $$ Hh
  ihave H := (SI_pointsTo_agree (st := s') (ℓ := (d, b)) (I := Finset.univ) (q := fullShare) (f := W7 m d b)) $$ [HSI Hp]
  · isplitl [HSI] <;> iassumption
  icases H with %h
  ipureintro; exact funext fun i => h i (Finset.mem_univ i)

/-- The texts read in their transposed, flattened order. -/
theorem TF_eq (d : Dev nD) : TF m d = shapeCast S524288 (transpose S32x16384 [1, 0] (m ((SparseCore.T d).loc main_arg0)) transposes_S16384x32_S32x16384_1_0)
    shapeCasts_S32x16384_S524288 := by
  show W3 m d (Proc.devRef .tc main_v1) = _
  unfold W3 W2 W1
  rw [HloOp.result_of_not_mem _ _ (by show Proc.devRef .tc main_v1 ∉ ({Proc.devRef .tc main_v2} : Finset (DevRef τ sig)); decide)]
  rw [StableHlo.reshape_result, StableHlo.unary_result]
  rfl

/-- The table two rows to a line. -/
theorem TE_eq (d : Dev nD) : TE m d = shapeCast S500000x128 (m ((SparseCore.T d).loc main_arg1)) shapeCasts_S1000000x64_S500000x128 := by
  show W3 m d (Proc.devRef .tc main_v2) = _
  unfold W3 W2 W1
  rw [StableHlo.reshape_result,
    HloOp.result_of_not_mem _ _ (by show Proc.devRef .tc main_arg1 ∉ ({Proc.devRef .tc main_v1} : Finset (DevRef τ sig)); decide),
    HloOp.result_of_not_mem _ _ (by show Proc.devRef .tc main_arg1 ∉ ({Proc.devRef .tc main_v0} : Finset (DevRef τ sig)); decide)]
  rfl

/-- Every text is a row of the table. -/
def InVocab : Prop := ∀ (d : Dev nD) (j : S16384x32.Idx), (m ((SparseCore.T d).loc main_arg0) j : BitVec 32).toNat < 1000000

theorem TF_lt (h : InVocab m) (d : Dev nD) (p : S524288.Idx) : (TF m d p : BitVec 32).toNat < 1000000 := by
  rw [TF_eq]; exact h d _

/-- An unwritten buffer ends as it began. -/
theorem W7_kept (d : Dev nD) (b : DevRef τ sig) (h0 : b ≠ Proc.devRef .tc main_v0) (h1 : b ≠ Proc.devRef .tc main_v1) (h2 : b ≠ Proc.devRef .tc main_v2)
    (h3 : b ≠ Proc.devRef .tc main_v3) (h4 : b ≠ Proc.devRef .tc main_v4) (h5 : b ≠ Proc.devRef .tc main_v5) (h6 : b ≠ Proc.devRef .tc main_v6) :
    W7 m d b = m (d, b) := by
  unfold W7 W6 W5 W4 W3 W2 W1
  rw [Function.update_of_ne h6, HloOp.result_of_not_mem _ _ (by show b ∉ ({_} : Finset (DevRef τ sig)); rw [Finset.mem_singleton]; exact h5),
    HloOp.result_of_not_mem _ _ (by show b ∉ ({_} : Finset (DevRef τ sig)); rw [Finset.mem_singleton]; exact h4), Function.update_of_ne h3,
    HloOp.result_of_not_mem _ _ (by show b ∉ ({_} : Finset (DevRef τ sig)); rw [Finset.mem_singleton]; exact h2),
    HloOp.result_of_not_mem _ _ (by show b ∉ ({_} : Finset (DevRef τ sig)); rw [Finset.mem_singleton]; exact h1),
    HloOp.result_of_not_mem _ _ (by show b ∉ ({_} : Finset (DevRef τ sig)); rw [Finset.mem_singleton]; exact h0)]
  rfl

/-- A final state: the result computed, the arguments as they were, every counter zero. -/
def QC : PUnit × MemSt nD τ sig (Elt F) → Prop := fun r => (∀ c : Dev nD,
  r.2.mem ((SparseCore.T c).loc main_v6) = RES m c
  ∧ r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)
  ∧ r.2.mem ((SparseCore.T c).loc main_arg4) = m ((SparseCore.T c).loc main_arg4) ∧ r.2.mem ((SparseCore.T c).loc main_arg5) = m ((SparseCore.T c).loc main_arg5))
  ∧ r.2.sem = fun _ => 0

theorem QC_of (s' : Phys nD τ sig (Elt F)) (h : ∀ d, fq m d s') (hz : s'.mem.sem = fun _ => 0) : QC m (⟨⟩, s'.mem) := by
  refine ⟨fun c => ⟨?_, ?_, ?_, ?_, ?_, ?_, ?_⟩, hz⟩
  · exact (h c (Proc.devRef .tc main_v6) (by decide)).trans (V7_out m c)
  · exact (h c (Proc.devRef .tc main_arg0) (by decide)).trans (W7_kept m c _ (by decide) (by decide) (by decide) (by decide) (by decide) (by decide) (by decide))
  · exact (h c (Proc.devRef .tc main_arg1) (by decide)).trans (W7_kept m c _ (by decide) (by decide) (by decide) (by decide) (by decide) (by decide) (by decide))
  · exact (h c (Proc.devRef .tc main_arg2) (by decide)).trans (W7_kept m c _ (by decide) (by decide) (by decide) (by decide) (by decide) (by decide) (by decide))
  · exact (h c (Proc.devRef .tc main_arg3) (by decide)).trans (W7_kept m c _ (by decide) (by decide) (by decide) (by decide) (by decide) (by decide) (by decide))
  · exact (h c (Proc.devRef .tc main_arg4) (by decide)).trans (W7_kept m c _ (by decide) (by decide) (by decide) (by decide) (by decide) (by decide) (by decide))
  · exact (h c (Proc.devRef .tc main_arg5) (by decide)).trans (W7_kept m c _ (by decide) (by decide) (by decide) (by decide) (by decide) (by decide) (by decide))

/-- At any float values, with every text a row of the table, every weakly fair execution terminates in such a state. -/
theorem run_main [∀ e, Nonempty (Elt F e)] (hpre : InVocab m) : θ_run (defs (F := F)) (threads (F := F)) ⟨m, fun _ => 0, ρ⟩ (QC m) :=
  SparseCore.Cfg.θ_run_sc_quiescent (K := K (F := F)) (D := D (F := F)) (𝒱 := 𝒱) (EH := EH) (P := P (TF m) (TE m) (FO m)) (A := ∅) launchFacts v₀
    (fun q hq => match q with | 0 => nomatch hq)
    (fun q _ => match q with | 0 => tileObl (TF m) (TE m) (FO m) (TF_lt m hpre))
    (fun q _ => match q with | 0 => SparseCore.Cfg.VecSplit.of_plain (vecSplit (TF m) (TE m) (FO m)))
    m ρ main (G (F := F)) (FIN m) (u₀ (F := F)) (sep_elim_left.trans (hu₀ (TF m) (TE m) (FO m))) (hmain m ρ) (fq m) (hfin m) (QC m) (QC_of m)

end Run

end Cert.KernelIdeal.Own
-- ==== Proof.Reference.lean ====
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

/-- The row numbers the look-up uses: a negative one counts from the table's end. -/
def rowsOf (x : IVec S16384x32 32) : IVec S16384x32x1 32 :=
  broadcastInDim S16384x32x1 ![0, 1] bcast_S16384x32_S16384x32x1_0_1
    (select (cmpi .slt x (broadcastInDim S16384x32 ![] bcast_S_S16384x32 (constantI S_ 32 0#32)))
      (addi x (broadcastInDim S16384x32 ![] bcast_S_S16384x32 (constantI S_ 32 1000000#32))) x)

/-- Whether a row number lies in the table. -/
def inTable (x : IVec S16384x32 32) : IVec S16384x32 1 :=
  Host.reduce IntOp.andi
    (andi (cmpi .sge (rowsOf x) (broadcastInDim S16384x32x1 ![] bcast_S_S16384x32x1 (constantI S_ 32 0#32)))
      (cmpi .sle (rowsOf x) (broadcastInDim S16384x32x1 ![0, 1, 2] bcast_S1x1x1_S16384x32x1_0_1_2
        (broadcastInDim S1x1x1 ![2] bcast_S1_S1x1x1_2 (constantI S1 32 999999#32)))))
    (constantI S_ 1 1#1) reducesTo_S16384x32x1_S16384x32_d2 h_S_

/-- The table's rows at the texts. -/
def taken (x : IVec S16384x32 32) (e : FVec F S1000000x64 .f32) : FVec F S16384x32x64 .f32 :=
  select (broadcastInDim S16384x32x64 ![0, 1] bcast_S16384x32_S16384x32x64_0_1 (inTable x))
    (Host.gather gather_S1000000x64_S16384x32x1_S16384x32x64_2_0_n_n_0_2_164 e (rowsOf x))
    (broadcastInDim S16384x32x64 ![] bcast_S_S16384x32x64 (constant S_ .f32 0x7FC00000#32))

/-- The first layer before its activation. -/
def layer1 (x : IVec S16384x32 32) (e : FVec F S1000000x64 .f32) (w1 : FVec F S2048x128 .f32) (b1 : FVec F S128 .f32) : FVec F S16384x128 .f32 :=
  addf (Host.dotGeneral dot_S16384x2048_S2048x128_S16384x128_1_0_0_1_n_n none
      (shapeCast S16384x2048 (taken x e) shapeCasts_S16384x32x64_S16384x2048) w1)
    (broadcastInDim S16384x128 ![0, 1] bcast_S1x128_S16384x128_0_1 (broadcastInDim S1x128 ![1] bcast_S128_S1x128_1 b1))

/-- The activation: a negative value times a hundredth. -/
def act (h : FVec F S16384x128 .f32) : FVec F S16384x128 .f32 :=
  select (cmpf .oge h (broadcastInDim S16384x128 ![] bcast_S_S16384x128 (constant S_ .f32 0x00000000#32))) h
    (mulf (broadcastInDim S16384x128 ![] bcast_S_S16384x128 (constant S_ .f32 0x3C23D70A#32)) h)

/-- The reference's result. -/
def result (x : IVec S16384x32 32) (e : FVec F S1000000x64 .f32) (w1 : FVec F S2048x128 .f32) (b1 : FVec F S128 .f32)
    (w2 : FVec F S128x2 .f32) (b2 : FVec F S2 .f32) : FVec F S16384x2 .f32 :=
  addf (Host.dotGeneral dot_S16384x128_S128x2_S16384x2_1_0_0_1_n_n none (act (layer1 x e w1 b1)) w2)
    (broadcastInDim S16384x2 ![0, 1] bcast_S1x2_S16384x2_0_1 (broadcastInDim S1x2 ![1] bcast_S2_S1x2_1 b2))

/-- The look-up's operations, in order. -/
abbrev opsTake : List (HloOp τ sig (Elt F)) :=
  [ TRef.nullary main_call0.c (constantI S_ 32 0#32),
    TRef.unary main_call0.c main_call0.v0 (broadcastInDim S16384x32 ![] bcast_S_S16384x32),
    TRef.binary (.of main_arg0) main_call0.v0 main_call0.v1 (cmpi .slt),
    TRef.nullary main_call0.c_0 (constantI S_ 32 1000000#32),
    TRef.unary main_call0.c_0 main_call0.v2 (broadcastInDim S16384x32 ![] bcast_S_S16384x32),
    TRef.binary (.of main_arg0) main_call0.v2 main_call0.v3 addi,
    TRef.ternary main_call0.v1 main_call0.v3 (.of main_arg0) main_call0.call0.v0 select,
    TRef.unary main_call0.call0.v0 main_call0.v5 (broadcastInDim S16384x32x1 ![0, 1] bcast_S16384x32_S16384x32x1_0_1),
    TRef.nullary main_call0.c_1 (constantI S1 32 999999#32),
    TRef.nullary main_call0.c_2 (constantI S_ 32 0#32),
    TRef.unary main_call0.c_2 main_call0.v6 (broadcastInDim S16384x32x1 ![] bcast_S_S16384x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x32x1 ![0, 1, 2] bcast_S1x1x1_S16384x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x32x1_S16384x32_d2 h_S_),
    TRef.binary (.of main_arg1) main_call0.v5 main_call0.v13 (fun x i => Host.gather gather_S1000000x64_S16384x32x1_S16384x32x64_2_0_n_n_0_2_164 x i),
    TRef.unary main_call0.v12 main_call0.v14 (broadcastInDim S16384x32x64 ![0, 1] bcast_S16384x32_S16384x32x64_0_1),
    TRef.nullary main_call0.cst (constant S_ .f32 0x7FC00000#32),
    TRef.unary main_call0.cst main_call0.v15 (broadcastInDim S16384x32x64 ![] bcast_S_S16384x32x64),
    TRef.ternary main_call0.v14 main_call0.v13 main_call0.v15 main_call0.v16 select ]

/-- The two layers' operations, in order. -/
abbrev opsRest : List (HloOp τ sig (Elt F)) :=
  [ reshape main_v0 main_v1 (rfl : (.f32 : EltTy) = .f32) shapeCasts_S16384x32x64_S16384x2048,
    binary main_v1 main_arg2 main_v2 ((fun l r => Host.dotGeneral dot_S16384x2048_S2048x128_S16384x128_1_0_0_1_n_n none l r) : (⟨S16384x2048, .f32⟩ : BufTy).Contents (Elt F) → (⟨S2048x128, .f32⟩ : BufTy).Contents (Elt F) → (⟨S16384x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S16384x128 ![0, 1] bcast_S1x128_S16384x128_0_1 : (⟨S1x128, .f32⟩ : BufTy).Contents (Elt F) → (⟨S16384x128, .f32⟩ : BufTy).Contents (Elt F)),
    binary main_v2 main_v4 main_v5 (addf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    unary main_cst main_v6 (broadcastInDim S16384x128 ![] bcast_S_S16384x128 : (⟨S_, .f32⟩ : BufTy).Contents (Elt F) → (⟨S16384x128, .f32⟩ : BufTy).Contents (Elt F)),
    binary main_v5 main_v6 main_v7 (cmpf .oge : (⟨S16384x128, .f32⟩ : BufTy).Contents (Elt F) → (⟨S16384x128, .f32⟩ : BufTy).Contents (Elt F) → (⟨S16384x128, .i1⟩ : BufTy).Contents (Elt F)),
    nullary main_cst_0 (constant S_ .f32 0x3C23D70A#32),
    unary main_cst_0 main_v8 (broadcastInDim S16384x128 ![] bcast_S_S16384x128 : (⟨S_, .f32⟩ : BufTy).Contents (Elt F) → (⟨S16384x128, .f32⟩ : BufTy).Contents (Elt F)),
    binary main_v8 main_v5 main_v9 (mulf : (⟨S16384x128, .f32⟩ : BufTy).Contents (Elt F) → (⟨S16384x128, .f32⟩ : BufTy).Contents (Elt F) → (⟨S16384x128, .f32⟩ : BufTy).Contents (Elt F)),
    TRef.ternary (.of main_v7) (.of main_v5) (.of main_v9) main_call1.v0 select,
    binary main_v10 main_arg4 main_v11 ((fun l r => Host.dotGeneral dot_S16384x128_S128x2_S16384x2_1_0_0_1_n_n none l r) : (⟨S16384x128, .f32⟩ : BufTy).Contents (Elt F) → (⟨S128x2, .f32⟩ : BufTy).Contents (Elt F) → (⟨S16384x2, .f32⟩ : BufTy).Contents (Elt F)),
    unary main_arg5 main_v12 (broadcastInDim S1x2 ![1] bcast_S2_S1x2_1 : (⟨S2, .f32⟩ : BufTy).Contents (Elt F) → (⟨S1x2, .f32⟩ : BufTy).Contents (Elt F)),
    unary main_v12 main_v13 (broadcastInDim S16384x2 ![0, 1] bcast_S1x2_S16384x2_0_1 : (⟨S1x2, .f32⟩ : BufTy).Contents (Elt F) → (⟨S16384x2, .f32⟩ : BufTy).Contents (Elt F)),
    binary main_v11 main_v13 main_v14 (addf : (⟨S16384x2, .f32⟩ : BufTy).Contents (Elt F) → (⟨S16384x2, .f32⟩ : BufTy).Contents (Elt F) → (⟨S16384x2, .f32⟩ : BufTy).Contents (Elt F)) ]

/-- The whole program's operations. -/
abbrev ops : List (HloOp τ sig (Elt F)) := opsTake ++ opsRest

set_option maxRecDepth 1024 in
/-- The program is that straight line. -/
theorem main_eq (c : Dev nD) : main (F := F) c = seq ops := by
  simp only [main, fn_take.body, fn_where.body, fn_where_0.body, seq, List.cons_append, List.nil_append, bind_assoc, pure_bind]

/-- The arguments' buffers. -/
def argRefs : List (Ref sig .tc) := [main_arg0, main_arg1, main_arg2, main_arg3, main_arg4, main_arg5]

/-- The buffers the look-up writes, in order. -/
def takeW : List (Ref sig .tc) := [main_call0_c, main_call0_v0, main_call0_v1, main_call0_c_0, main_call0_v2, main_call0_v3, main_call0_v4, main_call0_v5,
  main_call0_c_1, main_call0_c_2, main_call0_v6, main_call0_v7, main_call0_v8, main_call0_v9, main_call0_v10, main_call0_v11, main_call0_c_3,
  main_call0_v12, main_call0_v13, main_call0_v14, main_call0_cst, main_call0_v15, main_v0]

/-- The buffers the two layers write, in order. -/
def restW : List (Ref sig .tc) := [main_v1, main_v2, main_v3, main_v4, main_v5, main_cst, main_v6, main_v7, main_cst_0, main_v8, main_v9, main_v10,
  main_v11, main_v12, main_v13, main_v14]

theorem take_eq (V : Valuation τ sig (Elt F)) :
    after opsTake V (main_v0 : DevRef τ sig) = taken (V (main_arg0 : DevRef τ sig)) (V (main_arg1 : DevRef τ sig)) := by
  after_results_simp
  simp -implicitDefEqProofs only [TRef.toBuf, TRef.ofBuf, cast_cast, cast_eq]
  rfl

theorem take_arg (V : Valuation τ sig (Elt F)) (r : Ref sig .tc) (hr : r ∈ argRefs) : after opsTake V (r : DevRef τ sig) = V (r : DevRef τ sig) :=
  after_of_writes_sub (W := takeW) opsTake V (forall_writes_sub_of_map rfl) ((by decide : ∀ r ∈ argRefs, r ∉ takeW) r hr)

/-- The two layers over looked-up rows. -/
def dense (t : FVec F S16384x32x64 .f32) (w1 : FVec F S2048x128 .f32) (b1 : FVec F S128 .f32)
    (w2 : FVec F S128x2 .f32) (b2 : FVec F S2 .f32) : FVec F S16384x2 .f32 :=
  addf (Host.dotGeneral dot_S16384x128_S128x2_S16384x2_1_0_0_1_n_n none (act
      (addf (Host.dotGeneral dot_S16384x2048_S2048x128_S16384x128_1_0_0_1_n_n none (shapeCast S16384x2048 t shapeCasts_S16384x32x64_S16384x2048) w1)
        (broadcastInDim S16384x128 ![0, 1] bcast_S1x128_S16384x128_0_1 (broadcastInDim S1x128 ![1] bcast_S128_S1x128_1 b1)))) w2)
    (broadcastInDim S16384x2 ![0, 1] bcast_S1x2_S16384x2_0_1 (broadcastInDim S1x2 ![1] bcast_S2_S1x2_1 b2))

theorem rest_eq (V : Valuation τ sig (Elt F)) :
    after opsRest V (main_v14 : DevRef τ sig)
      = dense (V (main_v0 : DevRef τ sig)) (V (main_arg2 : DevRef τ sig))
          (V (main_arg3 : DevRef τ sig)) (V (main_arg4 : DevRef τ sig)) (V (main_arg5 : DevRef τ sig)) := by
  after_results_simp
  rfl

theorem rest_arg (V : Valuation τ sig (Elt F)) (r : Ref sig .tc) (hr : r ∈ argRefs) : after opsRest V (r : DevRef τ sig) = V (r : DevRef τ sig) :=
  after_of_writes_sub (W := restW) opsRest V (forall_writes_sub_of_map rfl) ((by decide : ∀ r ∈ argRefs, r ∉ restW) r hr)

theorem after_join (l l' : List (HloOp τ sig (Elt F))) : ∀ V : Valuation τ sig (Elt F), after (l ++ l') V = after l' (after l V) := by
  induction l with
  | nil => intro V; rfl
  | cons a l ih => intro V; exact ih _

theorem after_ops (V : Valuation τ sig (Elt F)) : after ops V = after opsRest (after opsTake V) := after_join opsTake opsRest V

theorem out_eq (V : Valuation τ sig (Elt F)) :
    after ops V (main_v14 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops, rest_eq, take_eq, take_arg V main_arg2 (by decide), take_arg V main_arg3 (by decide),
    take_arg V main_arg4 (by decide), take_arg V main_arg5 (by decide)]
  rfl

theorem arg_eq (V : Valuation τ sig (Elt F)) (r : Ref sig .tc) (hr : r ∈ argRefs) : after ops V (r : DevRef τ sig) = V (r : DevRef τ sig) := by
  rw [after_ops, rest_arg _ r hr, take_arg V r hr]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., unary_bufs_sub .., binary_bufs_sub ..⟩

/-- Every weakly fair execution terminates with every buffer at the operations' values of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Own
-- ==== Proof.Frames.lean ====
module

public import proofs.«01_k».proof.Defs
public import proofs.«01_k».proof.Proof.Gen.Pre_in_vocab
public import proofs.«01_k».proof.Proof.Gen.Kernel
public import proofs.«01_k».proof.Proof.Run
public import proofs.«01_k».proof.Proof.Reference
public import Idealize.ShloMosaic.Lib.ReduceAll

@[expose] public section

noncomputable section

namespace Cert.Proof

open Idealize.ShloMosaic Idealize.SL.Sem

instance : Subsingleton Cert.Pre_in_vocab.S_.Idx := ⟨fun a b => funext fun d => d.elim0⟩

theorem andi_bool (a b : Bool) : IntOp.andi (BitVec.ofBool a) (BitVec.ofBool b) = BitVec.ofBool (a && b) := by cases a <;> cases b <;> rfl

theorem bool_one (b : Bool) : BitVec.ofBool b = 1#1 ↔ b = true := by cases b <;> simp

/-- A word at least zero and below a million, both signed, is below a million unsigned. -/
theorem word_lt (x : BitVec 32) (h : IntOp.andi (IntOp.cmpi .sge x 0#32) (IntOp.cmpi .slt x 1000000#32) = 1#1) : x.toNat < 1000000 := by
  simp only [IntOp.cmpi, andi_bool, bool_one, Bool.and_eq_true, BitVec.sle_eq_decide, BitVec.slt_eq_decide, decide_eq_true_eq,
    BitVec.toInt_eq_toNat_cond, BitVec.toNat_ofNat, Nat.reducePow, Nat.reduceMod] at h
  omega

/-- The precondition, read: every text is below a million. -/
theorem word_of_pre {F : FTy → Type} [FloatOps F] (x0 : IVec Cert.Pre_in_vocab.S16384x32 32) (x1 : FVec F Cert.Pre_in_vocab.S1000000x64 .f32)
    (x2 : FVec F Cert.Pre_in_vocab.S2048x128 .f32) (x3 : FVec F Cert.Pre_in_vocab.S128 .f32) (x4 : FVec F Cert.Pre_in_vocab.S128x2 .f32)
    (x5 : FVec F Cert.Pre_in_vocab.S2 .f32) (h : Cert.Pre_in_vocab.fn x0 x1 x2 x3 x4 x5 = fun _ => 1#1) (j : Cert.Pre_in_vocab.S16384x32.Idx) :
    (x0 j).toNat < 1000000 :=
  word_lt (x0 j) (Host.reduce_andi_all _ _ _ _ (fun d => d.elim0) (congrFun h _) j)

theorem vocab_kernel (m : (ℓ : Loc Cert.Kernel.nD Cert.Kernel.τ Cert.Kernel.sig) → Buf (Elt Bits) ℓ) (h : Cert.Pre_Kernel m) :
    Cert.KernelIdeal.Own.InVocab (F := Bits) m := fun d j => word_of_pre _ _ _ _ _ _ (h d) j

theorem vocab_ideal (m : (ℓ : Loc Cert.KernelIdeal.nD Cert.KernelIdeal.τ Cert.KernelIdeal.sig) → Buf (Elt Ideal) ℓ) (h : Cert.Pre_KernelIdeal m) :
    Cert.KernelIdeal.Own.InVocab (F := Ideal) m := fun d j => word_of_pre _ _ _ _ _ _ (h d) j

set_option smartUnfolding false in
/-- The two programs have one body table. -/
theorem defs_eq : Cert.Kernel.defs (F := Bits) = Cert.KernelIdeal.defs (F := Bits) := rfl

/-- And one thread each. -/
theorem threads_eq : Cert.Kernel.threads (F := Bits) = Cert.KernelIdeal.threads (F := Bits) := rfl

/-- The kernel terminates, nothing faulting, its arguments unchanged and every counter zero. -/
theorem frame_kernel : Cert.quiescent_Kernel := by
  intro m ρ hpre
  rw [defs_eq, threads_eq]
  exact (θ_run Cert.KernelIdeal.defs _ _).mono (fun _ h => ⟨fun c => (h.1 c).2, h.2⟩)
    (Cert.KernelIdeal.Own.run_main (F := Bits) m ρ (vocab_kernel m hpre))

/-- The same of the kernel read over the extended reals. -/
theorem frame_ideal : Cert.quiescent_KernelIdeal := fun m ρ hpre =>
  (θ_run Cert.KernelIdeal.defs _ _).mono (fun _ h => ⟨fun c => (h.1 c).2, h.2⟩)
    (Cert.KernelIdeal.Own.run_main (F := Ideal) m ρ (vocab_ideal m hpre))

/-- The reference terminates, its arguments unchanged. -/
theorem frame_reference : Cert.quiescent_ReferenceIdeal := fun m ρ _ =>
  (θ_run Cert.ReferenceIdeal.defs _ _).mono
    (fun r h => ⟨fun c => ⟨(h c _).trans (Cert.ReferenceIdeal.Own.arg_eq _ _ (by decide)), (h c _).trans (Cert.ReferenceIdeal.Own.arg_eq _ _ (by decide)),
      (h c _).trans (Cert.ReferenceIdeal.Own.arg_eq _ _ (by decide)), (h c _).trans (Cert.ReferenceIdeal.Own.arg_eq _ _ (by decide)),
      (h c _).trans (Cert.ReferenceIdeal.Own.arg_eq _ _ (by decide)), (h c _).trans (Cert.ReferenceIdeal.Own.arg_eq _ _ (by decide))⟩,
      Idealize.ShloMosaic.sem_eq_zero_of_no_sems (by decide) r.2⟩)
    (Cert.ReferenceIdeal.Own.run_main (F := Ideal) m ρ)

end Cert.Proof
-- ==== Proof.Value.lean ====
module

public import proofs.«01_k».proof.Proof.Run
public import Idealize.ShloMosaic.Lib.ValueLayout
public import Idealize.ShloMosaic.Lib.MatmulPlain
public import Idealize.ShloMosaic.Lib.IdealHost

@[expose] public section

noncomputable section

namespace Cert.KernelIdeal.Own

open Cert.KernelIdeal Cert.KernelIdeal.Gen

open Idealize.ShloMosaic Idealize.ShloMosaic.ValueIdx
open Idealize.ShloMosaic.TcCoe
open Idealize.ShloMosaic.Pipeline (Dat)

/-! ## The result, at an index, over the extended reals -/

/-- A negative value times a hundredth, any other as it is. -/
def leaky (h : Ideal .f32) : Ideal .f32 :=
  Scalar.select (FloatOps.cmpf .oge h (Scalar.ofBits .f32 0x00000000#32)) h (FloatOps.mulf (Scalar.ofBits .f32 0x3C23D70A#32) h)

/-- The two layers of one batch row, at one of its two results. -/
def layers (r : Fin 2048 → Ideal .f32) (w1 : FVec Ideal ⟨2, ![2048, 128]⟩ .f32) (b1 : Fin 128 → Ideal .f32) (w2 : FVec Ideal ⟨2, ![128, 2]⟩ .f32)
    (b2 : Fin 2 → Ideal .f32) (n : Fin 2) : Ideal .f32 :=
  FloatOps.addf (∑ j : Fin 128, leaky (FloatOps.addf (∑ k : Fin 2048, r k * w1 (ix2 k j)) (b1 j)) * w2 (ix2 j n)) (b2 n)

/-- Line and column, in a block of looked-up lines, of position `k` of row `p`. -/
def lineOf (p : Fin 512) (k : Fin 2048) : S8192x128.Idx :=
  ix2 (⟨16 * p.val + k.val / 128, by omega⟩ : Fin 8192) (⟨k.val % 128, Nat.mod_lt _ (by decide)⟩ : Fin 128)

theorem pay_apply (v0 : FVec Ideal S8192x128 .f32) (v2 : FVec Ideal S2048x128 .f32) (v4 : FVec Ideal S1x128 .f32) (v13 : FVec Ideal S128x2 .f32)
    (v15 : FVec Ideal S1x2 .f32) (p : Fin 512) (n : Fin 2) :
    k1_pay1 (F := Ideal) v0 v2 v4 v13 v15 (ix2 p n)
      = layers (fun k => v0 (lineOf p k)) v2 (fun j => v4 (ix2 (0 : Fin 1) j)) v13 (fun n => v15 (ix2 (0 : Fin 1) n)) n := by
  unfold k1_pay1 layers
  dsimp only
  rw [addf_apply]
  congr 1
  · refine (Ideal.matmul_plain_apply _ _ _ _ p n).trans ?_
    rw [constant_apply, Ideal.ofBits_zero_f32, zero_add]
    refine Finset.sum_congr rfl fun j _ => ?_
    congr 1
    rw [select_apply]
    unfold leaky
    have e : addf (F := Ideal) (matmul dot_S512x2048_S2048x128_S512x128_1_0_0_1_n_n none (shapeCast S512x2048 v0 shapeCasts_S8192x128_S512x2048) v2 (constant S512x128 .f32 0x00000000#32))
        (broadcastTo S512x128 (shapeCast S1x128 v4 shapeCasts_S1x128_S1x128) broadcasts_S1x128_S512x128) (ix2 p j)
        = FloatOps.addf (∑ k : Fin 2048, v0 (lineOf p k) * v2 (ix2 k j)) (v4 (ix2 (0 : Fin 1) j)) := by
      rw [addf_apply]
      congr 1
      · refine (Ideal.matmul_plain_apply _ _ _ _ p j).trans ?_
        rw [constant_apply, Ideal.ofBits_zero_f32, zero_add]
        refine Finset.sum_congr rfl fun k _ => ?_
        congr 1
        refine shapeCast_apply v0 _ _ (lineOf p k) ?_
        rw [Shape.rowMajor_val_two, Shape.rowMajor_val_two]
        show (16 * p.val + k.val / 128) * 128 + k.val % 128 = p.val * 2048 + k.val
        omega
      · refine (broadcastTo_1b_ab_apply _ _ p j).trans ?_
        exact shapeCast_apply v4 _ _ _ rfl
    rw [cmpf_apply, mulf_apply, e]
    rfl
  · refine (broadcastTo_1b_ab_apply _ _ p n).trans ?_
    exact shapeCast_apply v15 _ _ _ rfl

/-! ### The blocks the dense layers work on -/

theorem at0 (t : Fin cfg1.N) : (cfg1.win 0).index t 0 = t.val ∧ (cfg1.win 0).index t 1 = 0 := by revert t; decide
theorem at1_ (t : Fin cfg1.N) : (cfg1.win 1).index t 0 = 0 ∧ (cfg1.win 1).index t 1 = 0 := by revert t; decide
theorem at2_ (t : Fin cfg1.N) : (cfg1.win 2).index t 0 = 0 ∧ (cfg1.win 2).index t 1 = 0 := by revert t; decide
theorem at3_ (t : Fin cfg1.N) : (cfg1.win 3).index t 0 = 0 ∧ (cfg1.win 3).index t 1 = 0 := by revert t; decide
theorem at4_ (t : Fin cfg1.N) : (cfg1.win 4).index t 0 = 0 ∧ (cfg1.win 4).index t 1 = 0 := by revert t; decide
theorem at5_ (t : Fin cfg1.N) : (cfg1.win 5).index t 0 = t.val ∧ (cfg1.win 5).index t 1 = 0 := by revert t; decide

theorem pts_lt (t : Fin cfg1.N) : t.val < 32 := by revert t; decide

section Blocks

variable {F : FTy → Type} [FloatOps F] (V : Dev nD → (b : Ref sig .tc) → b.ty.Contents (Elt F)) (c : Dev nD) (t : Fin cfg1.N)

theorem blk0_apply (j : S8192x128.Idx) (i : S262144x128.Idx) (h0 : (i 0).val = 8192 * t.val + (j 0).val) (h1 : (i 1).val = (j 1).val) :
    blk0 V c t j = V c main_v3 i := by
  show V c main_v3 _ = V c main_v3 i
  congr 1
  funext a
  apply Fin.ext
  match a with
  | ⟨0, _⟩ => show (cfg1.win 0).index t 0 * 8192 + 1 * (j 0).val = (i 0).val; rw [(at0 t).1]; omega
  | ⟨1, _⟩ => show (cfg1.win 0).index t 1 * 128 + 1 * (j 1).val = (i 1).val; rw [(at0 t).2]; omega

theorem blk1_eq : blk1 V c t = V c main_arg2 := by
  funext j
  show V c main_arg2 _ = V c main_arg2 j
  congr 1
  funext a
  apply Fin.ext
  match a with
  | ⟨0, _⟩ => show (cfg1.win 1).index t 0 * 2048 + 1 * (j 0).val = (j 0).val; rw [(at1_ t).1]; omega
  | ⟨1, _⟩ => show (cfg1.win 1).index t 1 * 128 + 1 * (j 1).val = (j 1).val; rw [(at1_ t).2]; omega

theorem blk2_eq : blk2 V c t = V c main_v4 := by
  funext j
  show V c main_v4 _ = V c main_v4 j
  congr 1
  funext a
  apply Fin.ext
  match a with
  | ⟨0, _⟩ => show (cfg1.win 2).index t 0 * 1 + 1 * (j 0).val = (j 0).val; rw [(at2_ t).1]; omega
  | ⟨1, _⟩ => show (cfg1.win 2).index t 1 * 128 + 1 * (j 1).val = (j 1).val; rw [(at2_ t).2]; omega

theorem blk3_eq : blk3 V c t = V c main_arg4 := by
  funext j
  show V c main_arg4 _ = V c main_arg4 j
  congr 1
  funext a
  apply Fin.ext
  match a with
  | ⟨0, _⟩ => show (cfg1.win 3).index t 0 * 128 + 1 * (j 0).val = (j 0).val; rw [(at3_ t).1]; omega
  | ⟨1, _⟩ => show (cfg1.win 3).index t 1 * 2 + 1 * (j 1).val = (j 1).val; rw [(at3_ t).2]; omega

theorem blk4_eq : blk4 V c t = V c main_v5 := by
  funext j
  show V c main_v5 _ = V c main_v5 j
  congr 1
  funext a
  apply Fin.ext
  match a with
  | ⟨0, _⟩ => show (cfg1.win 4).index t 0 * 1 + 1 * (j 0).val = (j 0).val; rw [(at4_ t).1]; omega
  | ⟨1, _⟩ => show (cfg1.win 4).index t 1 * 2 + 1 * (j 1).val = (j 1).val; rw [(at4_ t).2]; omega

end Blocks

/-- Line and column, in the looked-up lines, of position `k` of batch row `b`. -/
def lineAt (b : Fin 16384) (k : Fin 2048) : S262144x128.Idx :=
  ix2 (⟨16 * b.val + k.val / 128, by omega⟩ : Fin 262144) (⟨k.val % 128, Nat.mod_lt _ (by decide)⟩ : Fin 128)

/-- The whole result over the arrays the dense layers read. -/
def whole (x : FVec Ideal S262144x128 .f32) (w1 : FVec Ideal S2048x128 .f32) (b1 : FVec Ideal S1x128 .f32) (w2 : FVec Ideal S128x2 .f32) (b2 : FVec Ideal S1x2 .f32)
    (i : S16384x2.Idx) : Ideal .f32 :=
  layers (fun k => x (lineAt (i 0) k)) w1 (fun j => b1 (ix2 (0 : Fin 1) j)) w2 (fun n => b2 (ix2 (0 : Fin 1) n)) (i 1)

/-- Row `p` of point `t`'s rows. -/
def rowAt (t : Fin cfg1.N) (p : Fin 512) : Fin 16384 := ⟨512 * t.val + p.val, by have := pts_lt t; omega⟩

theorem line_eq (t : Fin cfg1.N) (p : Fin 512) (k : Fin 2048) : (lineAt (rowAt t p) k 0).val = 8192 * t.val + (lineOf p k 0).val := by
  show 16 * (512 * t.val + p.val) + k.val / 128 = 8192 * t.val + (16 * p.val + k.val / 128)
  omega

theorem emb_row (t : Fin cfg1.N) (p : Fin 512) (n : Fin 2) : ((cfg1.win 5).blk t).view.emb (ix2 p n) = (ix2 (rowAt t p) n : S16384x2.Idx) := by
  funext a
  apply Fin.ext
  match a with
  | ⟨0, _⟩ => show (cfg1.win 5).index t 0 * 512 + 1 * p.val = 512 * t.val + p.val; rw [(at5_ t).1]; omega
  | ⟨1, _⟩ => show (cfg1.win 5).index t 1 * 2 + 1 * n.val = n.val; rw [(at5_ t).2]; omega

section Whole

variable (V : Dev nD → (b : Ref sig .tc) → b.ty.Contents (Elt Ideal)) (c : Dev nD)

/-- Point `t` writes back its rows of the whole result. -/
theorem flushed_whole (t : Fin cfg1.N) : (mlpDat V 0 c).flushed 5 t
    = ((cfg1.win 5).blk t).view.read (Elt Ideal) (whole (V c main_v3) (V c main_arg2) (V c main_v4) (V c main_arg4) (V c main_v5)) := by
  show (cfg1.win 5).cut (grid1.coords t) ((mlpDat V 0 c).after 5 t) = _
  funext j
  obtain ⟨p, n, rfl⟩ : ∃ (p : Fin 512) (n : Fin 2), j = ix2 p n := ⟨j 0, j 1, eq_ix2 (n0 := 512) (n1 := 2) j⟩
  show k1_pay1 (blk0 V c t) (blk1 V c t) (blk2 V c t) (blk3 V c t) (blk4 V c t) (ix2 p n) = _
  rw [pay_apply, blk1_eq, blk2_eq, blk3_eq, blk4_eq]
  refine Eq.trans ?_ (congrArg (whole (V c main_v3) (V c main_arg2) (V c main_v4) (V c main_arg4) (V c main_v5)) (emb_row t p n)).symm
  exact congrArg (fun r => layers r (V c main_arg2) (fun j => V c main_v4 (ix2 (0 : Fin 1) j)) (V c main_arg4) (fun n => V c main_v5 (ix2 (0 : Fin 1) n)) n)
    (funext fun k => blk0_apply V c t (lineOf p k) (lineAt (rowAt t p) k) (line_eq t p k) rfl)

theorem mem_rows (t : Fin cfg1.N) (i : S16384x2.Idx) (h : (i 0).val / 512 = t.val) : i ∈ ((cfg1.win 5).blk t).view.set := by
  show i ∈ ((View.whole main_v6).slice (win1_5.rect t)).set
  rw [View.set_slice_whole, Rect.mem_set_unit]
  have h1 : (i 1 : Nat) < 2 := (i 1).isLt
  intro a
  match a with
  | ⟨0, _⟩ => show (cfg1.win 5).index t 0 * 512 ≤ (i 0 : Nat) ∧ (i 0 : Nat) < (cfg1.win 5).index t 0 * 512 + 512
              rw [(at5_ t).1]; omega
  | ⟨1, _⟩ => show (cfg1.win 5).index t 1 * 2 ≤ (i 1 : Nat) ∧ (i 1 : Nat) < (cfg1.win 5).index t 1 * 2 + 2
              rw [(at5_ t).2]; omega

/-- So the result array ends at the whole result. -/
theorem arr_whole : (mlpDat V 0 c).arrAt 5 cfg1.N = whole (V c main_v3) (V c main_arg2) (V c main_v4) (V c main_arg4) (V c main_v5) :=
  (mlpDat V 0 c).arrAt_eq_of_cover 5 _ (fun t _ => flushed_whole V c t) fun i => by
    have h0 : (i 0 : Nat) < 16384 := (i 0).isLt
    have hN : cfg1.N = 32 := N_1
    exact ⟨⟨(i 0 : Nat) / 512, by omega⟩, flush1_5 _, mem_rows _ i rfl⟩

end Whole

/-! ### The arrays the dense layers read -/

section Arrays

variable {F : FTy → Type} [FloatOps F] (m : (ℓ : Loc nD τ sig) → Buf (Elt F) ℓ) (d : Dev nD)

theorem V6_v3 : V6 m d main_v3 = OUT (TF m d) (TE m d) := by
  show W6 m d (Proc.devRef .tc main_v3) = _
  unfold W6 W5
  rw [HloOp.result_of_not_mem _ _ (by show Proc.devRef .tc main_v3 ∉ ({Proc.devRef .tc main_v5} : Finset (DevRef τ sig)); decide),
    HloOp.result_of_not_mem _ _ (by show Proc.devRef .tc main_v3 ∉ ({Proc.devRef .tc main_v4} : Finset (DevRef τ sig)); decide)]
  exact W4_v3 m d

/-- An argument reaches the dense layers as it was at the launch. -/
theorem W4_kept (b : DevRef τ sig) (h0 : b ≠ Proc.devRef .tc main_v0) (h1 : b ≠ Proc.devRef .tc main_v1) (h2 : b ≠ Proc.devRef .tc main_v2)
    (h3 : b ≠ Proc.devRef .tc main_v3) : W4 m d b = m (d, b) := by
  unfold W4 W3 W2 W1
  rw [Function.update_of_ne h3, HloOp.result_of_not_mem _ _ (by show b ∉ ({_} : Finset (DevRef τ sig)); rw [Finset.mem_singleton]; exact h2),
    HloOp.result_of_not_mem _ _ (by show b ∉ ({_} : Finset (DevRef τ sig)); rw [Finset.mem_singleton]; exact h1),
    HloOp.result_of_not_mem _ _ (by show b ∉ ({_} : Finset (DevRef τ sig)); rw [Finset.mem_singleton]; exact h0)]
  rfl

theorem W6_kept (b : DevRef τ sig) (h4 : b ≠ Proc.devRef .tc main_v4) (h5 : b ≠ Proc.devRef .tc main_v5) : W6 m d b = W4 m d b := by
  unfold W6 W5
  rw [HloOp.result_of_not_mem _ _ (by show b ∉ ({_} : Finset (DevRef τ sig)); rw [Finset.mem_singleton]; exact h5),
    HloOp.result_of_not_mem _ _ (by show b ∉ ({_} : Finset (DevRef τ sig)); rw [Finset.mem_singleton]; exact h4)]

theorem V6_arg2 : V6 m d main_arg2 = m ((SparseCore.T d).loc main_arg2) :=
  (W6_kept m d _ (by decide) (by decide)).trans (W4_kept m d _ (by decide) (by decide) (by decide) (by decide))

theorem V6_arg4 : V6 m d main_arg4 = m ((SparseCore.T d).loc main_arg4) :=
  (W6_kept m d _ (by decide) (by decide)).trans (W4_kept m d _ (by decide) (by decide) (by decide) (by decide))

theorem V6_v4 : V6 m d main_v4 = shapeCast S1x128 (m ((SparseCore.T d).loc main_arg3)) shapeCasts_S128_S1x128 := by
  show W6 m d (Proc.devRef .tc main_v4) = _
  unfold W6 W5
  rw [HloOp.result_of_not_mem _ _ (by show Proc.devRef .tc main_v4 ∉ ({Proc.devRef .tc main_v5} : Finset (DevRef τ sig)); decide),
    StableHlo.reshape_result, W4_kept m d _ (by decide) (by decide) (by decide) (by decide)]
  rfl

theorem V6_v5 : V6 m d main_v5 = shapeCast S1x2 (m ((SparseCore.T d).loc main_arg5)) shapeCasts_S2_S1x2 := by
  show W6 m d (Proc.devRef .tc main_v5) = _
  unfold W6 W5
  rw [StableHlo.reshape_result,
    HloOp.result_of_not_mem _ _ (by show Proc.devRef .tc main_arg5 ∉ ({Proc.devRef .tc main_v4} : Finset (DevRef τ sig)); decide),
    W4_kept m d _ (by decide) (by decide) (by decide) (by decide)]
  rfl

/-- Which text position `k` of a batch row's 2048 belongs to. -/
abbrev textOf (k : Fin 2048) : Fin 32 := ⟨k.val / 64, by omega⟩
/-- And which of that text's 64 values it is. -/
abbrev valueOf (k : Fin 2048) : Fin 64 := ⟨k.val % 64, Nat.mod_lt _ (by decide)⟩

/-- A batch row looked up: position `k` is a value of the table's row its text names, the last row past the end. -/
def looked (x : S16384x32.Idx → Elt F .i32) (e : S1000000x64.Idx → Elt F .f32) (b : Fin 16384) (k : Fin 2048) : Elt F .f32 :=
  e (ix2 (⟨min (x (ix2 b (textOf k)) : BitVec 32).toNat 999999, by omega⟩ : Fin 1000000) (valueOf k))

theorem tok_eq (b : Fin 16384) (l : Fin 32) : tok (TF m d) (32 * b.val + l.val) = (m ((SparseCore.T d).loc main_arg0) (ix2 b l) : BitVec 32).toNat := by
  have e0 : (32 * b.val + l.val) % 32 = l.val := by omega
  have e1 : (32 * b.val + l.val) / 32 = b.val := by omega
  unfold tok
  rw [e0, e1, TF_eq, shapeCast_apply _ _ _ (ix2 l b : S32x16384.Idx) (by
      rw [Shape.rowMajor_val_two, Shape.rowMajor_val_one]
      show l.val * 16384 + b.val = (16384 * l.val + b.val) % 524288
      omega),
    transpose_apply _ _ _ _ (ix2 b l : S16384x32.Idx) (fun a => by
      match a with
      | ⟨0, _⟩ => rfl
      | ⟨1, _⟩ => rfl)]

theorem pair_eq (v : Nat) (hv : v < 1000000) (j : Nat) (hj : j < 64) :
    TE m d (atE (v / 2) (64 * (v % 2) + j)) = m ((SparseCore.T d).loc main_arg1) (ix2 (⟨v, hv⟩ : Fin 1000000) (⟨j, hj⟩ : Fin 64)) := by
  rw [TE_eq, shapeCast_apply _ _ _ (ix2 (⟨v, hv⟩ : Fin 1000000) (⟨j, hj⟩ : Fin 64) : S1000000x64.Idx) (by
      rw [Shape.rowMajor_val_two, Shape.rowMajor_val_two]
      show v * 64 + j = (v / 2) % 500000 * 128 + (64 * (v % 2) + j) % 128
      omega)]

/-- What the SparseCore's call leaves at position `k` of batch row `b`. -/
theorem OUT_line (h : InVocab m) (b : Fin 16384) (k : Fin 2048) :
    OUT (TF m d) (TE m d) (lineAt b k) = looked (m ((SparseCore.T d).loc main_arg0)) (m ((SparseCore.T d).loc main_arg1)) b k := by
  have hv := h d (ix2 b (textOf k))
  have hp : 2 * (lineAt b k 0).val + (lineAt b k 1).val / 64 = 32 * b.val + (textOf k).val := by
    show 2 * (16 * b.val + k.val / 128) + k.val % 128 / 64 = 32 * b.val + k.val / 64
    omega
  have hc : (lineAt b k 1).val % 64 = (valueOf k).val := by
    show k.val % 128 % 64 = k.val % 64
    omega
  unfold OUT
  rw [hp, hc, tok_eq, pair_eq m d _ hv _ (valueOf k).isLt]
  unfold looked
  congr 2
  apply Fin.ext
  show (m ((SparseCore.T d).loc main_arg0) (ix2 b (textOf k)) : BitVec 32).toNat = min (m ((SparseCore.T d).loc main_arg0) (ix2 b (textOf k)) : BitVec 32).toNat 999999
  exact (Nat.min_eq_left (Nat.le_of_lt_succ hv)).symm

end Arrays

section Final

variable (m : (ℓ : Loc nD τ sig) → Buf (Elt Ideal) ℓ) (d : Dev nD)

/-- The kernel's result, at an index. -/
theorem RES_apply (h : InVocab m) (b : Fin 16384) (n : Fin 2) :
    RES m d (ix2 b n) = layers (looked (F := Ideal) (m ((SparseCore.T d).loc main_arg0)) (m ((SparseCore.T d).loc main_arg1)) b) (m ((SparseCore.T d).loc main_arg2))
      (fun j => m ((SparseCore.T d).loc main_arg3) (ix1 j)) (m ((SparseCore.T d).loc main_arg4)) (fun n => m ((SparseCore.T d).loc main_arg5) (ix1 n)) n := by
  have e : RES m d = whole (V6 m d main_v3) (V6 m d main_arg2) (V6 m d main_v4) (V6 m d main_arg4) (V6 m d main_v5) := arr_whole (V6 m) d
  rw [e, V6_v3, V6_arg2, V6_arg4, V6_v4, V6_v5]
  have e0 : (fun k => OUT (TF m d) (TE m d) (lineAt b k)) = looked (F := Ideal) (m ((SparseCore.T d).loc main_arg0)) (m ((SparseCore.T d).loc main_arg1)) b :=
    funext fun k => OUT_line m d h b k
  have e1 : (fun j : Fin 128 => shapeCast S1x128 (m ((SparseCore.T d).loc main_arg3)) shapeCasts_S128_S1x128 (ix2 (0 : Fin 1) j))
      = fun j => m ((SparseCore.T d).loc main_arg3) (ix1 j) := funext fun j => shapeCast_apply _ _ _ (ix1 j) (by
    rw [Shape.rowMajor_val_two, Shape.rowMajor_val_one]
    show j.val = 0 * 128 + j.val
    omega)
  have e2 : (fun j : Fin 2 => shapeCast S1x2 (m ((SparseCore.T d).loc main_arg5)) shapeCasts_S2_S1x2 (ix2 (0 : Fin 1) j))
      = fun j => m ((SparseCore.T d).loc main_arg5) (ix1 j) := funext fun j => shapeCast_apply _ _ _ (ix1 j) (by
    rw [Shape.rowMajor_val_two, Shape.rowMajor_val_one]
    show j.val = 0 * 2 + j.val
    omega)
  rw [← e0, ← e1, ← e2]
  rfl

end Final

end Cert.KernelIdeal.Own
-- ==== Proof.Looked.lean ====
module

public import proofs.«01_k».proof.Proof.Reference
public import proofs.«01_k».proof.Proof.Value
public import Idealize.ShloMosaic.Lib.ReduceAll
public import Idealize.ShloMosaic.Lib.StackMember

@[expose] public section

noncomputable section

namespace Cert.ReferenceIdeal.Own

open Cert.ReferenceIdeal Cert.ReferenceIdeal.Gen
open Idealize.ShloMosaic Idealize.ShloMosaic.ValueIdx Idealize.ShloMosaic.StackMember
open Cert.KernelIdeal.Own (looked layers leaky textOf valueOf)

variable {F : FTy → Type} [FloatOps F]

/-! ## The reference's result, at an index -/

/-- A word below a million is not negative. -/
theorem word_pos (v : BitVec 32) (h : v.toNat < 1000000) : IntOp.cmpi .slt v 0#32 = 0#1 := by
  have : v.slt 0#32 = false := by
    simp only [BitVec.slt_eq_decide, BitVec.toInt_eq_toNat_cond, BitVec.toNat_ofNat, decide_eq_false_iff_not]
    omega
  simp only [IntOp.cmpi, this]; rfl

/-- And lies in the table. -/
theorem word_in (v : BitVec 32) (h : v.toNat < 1000000) : IntOp.andi (IntOp.cmpi .sge v 0#32) (IntOp.cmpi .sle v 999999#32) = 1#1 := by
  have h1 : (0#32 : BitVec 32).sle v = true := by
    simp only [BitVec.sle_eq_decide, BitVec.toInt_eq_toNat_cond, BitVec.toNat_ofNat, decide_eq_true_eq]
    omega
  have h2 : v.sle 999999#32 = true := by
    simp only [BitVec.sle_eq_decide, BitVec.toInt_eq_toNat_cond, BitVec.toNat_ofNat, decide_eq_true_eq]
    omega
  simp only [IntOp.cmpi, h1, h2]; rfl

theorem word_signed (v : BitVec 32) (h : v.toNat < 1000000) : v.toInt.toNat = v.toNat := by
  rw [BitVec.toInt_eq_toNat_cond]
  split <;> omega

/-- The look-up of rows, at an index: the table at the row named, read signed and kept inside the table. -/
theorem gather_rows (e : FVec F S1000000x64 .f32) (r : IVec S16384x32x1 32) (b : Fin 16384) (l : Fin 32) (j : Fin 64) :
    Host.gather gather_S1000000x64_S16384x32x1_S16384x32x64_2_0_n_n_0_2_164 e r (ix3 b l j)
      = e (ix2 (⟨min (r (ix3 b l (0 : Fin 1))).toInt.toNat 999999, by omega⟩ : Fin 1000000) j) := by
  unfold Host.gather
  refine congrArg e (funext fun a => Fin.ext ?_)
  show gather_S1000000x64_S16384x32x1_S16384x32x64_2_0_n_n_0_2_164.start (ix3 b l j) r a
      + gather_S1000000x64_S16384x32x1_S16384x32x64_2_0_n_n_0_2_164.batchCoord (ix3 b l j) a
      + gather_S1000000x64_S16384x32x1_S16384x32x64_2_0_n_n_0_2_164.offCoord (ix3 b l j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ gather_S1000000x64_S16384x32x1_S16384x32x64_2_0_n_n_0_2_164.startIndexMap by decide)).trans ?_
    show min (r _).toInt.toNat 999999 = min (r _).toInt.toNat 999999
    congr 4
    funext q
    apply Fin.ext
    match q with
    | ⟨0, _⟩ => rfl
    | ⟨1, _⟩ => rfl
    | ⟨2, _⟩ => rfl
  | ⟨1, _⟩ =>
    refine (congrArg₂ (· + ·)
      (dif_neg (show (1 : Fin 2) ∉ gather_S1000000x64_S16384x32x1_S16384x32x64_2_0_n_n_0_2_164.startIndexMap by decide))
      (dif_pos (show (1 : Fin 2) ∈ gather_S1000000x64_S16384x32x1_S16384x32x64_2_0_n_n_0_2_164.sKept by decide))).trans ?_
    exact Nat.zero_add _

section Rows

variable (x : IVec S16384x32 32) (hx : ∀ j, (x j).toNat < 1000000)
include hx

theorem rowsOf_apply (b : Fin 16384) (l : Fin 32) (z : Fin 1) : rowsOf x (ix3 b l z) = x (ix2 b l) := by
  unfold rowsOf
  rw [broadcastInDim_apply _ _ _ _ (ix2 b l : S16384x32.Idx) (fun a => by
    match a with
    | ⟨0, _⟩ => rfl
    | ⟨1, _⟩ => rfl), select_apply]
  show Scalar.select (IntOp.cmpi .slt (x (ix2 b l)) 0#32) _ _ = _
  rw [word_pos _ (hx _)]
  rfl

theorem inTable_apply (j : S16384x32.Idx) : inTable x j = 1#1 := by
  unfold inTable
  refine Host.reduce_andi_one _ _ _ _ _ rfl fun i => ?_
  obtain ⟨b, l, z, rfl⟩ : ∃ (b : Fin 16384) (l : Fin 32) (z : Fin 1), i = ix3 b l z := ⟨i 0, i 1, i 2, eq_ix3 i⟩
  show IntOp.andi (IntOp.cmpi .sge (rowsOf x (ix3 b l z)) 0#32) (IntOp.cmpi .sle (rowsOf x (ix3 b l z)) 999999#32) = 1#1
  rw [rowsOf_apply x hx]
  exact word_in _ (hx _)

theorem taken_apply (e : FVec F S1000000x64 .f32) (b : Fin 16384) (l : Fin 32) (j : Fin 64) :
    taken x e (ix3 b l j) = e (ix2 (⟨min (x (ix2 b l)).toNat 999999, by omega⟩ : Fin 1000000) j) := by
  unfold taken
  rw [select_apply]
  have h : (broadcastInDim S16384x32x64 ![0, 1] bcast_S16384x32_S16384x32x64_0_1 (inTable x)) (ix3 b l j) = 1#1 := inTable_apply x hx _
  rw [h, gather_rows]
  rw [select_one]
  refine congrArg (fun w => e (ix2 w j)) (Fin.ext ?_)
  show min (rowsOf x (ix3 b l (0 : Fin 1))).toInt.toNat 999999 = min (x (ix2 b l)).toNat 999999
  rw [rowsOf_apply x hx, word_signed _ (hx _)]

end Rows

/-- The sum of two values. -/
theorem add_plus (p q : Ideal .f32) : FloatOps.addf p q = p + q := rfl

section Layers

variable (x : IVec S16384x32 32) (hx : ∀ j, (x j).toNat < 1000000)
  (e : FVec Ideal S1000000x64 .f32) (w1 : FVec Ideal S2048x128 .f32) (b1 : FVec Ideal S128 .f32) (w2 : FVec Ideal S128x2 .f32) (b2 : FVec Ideal S2 .f32)
include hx

/-- A batch row of the reference's look-up is the row the kernel's dense layers read. -/
theorem row_apply (b : Fin 16384) (k : Fin 2048) :
    shapeCast S16384x2048 (taken x e) shapeCasts_S16384x32x64_S16384x2048 (ix2 b k) = looked (F := Ideal) x e b k := by
  rw [shapeCast_apply _ _ _ (ix3 b (textOf k) (valueOf k) : S16384x32x64.Idx) (by
      rw [Shape.rowMajor_val_three, Shape.rowMajor_val_two]
      show (b.val * 32 + k.val / 64) * 64 + k.val % 64 = b.val * 2048 + k.val
      omega), taken_apply x hx]
  rfl

theorem layer1_apply (b : Fin 16384) (j : Fin 128) : layer1 x e w1 b1 (ix2 b j)
    = FloatOps.addf (∑ k : Fin 2048, looked (F := Ideal) x e b k * w1 (ix2 k j)) (b1 (ix1 j)) := by
  unfold layer1
  rw [addf_apply, add_plus]
  refine congrArg₂ (· + ·) ?_ ?_
  · refine (dotGeneral_plain_apply none _ _ b j).trans (Finset.sum_congr rfl fun k _ => ?_)
    rw [row_apply x hx]
  · rw [broadcastInDim_apply _ _ _ _ (ix2 (0 : Fin 1) j : S1x128.Idx) (fun a => by
      match a with
      | ⟨0, _⟩ => rfl
      | ⟨1, _⟩ => rfl)]
    exact broadcastInDim_apply _ _ _ _ (ix1 j : S128.Idx) (fun a => by
      match a with
      | ⟨0, _⟩ => rfl)

theorem result_apply (b : Fin 16384) (n : Fin 2) : result x e w1 b1 w2 b2 (ix2 b n)
    = layers (looked (F := Ideal) x e b) w1 (fun j => b1 (ix1 j)) w2 (fun n => b2 (ix1 n)) n := by
  unfold result layers
  rw [addf_apply, add_plus]
  refine congrArg₂ (· + ·) ?_ ?_
  · refine (dotGeneral_plain_apply none _ _ b n).trans (Finset.sum_congr rfl fun j _ => ?_)
    exact congrArg (fun h => leaky h * w2 (ix2 j n)) (layer1_apply x hx e w1 b1 b j)
  · rw [broadcastInDim_apply _ _ _ _ (ix2 (0 : Fin 1) n : S1x2.Idx) (fun a => by
      match a with
      | ⟨0, _⟩ => rfl
      | ⟨1, _⟩ => rfl)]
    exact broadcastInDim_apply _ _ _ _ (ix1 n : S2.Idx) (fun a => by
      match a with
      | ⟨0, _⟩ => rfl)

end Layers

end Cert.ReferenceIdeal.Own
-- ==== Proof.Algebra.lean ====
module

public import proofs.«01_k».proof.Proof.Frames
public import proofs.«01_k».proof.Proof.Looked

@[expose] public section

noncomputable section

namespace Cert.Proof

open Idealize.ShloMosaic Idealize.ShloMosaic.ValueIdx Idealize.SL.Sem

section Agree

open Cert.ReferenceIdeal in
/-- At equal arguments the reference's result is the kernel's. -/
theorem agree (m : (ℓ : Loc Cert.KernelIdeal.nD Cert.KernelIdeal.τ Cert.KernelIdeal.sig) → Buf (Elt Ideal) ℓ) (c : Dev Cert.KernelIdeal.nD)
    (hv : Cert.KernelIdeal.Own.InVocab (F := Ideal) m) (x : IVec S16384x32 32) (e : FVec Ideal S1000000x64 .f32) (w1 : FVec Ideal S2048x128 .f32)
    (b1 : FVec Ideal S128 .f32) (w2 : FVec Ideal S128x2 .f32) (b2 : FVec Ideal S2 .f32)
    (h0 : x = m ((SparseCore.T c).loc Cert.KernelIdeal.main_arg0)) (h1 : e = m ((SparseCore.T c).loc Cert.KernelIdeal.main_arg1))
    (h2 : w1 = m ((SparseCore.T c).loc Cert.KernelIdeal.main_arg2)) (h3 : b1 = m ((SparseCore.T c).loc Cert.KernelIdeal.main_arg3))
    (h4 : w2 = m ((SparseCore.T c).loc Cert.KernelIdeal.main_arg4)) (h5 : b2 = m ((SparseCore.T c).loc Cert.KernelIdeal.main_arg5)) :
    Cert.ReferenceIdeal.Own.result x e w1 b1 w2 b2 = Cert.KernelIdeal.Own.RES m c := by
  have hx : ∀ j, (x j).toNat < 1000000 := by rw [h0]; exact hv c
  funext i
  obtain ⟨b, n, rfl⟩ : ∃ (b : Fin 16384) (n : Fin 2), i = ix2 b n := ⟨i 0, i 1, eq_ix2 i⟩
  rw [Cert.ReferenceIdeal.Own.result_apply x hx, Cert.KernelIdeal.Own.RES_apply m c hv b n, h0, h1, h2, h3, h4, h5]

end Agree

/-- Over the extended reals the kernel and the reference leave one result. -/
theorem algebraic : Cert.algebraic_KernelIdeal_ReferenceIdeal := by
  intro m g m' g' hpre hm
  have hv := vocab_ideal m hpre
  refine ⟨fun c => Cert.KernelIdeal.Own.RES m c, ?_, ?_⟩
  · exact (θ_run Cert.KernelIdeal.defs _ _).mono (fun _ h => h.1) (Cert.KernelIdeal.Own.run_main (F := Ideal) m g hv)
  · refine (θ_run Cert.ReferenceIdeal.defs _ _).mono
      (fun r h c => ⟨(h c _).trans ((Cert.ReferenceIdeal.Own.out_eq _).trans ?_),
        (h c _).trans (Cert.ReferenceIdeal.Own.arg_eq _ _ (by decide)), (h c _).trans (Cert.ReferenceIdeal.Own.arg_eq _ _ (by decide)),
        (h c _).trans (Cert.ReferenceIdeal.Own.arg_eq _ _ (by decide)), (h c _).trans (Cert.ReferenceIdeal.Own.arg_eq _ _ (by decide)),
        (h c _).trans (Cert.ReferenceIdeal.Own.arg_eq _ _ (by decide)), (h c _).trans (Cert.ReferenceIdeal.Own.arg_eq _ _ (by decide))⟩)
      (Cert.ReferenceIdeal.Own.run_main (F := Ideal) m' g')
    obtain ⟨h0, h1, h2, h3, h4, h5⟩ := hm c
    exact agree m c hv _ _ _ _ _ _ h0 h1 h2 h3 h4 h5

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_vocab
public import proofs.«01_k».proof.Proof.Frames
public import proofs.«01_k».proof.Proof.Algebra

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_vocab.Gen.facts,
    frame_kernel, frame_ideal, frame_reference,
    fun m ρ _ => frame_reference m ρ trivial, trivial, algebraic⟩

end Cert.Proof

end
